-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_conditioning [hPre_finite_conditioning : Cert.Pre_finite_conditioning.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_conditioning.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite_conditioning.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite_conditioning.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_conditioning [hPre_finite_conditioning : Cert.Pre_finite_conditioning.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_conditioning.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite_conditioning.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite_conditioning.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_band [hPre_finite_band : Cert.Pre_finite_band.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_band.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite_band.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite_band.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_band [hPre_finite_band : Cert.Pre_finite_band.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_band.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite_band.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite_band.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_conditioning [hKernel2Ideal : Cert.Kernel2Ideal.Facts] [hPre_finite_conditioning : Cert.Pre_finite_conditioning.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_conditioning m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_conditioning [hReference2Ideal : Cert.Reference2Ideal.Facts] [hPre_finite_conditioning : Cert.Pre_finite_conditioning.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_conditioning m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_band [hKernel4Ideal : Cert.Kernel4Ideal.Facts] [hPre_finite_band : Cert.Pre_finite_band.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_band m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_band [hReference4Ideal : Cert.Reference4Ideal.Facts] [hPre_finite_band : Cert.Pre_finite_band.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_band m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "qscale" .f32 0x3E38AA3B#32 (((1 / 8) * (Real.log 2)⁻¹ : ℝ) : EReal)

def algebraic_Kernel2Ideal_Reference2Ideal_pre_finite_conditioning [hKernel2Ideal : Cert.Kernel2Ideal.Facts] [hReference2Ideal : Cert.Reference2Ideal.Facts] [hPre_finite_conditioning : Cert.Pre_finite_conditioning.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_conditioning m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v42_0)) (v1 : (c : Dev Cert.Kernel2Ideal.nD) → Buf (Elt Ideal) ((c.tc : Thread Cert.Kernel2Ideal.nD Cert.Kernel2Ideal.τ).loc Cert.Kernel2Ideal.main_v42_1)) (v2 : (c : Dev Cert.Kernel2Ideal.nD) → Buf (Elt Ideal) ((c.tc : Thread Cert.Kernel2Ideal.nD Cert.Kernel2Ideal.τ).loc Cert.Kernel2Ideal.main_v42_2)) (v3 : (c : Dev Cert.Kernel2Ideal.nD) → Buf (Elt Ideal) ((c.tc : Thread Cert.Kernel2Ideal.nD Cert.Kernel2Ideal.τ).loc Cert.Kernel2Ideal.main_v42_3)) (v4 : (c : Dev Cert.Kernel2Ideal.nD) → Buf (Elt Ideal) ((c.tc : Thread Cert.Kernel2Ideal.nD Cert.Kernel2Ideal.τ).loc Cert.Kernel2Ideal.main_v42_4)) (v5 : (c : Dev Cert.Kernel2Ideal.nD) → Buf (Elt Ideal) ((c.tc : Thread Cert.Kernel2Ideal.nD Cert.Kernel2Ideal.τ).loc Cert.Kernel2Ideal.main_v42_5)) (v6 : (c : Dev Cert.Kernel2Ideal.nD) → Buf (Elt Ideal) ((c.tc : Thread Cert.Kernel2Ideal.nD Cert.Kernel2Ideal.τ).loc Cert.Kernel2Ideal.main_v42_6)) (v7 : (c : Dev Cert.Kernel2Ideal.nD) → Buf (Elt Ideal) ((c.tc : Thread Cert.Kernel2Ideal.nD Cert.Kernel2Ideal.τ).loc Cert.Kernel2Ideal.main_v42_7)) (v8 : (c : Dev Cert.Kernel2Ideal.nD) → Buf (Elt Ideal) ((c.tc : Thread Cert.Kernel2Ideal.nD Cert.Kernel2Ideal.τ).loc Cert.Kernel2Ideal.main_v42_8)) (v9 : (c : Dev Cert.Kernel2Ideal.nD) → Buf (Elt Ideal) ((c.tc : Thread Cert.Kernel2Ideal.nD Cert.Kernel2Ideal.τ).loc Cert.Kernel2Ideal.main_v42_9)) (v10 : (c : Dev Cert.Kernel2Ideal.nD) → Buf (Elt Ideal) ((c.tc : Thread Cert.Kernel2Ideal.nD Cert.Kernel2Ideal.τ).loc Cert.Kernel2Ideal.main_v42_10)) (v11 : (c : Dev Cert.Kernel2Ideal.nD) → Buf (Elt Ideal) ((c.tc : Thread Cert.Kernel2Ideal.nD Cert.Kernel2Ideal.τ).loc Cert.Kernel2Ideal.main_v42_11)) (v12 : (c : Dev Cert.Kernel2Ideal.nD) → Buf (Elt Ideal) ((c.tc : Thread Cert.Kernel2Ideal.nD Cert.Kernel2Ideal.τ).loc Cert.Kernel2Ideal.main_v44_0)) (v13 : (c : Dev Cert.Kernel2Ideal.nD) → Buf (Elt Ideal) ((c.tc : Thread Cert.Kernel2Ideal.nD Cert.Kernel2Ideal.τ).loc Cert.Kernel2Ideal.main_v44_1)) (v14 : (c : Dev Cert.Kernel2Ideal.nD) → Buf (Elt Ideal) ((c.tc : Thread Cert.Kernel2Ideal.nD Cert.Kernel2Ideal.τ).loc Cert.Kernel2Ideal.main_v44_2)) (v15 : (c : Dev Cert.Kernel2Ideal.nD) → Buf (Elt Ideal) ((c.tc : Thread Cert.Kernel2Ideal.nD Cert.Kernel2Ideal.τ).loc Cert.Kernel2Ideal.main_v44_3)) (v16 : (c : Dev Cert.Kernel2Ideal.nD) → Buf (Elt Ideal) ((c.tc : Thread Cert.Kernel2Ideal.nD Cert.Kernel2Ideal.τ).loc Cert.Kernel2Ideal.main_v44_4)) (v17 : (c : Dev Cert.Kernel2Ideal.nD) → Buf (Elt Ideal) ((c.tc : Thread Cert.Kernel2Ideal.nD Cert.Kernel2Ideal.τ).loc Cert.Kernel2Ideal.main_v44_5)) (v18 : (c : Dev Cert.Kernel2Ideal.nD) → Buf (Elt Ideal) ((c.tc : Thread Cert.Kernel2Ideal.nD Cert.Kernel2Ideal.τ).loc Cert.Kernel2Ideal.main_v44_6)) (v19 : (c : Dev Cert.Kernel2Ideal.nD) → Buf (Elt Ideal) ((c.tc : Thread Cert.Kernel2Ideal.nD Cert.Kernel2Ideal.τ).loc Cert.Kernel2Ideal.main_v44_7)) (v20 : (c : Dev Cert.Kernel2Ideal.nD) → Buf (Elt Ideal) ((c.tc : Thread Cert.Kernel2Ideal.nD Cert.Kernel2Ideal.τ).loc Cert.Kernel2Ideal.main_v44_8)) (v21 : (c : Dev Cert.Kernel2Ideal.nD) → Buf (Elt Ideal) ((c.tc : Thread Cert.Kernel2Ideal.nD Cert.Kernel2Ideal.τ).loc Cert.Kernel2Ideal.main_v44_9)) (v22 : (c : Dev Cert.Kernel2Ideal.nD) → Buf (Elt Ideal) ((c.tc : Thread Cert.Kernel2Ideal.nD Cert.Kernel2Ideal.τ).loc Cert.Kernel2Ideal.main_v44_10)) (v23 : (c : Dev Cert.Kernel2Ideal.nD) → Buf (Elt Ideal) ((c.tc : Thread Cert.Kernel2Ideal.nD Cert.Kernel2Ideal.τ).loc Cert.Kernel2Ideal.main_v44_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v42_0) = v0 c
          ∧ r.2.mem ((c.tc : Thread Cert.Kernel2Ideal.nD Cert.Kernel2Ideal.τ).loc Cert.Kernel2Ideal.main_v42_1) = v1 c
          ∧ r.2.mem ((c.tc : Thread Cert.Kernel2Ideal.nD Cert.Kernel2Ideal.τ).loc Cert.Kernel2Ideal.main_v42_2) = v2 c
          ∧ r.2.mem ((c.tc : Thread Cert.Kernel2Ideal.nD Cert.Kernel2Ideal.τ).loc Cert.Kernel2Ideal.main_v42_3) = v3 c
          ∧ r.2.mem ((c.tc : Thread Cert.Kernel2Ideal.nD Cert.Kernel2Ideal.τ).loc Cert.Kernel2Ideal.main_v42_4) = v4 c
          ∧ r.2.mem ((c.tc : Thread Cert.Kernel2Ideal.nD Cert.Kernel2Ideal.τ).loc Cert.Kernel2Ideal.main_v42_5) = v5 c
          ∧ r.2.mem ((c.tc : Thread Cert.Kernel2Ideal.nD Cert.Kernel2Ideal.τ).loc Cert.Kernel2Ideal.main_v42_6) = v6 c
          ∧ r.2.mem ((c.tc : Thread Cert.Kernel2Ideal.nD Cert.Kernel2Ideal.τ).loc Cert.Kernel2Ideal.main_v42_7) = v7 c
          ∧ r.2.mem ((c.tc : Thread Cert.Kernel2Ideal.nD Cert.Kernel2Ideal.τ).loc Cert.Kernel2Ideal.main_v42_8) = v8 c
          ∧ r.2.mem ((c.tc : Thread Cert.Kernel2Ideal.nD Cert.Kernel2Ideal.τ).loc Cert.Kernel2Ideal.main_v42_9) = v9 c
          ∧ r.2.mem ((c.tc : Thread Cert.Kernel2Ideal.nD Cert.Kernel2Ideal.τ).loc Cert.Kernel2Ideal.main_v42_10) = v10 c
          ∧ r.2.mem ((c.tc : Thread Cert.Kernel2Ideal.nD Cert.Kernel2Ideal.τ).loc Cert.Kernel2Ideal.main_v42_11) = v11 c
          ∧ r.2.mem ((c.tc : Thread Cert.Kernel2Ideal.nD Cert.Kernel2Ideal.τ).loc Cert.Kernel2Ideal.main_v44_0) = v12 c
          ∧ r.2.mem ((c.tc : Thread Cert.Kernel2Ideal.nD Cert.Kernel2Ideal.τ).loc Cert.Kernel2Ideal.main_v44_1) = v13 c
          ∧ r.2.mem ((c.tc : Thread Cert.Kernel2Ideal.nD Cert.Kernel2Ideal.τ).loc Cert.Kernel2Ideal.main_v44_2) = v14 c
          ∧ r.2.mem ((c.tc : Thread Cert.Kernel2Ideal.nD Cert.Kernel2Ideal.τ).loc Cert.Kernel2Ideal.main_v44_3) = v15 c
          ∧ r.2.mem ((c.tc : Thread Cert.Kernel2Ideal.nD Cert.Kernel2Ideal.τ).loc Cert.Kernel2Ideal.main_v44_4) = v16 c
          ∧ r.2.mem ((c.tc : Thread Cert.Kernel2Ideal.nD Cert.Kernel2Ideal.τ).loc Cert.Kernel2Ideal.main_v44_5) = v17 c
          ∧ r.2.mem ((c.tc : Thread Cert.Kernel2Ideal.nD Cert.Kernel2Ideal.τ).loc Cert.Kernel2Ideal.main_v44_6) = v18 c
          ∧ r.2.mem ((c.tc : Thread Cert.Kernel2Ideal.nD Cert.Kernel2Ideal.τ).loc Cert.Kernel2Ideal.main_v44_7) = v19 c
          ∧ r.2.mem ((c.tc : Thread Cert.Kernel2Ideal.nD Cert.Kernel2Ideal.τ).loc Cert.Kernel2Ideal.main_v44_8) = v20 c
          ∧ r.2.mem ((c.tc : Thread Cert.Kernel2Ideal.nD Cert.Kernel2Ideal.τ).loc Cert.Kernel2Ideal.main_v44_9) = v21 c
          ∧ r.2.mem ((c.tc : Thread Cert.Kernel2Ideal.nD Cert.Kernel2Ideal.τ).loc Cert.Kernel2Ideal.main_v44_10) = v22 c
          ∧ r.2.mem ((c.tc : Thread Cert.Kernel2Ideal.nD Cert.Kernel2Ideal.τ).loc Cert.Kernel2Ideal.main_v44_11) = v23 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_v70) = v2 c
          ∧ r.2.mem ((c.tc : Thread Cert.Reference2Ideal.nD Cert.Reference2Ideal.τ).loc Cert.Reference2Ideal.main_v72) = v3 c
          ∧ r.2.mem ((c.tc : Thread Cert.Reference2Ideal.nD Cert.Reference2Ideal.τ).loc Cert.Reference2Ideal.main_v74) = v4 c
          ∧ r.2.mem ((c.tc : Thread Cert.Reference2Ideal.nD Cert.Reference2Ideal.τ).loc Cert.Reference2Ideal.main_v76) = v5 c
          ∧ r.2.mem ((c.tc : Thread Cert.Reference2Ideal.nD Cert.Reference2Ideal.τ).loc Cert.Reference2Ideal.main_v78) = v6 c
          ∧ r.2.mem ((c.tc : Thread Cert.Reference2Ideal.nD Cert.Reference2Ideal.τ).loc Cert.Reference2Ideal.main_v80) = v7 c
          ∧ r.2.mem ((c.tc : Thread Cert.Reference2Ideal.nD Cert.Reference2Ideal.τ).loc Cert.Reference2Ideal.main_v88) = v8 c
          ∧ r.2.mem ((c.tc : Thread Cert.Reference2Ideal.nD Cert.Reference2Ideal.τ).loc Cert.Reference2Ideal.main_v96) = v9 c
          ∧ r.2.mem ((c.tc : Thread Cert.Reference2Ideal.nD Cert.Reference2Ideal.τ).loc Cert.Reference2Ideal.main_v99) = v10 c
          ∧ r.2.mem ((c.tc : Thread Cert.Reference2Ideal.nD Cert.Reference2Ideal.τ).loc Cert.Reference2Ideal.main_v102) = v11 c
          ∧ r.2.mem ((c.tc : Thread Cert.Reference2Ideal.nD Cert.Reference2Ideal.τ).loc Cert.Reference2Ideal.main_v171) = v12 c
          ∧ r.2.mem ((c.tc : Thread Cert.Reference2Ideal.nD Cert.Reference2Ideal.τ).loc Cert.Reference2Ideal.main_v172) = v13 c
          ∧ r.2.mem ((c.tc : Thread Cert.Reference2Ideal.nD Cert.Reference2Ideal.τ).loc Cert.Reference2Ideal.main_v173) = v14 c
          ∧ r.2.mem ((c.tc : Thread Cert.Reference2Ideal.nD Cert.Reference2Ideal.τ).loc Cert.Reference2Ideal.main_v175) = v15 c
          ∧ r.2.mem ((c.tc : Thread Cert.Reference2Ideal.nD Cert.Reference2Ideal.τ).loc Cert.Reference2Ideal.main_v177) = v16 c
          ∧ r.2.mem ((c.tc : Thread Cert.Reference2Ideal.nD Cert.Reference2Ideal.τ).loc Cert.Reference2Ideal.main_v179) = v17 c
          ∧ r.2.mem ((c.tc : Thread Cert.Reference2Ideal.nD Cert.Reference2Ideal.τ).loc Cert.Reference2Ideal.main_v181) = v18 c
          ∧ r.2.mem ((c.tc : Thread Cert.Reference2Ideal.nD Cert.Reference2Ideal.τ).loc Cert.Reference2Ideal.main_v183) = v19 c
          ∧ r.2.mem ((c.tc : Thread Cert.Reference2Ideal.nD Cert.Reference2Ideal.τ).loc Cert.Reference2Ideal.main_v191) = v20 c
          ∧ r.2.mem ((c.tc : Thread Cert.Reference2Ideal.nD Cert.Reference2Ideal.τ).loc Cert.Reference2Ideal.main_v199) = v21 c
          ∧ r.2.mem ((c.tc : Thread Cert.Reference2Ideal.nD Cert.Reference2Ideal.τ).loc Cert.Reference2Ideal.main_v201) = v22 c
          ∧ r.2.mem ((c.tc : Thread Cert.Reference2Ideal.nD Cert.Reference2Ideal.τ).loc Cert.Reference2Ideal.main_v203) = v23 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.bf16_pair.BufferStatement Cert.Kernel3Ideal.S65536x2x512 Cert.Kernel3Ideal.S65536x1x512
  ∧ IdealRules.bf16_pair.BufferStatement Cert.Kernel3Ideal.S512x2x512 Cert.Kernel3Ideal.S512x1x512
  ∧ IdealRules.bf16_pair.Statement Cert.Kernel3Ideal.S512x2x512 Cert.Kernel3Ideal.S512x1x512
  ∧ IdealRules.bf16_pack.Statement Cert.Kernel3Ideal.S512x512

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v16_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal_pre_finite_band [hKernel4Ideal : Cert.Kernel4Ideal.Facts] [hReference4Ideal : Cert.Reference4Ideal.Facts] [hPre_finite_band : Cert.Pre_finite_band.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_band m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v100)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v100) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.bf16_pair.BufferStatement Cert.Kernel5Ideal.S512x2x512 Cert.Kernel5Ideal.S512x1x512
  ∧ IdealRules.bf16_pair.Statement Cert.Kernel5Ideal.S512x2x512 Cert.Kernel5Ideal.S512x1x512
  ∧ IdealRules.bf16_pack.Statement Cert.Kernel5Ideal.S512x512

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v19_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_values : Cert.Pre_finite_values.Facts) (hPre_finite_conditioning : Cert.Pre_finite_conditioning.Facts) (hPre_finite_band : Cert.Pre_finite_band.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Kernel2Ideal_pre_finite_conditioning (hKernel2Ideal := hKernel2Ideal) (hPre_finite_conditioning := hPre_finite_conditioning)
    ∧ quiescent_Reference2Ideal (hReference2Ideal := hReference2Ideal)
    ∧ quiescent_Reference2Ideal_pre_finite_conditioning (hReference2Ideal := hReference2Ideal) (hPre_finite_conditioning := hPre_finite_conditioning)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_band (hKernel4Ideal := hKernel4Ideal) (hPre_finite_band := hPre_finite_band)
    ∧ quiescent_Reference4Ideal (hReference4Ideal := hReference4Ideal)
    ∧ quiescent_Reference4Ideal_pre_finite_band (hReference4Ideal := hReference4Ideal) (hPre_finite_band := hPre_finite_band)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal_pre_finite_conditioning (hKernel2Ideal := hKernel2Ideal) (hReference2Ideal := hReference2Ideal) (hPre_finite_conditioning := hPre_finite_conditioning)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_band (hKernel4Ideal := hKernel4Ideal) (hReference4Ideal := hReference4Ideal) (hPre_finite_band := hPre_finite_band)
    ∧ preserves_Kernel5_Kernel5Ideal
    ∧ algebraic_Kernel5Ideal_Reference5Ideal (hKernel5Ideal := hKernel5Ideal) (hReference5Ideal := hReference5Ideal)
-- ==== Pre_finite_band.lean ====
abbrev S32x2048x512 : Shape := ⟨3, ![32, 2048, 512]⟩
abbrev S1x8x257 : Shape := ⟨3, ![1, 8, 257]⟩
abbrev S_ : Shape := ⟨0, ![]⟩

class Facts : Prop where
  bcast_S_S32x2048x512 : S_.BroadcastsInDim S32x2048x512 (![] : Fin 0 → Fin S32x2048x512.rank)
  bcast_S_S1x8x257 : S_.BroadcastsInDim S1x8x257 (![] : Fin 0 → Fin S1x8x257.rank)

variable [Facts]

def fn {F : FTy → Type} [FloatOps F] (main_arg0 : FVec F S32x2048x512 .f32) (main_arg1 : FVec F S32x2048x512 .f32) (main_arg2 : FVec F S32x2048x512 .f32) (main_arg3 : FVec F S1x8x257 .f32) : IVec S32x2048x512 1 × IVec S32x2048x512 1 × IVec S1x8x257 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_v3 : FVec F S32x2048x512 .f32 := Host.absf main_arg1
  let main_cst_0 : FVec F S_ .f32 := constant S_ .f32 0x7F800000#32
  let main_v4 : FVec F S32x2048x512 .f32 := broadcastInDim S32x2048x512 ![] bcast_S_S32x2048x512 main_cst_0
  let main_v5 : IVec S32x2048x512 1 := cmpf .olt main_v3 main_v4
  let main_v6 : FVec F S1x8x257 .f32 := Host.absf main_arg3
  let main_cst_1 : FVec F S_ .f32 := constant S_ .f32 0x7F800000#32
  let main_v7 : FVec F S1x8x257 .f32 := broadcastInDim S1x8x257 ![] bcast_S_S1x8x257 main_cst_1
  let main_v8 : IVec S1x8x257 1 := cmpf .olt main_v6 main_v7
  (main_v2, main_v5, main_v8)
-- ==== Pre_finite_conditioning.lean ====
abbrev S32x2048x1024 : Shape := ⟨3, ![32, 2048, 1024]⟩
abbrev S32x16x1024 : Shape := ⟨3, ![32, 16, 1024]⟩
abbrev S32x1024 : Shape := ⟨2, ![32, 1024]⟩
abbrev S1x1024x6144 : Shape := ⟨3, ![1, 1024, 6144]⟩
abbrev S1x6144 : Shape := ⟨2, ![1, 6144]⟩
abbrev S1x1024x6656 : Shape := ⟨3, ![1, 1024, 6656]⟩
abbrev S1x6656 : Shape := ⟨2, ![1, 6656]⟩
abbrev S_ : Shape := ⟨0, ![]⟩

class Facts : Prop where
  bcast_S_S32x1024 : S_.BroadcastsInDim S32x1024 (![] : Fin 0 → Fin S32x1024.rank)
  bcast_S_S1x1024x6144 : S_.BroadcastsInDim S1x1024x6144 (![] : Fin 0 → Fin S1x1024x6144.rank)

variable [Facts]

def fn {F : FTy → Type} [FloatOps F] (main_arg0 : FVec F S32x2048x1024 .f32) (main_arg1 : FVec F S32x16x1024 .f32) (main_arg2 : FVec F S32x1024 .f32) (main_arg3 : FVec F S32x1024 .f32) (main_arg4 : FVec F S1x1024x6144 .f32) (main_arg5 : FVec F S1x6144 .f32) (main_arg6 : FVec F S1x1024x6656 .f32) (main_arg7 : FVec F S1x6656 .f32) : IVec S32x1024 1 × IVec S32x1024 1 × IVec S1x1024x6144 1 :=
  let main_v0 : FVec F S32x1024 .f32 := Host.absf main_arg2
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_v3 : FVec F S32x1024 .f32 := Host.absf main_arg3
  let main_cst_0 : FVec F S_ .f32 := constant S_ .f32 0x7F800000#32
  let main_v4 : FVec F S32x1024 .f32 := broadcastInDim S32x1024 ![] bcast_S_S32x1024 main_cst_0
  let main_v5 : IVec S32x1024 1 := cmpf .olt main_v3 main_v4
  let main_v6 : FVec F S1x1024x6144 .f32 := Host.absf main_arg4
  let main_cst_1 : FVec F S_ .f32 := constant S_ .f32 0x7F800000#32
  let main_v7 : FVec F S1x1024x6144 .f32 := broadcastInDim S1x1024x6144 ![] bcast_S_S1x1024x6144 main_cst_1
  let main_v8 : IVec S1x1024x6144 1 := cmpf .olt main_v6 main_v7
  (main_v2, main_v5, main_v8)
-- ==== Pre_finite_values.lean ====
abbrev S32x2048x1024 : Shape := ⟨3, ![32, 2048, 1024]⟩
abbrev S1x64 : Shape := ⟨2, ![1, 64]⟩
abbrev S1x128 : Shape := ⟨2, ![1, 128]⟩
abbrev S_ : Shape := ⟨0, ![]⟩

class Facts : Prop where
  bcast_S_S32x2048x1024 : S_.BroadcastsInDim S32x2048x1024 (![] : Fin 0 → Fin S32x2048x1024.rank)
  bcast_S_S1x64 : S_.BroadcastsInDim S1x64 (![] : Fin 0 → Fin S1x64.rank)

variable [Facts]

def fn {F : FTy → Type} [FloatOps F] (main_arg0 : FVec F S32x2048x1024 .f32) (main_arg1 : FVec F S32x2048x1024 .f32) (main_arg2 : FVec F S32x2048x1024 .f32) (main_arg3 : FVec F S1x64 .f32) (main_arg4 : FVec F S1x64 .f32) (main_arg5 : FVec F S1x64 .f32) (main_arg6 : FVec F S1x64 .f32) (main_arg7 : FVec F S1x128 .f32) : IVec S32x2048x1024 1 × IVec S1x64 1 × IVec S1x64 1 × IVec S1x64 1 × IVec S1x64 1 :=
  let main_v0 : FVec F S32x2048x1024 .f32 := Host.absf main_arg2
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_v3 : FVec F S1x64 .f32 := Host.absf main_arg3
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg4
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg5
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg6
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  (main_v2, main_v5, main_v8, main_v11, main_v14)
-- ==== Kernel.lean ====
abbrev S32x2048x1024 : Shape := ⟨3, ![32, 2048, 1024]⟩
abbrev S1x64 : Shape := ⟨2, ![1, 64]⟩
abbrev S1x128 : Shape := ⟨2, ![1, 128]⟩
abbrev S8 : Shape := ⟨1, ![8]⟩
abbrev S_ : Shape := ⟨0, ![]⟩
abbrev S8x1 : Shape := ⟨2, ![8, 1]⟩
abbrev S2048 : Shape := ⟨1, ![2048]⟩
abbrev S1x2048 : Shape := ⟨2, ![1, 2048]⟩
abbrev S8x2048 : Shape := ⟨2, ![8, 2048]⟩
abbrev S8x2048x1 : Shape := ⟨3, ![8, 2048, 1]⟩
abbrev S8x2048x3 : Shape := ⟨3, ![8, 2048, 3]⟩
abbrev S8x2048x128 : Shape := ⟨3, ![8, 2048, 128]⟩
abbrev S64 : Shape := ⟨1, ![64]⟩
abbrev S4x64 : Shape := ⟨2, ![4, 64]⟩
abbrev S128 : Shape := ⟨1, ![128]⟩
abbrev S512x512 : Shape := ⟨2, ![512, 512]⟩
abbrev S1x512x512 : Shape := ⟨3, ![1, 512, 512]⟩
abbrev S8x1x1 : Shape := ⟨3, ![8, 1, 1]⟩
abbrev S8x512x512 : Shape := ⟨3, ![8, 512, 512]⟩
abbrev S1x2048x128 : Shape := ⟨3, ![1, 2048, 128]⟩
abbrev S512x128 : Shape := ⟨2, ![512, 128]⟩
abbrev S1 : Shape := ⟨1, ![1]⟩
abbrev S1x1 : Shape := ⟨2, ![1, 1]⟩
abbrev S1x512x128 : Shape := ⟨3, ![1, 512, 128]⟩
abbrev S512x256 : Shape := ⟨2, ![512, 256]⟩
abbrev S512x1 : Shape := ⟨2, ![512, 1]⟩
abbrev S512 : Shape := ⟨1, ![512]⟩

abbrev nBuf : Space → Nat
  | .hbm => 117
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8x1, .f32⟩
  | .hbm, ⟨16, _⟩ => ⟨S2048, .f32⟩
  | .hbm, ⟨17, _⟩ => ⟨S1x2048, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S8x2048, .bf16⟩
  | .hbm, ⟨22, _⟩ => ⟨S8x2048, .f32⟩
  | .hbm, ⟨23, _⟩ => ⟨S8x2048, .f32⟩
  | .hbm, ⟨24, _⟩ => ⟨S8x2048, .bf16⟩
  | .hbm, ⟨25, _⟩ => ⟨S8x2048, .f32⟩
  | .hbm, ⟨26, _⟩ => ⟨S8x2048, .f32⟩
  | .hbm, ⟨27, _⟩ => ⟨S8x2048, .bf16⟩
  | .hbm, ⟨28, _⟩ => ⟨S8x2048, .f32⟩
  | .hbm, ⟨29, _⟩ => ⟨S8x2048, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x3, .f32⟩
  | .hbm, ⟨34, _⟩ => ⟨S_, .i32⟩
  | .hbm, ⟨35, _⟩ => ⟨S_, .f32⟩
  | .hbm, ⟨36, _⟩ => ⟨S8x2048x128, .f32⟩
  | .hbm, ⟨37, _⟩ => ⟨S8x2048x128, .bf16⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S4x64, .f32⟩
  | .hbm, ⟨47, _⟩ => ⟨S_, .f32⟩
  | .hbm, ⟨48, _⟩ => ⟨S_, .f32⟩
  | .hbm, ⟨49, _⟩ => ⟨S32x2048x1024, .f32⟩
  | .hbm, ⟨50, _⟩ => ⟨S32x2048x1024, .f32⟩
  | .hbm, ⟨51, _⟩ => ⟨S32x2048x1024, .bf16⟩
  | .hbm, ⟨52, _⟩ => ⟨S32x2048x1024, .bf16⟩
  | .hbm, ⟨53, _⟩ => ⟨S32x2048x1024, .bf16⟩
  | .hbm, ⟨54, _⟩ => ⟨S128, .f32⟩
  | .hbm, ⟨55, _⟩ => ⟨S1x128, .f32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S512x512, .i32⟩
  | .hbm, ⟨60, _⟩ => ⟨S512x512, .f32⟩
  | .hbm, ⟨61, _⟩ => ⟨S_, .f32⟩
  | .hbm, ⟨62, _⟩ => ⟨S512x512, .f32⟩
  | .hbm, ⟨63, _⟩ => ⟨S512x512, .f32⟩
  | .hbm, ⟨64, _⟩ => ⟨S_, .f32⟩
  | .hbm, ⟨65, _⟩ => ⟨S_, .f32⟩
  | .hbm, ⟨66, _⟩ => ⟨S512x512, .f32⟩
  | .hbm, ⟨67, _⟩ => ⟨S512x512, .f32⟩
  | .hbm, ⟨68, _⟩ => ⟨S_, .i32⟩
  | .hbm, ⟨69, _⟩ => ⟨S_, .i32⟩
  | .hbm, ⟨70, _⟩ => ⟨S512x512, .i32⟩
  | .hbm, ⟨71, _⟩ => ⟨S512x512, .i32⟩
  | .hbm, ⟨72, _⟩ => ⟨S512x512, .i32⟩
  | .hbm, ⟨73, _⟩ => ⟨S_, .i32⟩
  | .hbm, ⟨74, _⟩ => ⟨S512x512, .i32⟩
  | .hbm, ⟨75, _⟩ => ⟨S512x512, .i1⟩
  | .hbm, ⟨76, _⟩ => ⟨S512x512, .i32⟩
  | .hbm, ⟨77, _⟩ => ⟨S512x512, .i32⟩
  | .hbm, ⟨78, _⟩ => ⟨S_, .i32⟩
  | .hbm, ⟨79, _⟩ => ⟨S512x512, .i32⟩
  | .hbm, ⟨80, _⟩ => ⟨S512x512, .i1⟩
  | .hbm, ⟨81, _⟩ => ⟨S512x512, .i1⟩
  | .hbm, ⟨82, _⟩ => ⟨S_, .i32⟩
  | .hbm, ⟨83, _⟩ => ⟨S512x512, .i32⟩
  | .hbm, ⟨84, _⟩ => ⟨S512x512, .i32⟩
  | .hbm, ⟨85, _⟩ => ⟨S512x512, .i32⟩
  | .hbm, ⟨86, _⟩ => ⟨S_, .i32⟩
  | .hbm, ⟨87, _⟩ => ⟨S_, .i32⟩
  | .hbm, ⟨88, _⟩ => ⟨S512x512, .i32⟩
  | .hbm, ⟨89, _⟩ => ⟨S512x512, .i32⟩
  | .hbm, ⟨90, _⟩ => ⟨S512x512, .i32⟩
  | .hbm, ⟨91, _⟩ => ⟨S_, .i32⟩
  | .hbm, ⟨92, _⟩ => ⟨S512x512, .i32⟩
  | .hbm, ⟨93, _⟩ => ⟨S512x512, .i1⟩
  | .hbm, ⟨94, _⟩ => ⟨S512x512, .i32⟩
  | .hbm, ⟨95, _⟩ => ⟨S512x512, .i32⟩
  | .hbm, ⟨96, _⟩ => ⟨S_, .i32⟩
  | .hbm, ⟨97, _⟩ => ⟨S512x512, .i32⟩
  | .hbm, ⟨98, _⟩ => ⟨S512x512, .i1⟩
  | .hbm, ⟨99, _⟩ => ⟨S512x512, .i1⟩
  | .hbm, ⟨100, _⟩ => ⟨S_, .i32⟩
  | .hbm, ⟨101, _⟩ => ⟨S512x512, .i32⟩
  | .hbm, ⟨102, _⟩ => ⟨S512x512, .i32⟩
  | .hbm, ⟨103, _⟩ => ⟨S512x512, .i32⟩
  | .hbm, ⟨104, _⟩ => ⟨S512x512, .i1⟩
  | .hbm, ⟨105, _⟩ => ⟨S1x512x512, .i1⟩
  | .hbm, ⟨106, _⟩ => ⟨S8x1x1, .f32⟩
  | .hbm, ⟨107, _⟩ => ⟨S1x512x512, .f32⟩
  | .hbm, ⟨108, _⟩ => ⟨S8x512x512, .f32⟩
  | .hbm, ⟨109, _⟩ => ⟨S8x512x512, .f32⟩
  | .hbm, ⟨110, _⟩ => ⟨S8x512x512, .f32⟩
  | .hbm, ⟨111, _⟩ => ⟨S_, .f32⟩
  | .hbm, ⟨112, _⟩ => ⟨S_, .f32⟩
  | .hbm, ⟨113, _⟩ => ⟨S8x512x512, .i1⟩
  | .hbm, ⟨114, _⟩ => ⟨S8x512x512, .f32⟩
  | .hbm, ⟨115, _⟩ => ⟨S8x512x512, .f32⟩
  | .hbm, ⟨116, _⟩ => ⟨S32x2048x1024, .bf16⟩
  | .local _ .vmem, ⟨0, _⟩ => ⟨S4x64, .f32⟩
  | .local _ .vmem, ⟨1, _⟩ => ⟨S1x128, .f32⟩
  | .local _ .vmem, ⟨2, _⟩ => ⟨S1x512x512, .f32⟩
  | .local _ .vmem, ⟨3, _⟩ => ⟨S1x512x512, .f32⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_call1_v0 : Ref sig .tc := ⟨.hbm, 65, rfl⟩
abbrev main_call1_v1 : Ref sig .tc := ⟨.hbm, 66, rfl⟩
abbrev main_v49 : Ref sig .tc := ⟨.hbm, 67, rfl⟩
abbrev main_c_5 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_c : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_0 : Ref sig .tc := ⟨.hbm, 82, rfl⟩
abbrev main_call2_v12 : Ref sig .tc := ⟨.hbm, 83, rfl⟩
abbrev main_call2_v13 : Ref sig .tc := ⟨.hbm, 84, rfl⟩
abbrev main_v50 : Ref sig .tc := ⟨.hbm, 85, rfl⟩
abbrev main_c_6 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_c : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_0 : Ref sig .tc := ⟨.hbm, 100, rfl⟩
abbrev main_call3_v12 : Ref sig .tc := ⟨.hbm, 101, rfl⟩
abbrev main_call3_v13 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_cst_7 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v59 : Ref sig .tc := ⟨.hbm, 115, rfl⟩
abbrev main_v60 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32 : BitVec 32 := 0#32
  let c4_i32 : BitVec 32 := 4#32
  let v28 : BitVec 32 := Scalar.addi c0_i32 c4_i32
  let c1_i32 : BitVec 32 := 1#32
  ⟨c0_i32, v28, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v29 : BitVec 32 := Scalar.muli arg10 c512_i32
  v29
def k0_off1 (k0_t1 : Fin k0_t1_loop.trips) : Fin 3 → Nat :=
  let c0_5 : Index := 0#32
  let c0_i32 : BitVec 32 := 0#32
  let c1_i32 : BitVec 32 := 1#32
  let arg10 : BitVec 32 := Scf.iv c0_i32 c1_i32 k0_t1
  let c512_i32 : BitVec 32 := 512#32
  let v29 : BitVec 32 := Scalar.muli arg10 c512_i32
  let v30 : BitVec 32 := v29
  let v31 : Index := Scalar.indexCast v30
  let c0_6 : Index := 0#32
  ![0, v31.toNat, 0]
@[reducible] def k0_t2_loop (k0_t1 : Fin k0_t1_loop.trips) : Scf.Loop 32 :=
  let c0_i32_11 : BitVec 32 := 0#32
  let c0_i32 : BitVec 32 := 0#32
  let c1_i32 : BitVec 32 := 1#32
  let arg10 : BitVec 32 := Scf.iv c0_i32 c1_i32 k0_t1
  let v42 : BitVec 32 := Scalar.subi arg10 c0_i32_11
  let c1_i32_12 : BitVec 32 := 1#32
  let v44 : BitVec 32 := Scalar.divsi v42 c1_i32_12
  let v45 : BitVec 32 := Scalar.muli v44 c1_i32_12
  let v46 : BitVec 32 := Scalar.addi c0_i32_11 v45
  let c1_i32_13 : BitVec 32 := 1#32
  ⟨c0_i32_11, v46, c1_i32_13⟩
def k0_mult2 (k0_t1 : Fin k0_t1_loop.trips) (k0_t2 : Fin (k0_t2_loop k0_t1).trips) : BitVec 32 :=
  let c0_i32_11 : BitVec 32 := 0#32
  let c1_i32_13 : BitVec 32 := 1#32
  let arg11 : BitVec 32 := Scf.iv c0_i32_11 c1_i32_13 k0_t2
  let c512_i32_41 : BitVec 32 := 512#32
  let v129 : BitVec 32 := Scalar.muli arg11 c512_i32_41
  v129
def k0_off2 (k0_t1 : Fin k0_t1_loop.trips) (k0_t2 : Fin (k0_t2_loop k0_t1).trips) : Fin 3 → Nat :=
  let c0_42 : Index := 0#32
  let c0_i32_11 : BitVec 32 := 0#32
  let c1_i32_13 : BitVec 32 := 1#32
  let arg11 : BitVec 32 := Scf.iv c0_i32_11 c1_i32_13 k0_t2
  let c512_i32_41 : BitVec 32 := 512#32
  let v129 : BitVec 32 := Scalar.muli arg11 c512_i32_41
  let v130 : BitVec 32 := v129
  let v131 : Index := Scalar.indexCast v130
  let c0_43 : Index := 0#32
  ![0, v131.toNat, 0]
@[reducible] def k0_t3_loop (k0_t1 : Fin k0_t1_loop.trips) : Scf.Loop 32 :=
  let c0_i32_11 : BitVec 32 := 0#32
  let c0_i32 : BitVec 32 := 0#32
  let c1_i32 : BitVec 32 := 1#32
  let arg10 : BitVec 32 := Scf.iv c0_i32 c1_i32 k0_t1
  let v42 : BitVec 32 := Scalar.subi arg10 c0_i32_11
  let c1_i32_12 : BitVec 32 := 1#32
  let v44 : BitVec 32 := Scalar.divsi v42 c1_i32_12
  let v45 : BitVec 32 := Scalar.muli v44 c1_i32_12
  let v46 : BitVec 32 := Scalar.addi c0_i32_11 v45
  let v43 : BitVec 32 := Scalar.addi c0_i32_11 v42
  let c1_i32_14 : BitVec 32 := 1#32
  ⟨v46, v43, c1_i32_14⟩
def k0_mult3 (k0_t1 : Fin k0_t1_loop.trips) (k0_t3 : Fin (k0_t3_loop k0_t1).trips) : BitVec 32 :=
  let c0_i32_11 : BitVec 32 := 0#32
  let c0_i32 : BitVec 32 := 0#32
  let c1_i32 : BitVec 32 := 1#32
  let arg10 : BitVec 32 := Scf.iv c0_i32 c1_i32 k0_t1
  let v42 : BitVec 32 := Scalar.subi arg10 c0_i32_11
  let c1_i32_12 : BitVec 32 := 1#32
  let v44 : BitVec 32 := Scalar.divsi v42 c1_i32_12
  let v45 : BitVec 32 := Scalar.muli v44 c1_i32_12
  let v46 : BitVec 32 := Scalar.addi c0_i32_11 v45
  let c1_i32_14 : BitVec 32 := 1#32
  let arg11 : BitVec 32 := Scf.iv v46 c1_i32_14 k0_t3
  let c512_i32_41 : BitVec 32 := 512#32
  let v129 : BitVec 32 := Scalar.muli arg11 c512_i32_41
  v129
def k0_off3 (k0_t1 : Fin k0_t1_loop.trips) (k0_t3 : Fin (k0_t3_loop k0_t1).trips) : Fin 3 → Nat :=
  let c0_42 : Index := 0#32
  let c0_i32_11 : BitVec 32 := 0#32
  let c0_i32 : BitVec 32 := 0#32
  let c1_i32 : BitVec 32 := 1#32
  let arg10 : BitVec 32 := Scf.iv c0_i32 c1_i32 k0_t1
  let v42 : BitVec 32 := Scalar.subi arg10 c0_i32_11
  let c1_i32_12 : BitVec 32 := 1#32
  let v44 : BitVec 32 := Scalar.divsi v42 c1_i32_12
  let v45 : BitVec 32 := Scalar.muli v44 c1_i32_12
  let v46 : BitVec 32 := Scalar.addi c0_i32_11 v45
  let c1_i32_14 : BitVec 32 := 1#32
  let arg11 : BitVec 32 := Scf.iv v46 c1_i32_14 k0_t3
  let c512_i32_41 : BitVec 32 := 512#32
  let v129 : BitVec 32 := Scalar.muli arg11 c512_i32_41
  let v130 : BitVec 32 := v129
  let v131 : Index := Scalar.indexCast v130
  let c0_43 : Index := 0#32
  ![0, v131.toNat, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_18 : BitVec 32 := 512#32
  let v51 : BitVec 32 := Scalar.muli arg10 c512_i32_18
  v51
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32x2048x1024 : Shape := ⟨3, ![32, 2048, 1024]⟩
abbrev S1x64 : Shape := ⟨2, ![1, 64]⟩
abbrev S1x128 : Shape := ⟨2, ![1, 128]⟩
abbrev S8 : Shape := ⟨1, ![8]⟩
abbrev S32x2048x8x2x64 : Shape := ⟨5, ![32, 2048, 8, 2, 64]⟩
abbrev S32x2048x8x128 : Shape := ⟨4, ![32, 2048, 8, 128]⟩
abbrev S64 : Shape := ⟨1, ![64]⟩
abbrev S_ : Shape := ⟨0, ![]⟩
abbrev S2048 : Shape := ⟨1, ![2048]⟩
abbrev S32x8x2x2048x2048 : Shape := ⟨5, ![32, 8, 2, 2048, 2048]⟩
abbrev S2048x1 : Shape := ⟨2, ![2048, 1]⟩
abbrev S1x2048 : Shape := ⟨2, ![1, 2048]⟩
abbrev S2048x2048 : Shape := ⟨2, ![2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S8x1x2048x2048 : Shape := ⟨4, ![8, 1, 2048, 2048]⟩
abbrev S1x8x1x2048x2048 : Shape := ⟨5, ![1, 8, 1, 2048, 2048]⟩
abbrev S32x8x2x2048 : Shape := ⟨4, ![32, 8, 2, 2048]⟩
abbrev S32x8x2x2048x1 : Shape := ⟨5, ![32, 8, 2, 2048, 1]⟩
abbrev S32x8x1x2048x2048 : Shape := ⟨5, ![32, 8, 1, 2048, 2048]⟩
abbrev S32x8x2048x2048 : Shape := ⟨4, ![32, 8, 2048, 2048]⟩
abbrev S32x8x128x2048 : Shape := ⟨4, ![32, 8, 128, 2048]⟩
abbrev S128 : Shape := ⟨1, ![128]⟩
abbrev S32x2048x8 : Shape := ⟨3, ![32, 2048, 8]⟩
abbrev S32x2048x8x1 : Shape := ⟨4, ![32, 2048, 8, 1]⟩
abbrev S1x1x1x128 : Shape := ⟨4, ![1, 1, 1, 128]⟩

abbrev nBuf : Space → Nat
  | .hbm => 141
  | .vmem => 0
  | .smem => 0
  | _ => 0

abbrev hbmTy0_0 (i : Nat) : BufTy := match i % 128 with
  | 0 => ⟨S32x2048x1024, .f32⟩
  | 1 => ⟨S32x2048x1024, .f32⟩
  | 2 => ⟨S32x2048x1024, .f32⟩
  | 3 => ⟨S1x64, .f32⟩
  | 4 => ⟨S1x64, .f32⟩
  | 5 => ⟨S1x64, .f32⟩
  | 6 => ⟨S1x64, .f32⟩
  | 7 => ⟨S1x128, .f32⟩
  | 8 => ⟨S8, .f32⟩
  | 9 => ⟨S32x2048x8x2x64, .f32⟩
  | 10 => ⟨S32x2048x8x2x64, .f32⟩
  | 11 => ⟨S32x2048x8x128, .f32⟩
  | 12 => ⟨S64, .f32⟩
  | 13 => ⟨S64, .f32⟩
  | 14 => ⟨S64, .f32⟩
  | 15 => ⟨S_, .f32⟩
  | 16 => ⟨S_, .f32⟩
  | 17 => ⟨S_, .f32⟩
  | 18 => ⟨S64, .f32⟩
  | 19 => ⟨S64, .f32⟩
  | 20 => ⟨S64, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S2048, .i32⟩
  | 28 => ⟨S2048, .i32⟩
  | 29 => ⟨S32x8x2x2048x2048, .f32⟩
  | 30 => ⟨S_, .f32⟩
  | 31 => ⟨S32x8x2x2048x2048, .f32⟩
  | 32 => ⟨S32x8x2x2048x2048, .f32⟩
  | 33 => ⟨S2048x1, .i32⟩
  | 34 => ⟨S1x2048, .i32⟩
  | 35 => ⟨S2048x2048, .i32⟩
  | 36 => ⟨S2048x2048, .i32⟩
  | 37 => ⟨S2048x2048, .i32⟩
  | 38 => ⟨S2048x2048, .i32⟩
  | 39 => ⟨S2048x2048, .f32⟩
  | 40 => ⟨S8x1x1, .f32⟩
  | 41 => ⟨S8x1x1, .f32⟩
  | 42 => ⟨S1x2048x2048, .f32⟩
  | 43 => ⟨S8x2048x2048, .f32⟩
  | 44 => ⟨S8x2048x2048, .f32⟩
  | 45 => ⟨S8x2048x2048, .f32⟩
  | 46 => ⟨S1x2048, .i32⟩
  | 47 => ⟨S_, .i32⟩
  | 48 => ⟨S_, .i32⟩
  | 49 => ⟨S1x2048, .i32⟩
  | 50 => ⟨S1x2048, .i32⟩
  | 51 => ⟨S1x2048, .i32⟩
  | 52 => ⟨S_, .i32⟩
  | 53 => ⟨S1x2048, .i32⟩
  | 54 => ⟨S1x2048, .i1⟩
  | 55 => ⟨S1x2048, .i32⟩
  | 56 => ⟨S1x2048, .i32⟩
  | 57 => ⟨S_, .i32⟩
  | 58 => ⟨S1x2048, .i32⟩
  | 59 => ⟨S1x2048, .i1⟩
  | 60 => ⟨S1x2048, .i1⟩
  | 61 => ⟨S_, .i32⟩
  | 62 => ⟨S1x2048, .i32⟩
  | 63 => ⟨S1x2048, .i32⟩
  | 64 => ⟨S1x2048, .i32⟩
  | 65 => ⟨S2048x1, .i32⟩
  | 66 => ⟨S_, .i32⟩
  | 67 => ⟨S_, .i32⟩
  | 68 => ⟨S2048x1, .i32⟩
  | 69 => ⟨S2048x1, .i32⟩
  | 70 => ⟨S2048x1, .i32⟩
  | 71 => ⟨S_, .i32⟩
  | 72 => ⟨S2048x1, .i32⟩
  | 73 => ⟨S2048x1, .i1⟩
  | 74 => ⟨S2048x1, .i32⟩
  | 75 => ⟨S2048x1, .i32⟩
  | 76 => ⟨S_, .i32⟩
  | 77 => ⟨S2048x1, .i32⟩
  | 78 => ⟨S2048x1, .i1⟩
  | 79 => ⟨S2048x1, .i1⟩
  | 80 => ⟨S_, .i32⟩
  | 81 => ⟨S2048x1, .i32⟩
  | 82 => ⟨S2048x1, .i32⟩
  | 83 => ⟨S2048x1, .i32⟩
  | 84 => ⟨S2048x2048, .i32⟩
  | 85 => ⟨S2048x2048, .i32⟩
  | 86 => ⟨S2048x2048, .i1⟩
  | 87 => ⟨S8x1x2048x2048, .f32⟩
  | 88 => ⟨S1x8x1x2048x2048, .f32⟩
  | 89 => ⟨S32x8x2x2048x2048, .f32⟩
  | 90 => ⟨S32x8x2x2048x2048, .f32⟩
  | 91 => ⟨S_, .f32⟩
  | 92 => ⟨S_, .f32⟩
  | 93 => ⟨S32x8x2x2048x2048, .i1⟩
  | 94 => ⟨S32x8x2x2048x2048, .f32⟩
  | 95 => ⟨S32x8x2x2048x2048, .f32⟩
  | 96 => ⟨S_, .f32⟩
  | 97 => ⟨S32x8x2x2048, .f32⟩
  | 98 => ⟨S_, .f32⟩
  | 99 => ⟨S32x8x2x2048, .f32⟩
  | 100 => ⟨S32x8x2x2048, .f32⟩
  | 101 => ⟨S32x8x2x2048x1, .f32⟩
  | 102 => ⟨S32x8x2x2048x2048, .f32⟩
  | 103 => ⟨S32x8x2x2048x2048, .f32⟩
  | 104 => ⟨S32x8x2x2048x2048, .f32⟩
  | 105 => ⟨S_, .f32⟩
  | 106 => ⟨S32x8x2x2048, .f32⟩
  | 107 => ⟨S32x8x2x2048x1, .f32⟩
  | 108 => ⟨S32x8x2x2048x2048, .f32⟩
  | 109 => ⟨S32x8x2x2048x2048, .f32⟩
  | 110 => ⟨S32x8x1x2048x2048, .f32⟩
  | 111 => ⟨S32x8x2048x2048, .f32⟩
  | 112 => ⟨S32x8x1x2048x2048, .f32⟩
  | 113 => ⟨S32x8x2048x2048, .f32⟩
  | 114 => ⟨S32x8x2048x2048, .f32⟩
  | 115 => ⟨S32x8x2048x2048, .f32⟩
  | 116 => ⟨S32x8x2048x2048, .f32⟩
  | 117 => ⟨S32x8x128x2048, .f32⟩
  | 118 => ⟨S32x2048x8x128, .f32⟩
  | 119 => ⟨S128, .f32⟩
  | 120 => ⟨S32x2048x8x128, .f32⟩
  | 121 => ⟨S_, .f32⟩
  | 122 => ⟨S32x2048x8, .f32⟩
  | 123 => ⟨S32x2048x8x1, .f32⟩
  | 124 => ⟨S_, .f32⟩
  | 125 => ⟨S32x2048x8x1, .f32⟩
  | 126 => ⟨S32x2048x8x1, .f32⟩
  | 127 => ⟨S_, .f32⟩
  | _ => ⟨S32x2048x1024, .f32⟩

abbrev hbmTy0_1 (i : Nat) : BufTy := match i % 128 with
  | 0 => ⟨S32x2048x8x1, .f32⟩
  | 1 => ⟨S32x2048x8x1, .f32⟩
  | 2 => ⟨S32x2048x8x1, .f32⟩
  | 3 => ⟨S32x2048x8x128, .f32⟩
  | 4 => ⟨S32x2048x8x128, .f32⟩
  | 5 => ⟨S1x1x1x128, .f32⟩
  | 6 => ⟨S32x2048x8x128, .f32⟩
  | 7 => ⟨S32x2048x8x128, .f32⟩
  | 8 => ⟨S_, .f32⟩
  | 9 => ⟨S32x2048x8x128, .f32⟩
  | 10 => ⟨S32x2048x8x128, .f32⟩
  | 11 => ⟨S32x2048x1024, .f32⟩
  | 12 => ⟨S32x2048x1024, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v34 : Ref sig .tc := ⟨.hbm, 64, rfl⟩
abbrev main_v35 : Ref sig .tc := ⟨.hbm, 65, rfl⟩
abbrev main_c_4 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_c : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_0 : Ref sig .tc := ⟨.hbm, 80, rfl⟩
abbrev main_call1_v12 : Ref sig .tc := ⟨.hbm, 81, rfl⟩
abbrev main_call1_v13 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_5 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v44 : Ref sig .tc := ⟨.hbm, 95, rfl⟩
abbrev main_cst_6 : Ref sig .tc := ⟨.hbm, 96, rfl⟩
abbrev main_v45 : Ref sig .tc := ⟨.hbm, 97, rfl⟩
abbrev main_cst_7 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_8 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_9 : Ref sig .tc := ⟨.hbm, 121, rfl⟩
abbrev main_v67 : Ref sig .tc := ⟨.hbm, 122, rfl⟩
abbrev main_v68 : Ref sig .tc := ⟨.hbm, 123, rfl⟩
abbrev main_cst_10 : Ref sig .tc := ⟨.hbm, 124, rfl⟩
abbrev main_v69 : Ref sig .tc := ⟨.hbm, 125, rfl⟩
abbrev main_v70 : Ref sig .tc := ⟨.hbm, 126, rfl⟩
abbrev main_cst_11 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_12 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x16x1024 : Shape := ⟨3, ![32, 16, 1024]⟩
abbrev S32x1024 : Shape := ⟨2, ![32, 1024]⟩
abbrev S1x1024x6144 : Shape := ⟨3, ![1, 1024, 6144]⟩
abbrev S1x6144 : Shape := ⟨2, ![1, 6144]⟩
abbrev S1x1024x6656 : Shape := ⟨3, ![1, 1024, 6656]⟩
abbrev S1x6656 : Shape := ⟨2, ![1, 6656]⟩
abbrev S1024x6656 : Shape := ⟨2, ![1024, 6656]⟩
abbrev S6656 : Shape := ⟨1, ![6656]⟩
abbrev S64x1024 : Shape := ⟨2, ![64, 1024]⟩
abbrev S1024x6144 : Shape := ⟨2, ![1024, 6144]⟩
abbrev S6144 : Shape := ⟨1, ![6144]⟩
abbrev S64x6144 : Shape := ⟨2, ![64, 6144]⟩
abbrev S1024x1024 : Shape := ⟨2, ![1024, 1024]⟩
abbrev S1x1024 : Shape := ⟨2, ![1, 1024]⟩
abbrev S32x6144 : Shape := ⟨2, ![32, 6144]⟩
abbrev S32x1x1024 : Shape := ⟨3, ![32, 1, 1024]⟩
abbrev S512x1024 : Shape := ⟨2, ![512, 1024]⟩
abbrev S65536x1024 : Shape := ⟨2, ![65536, 1024]⟩
abbrev S65536x8x2x64 : Shape := ⟨4, ![65536, 8, 2, 64]⟩
abbrev S65536x512 : Shape := ⟨2, ![65536, 512]⟩
abbrev S16384x8x64 : Shape := ⟨3, ![16384, 8, 64]⟩
abbrev S256x1024 : Shape := ⟨2, ![256, 1024]⟩
abbrev S1x1x1024 : Shape := ⟨3, ![1, 1, 1024]⟩
abbrev S256x8x2x64 : Shape := ⟨4, ![256, 8, 2, 64]⟩
abbrev S256x512 : Shape := ⟨2, ![256, 512]⟩
abbrev S256x8x64 : Shape := ⟨3, ![256, 8, 64]⟩
abbrev S256 : Shape := ⟨1, ![256]⟩
abbrev S256x1 : Shape := ⟨2, ![256, 1]⟩
abbrev S256x64 : Shape := ⟨2, ![256, 64]⟩
abbrev S256x1x1x64 : Shape := ⟨4, ![256, 1, 1, 64]⟩
abbrev S1024x512 : Shape := ⟨2, ![1024, 512]⟩
abbrev S1x512 : Shape := ⟨2, ![1, 512]⟩
abbrev S256x1x64 : Shape := ⟨3, ![256, 1, 64]⟩
abbrev S512x8x2x64 : Shape := ⟨4, ![512, 8, 2, 64]⟩
abbrev S512x512 : Shape := ⟨2, ![512, 512]⟩
abbrev S512x8x64 : Shape := ⟨3, ![512, 8, 64]⟩
abbrev S512 : Shape := ⟨1, ![512]⟩
abbrev S512x1 : Shape := ⟨2, ![512, 1]⟩
abbrev S512x64 : Shape := ⟨2, ![512, 64]⟩
abbrev S512x1x1x64 : Shape := ⟨4, ![512, 1, 1, 64]⟩
abbrev S512x1x64 : Shape := ⟨3, ![512, 1, 64]⟩

abbrev nBuf : Space → Nat
  | .hbm => 75
  | .vmem => 56
  | .smem => 0
  | _ => 0

abbrev bufTy : (tb : Table) → Fin (tcTables nBuf tb) → BufTy
  | .hbm, ⟨0, _⟩ => ⟨S32x2048x1024, .f32⟩
  | .hbm, ⟨1, _⟩ => ⟨S32x16x1024, .f32⟩
  | .hbm, ⟨2, _⟩ => ⟨S32x1024, .f32⟩
  | .hbm, ⟨3, _⟩ => ⟨S32x1024, .f32⟩
  | .hbm, ⟨4, _⟩ => ⟨S1x1024x6144, .f32⟩
  | .hbm, ⟨5, _⟩ => ⟨S1x6144, .f32⟩
  | .hbm, ⟨6, _⟩ => ⟨S1x1024x6656, .f32⟩
  | .hbm, ⟨7, _⟩ => ⟨S1x6656, .f32⟩
  | .hbm, ⟨8, _⟩ => ⟨S1024x6656, .f32⟩
  | .hbm, ⟨9, _⟩ => ⟨S1024x6656, .bf16⟩
  | .hbm, ⟨10, _⟩ => ⟨S6656, .f32⟩
  | .hbm, ⟨11, _⟩ => ⟨S1x6656, .f32⟩
  | .hbm, ⟨12, _⟩ => ⟨S64x1024, .f32⟩
  | .hbm, ⟨13, _⟩ => ⟨S1024x6144, .f32⟩
  | .hbm, ⟨14, _⟩ => ⟨S6144, .f32⟩
  | .hbm, ⟨15, _⟩ => ⟨S1x6144, .f32⟩
  | .hbm, ⟨16, _⟩ => ⟨S64x6144, .f32⟩
  | .hbm, ⟨17, _⟩ => ⟨S32x6144, .f32⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1x1024, .f32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S32x6144, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S32x1024, .f32⟩
  | .hbm, ⟨35, _⟩ => ⟨S32x1024, .f32⟩
  | .hbm, ⟨36, _⟩ => ⟨S32x1024, .f32⟩
  | .hbm, ⟨37, _⟩ => ⟨S32x16x1024, .f32⟩
  | .hbm, ⟨38, _⟩ => ⟨S512x1024, .f32⟩
  | .hbm, ⟨39, _⟩ => ⟨S32x16x1024, .f32⟩
  | .hbm, ⟨40, _⟩ => ⟨S512x1024, .f32⟩
  | .hbm, ⟨41, _⟩ => ⟨S32x16x1024, .f32⟩
  | .hbm, ⟨42, _⟩ => ⟨S512x1024, .f32⟩
  | .hbm, ⟨43, _⟩ => ⟨S32x16x1024, .f32⟩
  | .hbm, ⟨44, _⟩ => ⟨S512x1024, .f32⟩
  | .hbm, ⟨45, _⟩ => ⟨S32x16x1024, .f32⟩
  | .hbm, ⟨46, _⟩ => ⟨S512x1024, .f32⟩
  | .hbm, ⟨47, _⟩ => ⟨S32x16x1024, .f32⟩
  | .hbm, ⟨48, _⟩ => ⟨S512x1024, .f32⟩
  | .hbm, ⟨49, _⟩ => ⟨S65536x1024, .f32⟩
  | .hbm, ⟨50, _⟩ => ⟨S65536x1024, .bf16⟩
  | .hbm, ⟨51, _⟩ => ⟨S65536x8x2x64, .f32⟩
  | .hbm, ⟨52, _⟩ => ⟨S65536x1024, .f32⟩
  | .hbm, ⟨53, _⟩ => ⟨S65536x1024, .bf16⟩
  | .hbm, ⟨54, _⟩ => ⟨S65536x1024, .bf16⟩
  | .hbm, ⟨55, _⟩ => ⟨S65536x512, .bf16⟩
  | .hbm, ⟨56, _⟩ => ⟨S65536x512, .bf16⟩
  | .hbm, ⟨57, _⟩ => ⟨S65536x512, .bf16⟩
  | .hbm, ⟨58, _⟩ => ⟨S65536x1024, .bf16⟩
  | .hbm, ⟨59, _⟩ => ⟨S65536x1024, .bf16⟩
  | .hbm, ⟨60, _⟩ => ⟨S16384x8x64, .f32⟩
  | .hbm, ⟨61, _⟩ => ⟨S16384x8x64, .f32⟩
  | .hbm, ⟨62, _⟩ => ⟨S512x1024, .f32⟩
  | .hbm, ⟨63, _⟩ => ⟨S512x1024, .bf16⟩
  | .hbm, ⟨64, _⟩ => ⟨S512x8x2x64, .f32⟩
  | .hbm, ⟨65, _⟩ => ⟨S512x1024, .f32⟩
  | .hbm, ⟨66, _⟩ => ⟨S512x1024, .bf16⟩
  | .hbm, ⟨67, _⟩ => ⟨S512x1024, .bf16⟩
  | .hbm, ⟨68, _⟩ => ⟨S512x512, .bf16⟩
  | .hbm, ⟨69, _⟩ => ⟨S512x512, .bf16⟩
  | .hbm, ⟨70, _⟩ => ⟨S512x512, .bf16⟩
  | .hbm, ⟨71, _⟩ => ⟨S512x1024, .bf16⟩
  | .hbm, ⟨72, _⟩ => ⟨S512x1024, .bf16⟩
  | .hbm, ⟨73, _⟩ => ⟨S512x8x64, .f32⟩
  | .hbm, ⟨74, _⟩ => ⟨S512x8x64, .f32⟩
  | .local _ .vmem, ⟨0, _⟩ => ⟨S64x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S64x1024, .f32⟩
  | .local _ .vmem, ⟨6, _⟩ => ⟨S64x1024, .f32⟩
  | .local _ .vmem, ⟨7, _⟩ => ⟨S256x1024, .f32⟩
  | .local _ .vmem, ⟨8, _⟩ => ⟨S256x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x6656, .bf16⟩
  | .local _ .vmem, ⟨14, _⟩ => ⟨S1x6656, .f32⟩
  | .local _ .vmem, ⟨15, _⟩ => ⟨S256x1024, .bf16⟩
  | .local _ .vmem, ⟨16, _⟩ => ⟨S256x1024, .bf16⟩
  | .local _ .vmem, ⟨17, _⟩ => ⟨S256x8x2x64, .f32⟩
  | .local _ .vmem, ⟨18, _⟩ => ⟨S256x8x2x64, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x8x64, .f32⟩
  | .local _ .vmem, ⟨36, _⟩ => ⟨S256x8x64, .f32⟩
  | .local _ .vmem, ⟨37, _⟩ => ⟨S256x8x64, .f32⟩
  | .local _ .vmem, ⟨38, _⟩ => ⟨S256x8x64, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S1024x6656, .bf16⟩
  | .local _ .vmem, ⟨43, _⟩ => ⟨S1x6656, .f32⟩
  | .local _ .vmem, ⟨44, _⟩ => ⟨S512x1024, .bf16⟩
  | .local _ .vmem, ⟨45, _⟩ => ⟨S512x8x2x64, .f32⟩
  | .local _ .vmem, ⟨46, _⟩ => ⟨S512x1024, .f32⟩
  | .local _ .vmem, ⟨47, _⟩ => ⟨S512x1024, .bf16⟩
  | .local _ .vmem, ⟨48, _⟩ => ⟨S512x1024, .bf16⟩
  | .local _ .vmem, ⟨49, _⟩ => ⟨S512x512, .bf16⟩
  | .local _ .vmem, ⟨50, _⟩ => ⟨S512x512, .bf16⟩
  | .local _ .vmem, ⟨51, _⟩ => ⟨S512x512, .bf16⟩
  | .local _ .vmem, ⟨52, _⟩ => ⟨S512x1024, .bf16⟩
  | .local _ .vmem, ⟨53, _⟩ => ⟨S512x1024, .bf16⟩
  | .local _ .vmem, ⟨54, _⟩ => ⟨S512x8x64, .f32⟩
  | .local _ .vmem, ⟨55, _⟩ => ⟨S512x8x64, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42_0 : Ref sig .tc := ⟨.hbm, 50, rfl⟩
abbrev main_v42_1 : Ref sig .tc := ⟨.hbm, 51, rfl⟩
abbrev main_v42_2 : Ref sig .tc := ⟨.hbm, 52, rfl⟩
abbrev main_v42_3 : Ref sig .tc := ⟨.hbm, 53, rfl⟩
abbrev main_v42_4 : Ref sig .tc := ⟨.hbm, 54, rfl⟩
abbrev main_v42_5 : Ref sig .tc := ⟨.hbm, 55, rfl⟩
abbrev main_v42_6 : Ref sig .tc := ⟨.hbm, 56, rfl⟩
abbrev main_v42_7 : Ref sig .tc := ⟨.hbm, 57, rfl⟩
abbrev main_v42_8 : Ref sig .tc := ⟨.hbm, 58, rfl⟩
abbrev main_v42_9 : Ref sig .tc := ⟨.hbm, 59, rfl⟩
abbrev main_v42_10 : Ref sig .tc := ⟨.hbm, 60, rfl⟩
abbrev main_v42_11 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_v44_2 : Ref sig .tc := ⟨.hbm, 65, rfl⟩
abbrev main_v44_3 : Ref sig .tc := ⟨.hbm, 66, rfl⟩
abbrev main_v44_4 : Ref sig .tc := ⟨.hbm, 67, rfl⟩
abbrev main_v44_5 : Ref sig .tc := ⟨.hbm, 68, rfl⟩
abbrev main_v44_6 : Ref sig .tc := ⟨.hbm, 69, rfl⟩
abbrev main_v44_7 : Ref sig .tc := ⟨.hbm, 70, rfl⟩
abbrev main_v44_8 : Ref sig .tc := ⟨.hbm, 71, rfl⟩
abbrev main_v44_9 : Ref sig .tc := ⟨.hbm, 72, rfl⟩
abbrev main_v44_10 : Ref sig .tc := ⟨.hbm, 73, rfl⟩
abbrev main_v44_11 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc1_stg13_0 : Ref sig .tc := ⟨.vmem, 31, rfl⟩
abbrev cc1_stg13_1 : Ref sig .tc := ⟨.vmem, 32, rfl⟩
abbrev cc1_stg14_0 : Ref sig .tc := ⟨.vmem, 33, rfl⟩
abbrev cc1_stg14_1 : Ref sig .tc := ⟨.vmem, 34, rfl⟩
abbrev cc1_stg15_0 : Ref sig .tc := ⟨.vmem, 35, rfl⟩
abbrev cc1_stg15_1 : Ref sig .tc := ⟨.vmem, 36, rfl⟩
abbrev cc1_stg16_0 : Ref sig .tc := ⟨.vmem, 37, rfl⟩
abbrev cc1_stg16_1 : Ref sig .tc := ⟨.vmem, 38, rfl⟩
abbrev cc2_stg0_0 : Ref sig .tc := ⟨.vmem, 39, rfl⟩
abbrev cc2_stg1_0 : Ref sig .tc := ⟨.vmem, 40, rfl⟩
abbrev cc2_stg2_0 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg5_0 : Ref sig .tc := ⟨.vmem, 44, rfl⟩
abbrev cc2_stg6_0 : Ref sig .tc := ⟨.vmem, 45, rfl⟩
abbrev cc2_stg7_0 : Ref sig .tc := ⟨.vmem, 46, rfl⟩
abbrev cc2_stg8_0 : Ref sig .tc := ⟨.vmem, 47, rfl⟩
abbrev cc2_stg9_0 : Ref sig .tc := ⟨.vmem, 48, rfl⟩
abbrev cc2_stg10_0 : Ref sig .tc := ⟨.vmem, 49, rfl⟩
abbrev cc2_stg11_0 : Ref sig .tc := ⟨.vmem, 50, rfl⟩
abbrev cc2_stg12_0 : Ref sig .tc := ⟨.vmem, 51, rfl⟩
abbrev cc2_stg13_0 : Ref sig .tc := ⟨.vmem, 52, rfl⟩
abbrev cc2_stg14_0 : Ref sig .tc := ⟨.vmem, 53, rfl⟩
abbrev cc2_stg15_0 : Ref sig .tc := ⟨.vmem, 54, rfl⟩
abbrev cc2_stg16_0 : Ref sig .tc := ⟨.vmem, 55, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30
abbrev cc1_sem13_0 : DmaSem sig := 31
abbrev cc1_sem13_1 : DmaSem sig := 32
abbrev cc1_sem14_0 : DmaSem sig := 33
abbrev cc1_sem14_1 : DmaSem sig := 34
abbrev cc1_sem15_0 : DmaSem sig := 35
abbrev cc1_sem15_1 : DmaSem sig := 36
abbrev cc1_sem16_0 : DmaSem sig := 37
abbrev cc1_sem16_1 : DmaSem sig := 38
abbrev cc2_sem0_0 : DmaSem sig := 39
abbrev cc2_sem1_0 : DmaSem sig := 40
abbrev cc2_sem2_0 : DmaSem sig := 41
abbrev cc2_sem3_0 : DmaSem sig := 42
abbrev cc2_sem4_0 : DmaSem sig := 43
abbrev cc2_sem5_0 : DmaSem sig := 44
abbrev cc2_sem6_0 : DmaSem sig := 45
abbrev cc2_sem7_0 : DmaSem sig := 46
abbrev cc2_sem8_0 : DmaSem sig := 47
abbrev cc2_sem9_0 : DmaSem sig := 48
abbrev cc2_sem10_0 : DmaSem sig := 49
abbrev cc2_sem11_0 : DmaSem sig := 50
abbrev cc2_sem12_0 : DmaSem sig := 51
abbrev cc2_sem13_0 : DmaSem sig := 52
abbrev cc2_sem14_0 : DmaSem sig := 53
abbrev cc2_sem15_0 : DmaSem sig := 54
abbrev cc2_sem16_0 : DmaSem sig := 55

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![256], ![false]⟩

def k1_cond1 (i : grid1.Coords) : BitVec 1 :=
  let arg0 : BitVec 32 := BitVec.ofNat 32 (i 0).val
  let c8_i32 : BitVec 32 := 8#32
  let c0_i32 : BitVec 32 := 0#32
  let v154 : BitVec 1 := Scalar.cmpi .eq c8_i32 c0_i32
  let c1_i32 : BitVec 32 := 1#32
  let v155 : BitVec 32 := Scalar.select v154 c1_i32 c8_i32
  let v156 : BitVec 32 := Scalar.remsi arg0 v155
  let c0_i32_111 : BitVec 32 := 0#32
  let v158 : BitVec 1 := Scalar.cmpi .slt v156 c0_i32_111
  let c0_i32_112 : BitVec 32 := 0#32
  let v159 : BitVec 1 := Scalar.cmpi .slt v155 c0_i32_112
  let v160 : BitVec 1 := Scalar.xori v158 v159
  let c0_i32_110 : BitVec 32 := 0#32
  let v157 : BitVec 1 := Scalar.cmpi .ne v156 c0_i32_110
  let v161 : BitVec 1 := Scalar.andi v160 v157
  let v162 : BitVec 32 := Scalar.addi v156 v155
  let v163 : BitVec 32 := Scalar.select v161 v162 v156
  let c6_i32 : BitVec 32 := 6#32
  let v164 : BitVec 1 := Scalar.cmpi .sge v163 c6_i32
  let v165 : BitVec 32 := Scalar.extui v164
  let c0_i32_113 : BitVec 32 := 0#32
  let v166 : BitVec 1 := Scalar.cmpi .ne v165 c0_i32_113
  v166

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c6_i32 : BitVec 32 := 6#32
  let v28 : BitVec 32 := Scalar.subi v27 c6_i32
  let c0_i32_10 : BitVec 32 := 0#32
  let v29 : BitVec 32 := Scalar.maxsi v28 c0_i32_10
  let v30 : BitVec 32 := Scalar.addi v17 v29
  let c0_i32_11 : BitVec 32 := 0#32
  let c0_i32_12 : BitVec 32 := 0#32
  let c0_i32_13 : BitVec 32 := 0#32
  ![v30.toNat, c0_i32_11.toNat, c0_i32_12.toNat]

def cc1_transform_16 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c6_i32 : BitVec 32 := 6#32
  let v28 : BitVec 32 := Scalar.subi v27 c6_i32
  let c0_i32_10 : BitVec 32 := 0#32
  let v29 : BitVec 32 := Scalar.maxsi v28 c0_i32_10
  let v30 : BitVec 32 := Scalar.addi v17 v29
  let c0_i32_11 : BitVec 32 := 0#32
  let c0_i32_12 : BitVec 32 := 0#32
  let c0_i32_13 : BitVec 32 := 0#32
  ![v30.toNat, c0_i32_11.toNat, c0_i32_12.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x6656 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x6656 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x8x2x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x8x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S256x8x64 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev grid2 : Pipeline.Grid := ⟨1, ![1], ![false]⟩

def k2_cond1 (i : grid2.Coords) : BitVec 1 :=
  let arg0 : BitVec 32 := BitVec.ofNat 32 (i 0).val
  let c1_i32 : BitVec 32 := 1#32
  let c0_i32 : BitVec 32 := 0#32
  let v150 : BitVec 1 := Scalar.cmpi .eq c1_i32 c0_i32
  let c1_i32_108 : BitVec 32 := 1#32
  let v151 : BitVec 32 := Scalar.select v150 c1_i32_108 c1_i32
  let v152 : BitVec 32 := Scalar.remsi arg0 v151
  let c0_i32_110 : BitVec 32 := 0#32
  let v154 : BitVec 1 := Scalar.cmpi .slt v152 c0_i32_110
  let c0_i32_111 : BitVec 32 := 0#32
  let v155 : BitVec 1 := Scalar.cmpi .slt v151 c0_i32_111
  let v156 : BitVec 1 := Scalar.xori v154 v155
  let c0_i32_109 : BitVec 32 := 0#32
  let v153 : BitVec 1 := Scalar.cmpi .ne v152 c0_i32_109
  let v157 : BitVec 1 := Scalar.andi v156 v153
  let v158 : BitVec 32 := Scalar.addi v152 v151
  let v159 : BitVec 32 := Scalar.select v157 v158 v152
  let c0_i32_112 : BitVec 32 := 0#32
  let v160 : BitVec 1 := Scalar.cmpi .sge v159 c0_i32_112
  let v161 : BitVec 32 := Scalar.extui v160
  let c0_i32_113 : BitVec 32 := 0#32
  let v162 : BitVec 1 := Scalar.cmpi .ne v161 c0_i32_113
  v162

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let v28 : BitVec 32 := Scalar.subi v27 c0_i32_12
  let c0_i32_13 : BitVec 32 := 0#32
  let v29 : BitVec 32 := Scalar.maxsi v28 c0_i32_13
  let v30 : BitVec 32 := Scalar.addi v17 v29
  let c0_i32_14 : BitVec 32 := 0#32
  let c0_i32_15 : BitVec 32 := 0#32
  let c0_i32_16 : BitVec 32 := 0#32
  ![v30.toNat, c0_i32_14.toNat, c0_i32_15.toNat]

def cc2_transform_16 (i : grid2.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let v28 : BitVec 32 := Scalar.subi v27 c0_i32_12
  let c0_i32_13 : BitVec 32 := 0#32
  let v29 : BitVec 32 := Scalar.maxsi v28 c0_i32_13
  let v30 : BitVec 32 := Scalar.addi v17 v29
  let c0_i32_14 : BitVec 32 := 0#32
  let c0_i32_15 : BitVec 32 := 0#32
  let c0_i32_16 : BitVec 32 := 0#32
  ![v30.toNat, c0_i32_14.toNat, c0_i32_15.toNat]

abbrev stage2_0 : Fin 1 → Memref sig .tc .vmem S512x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1024x6656 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x6656 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S512x8x2x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S512x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev stage2_8 : Fin 1 → Memref sig .tc .vmem S512x1024 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![true]

abbrev stage2_9 : Fin 1 → Memref sig .tc .vmem S512x1024 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![true]

abbrev stage2_10 : Fin 1 → Memref sig .tc .vmem S512x512 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![true]

abbrev stage2_11 : Fin 1 → Memref sig .tc .vmem S512x512 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![true]

abbrev stage2_12 : Fin 1 → Memref sig .tc .vmem S512x512 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![true]

abbrev stage2_13 : Fin 1 → Memref sig .tc .vmem S512x1024 .bf16 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![true]

abbrev stage2_14 : Fin 1 → Memref sig .tc .vmem S512x1024 .bf16 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![true]

abbrev stage2_15 : Fin 1 → Memref sig .tc .vmem S512x8x64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![true]

abbrev stage2_16 : Fin 1 → Memref sig .tc .vmem S512x8x64 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![true]
-- ==== Kernel2Ideal.lean ====
variable {F : FTy → Type} [FloatOps F] [Named F]
def κ : String → Option EReal := fun
  | "qscale" => some (((1 / 8) * (Real.log 2)⁻¹ : ℝ) : EReal)
  | _ => none
-- ==== Reference2Ideal.lean ====
abbrev S32x2048x1024 : Shape := ⟨3, ![32, 2048, 1024]⟩
abbrev S32x16x1024 : Shape := ⟨3, ![32, 16, 1024]⟩
abbrev S32x1024 : Shape := ⟨2, ![32, 1024]⟩
abbrev S1x1024x6144 : Shape := ⟨3, ![1, 1024, 6144]⟩
abbrev S1x6144 : Shape := ⟨2, ![1, 6144]⟩
abbrev S1x1024x6656 : Shape := ⟨3, ![1, 1024, 6656]⟩
abbrev S1x6656 : Shape := ⟨2, ![1, 6656]⟩
abbrev S1024x6144 : Shape := ⟨2, ![1024, 6144]⟩
abbrev S6144 : Shape := ⟨1, ![6144]⟩
abbrev S1024x6656 : Shape := ⟨2, ![1024, 6656]⟩
abbrev S6656 : Shape := ⟨1, ![6656]⟩
abbrev S_ : Shape := ⟨0, ![]⟩
abbrev S32x6144 : Shape := ⟨2, ![32, 6144]⟩
abbrev S32x1x1024 : Shape := ⟨3, ![32, 1, 1024]⟩
abbrev S32x2048 : Shape := ⟨2, ![32, 2048]⟩
abbrev S32x2048x1 : Shape := ⟨3, ![32, 2048, 1]⟩
abbrev S32x2048x6656 : Shape := ⟨3, ![32, 2048, 6656]⟩
abbrev S1x1x6656 : Shape := ⟨3, ![1, 1, 6656]⟩
abbrev S32x2048x512 : Shape := ⟨3, ![32, 2048, 512]⟩
abbrev S65536x1024 : Shape := ⟨2, ![65536, 1024]⟩
abbrev S65536x8x2x64 : Shape := ⟨4, ![65536, 8, 2, 64]⟩
abbrev S65536x512 : Shape := ⟨2, ![65536, 512]⟩
abbrev S32x2048x8x64 : Shape := ⟨4, ![32, 2048, 8, 64]⟩
abbrev S32x512x8x64 : Shape := ⟨4, ![32, 512, 8, 64]⟩
abbrev S16384x8x64 : Shape := ⟨3, ![16384, 8, 64]⟩
abbrev S32x16 : Shape := ⟨2, ![32, 16]⟩
abbrev S32x16x1 : Shape := ⟨3, ![32, 16, 1]⟩
abbrev S32x16x6656 : Shape := ⟨3, ![32, 16, 6656]⟩
abbrev S32x16x512 : Shape := ⟨3, ![32, 16, 512]⟩
abbrev S512x1024 : Shape := ⟨2, ![512, 1024]⟩
abbrev S512x8x2x64 : Shape := ⟨4, ![512, 8, 2, 64]⟩
abbrev S512x512 : Shape := ⟨2, ![512, 512]⟩
abbrev S32x16x8x64 : Shape := ⟨4, ![32, 16, 8, 64]⟩
abbrev S512x8x64 : Shape := ⟨3, ![512, 8, 64]⟩

abbrev nBuf : Space → Nat
  | .hbm => 256
  | .vmem => 0
  | .smem => 0
  | _ => 0

abbrev hbmTy0_0 (i : Nat) : BufTy := match i % 128 with
  | 0 => ⟨S32x2048x1024, .f32⟩
  | 1 => ⟨S32x16x1024, .f32⟩
  | 2 => ⟨S32x1024, .f32⟩
  | 3 => ⟨S32x1024, .f32⟩
  | 4 => ⟨S1x1024x6144, .f32⟩
  | 5 => ⟨S1x6144, .f32⟩
  | 6 => ⟨S1x1024x6656, .f32⟩
  | 7 => ⟨S1x6656, .f32⟩
  | 8 => ⟨S1024x6144, .f32⟩
  | 9 => ⟨S6144, .f32⟩
  | 10 => ⟨S1024x6656, .f32⟩
  | 11 => ⟨S6656, .f32⟩
  | 12 => ⟨S32x1024, .f32⟩
  | 13 => ⟨S32x1024, .f32⟩
  | 14 => ⟨S_, .f32⟩
  | 15 => ⟨S32x1024, .f32⟩
  | 16 => ⟨S32x1024, .f32⟩
  | 17 => ⟨S_, .f32⟩
  | 18 => ⟨S32x1024, .f32⟩
  | 19 => ⟨S32x1024, .f32⟩
  | 20 => ⟨S32x1024, .f32⟩
  | 21 => ⟨S32x6144, .f32⟩
  | 22 => ⟨S1x6144, .f32⟩
  | 23 => ⟨S32x6144, .f32⟩
  | 24 => ⟨S32x6144, .f32⟩
  | 25 => ⟨S32x1024, .f32⟩
  | 26 => ⟨S32x1024, .f32⟩
  | 27 => ⟨S32x1024, .f32⟩
  | 28 => ⟨S32x1024, .f32⟩
  | 29 => ⟨S32x1024, .f32⟩
  | 30 => ⟨S32x1024, .f32⟩
  | 31 => ⟨S32x1x1024, .f32⟩
  | 32 => ⟨S32x1x1024, .f32⟩
  | 33 => ⟨S32x1x1024, .f32⟩
  | 34 => ⟨S32x1x1024, .f32⟩
  | 35 => ⟨S32x1x1024, .f32⟩
  | 36 => ⟨S32x1x1024, .f32⟩
  | 37 => ⟨S_, .f32⟩
  | 38 => ⟨S32x2048, .f32⟩
  | 39 => ⟨S32x2048x1, .f32⟩
  | 40 => ⟨S_, .f32⟩
  | 41 => ⟨S32x2048x1, .f32⟩
  | 42 => ⟨S32x2048x1, .f32⟩
  | 43 => ⟨S32x2048x1024, .f32⟩
  | 44 => ⟨S32x2048x1024, .f32⟩
  | 45 => ⟨S32x2048x1024, .f32⟩
  | 46 => ⟨S_, .f32⟩
  | 47 => ⟨S32x2048, .f32⟩
  | 48 => ⟨S32x2048x1, .f32⟩
  | 49 => ⟨S_, .f32⟩
  | 50 => ⟨S32x2048x1, .f32⟩
  | 51 => ⟨S32x2048x1, .f32⟩
  | 52 => ⟨S32x2048x1024, .f32⟩
  | 53 => ⟨S32x2048x1024, .f32⟩
  | 54 => ⟨S_, .f32⟩
  | 55 => ⟨S32x2048x1, .f32⟩
  | 56 => ⟨S32x2048x1, .f32⟩
  | 57 => ⟨S32x2048x1, .f32⟩
  | 58 => ⟨S32x2048x1024, .f32⟩
  | 59 => ⟨S32x2048x1024, .f32⟩
  | 60 => ⟨S_, .f32⟩
  | 61 => ⟨S32x1x1024, .f32⟩
  | 62 => ⟨S32x1x1024, .f32⟩
  | 63 => ⟨S32x2048x1024, .f32⟩
  | 64 => ⟨S32x2048x1024, .f32⟩
  | 65 => ⟨S32x2048x1024, .f32⟩
  | 66 => ⟨S32x2048x1024, .f32⟩
  | 67 => ⟨S32x2048x6656, .f32⟩
  | 68 => ⟨S1x1x6656, .f32⟩
  | 69 => ⟨S32x2048x6656, .f32⟩
  | 70 => ⟨S32x2048x6656, .f32⟩
  | 71 => ⟨S32x2048x1024, .f32⟩
  | 72 => ⟨S32x2048x1024, .f32⟩
  | 73 => ⟨S32x2048x1024, .f32⟩
  | 74 => ⟨S32x2048x512, .f32⟩
  | 75 => ⟨S32x2048x512, .f32⟩
  | 76 => ⟨S32x2048x512, .f32⟩
  | 77 => ⟨S32x2048x1024, .f32⟩
  | 78 => ⟨S32x2048x1024, .f32⟩
  | 79 => ⟨S_, .f32⟩
  | 80 => ⟨S32x2048x1024, .f32⟩
  | 81 => ⟨S32x2048x1024, .f32⟩
  | 82 => ⟨S_, .f32⟩
  | 83 => ⟨S_, .f32⟩
  | 84 => ⟨S32x2048x1024, .f32⟩
  | 85 => ⟨S32x2048x1024, .f32⟩
  | 86 => ⟨S_, .f32⟩
  | 87 => ⟨S32x2048x512, .f32⟩
  | 88 => ⟨S32x2048x512, .f32⟩
  | 89 => ⟨S_, .f32⟩
  | 90 => ⟨S_, .f32⟩
  | 91 => ⟨S32x2048x512, .f32⟩
  | 92 => ⟨S32x2048x512, .f32⟩
  | 93 => ⟨S65536x1024, .f32⟩
  | 94 => ⟨S65536x1024, .bf16⟩
  | 95 => ⟨S65536x8x2x64, .f32⟩
  | 96 => ⟨S65536x1024, .f32⟩
  | 97 => ⟨S65536x1024, .f32⟩
  | 98 => ⟨S65536x1024, .bf16⟩
  | 99 => ⟨S65536x1024, .f32⟩
  | 100 => ⟨S65536x1024, .bf16⟩
  | 101 => ⟨S65536x512, .f32⟩
  | 102 => ⟨S65536x512, .bf16⟩
  | 103 => ⟨S65536x512, .f32⟩
  | 104 => ⟨S65536x512, .bf16⟩
  | 105 => ⟨S65536x512, .f32⟩
  | 106 => ⟨S65536x512, .bf16⟩
  | 107 => ⟨S32x2048x1024, .f32⟩
  | 108 => ⟨S32x2048x1024, .f32⟩
  | 109 => ⟨S_, .f32⟩
  | 110 => ⟨S32x2048x1024, .f32⟩
  | 111 => ⟨S32x2048x1024, .f32⟩
  | 112 => ⟨S_, .f32⟩
  | 113 => ⟨S32x2048x1024, .f32⟩
  | 114 => ⟨S32x2048x1024, .f32⟩
  | 115 => ⟨S65536x1024, .f32⟩
  | 116 => ⟨S65536x1024, .bf16⟩
  | 117 => ⟨S32x2048x1024, .f32⟩
  | 118 => ⟨S32x2048x1024, .f32⟩
  | 119 => ⟨S_, .f32⟩
  | 120 => ⟨S32x2048x1024, .f32⟩
  | 121 => ⟨S32x2048x1024, .f32⟩
  | 122 => ⟨S_, .f32⟩
  | 123 => ⟨S32x2048x1024, .f32⟩
  | 124 => ⟨S32x2048x1024, .f32⟩
  | 125 => ⟨S65536x1024, .f32⟩
  | 126 => ⟨S65536x1024, .bf16⟩
  | 127 => ⟨S32x2048x8x64, .f32⟩
  | _ => ⟨S32x2048x1024, .f32⟩

abbrev hbmTy0_1 (i : Nat) : BufTy := match i % 128 with
  | 0 => ⟨S32x512x8x64, .f32⟩
  | 1 => ⟨S16384x8x64, .f32⟩
  | 2 => ⟨S32x2048x8x64, .f32⟩
  | 3 => ⟨S32x512x8x64, .f32⟩
  | 4 => ⟨S16384x8x64, .f32⟩
  | 5 => ⟨S1024x6144, .f32⟩
  | 6 => ⟨S6144, .f32⟩
  | 7 => ⟨S1024x6656, .f32⟩
  | 8 => ⟨S6656, .f32⟩
  | 9 => ⟨S32x1024, .f32⟩
  | 10 => ⟨S32x1024, .f32⟩
  | 11 => ⟨S_, .f32⟩
  | 12 => ⟨S32x1024, .f32⟩
  | 13 => ⟨S32x1024, .f32⟩
  | 14 => ⟨S_, .f32⟩
  | 15 => ⟨S32x1024, .f32⟩
  | 16 => ⟨S32x1024, .f32⟩
  | 17 => ⟨S32x1024, .f32⟩
  | 18 => ⟨S32x6144, .f32⟩
  | 19 => ⟨S1x6144, .f32⟩
  | 20 => ⟨S32x6144, .f32⟩
  | 21 => ⟨S32x6144, .f32⟩
  | 22 => ⟨S32x1024, .f32⟩
  | 23 => ⟨S32x1024, .f32⟩
  | 24 => ⟨S32x1024, .f32⟩
  | 25 => ⟨S32x1024, .f32⟩
  | 26 => ⟨S32x1024, .f32⟩
  | 27 => ⟨S32x1024, .f32⟩
  | 28 => ⟨S32x1x1024, .f32⟩
  | 29 => ⟨S32x1x1024, .f32⟩
  | 30 => ⟨S32x1x1024, .f32⟩
  | 31 => ⟨S32x1x1024, .f32⟩
  | 32 => ⟨S32x1x1024, .f32⟩
  | 33 => ⟨S32x1x1024, .f32⟩
  | 34 => ⟨S_, .f32⟩
  | 35 => ⟨S32x16, .f32⟩
  | 36 => ⟨S32x16x1, .f32⟩
  | 37 => ⟨S_, .f32⟩
  | 38 => ⟨S32x16x1, .f32⟩
  | 39 => ⟨S32x16x1, .f32⟩
  | 40 => ⟨S32x16x1024, .f32⟩
  | 41 => ⟨S32x16x1024, .f32⟩
  | 42 => ⟨S32x16x1024, .f32⟩
  | 43 => ⟨S_, .f32⟩
  | 44 => ⟨S32x16, .f32⟩
  | 45 => ⟨S32x16x1, .f32⟩
  | 46 => ⟨S_, .f32⟩
  | 47 => ⟨S32x16x1, .f32⟩
  | 48 => ⟨S32x16x1, .f32⟩
  | 49 => ⟨S32x16x1024, .f32⟩
  | 50 => ⟨S32x16x1024, .f32⟩
  | 51 => ⟨S_, .f32⟩
  | 52 => ⟨S32x16x1, .f32⟩
  | 53 => ⟨S32x16x1, .f32⟩
  | 54 => ⟨S32x16x1, .f32⟩
  | 55 => ⟨S32x16x1024, .f32⟩
  | 56 => ⟨S32x16x1024, .f32⟩
  | 57 => ⟨S_, .f32⟩
  | 58 => ⟨S32x1x1024, .f32⟩
  | 59 => ⟨S32x1x1024, .f32⟩
  | 60 => ⟨S32x16x1024, .f32⟩
  | 61 => ⟨S32x16x1024, .f32⟩
  | 62 => ⟨S32x16x1024, .f32⟩
  | 63 => ⟨S32x16x1024, .f32⟩
  | 64 => ⟨S32x16x6656, .f32⟩
  | 65 => ⟨S1x1x6656, .f32⟩
  | 66 => ⟨S32x16x6656, .f32⟩
  | 67 => ⟨S32x16x6656, .f32⟩
  | 68 => ⟨S32x16x1024, .f32⟩
  | 69 => ⟨S32x16x1024, .f32⟩
  | 70 => ⟨S32x16x1024, .f32⟩
  | 71 => ⟨S32x16x512, .f32⟩
  | 72 => ⟨S32x16x512, .f32⟩
  | 73 => ⟨S32x16x512, .f32⟩
  | 74 => ⟨S32x16x1024, .f32⟩
  | 75 => ⟨S32x16x1024, .f32⟩
  | 76 => ⟨S_, .f32⟩
  | 77 => ⟨S32x16x1024, .f32⟩
  | 78 => ⟨S32x16x1024, .f32⟩
  | 79 => ⟨S_, .f32⟩
  | 80 => ⟨S_, .f32⟩
  | 81 => ⟨S32x16x1024, .f32⟩
  | 82 => ⟨S32x16x1024, .f32⟩
  | 83 => ⟨S_, .f32⟩
  | 84 => ⟨S32x16x512, .f32⟩
  | 85 => ⟨S32x16x512, .f32⟩
  | 86 => ⟨S_, .f32⟩
  | 87 => ⟨S_, .f32⟩
  | 88 => ⟨S32x16x512, .f32⟩
  | 89 => ⟨S32x16x512, .f32⟩
  | 90 => ⟨S512x1024, .f32⟩
  | 91 => ⟨S512x1024, .bf16⟩
  | 92 => ⟨S512x8x2x64, .f32⟩
  | 93 => ⟨S512x1024, .f32⟩
  | 94 => ⟨S512x1024, .f32⟩
  | 95 => ⟨S512x1024, .bf16⟩
  | 96 => ⟨S512x1024, .f32⟩
  | 97 => ⟨S512x1024, .bf16⟩
  | 98 => ⟨S512x512, .f32⟩
  | 99 => ⟨S512x512, .bf16⟩
  | 100 => ⟨S512x512, .f32⟩
  | 101 => ⟨S512x512, .bf16⟩
  | 102 => ⟨S512x512, .f32⟩
  | 103 => ⟨S512x512, .bf16⟩
  | 104 => ⟨S32x16x1024, .f32⟩
  | 105 => ⟨S32x16x1024, .f32⟩
  | 106 => ⟨S_, .f32⟩
  | 107 => ⟨S32x16x1024, .f32⟩
  | 108 => ⟨S32x16x1024, .f32⟩
  | 109 => ⟨S_, .f32⟩
  | 110 => ⟨S32x16x1024, .f32⟩
  | 111 => ⟨S32x16x1024, .f32⟩
  | 112 => ⟨S512x1024, .f32⟩
  | 113 => ⟨S512x1024, .bf16⟩
  | 114 => ⟨S32x16x1024, .f32⟩
  | 115 => ⟨S32x16x1024, .f32⟩
  | 116 => ⟨S_, .f32⟩
  | 117 => ⟨S32x16x1024, .f32⟩
  | 118 => ⟨S32x16x1024, .f32⟩
  | 119 => ⟨S_, .f32⟩
  | 120 => ⟨S32x16x1024, .f32⟩
  | 121 => ⟨S32x16x1024, .f32⟩
  | 122 => ⟨S512x1024, .f32⟩
  | 123 => ⟨S512x1024, .bf16⟩
  | 124 => ⟨S32x16x8x64, .f32⟩
  | 125 => ⟨S512x8x64, .f32⟩
  | 126 => ⟨S32x16x8x64, .f32⟩
  | 127 => ⟨S512x8x64, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_1 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_5 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_7 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_9 : Ref sig .tc := ⟨.hbm, 109, rfl⟩
abbrev main_v83 : Ref sig .tc := ⟨.hbm, 110, rfl⟩
abbrev main_v84 : Ref sig .tc := ⟨.hbm, 111, rfl⟩
abbrev main_cst_10 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_11 : Ref sig .tc := ⟨.hbm, 119, rfl⟩
abbrev main_v91 : Ref sig .tc := ⟨.hbm, 120, rfl⟩
abbrev main_v92 : Ref sig .tc := ⟨.hbm, 121, rfl⟩
abbrev main_cst_12 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_call1_v0 : Ref sig .tc := ⟨.hbm, 137, rfl⟩
abbrev main_call1_v1 : Ref sig .tc := ⟨.hbm, 138, rfl⟩
abbrev main_call1_cst : Ref sig .tc := ⟨.hbm, 139, rfl⟩
abbrev main_call1_v2 : Ref sig .tc := ⟨.hbm, 140, rfl⟩
abbrev main_call1_v3 : Ref sig .tc := ⟨.hbm, 141, rfl⟩
abbrev main_call1_cst_0 : Ref sig .tc := ⟨.hbm, 142, rfl⟩
abbrev main_call1_v4 : Ref sig .tc := ⟨.hbm, 143, rfl⟩
abbrev main_call1_v5 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_13 : Ref sig .tc := ⟨.hbm, 162, rfl⟩
abbrev main_v124 : Ref sig .tc := ⟨.hbm, 163, rfl⟩
abbrev main_v125 : Ref sig .tc := ⟨.hbm, 164, rfl⟩
abbrev main_cst_14 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_15 : Ref sig .tc := ⟨.hbm, 171, rfl⟩
abbrev main_v131 : Ref sig .tc := ⟨.hbm, 172, rfl⟩
abbrev main_v132 : Ref sig .tc := ⟨.hbm, 173, rfl⟩
abbrev main_cst_16 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_17 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_18 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_19 : Ref sig .tc := ⟨.hbm, 204, rfl⟩
abbrev main_v160 : Ref sig .tc := ⟨.hbm, 205, rfl⟩
abbrev main_v161 : Ref sig .tc := ⟨.hbm, 206, rfl⟩
abbrev main_cst_20 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_21 : Ref sig .tc := ⟨.hbm, 211, rfl⟩
abbrev main_v165 : Ref sig .tc := ⟨.hbm, 212, rfl⟩
abbrev main_v166 : Ref sig .tc := ⟨.hbm, 213, rfl⟩
abbrev main_cst_22 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_cst_23 : Ref sig .tc := ⟨.hbm, 234, rfl⟩
abbrev main_v186 : Ref sig .tc := ⟨.hbm, 235, rfl⟩
abbrev main_v187 : Ref sig .tc := ⟨.hbm, 236, rfl⟩
abbrev main_cst_24 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_cst_25 : Ref sig .tc := ⟨.hbm, 244, rfl⟩
abbrev main_v194 : Ref sig .tc := ⟨.hbm, 245, rfl⟩
abbrev main_v195 : Ref sig .tc := ⟨.hbm, 246, rfl⟩
abbrev main_cst_26 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x2048x512 : Shape := ⟨3, ![32, 2048, 512]⟩
abbrev S65536x1024 : Shape := ⟨2, ![65536, 1024]⟩
abbrev S32x1024 : Shape := ⟨2, ![32, 1024]⟩
abbrev S1x1024x1024 : Shape := ⟨3, ![1, 1024, 1024]⟩
abbrev S1x512x1024 : Shape := ⟨3, ![1, 512, 1024]⟩
abbrev S1x1024 : Shape := ⟨2, ![1, 1024]⟩
abbrev S1024x1024 : Shape := ⟨2, ![1024, 1024]⟩
abbrev S512x1024 : Shape := ⟨2, ![512, 1024]⟩
abbrev S65536x512 : Shape := ⟨2, ![65536, 512]⟩
abbrev S32x1x1024 : Shape := ⟨3, ![32, 1, 1024]⟩
abbrev S1024 : Shape := ⟨1, ![1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 31
  | .vmem => 25
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x512, .bf16⟩
  | .hbm, ⟨2, _⟩ => ⟨S65536x1024, .bf16⟩
  | .hbm, ⟨3, _⟩ => ⟨S65536x1024, .bf16⟩
  | .hbm, ⟨4, _⟩ => ⟨S32x2048x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S1x1024x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S1024x1024, .f32⟩
  | .hbm, ⟨14, _⟩ => ⟨S1024x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S65536x1024, .bf16⟩
  | .hbm, ⟨20, _⟩ => ⟨S65536x512, .bf16⟩
  | .hbm, ⟨21, _⟩ => ⟨S65536x1024, .f32⟩
  | .hbm, ⟨22, _⟩ => ⟨S32x1x1024, .f32⟩
  | .hbm, ⟨23, _⟩ => ⟨S32x1x1024, .f32⟩
  | .hbm, ⟨24, _⟩ => ⟨S32x1x1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S65536x1024, .f32⟩
  | .hbm, ⟨30, _⟩ => ⟨S65536x512, .i32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x512, .i32⟩
  | .local _ .vmem, ⟨24, _⟩ => ⟨S512x512, .i32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel3Ideal.lean ====
abbrev S32x2048x1024 : Shape := ⟨3, ![32, 2048, 1024]⟩
abbrev S32x2048x512 : Shape := ⟨3, ![32, 2048, 512]⟩
abbrev S65536x1024 : Shape := ⟨2, ![65536, 1024]⟩
abbrev S32x1024 : Shape := ⟨2, ![32, 1024]⟩
abbrev S1x1024x1024 : Shape := ⟨3, ![1, 1024, 1024]⟩
abbrev S1x512x1024 : Shape := ⟨3, ![1, 512, 1024]⟩
abbrev S1x1024 : Shape := ⟨2, ![1, 1024]⟩
abbrev S1024x1024 : Shape := ⟨2, ![1024, 1024]⟩
abbrev S512x1024 : Shape := ⟨2, ![512, 1024]⟩
abbrev S65536x512 : Shape := ⟨2, ![65536, 512]⟩
abbrev S32x1x1024 : Shape := ⟨3, ![32, 1, 1024]⟩
abbrev S1024 : Shape := ⟨1, ![1024]⟩
abbrev S65536x2x512 : Shape := ⟨3, ![65536, 2, 512]⟩
abbrev S65536x1x512 : Shape := ⟨3, ![65536, 1, 512]⟩
abbrev S512x512 : Shape := ⟨2, ![512, 512]⟩
abbrev S1x1x1024 : Shape := ⟨3, ![1, 1, 1024]⟩
abbrev S512x2x512 : Shape := ⟨3, ![512, 2, 512]⟩
abbrev S512x1x512 : Shape := ⟨3, ![512, 1, 512]⟩
abbrev S512 : Shape := ⟨1, ![512]⟩
abbrev S512x1 : Shape := ⟨2, ![512, 1]⟩

abbrev nBuf : Space → Nat
  | .hbm => 31
  | .vmem => 25
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x512, .bf16⟩
  | .hbm, ⟨2, _⟩ => ⟨S65536x1024, .bf16⟩
  | .hbm, ⟨3, _⟩ => ⟨S65536x1024, .bf16⟩
  | .hbm, ⟨4, _⟩ => ⟨S32x2048x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S1x1024x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S1024x1024, .f32⟩
  | .hbm, ⟨14, _⟩ => ⟨S1024x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S65536x1024, .bf16⟩
  | .hbm, ⟨20, _⟩ => ⟨S65536x512, .bf16⟩
  | .hbm, ⟨21, _⟩ => ⟨S65536x1024, .f32⟩
  | .hbm, ⟨22, _⟩ => ⟨S32x1x1024, .f32⟩
  | .hbm, ⟨23, _⟩ => ⟨S32x1x1024, .f32⟩
  | .hbm, ⟨24, _⟩ => ⟨S32x1x1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S65536x1024, .f32⟩
  | .hbm, ⟨30, _⟩ => ⟨S65536x2x512, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x2x512, .bf16⟩
  | .local _ .vmem, ⟨24, _⟩ => ⟨S512x2x512, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S32x2048x1024 : Shape := ⟨3, ![32, 2048, 1024]⟩
abbrev S32x2048x512 : Shape := ⟨3, ![32, 2048, 512]⟩
abbrev S65536x1024 : Shape := ⟨2, ![65536, 1024]⟩
abbrev S32x1024 : Shape := ⟨2, ![32, 1024]⟩
abbrev S1x1024x1024 : Shape := ⟨3, ![1, 1024, 1024]⟩
abbrev S1x512x1024 : Shape := ⟨3, ![1, 512, 1024]⟩
abbrev S1x1024 : Shape := ⟨2, ![1, 1024]⟩
abbrev S1024x1024 : Shape := ⟨2, ![1024, 1024]⟩
abbrev S512x1024 : Shape := ⟨2, ![512, 1024]⟩
abbrev S32x1x1024 : Shape := ⟨3, ![32, 1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x512, .bf16⟩
  | .hbm, ⟨2, _⟩ => ⟨S65536x1024, .bf16⟩
  | .hbm, ⟨3, _⟩ => ⟨S65536x1024, .bf16⟩
  | .hbm, ⟨4, _⟩ => ⟨S32x2048x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S1x1024x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S65536x1024, .f32⟩
  | .hbm, ⟨14, _⟩ => ⟨S32x2048x1024, .f32⟩
  | .hbm, ⟨15, _⟩ => ⟨S1024x1024, .f32⟩
  | .hbm, ⟨16, _⟩ => ⟨S32x2048x1024, .f32⟩
  | .hbm, ⟨17, _⟩ => ⟨S32x2048x1024, .f32⟩
  | .hbm, ⟨18, _⟩ => ⟨S65536x1024, .f32⟩
  | .hbm, ⟨19, _⟩ => ⟨S32x2048x1024, .f32⟩
  | .hbm, ⟨20, _⟩ => ⟨S512x1024, .f32⟩
  | .hbm, ⟨21, _⟩ => ⟨S32x2048x1024, .f32⟩
  | .hbm, ⟨22, _⟩ => ⟨S32x2048x1024, .f32⟩
  | .hbm, ⟨23, _⟩ => ⟨S32x2048x1024, .f32⟩
  | .hbm, ⟨24, _⟩ => ⟨S32x1x1024, .f32⟩
  | .hbm, ⟨25, _⟩ => ⟨S1024x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S_, .f32⟩
  | .hbm, ⟨36, _⟩ => ⟨S32x2048, .f32⟩
  | .hbm, ⟨37, _⟩ => ⟨S32x2048x1, .f32⟩
  | .hbm, ⟨38, _⟩ => ⟨S_, .f32⟩
  | .hbm, ⟨39, _⟩ => ⟨S32x2048x1, .f32⟩
  | .hbm, ⟨40, _⟩ => ⟨S32x2048x1, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S_, .f32⟩
  | .hbm, ⟨45, _⟩ => ⟨S32x2048, .f32⟩
  | .hbm, ⟨46, _⟩ => ⟨S32x2048x1, .f32⟩
  | .hbm, ⟨47, _⟩ => ⟨S_, .f32⟩
  | .hbm, ⟨48, _⟩ => ⟨S32x2048x1, .f32⟩
  | .hbm, ⟨49, _⟩ => ⟨S32x2048x1, .f32⟩
  | .hbm, ⟨50, _⟩ => ⟨S32x2048x1024, .f32⟩
  | .hbm, ⟨51, _⟩ => ⟨S32x2048x1024, .f32⟩
  | .hbm, ⟨52, _⟩ => ⟨S_, .f32⟩
  | .hbm, ⟨53, _⟩ => ⟨S32x2048x1, .f32⟩
  | .hbm, ⟨54, _⟩ => ⟨S32x2048x1, .f32⟩
  | .hbm, ⟨55, _⟩ => ⟨S32x2048x1, .f32⟩
  | .hbm, ⟨56, _⟩ => ⟨S32x2048x1024, .f32⟩
  | .hbm, ⟨57, _⟩ => ⟨S32x2048x1024, .f32⟩
  | .hbm, ⟨58, _⟩ => ⟨S1x1x1024, .f32⟩
  | .hbm, ⟨59, _⟩ => ⟨S32x2048x1024, .f32⟩
  | .hbm, ⟨60, _⟩ => ⟨S32x2048x1024, .f32⟩
  | .hbm, ⟨61, _⟩ => ⟨S1x1x1024, .f32⟩
  | .hbm, ⟨62, _⟩ => ⟨S32x2048x1024, .f32⟩
  | .hbm, ⟨63, _⟩ => ⟨S32x2048x1024, .f32⟩
  | .hbm, ⟨64, _⟩ => ⟨S65536x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Kernel4.lean ====
abbrev S32x2048x512 : Shape := ⟨3, ![32, 2048, 512]⟩
abbrev S1x8x257 : Shape := ⟨3, ![1, 8, 257]⟩
abbrev S1023 : Shape := ⟨1, ![1023]⟩
abbrev S_ : Shape := ⟨0, ![]⟩
abbrev S8x257 : Shape := ⟨2, ![8, 257]⟩
abbrev S256x768 : Shape := ⟨2, ![256, 768]⟩
abbrev S1x256x768 : Shape := ⟨3, ![1, 256, 768]⟩
abbrev S1023x1 : Shape := ⟨2, ![1023, 1]⟩
abbrev S1 : Shape := ⟨1, ![1]⟩
abbrev S1x1 : Shape := ⟨2, ![1, 1]⟩
abbrev S8x1023 : Shape := ⟨2, ![8, 1023]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S1x8x256x768 : Shape := ⟨4, ![1, 8, 256, 768]⟩
abbrev S3x8x256x768 : Shape := ⟨4, ![3, 8, 256, 768]⟩
abbrev S3x2x256x768 : Shape := ⟨4, ![3, 2, 256, 768]⟩
abbrev S1x256x128 : Shape := ⟨3, ![1, 256, 128]⟩
abbrev S1x2048x128 : Shape := ⟨3, ![1, 2048, 128]⟩
abbrev S256x128 : Shape := ⟨2, ![256, 128]⟩
abbrev S512x128 : Shape := ⟨2, ![512, 128]⟩
abbrev S1x768x128 : Shape := ⟨3, ![1, 768, 128]⟩
abbrev S768x128 : Shape := ⟨2, ![768, 128]⟩
abbrev S1x2x256x768 : Shape := ⟨4, ![1, 2, 256, 768]⟩
abbrev S2x256x768 : Shape := ⟨3, ![2, 256, 768]⟩
abbrev S512x768 : Shape := ⟨2, ![512, 768]⟩
abbrev S512 : Shape := ⟨1, ![512]⟩
abbrev S512x1 : Shape := ⟨2, ![512, 1]⟩

abbrev nBuf : Space → Nat
  | .hbm => 216
  | .vmem => 10
  | .smem => 0
  | _ => 0

abbrev hbmTy0_0 (i : Nat) : BufTy := match i % 128 with
  | 0 => ⟨S32x2048x512, .f32⟩
  | 1 => ⟨S32x2048x512, .f32⟩
  | 2 => ⟨S32x2048x512, .f32⟩
  | 3 => ⟨S1x8x257, .f32⟩
  | 4 => ⟨S1023, .i32⟩
  | 5 => ⟨S1023, .i32⟩
  | 6 => ⟨S1023, .i32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S32x2048x512, .f32⟩
  | 14 => ⟨S32x2048x512, .f32⟩
  | 15 => ⟨S32x2048x512, .bf16⟩
  | 16 => ⟨S32x2048x512, .bf16⟩
  | 17 => ⟨S32x2048x512, .bf16⟩
  | 18 => ⟨S8x257, .f32⟩
  | 19 => ⟨S256x768, .i32⟩
  | 20 => ⟨S_, .i32⟩
  | 21 => ⟨S256x768, .i32⟩
  | 22 => ⟨S256x768, .i32⟩
  | 23 => ⟨S256x768, .i32⟩
  | 24 => ⟨S_, .i32⟩
  | 25 => ⟨S256x768, .i32⟩
  | 26 => ⟨S256x768, .i32⟩
  | 27 => ⟨S_, .i32⟩
  | 28 => ⟨S256x768, .i32⟩
  | 29 => ⟨S256x768, .i32⟩
  | 30 => ⟨S_, .i32⟩
  | 31 => ⟨S256x768, .i32⟩
  | 32 => ⟨S256x768, .i32⟩
  | 33 => ⟨S256x768, .i1⟩
  | 34 => ⟨S_, .i32⟩
  | 35 => ⟨S256x768, .i32⟩
  | 36 => ⟨S256x768, .i32⟩
  | 37 => ⟨S256x768, .i1⟩
  | 38 => ⟨S256x768, .i1⟩
  | 39 => ⟨S1x256x768, .i1⟩
  | 40 => ⟨S_, .f32⟩
  | 41 => ⟨S_, .f32⟩
  | 42 => ⟨S_, .f32⟩
  | 43 => ⟨S_, .f32⟩
  | 44 => ⟨S8x257, .f32⟩
  | 45 => ⟨S8x257, .f32⟩
  | 46 => ⟨S_, .i32⟩
  | 47 => ⟨S1023, .i32⟩
  | 48 => ⟨S1023, .i1⟩
  | 49 => ⟨S_, .i32⟩
  | 50 => ⟨S1023, .i32⟩
  | 51 => ⟨S1023, .i32⟩
  | 52 => ⟨S1023, .i32⟩
  | 53 => ⟨S1023x1, .i32⟩
  | 54 => ⟨S1, .i32⟩
  | 55 => ⟨S_, .i32⟩
  | 56 => ⟨S1023x1, .i32⟩
  | 57 => ⟨S1023x1, .i1⟩
  | 58 => ⟨S1x1, .i32⟩
  | 59 => ⟨S1023x1, .i32⟩
  | 60 => ⟨S1023x1, .i1⟩
  | 61 => ⟨S1023x1, .i1⟩
  | 62 => ⟨S_, .i1⟩
  | 63 => ⟨S1023, .i1⟩
  | 64 => ⟨S8x1023, .f32⟩
  | 65 => ⟨S8x1023, .i1⟩
  | 66 => ⟨S_, .f32⟩
  | 67 => ⟨S8x1023, .f32⟩
  | 68 => ⟨S8x1023, .f32⟩
  | 69 => ⟨S_, .i32⟩
  | 70 => ⟨S_, .f32⟩
  | 71 => ⟨S8x1024, .f32⟩
  | 72 => ⟨S1x8x1x1024, .f32⟩
  | 73 => ⟨S1x8x256x1024, .f32⟩
  | 74 => ⟨S8x262144, .f32⟩
  | 75 => ⟨S8x261888, .f32⟩
  | 76 => ⟨S8x256x1023, .f32⟩
  | 77 => ⟨S8x256x768, .f32⟩
  | 78 => ⟨S_, .f32⟩
  | 79 => ⟨S_, .f32⟩
  | 80 => ⟨S8x256x768, .i1⟩
  | 81 => ⟨S8x256x768, .f32⟩
  | 82 => ⟨S8x256x768, .f32⟩
  | 83 => ⟨S256x768, .i32⟩
  | 84 => ⟨S_, .i32⟩
  | 85 => ⟨S256x768, .i32⟩
  | 86 => ⟨S256x768, .i32⟩
  | 87 => ⟨S256x768, .i32⟩
  | 88 => ⟨S_, .i32⟩
  | 89 => ⟨S256x768, .i32⟩
  | 90 => ⟨S256x768, .i32⟩
  | 91 => ⟨S_, .i32⟩
  | 92 => ⟨S256x768, .i32⟩
  | 93 => ⟨S256x768, .i32⟩
  | 94 => ⟨S_, .i32⟩
  | 95 => ⟨S256x768, .i32⟩
  | 96 => ⟨S256x768, .i32⟩
  | 97 => ⟨S256x768, .i1⟩
  | 98 => ⟨S_, .i32⟩
  | 99 => ⟨S256x768, .i32⟩
  | 100 => ⟨S256x768, .i32⟩
  | 101 => ⟨S256x768, .i1⟩
  | 102 => ⟨S256x768, .i1⟩
  | 103 => ⟨S1x256x768, .i1⟩
  | 104 => ⟨S_, .f32⟩
  | 105 => ⟨S_, .f32⟩
  | 106 => ⟨S_, .f32⟩
  | 107 => ⟨S_, .f32⟩
  | 108 => ⟨S8x257, .f32⟩
  | 109 => ⟨S8x257, .f32⟩
  | 110 => ⟨S_, .i32⟩
  | 111 => ⟨S1023, .i32⟩
  | 112 => ⟨S1023, .i1⟩
  | 113 => ⟨S_, .i32⟩
  | 114 => ⟨S1023, .i32⟩
  | 115 => ⟨S1023, .i32⟩
  | 116 => ⟨S1023, .i32⟩
  | 117 => ⟨S1023x1, .i32⟩
  | 118 => ⟨S1, .i32⟩
  | 119 => ⟨S_, .i32⟩
  | 120 => ⟨S1023x1, .i32⟩
  | 121 => ⟨S1023x1, .i1⟩
  | 122 => ⟨S1x1, .i32⟩
  | 123 => ⟨S1023x1, .i32⟩
  | 124 => ⟨S1023x1, .i1⟩
  | 125 => ⟨S1023x1, .i1⟩
  | 126 => ⟨S_, .i1⟩
  | 127 => ⟨S1023, .i1⟩
  | _ => ⟨S32x2048x512, .f32⟩

abbrev hbmTy0_1 (i : Nat) : BufTy := match i % 128 with
  | 0 => ⟨S8x1023, .f32⟩
  | 1 => ⟨S8x1023, .i1⟩
  | 2 => ⟨S_, .f32⟩
  | 3 => ⟨S8x1023, .f32⟩
  | 4 => ⟨S8x1023, .f32⟩
  | 5 => ⟨S_, .i32⟩
  | 6 => ⟨S_, .f32⟩
  | 7 => ⟨S8x1024, .f32⟩
  | 8 => ⟨S1x8x1x1024, .f32⟩
  | 9 => ⟨S1x8x256x1024, .f32⟩
  | 10 => ⟨S8x262144, .f32⟩
  | 11 => ⟨S8x261888, .f32⟩
  | 12 => ⟨S8x256x1023, .f32⟩
  | 13 => ⟨S8x256x768, .f32⟩
  | 14 => ⟨S_, .f32⟩
  | 15 => ⟨S_, .f32⟩
  | 16 => ⟨S8x256x768, .i1⟩
  | 17 => ⟨S8x256x768, .f32⟩
  | 18 => ⟨S8x256x768, .f32⟩
  | 19 => ⟨S256x768, .i32⟩
  | 20 => ⟨S_, .i32⟩
  | 21 => ⟨S256x768, .i32⟩
  | 22 => ⟨S256x768, .i32⟩
  | 23 => ⟨S256x768, .i32⟩
  | 24 => ⟨S_, .i32⟩
  | 25 => ⟨S256x768, .i32⟩
  | 26 => ⟨S256x768, .i32⟩
  | 27 => ⟨S_, .i32⟩
  | 28 => ⟨S256x768, .i32⟩
  | 29 => ⟨S256x768, .i32⟩
  | 30 => ⟨S_, .i32⟩
  | 31 => ⟨S256x768, .i32⟩
  | 32 => ⟨S256x768, .i32⟩
  | 33 => ⟨S256x768, .i1⟩
  | 34 => ⟨S_, .i32⟩
  | 35 => ⟨S256x768, .i32⟩
  | 36 => ⟨S256x768, .i32⟩
  | 37 => ⟨S256x768, .i1⟩
  | 38 => ⟨S256x768, .i1⟩
  | 39 => ⟨S1x256x768, .i1⟩
  | 40 => ⟨S_, .f32⟩
  | 41 => ⟨S_, .f32⟩
  | 42 => ⟨S_, .f32⟩
  | 43 => ⟨S_, .f32⟩
  | 44 => ⟨S8x257, .f32⟩
  | 45 => ⟨S8x257, .f32⟩
  | 46 => ⟨S_, .i32⟩
  | 47 => ⟨S1023, .i32⟩
  | 48 => ⟨S1023, .i1⟩
  | 49 => ⟨S_, .i32⟩
  | 50 => ⟨S1023, .i32⟩
  | 51 => ⟨S1023, .i32⟩
  | 52 => ⟨S1023, .i32⟩
  | 53 => ⟨S1023x1, .i32⟩
  | 54 => ⟨S1, .i32⟩
  | 55 => ⟨S_, .i32⟩
  | 56 => ⟨S1023x1, .i32⟩
  | 57 => ⟨S1023x1, .i1⟩
  | 58 => ⟨S1x1, .i32⟩
  | 59 => ⟨S1023x1, .i32⟩
  | 60 => ⟨S1023x1, .i1⟩
  | 61 => ⟨S1023x1, .i1⟩
  | 62 => ⟨S_, .i1⟩
  | 63 => ⟨S1023, .i1⟩
  | 64 => ⟨S8x1023, .f32⟩
  | 65 => ⟨S8x1023, .i1⟩
  | 66 => ⟨S_, .f32⟩
  | 67 => ⟨S8x1023, .f32⟩
  | 68 => ⟨S8x1023, .f32⟩
  | 69 => ⟨S_, .i32⟩
  | 70 => ⟨S_, .f32⟩
  | 71 => ⟨S8x1024, .f32⟩
  | 72 => ⟨S1x8x1x1024, .f32⟩
  | 73 => ⟨S1x8x256x1024, .f32⟩
  | 74 => ⟨S8x262144, .f32⟩
  | 75 => ⟨S8x261888, .f32⟩
  | 76 => ⟨S8x256x1023, .f32⟩
  | 77 => ⟨S8x256x768, .f32⟩
  | 78 => ⟨S_, .f32⟩
  | 79 => ⟨S_, .f32⟩
  | 80 => ⟨S8x256x768, .i1⟩
  | 81 => ⟨S8x256x768, .f32⟩
  | 82 => ⟨S8x256x768, .f32⟩
  | 83 => ⟨S1x8x256x768, .f32⟩
  | 84 => ⟨S1x8x256x768, .f32⟩
  | 85 => ⟨S1x8x256x768, .f32⟩
  | 86 => ⟨S3x8x256x768, .f32⟩
  | 87 => ⟨S32x2048x512, .bf16⟩
  | _ => ⟨S32x2048x512, .f32⟩

abbrev hbmTy (i : Nat) : BufTy := match i / 128 with
  | 0 => hbmTy0_0 i
  | 1 => hbmTy0_1 i
  | _ => ⟨S32x2048x512, .f32⟩

abbrev bufTy : (tb : Table) → Fin (tcTables nBuf tb) → BufTy
  | .hbm, ⟨i, _⟩ => hbmTy i
  | .local _ .vmem, ⟨0, _⟩ => ⟨S3x2x256x768, .f32⟩
  | .local _ .vmem, ⟨1, _⟩ => ⟨S3x2x256x768, .f32⟩
  | .local _ .vmem, ⟨2, _⟩ => ⟨S1x256x128, .bf16⟩
  | .local _ .vmem, ⟨3, _⟩ => ⟨S1x256x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x256x128, .bf16⟩
  | .local _ .vmem, ⟨9, _⟩ => ⟨S1x256x128, .bf16⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_cst : Ref sig .tc := ⟨.hbm, 7, rfl⟩
abbrev main_v0 : Ref sig .tc := ⟨.hbm, 8, rfl⟩
abbrev main_cst_2 : Ref sig .tc := ⟨.hbm, 9, rfl⟩
abbrev main_v1 : Ref sig .tc := ⟨.hbm, 10, rfl⟩
abbrev main_cst_3 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_v14 : Ref sig .tc := ⟨.hbm, 26, rfl⟩
abbrev main_c_6 : Ref sig .tc := ⟨.hbm, 27, rfl⟩
abbrev main_v15 : Ref sig .tc := ⟨.hbm, 28, rfl⟩
abbrev main_v16 : Ref sig .tc := ⟨.hbm, 29, rfl⟩
abbrev main_c_7 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_8 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_call0_cst : Ref sig .tc := ⟨.hbm, 66, rfl⟩
abbrev main_call0_v15 : Ref sig .tc := ⟨.hbm, 67, rfl⟩
abbrev main_v29 : Ref sig .tc := ⟨.hbm, 68, rfl⟩
abbrev main_c_11 : Ref sig .tc := ⟨.hbm, 69, rfl⟩
abbrev main_call1_v0 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_12 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v37 : Ref sig .tc := ⟨.hbm, 82, rfl⟩
abbrev main_v38 : Ref sig .tc := ⟨.hbm, 83, rfl⟩
abbrev main_c_13 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_c_14 : Ref sig .tc := ⟨.hbm, 88, rfl⟩
abbrev main_v42 : Ref sig .tc := ⟨.hbm, 89, rfl⟩
abbrev main_v43 : Ref sig .tc := ⟨.hbm, 90, rfl⟩
abbrev main_c_15 : Ref sig .tc := ⟨.hbm, 91, rfl⟩
abbrev main_v44 : Ref sig .tc := ⟨.hbm, 92, rfl⟩
abbrev main_v45 : Ref sig .tc := ⟨.hbm, 93, rfl⟩
abbrev main_c_16 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_c_17 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_18 : Ref sig .tc := ⟨.hbm, 104, rfl⟩
abbrev main_v54 : Ref sig .tc := ⟨.hbm, 105, rfl⟩
abbrev main_cst_19 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v58 : Ref sig .tc := ⟨.hbm, 132, rfl⟩
abbrev main_c_20 : Ref sig .tc := ⟨.hbm, 133, rfl⟩
abbrev main_call4_v0 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_cst_21 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_v66 : Ref sig .tc := ⟨.hbm, 146, rfl⟩
abbrev main_v67 : Ref sig .tc := ⟨.hbm, 147, rfl⟩
abbrev main_c_22 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_c_23 : Ref sig .tc := ⟨.hbm, 152, rfl⟩
abbrev main_v71 : Ref sig .tc := ⟨.hbm, 153, rfl⟩
abbrev main_v72 : Ref sig .tc := ⟨.hbm, 154, rfl⟩
abbrev main_c_24 : Ref sig .tc := ⟨.hbm, 155, rfl⟩
abbrev main_v73 : Ref sig .tc := ⟨.hbm, 156, rfl⟩
abbrev main_v74 : Ref sig .tc := ⟨.hbm, 157, rfl⟩
abbrev main_c_25 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_c_26 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_cst_27 : Ref sig .tc := ⟨.hbm, 168, rfl⟩
abbrev main_v83 : Ref sig .tc := ⟨.hbm, 169, rfl⟩
abbrev main_cst_28 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_call6_c : Ref sig .tc := ⟨.hbm, 174, rfl⟩
abbrev main_call6_v0 : Ref sig .tc := ⟨.hbm, 175, rfl⟩
abbrev main_call6_v1 : Ref sig .tc := ⟨.hbm, 176, rfl⟩
abbrev main_call6_c_0 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_call6_v5 : Ref sig .tc := ⟨.hbm, 181, rfl⟩
abbrev main_call6_c_1 : Ref sig .tc := ⟨.hbm, 182, rfl⟩
abbrev main_call6_c_2 : Ref sig .tc := ⟨.hbm, 183, rfl⟩
abbrev main_call6_v6 : Ref sig .tc := ⟨.hbm, 184, rfl⟩
abbrev main_call6_v7 : Ref sig .tc := ⟨.hbm, 185, rfl⟩
abbrev main_call6_v8 : Ref sig .tc := ⟨.hbm, 186, rfl⟩
abbrev main_call6_v9 : Ref sig .tc := ⟨.hbm, 187, rfl⟩
abbrev main_call6_v10 : Ref sig .tc := ⟨.hbm, 188, rfl⟩
abbrev main_call6_v11 : Ref sig .tc := ⟨.hbm, 189, rfl⟩
abbrev main_call6_c_3 : Ref sig .tc := ⟨.hbm, 190, rfl⟩
abbrev main_call6_v12 : Ref sig .tc := ⟨.hbm, 191, rfl⟩
abbrev main_call6_v13 : Ref sig .tc := ⟨.hbm, 192, rfl⟩
abbrev main_call6_v14 : Ref sig .tc := ⟨.hbm, 193, rfl⟩
abbrev main_call6_cst : Ref sig .tc := ⟨.hbm, 194, rfl⟩
abbrev main_call6_v15 : Ref sig .tc := ⟨.hbm, 195, rfl⟩
abbrev main_v87 : Ref sig .tc := ⟨.hbm, 196, rfl⟩
abbrev main_c_29 : Ref sig .tc := ⟨.hbm, 197, rfl⟩
abbrev main_call7_v0 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_v93 : Ref sig .tc := ⟨.hbm, 204, rfl⟩
abbrev main_v94 : Ref sig .tc := ⟨.hbm, 205, rfl⟩
abbrev main_cst_30 : Ref sig .tc := ⟨.hbm, 206, rfl⟩
abbrev main_call8_v0 : Ref sig .tc := ⟨.hbm, 207, rfl⟩
abbrev main_call8_v1 : Ref sig .tc := ⟨.hbm, 208, rfl⟩
abbrev main_call8_v2 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 32, 8], ![false, false, false]⟩

def k0_mult1 (i : grid0.Coords) : BitVec 32 :=
  let arg2 : BitVec 32 := BitVec.ofNat 32 (i 2).val
  let c256_i32 : BitVec 32 := 256#32
  let v1 : BitVec 32 := Scalar.muli arg2 c256_i32
  let c512_i32 : BitVec 32 := 512#32
  let v2 : BitVec 32 := Scalar.subi v1 c512_i32
  let c0_i32 : BitVec 32 := 0#32
  let v3 : BitVec 32 := Scalar.maxsi v2 c0_i32
  v3
def k0_off1 (i : grid0.Coords) : Fin 3 → Nat :=
  let c0_3 : Index := 0#32
  let arg2 : BitVec 32 := BitVec.ofNat 32 (i 2).val
  let c256_i32 : BitVec 32 := 256#32
  let v1 : BitVec 32 := Scalar.muli arg2 c256_i32
  let c512_i32 : BitVec 32 := 512#32
  let v2 : BitVec 32 := Scalar.subi v1 c512_i32
  let c0_i32 : BitVec 32 := 0#32
  let v3 : BitVec 32 := Scalar.maxsi v2 c0_i32
  let v4 : BitVec 32 := v3
  let v16 : Index := Scalar.indexCast v4
  let c0_4 : Index := 0#32
  ![0, v16.toNat, 0]
def k0_off2 (i : grid0.Coords) : Fin 4 → Nat :=
  let arg2 : BitVec 32 := BitVec.ofNat 32 (i 2).val
  let c2_i32 : BitVec 32 := 2#32
  let v0 : BitVec 32 := Scalar.minsi arg2 c2_i32
  let v22 : Index := Scalar.indexCast v0
  let c0_7 : Index := 0#32
  let c0_8 : Index := 0#32
  let c0_9 : Index := 0#32
  ![v22.toNat, 0, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S3x2x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S32x2048x512 : Shape := ⟨3, ![32, 2048, 512]⟩
abbrev S1x8x257 : Shape := ⟨3, ![1, 8, 257]⟩
abbrev S32x2048x8x64 : Shape := ⟨4, ![32, 2048, 8, 64]⟩
abbrev S2048 : Shape := ⟨1, ![2048]⟩
abbrev S32x8x2048x2048 : Shape := ⟨4, ![32, 8, 2048, 2048]⟩
abbrev S_ : Shape := ⟨0, ![]⟩
abbrev S8x257 : Shape := ⟨2, ![8, 257]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S1 : Shape := ⟨1, ![1]⟩
abbrev S1x1x1 : Shape := ⟨3, ![1, 1, 1]⟩
abbrev S8x2048x2048 : Shape := ⟨3, ![8, 2048, 2048]⟩
abbrev S1x8x2048x2048 : Shape := ⟨4, ![1, 8, 2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩

abbrev nBuf : Space → Nat
  | .hbm => 129
  | .vmem => 0
  | .smem => 0
  | _ => 0

abbrev hbmTy0_0 (i : Nat) : BufTy := match i % 128 with
  | 0 => ⟨S32x2048x512, .f32⟩
  | 1 => ⟨S32x2048x512, .f32⟩
  | 2 => ⟨S32x2048x512, .f32⟩
  | 3 => ⟨S1x8x257, .f32⟩
  | 4 => ⟨S32x2048x8x64, .f32⟩
  | 5 => ⟨S32x2048x8x64, .f32⟩
  | 6 => ⟨S32x2048x8x64, .f32⟩
  | 7 => ⟨S2048, .i32⟩
  | 8 => ⟨S2048, .i32⟩
  | 9 => ⟨S32x8x2048x2048, .f32⟩
  | 10 => ⟨S_, .f32⟩
  | 11 => ⟨S32x8x2048x2048, .f32⟩
  | 12 => ⟨S32x8x2048x2048, .f32⟩
  | 13 => ⟨S8x257, .f32⟩
  | 14 => ⟨S2048x1, .i32⟩
  | 15 => ⟨S1x2048, .i32⟩
  | 16 => ⟨S2048x2048, .i32⟩
  | 17 => ⟨S2048x2048, .i32⟩
  | 18 => ⟨S2048x2048, .i32⟩
  | 19 => ⟨S_, .i32⟩
  | 20 => ⟨S_, .i32⟩
  | 21 => ⟨S_, .i32⟩
  | 22 => ⟨S2048x2048, .i32⟩
  | 23 => ⟨S2048x2048, .i32⟩
  | 24 => ⟨S_, .i32⟩
  | 25 => ⟨S2048x2048, .i32⟩
  | 26 => ⟨S2048x2048, .i32⟩
  | 27 => ⟨S_, .i32⟩
  | 28 => ⟨S2048x2048, .i32⟩
  | 29 => ⟨S2048x2048, .i32⟩
  | 30 => ⟨S_, .i32⟩
  | 31 => ⟨S2048x2048, .i32⟩
  | 32 => ⟨S2048x2048, .i1⟩
  | 33 => ⟨S_, .i32⟩
  | 34 => ⟨S2048x2048, .i32⟩
  | 35 => ⟨S2048x2048, .i32⟩
  | 36 => ⟨S2048x2048, .i32⟩
  | 37 => ⟨S2048x2048x1, .i32⟩
  | 38 => ⟨S1, .i32⟩
  | 39 => ⟨S_, .i32⟩
  | 40 => ⟨S2048x2048x1, .i32⟩
  | 41 => ⟨S2048x2048x1, .i1⟩
  | 42 => ⟨S1x1x1, .i32⟩
  | 43 => ⟨S2048x2048x1, .i32⟩
  | 44 => ⟨S2048x2048x1, .i1⟩
  | 45 => ⟨S2048x2048x1, .i1⟩
  | 46 => ⟨S_, .i1⟩
  | 47 => ⟨S2048x2048, .i1⟩
  | 48 => ⟨S8x2048x2048, .f32⟩
  | 49 => ⟨S8x2048x2048, .i1⟩
  | 50 => ⟨S_, .f32⟩
  | 51 => ⟨S8x2048x2048, .f32⟩
  | 52 => ⟨S8x2048x2048, .f32⟩
  | 53 => ⟨S_, .i32⟩
  | 54 => ⟨S_, .i32⟩
  | 55 => ⟨S2048, .i32⟩
  | 56 => ⟨S2048, .i32⟩
  | 57 => ⟨S2048, .i32⟩
  | 58 => ⟨S_, .i32⟩
  | 59 => ⟨S2048, .i32⟩
  | 60 => ⟨S2048, .i1⟩
  | 61 => ⟨S2048, .i32⟩
  | 62 => ⟨S2048, .i32⟩
  | 63 => ⟨S_, .i32⟩
  | 64 => ⟨S2048, .i32⟩
  | 65 => ⟨S2048, .i1⟩
  | 66 => ⟨S2048, .i1⟩
  | 67 => ⟨S_, .i32⟩
  | 68 => ⟨S2048, .i32⟩
  | 69 => ⟨S2048, .i32⟩
  | 70 => ⟨S2048, .i32⟩
  | 71 => ⟨S_, .i32⟩
  | 72 => ⟨S_, .i32⟩
  | 73 => ⟨S2048, .i32⟩
  | 74 => ⟨S2048, .i32⟩
  | 75 => ⟨S2048, .i32⟩
  | 76 => ⟨S_, .i32⟩
  | 77 => ⟨S2048, .i32⟩
  | 78 => ⟨S2048, .i1⟩
  | 79 => ⟨S2048, .i32⟩
  | 80 => ⟨S2048, .i32⟩
  | 81 => ⟨S_, .i32⟩
  | 82 => ⟨S2048, .i32⟩
  | 83 => ⟨S2048, .i1⟩
  | 84 => ⟨S2048, .i1⟩
  | 85 => ⟨S_, .i32⟩
  | 86 => ⟨S2048, .i32⟩
  | 87 => ⟨S2048, .i32⟩
  | 88 => ⟨S2048, .i32⟩
  | 89 => ⟨S1x2048, .i32⟩
  | 90 => ⟨S2048x1, .i32⟩
  | 91 => ⟨S2048x2048, .i32⟩
  | 92 => ⟨S2048x2048, .i32⟩
  | 93 => ⟨S2048x2048, .i1⟩
  | 94 => ⟨S1x2048, .i32⟩
  | 95 => ⟨S2048x1, .i32⟩
  | 96 => ⟨S_, .i32⟩
  | 97 => ⟨S2048x1, .i32⟩
  | 98 => ⟨S2048x1, .i32⟩
  | 99 => ⟨S2048x2048, .i32⟩
  | 100 => ⟨S2048x2048, .i32⟩
  | 101 => ⟨S2048x2048, .i1⟩
  | 102 => ⟨S2048x2048, .i1⟩
  | 103 => ⟨S1x8x2048x2048, .f32⟩
  | 104 => ⟨S32x8x2048x2048, .f32⟩
  | 105 => ⟨S32x8x2048x2048, .f32⟩
  | 106 => ⟨S_, .f32⟩
  | 107 => ⟨S_, .f32⟩
  | 108 => ⟨S32x8x2048x2048, .i1⟩
  | 109 => ⟨S32x8x2048x2048, .f32⟩
  | 110 => ⟨S32x8x2048x2048, .f32⟩
  | 111 => ⟨S_, .f32⟩
  | 112 => ⟨S32x8x2048, .f32⟩
  | 113 => ⟨S_, .f32⟩
  | 114 => ⟨S32x8x2048, .f32⟩
  | 115 => ⟨S32x8x2048, .f32⟩
  | 116 => ⟨S32x8x2048x1, .f32⟩
  | 117 => ⟨S32x8x2048x2048, .f32⟩
  | 118 => ⟨S32x8x2048x2048, .f32⟩
  | 119 => ⟨S32x8x2048x2048, .f32⟩
  | 120 => ⟨S_, .f32⟩
  | 121 => ⟨S32x8x2048, .f32⟩
  | 122 => ⟨S32x8x2048x1, .f32⟩
  | 123 => ⟨S32x8x2048x2048, .f32⟩
  | 124 => ⟨S32x8x2048x2048, .f32⟩
  | 125 => ⟨S32x8x64x2048, .f32⟩
  | 126 => ⟨S32x2048x8x64, .f32⟩
  | 127 => ⟨S32x2048x512, .f32⟩
  | _ => ⟨S32x2048x512, .f32⟩

abbrev hbmTy0_1 (i : Nat) : BufTy := match i % 128 with
  | 0 => ⟨S32x2048x512, .bf16⟩
  | _ => ⟨S32x2048x512, .f32⟩

abbrev hbmTy (i : Nat) : BufTy := match i / 128 with
  | 0 => hbmTy0_0 i
  | 1 => hbmTy0_1 i
  | _ => ⟨S32x2048x512, .f32⟩

abbrev bufTy : (tb : Table) → Fin (tcTables nBuf tb) → BufTy
  | .hbm, ⟨i, _⟩ => hbmTy i
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v17 : Ref sig .tc := ⟨.hbm, 52, rfl⟩
abbrev main_c_2 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v18 : Ref sig .tc := ⟨.hbm, 70, rfl⟩
abbrev main_c_3 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_c : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_0 : Ref sig .tc := ⟨.hbm, 85, rfl⟩
abbrev main_call3_v12 : Ref sig .tc := ⟨.hbm, 86, rfl⟩
abbrev main_call3_v13 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_c_4 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_cst_5 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_cst_6 : Ref sig .tc := ⟨.hbm, 111, rfl⟩
abbrev main_v37 : Ref sig .tc := ⟨.hbm, 112, rfl⟩
abbrev main_cst_7 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_cst_8 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩

abbrev nD : Nat := 1
abbrev τ : Topo := Topo.v7x

variable {F : FTy → Type} [FloatOps F]
-- ==== Kernel5.lean ====
abbrev S32x16x1024 : Shape := ⟨3, ![32, 16, 1024]⟩
abbrev S32x16x512 : Shape := ⟨3, ![32, 16, 512]⟩
abbrev S512x1024 : Shape := ⟨2, ![512, 1024]⟩
abbrev S32x1024 : Shape := ⟨2, ![32, 1024]⟩
abbrev S1x1024x1024 : Shape := ⟨3, ![1, 1024, 1024]⟩
abbrev S1x512x1024 : Shape := ⟨3, ![1, 512, 1024]⟩
abbrev S1x1024 : Shape := ⟨2, ![1, 1024]⟩
abbrev S1024x1024 : Shape := ⟨2, ![1024, 1024]⟩
abbrev S512x512 : Shape := ⟨2, ![512, 512]⟩
abbrev S1024 : Shape := ⟨1, ![1024]⟩
abbrev S512 : Shape := ⟨1, ![512]⟩
abbrev S512x1 : Shape := ⟨2, ![512, 1]⟩

abbrev nBuf : Space → Nat
  | .hbm => 34
  | .vmem => 15
  | .smem => 0
  | _ => 0

abbrev bufTy : (tb : Table) → Fin (tcTables nBuf tb) → BufTy
  | .hbm, ⟨0, _⟩ => ⟨S32x16x1024, .bf16⟩
  | .hbm, ⟨1, _⟩ => ⟨S32x16x512, .bf16⟩
  | .hbm, ⟨2, _⟩ => ⟨S512x1024, .bf16⟩
  | .hbm, ⟨3, _⟩ => ⟨S512x1024, .bf16⟩
  | .hbm, ⟨4, _⟩ => ⟨S32x16x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S1x1024x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S1024x1024, .f32⟩
  | .hbm, ⟨14, _⟩ => ⟨S1024x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S512x1024, .bf16⟩
  | .hbm, ⟨20, _⟩ => ⟨S512x512, .bf16⟩
  | .hbm, ⟨21, _⟩ => ⟨S512x1024, .f32⟩
  | .hbm, ⟨22, _⟩ => ⟨S32x16x1024, .f32⟩
  | .hbm, ⟨23, _⟩ => ⟨S512x1024, .f32⟩
  | .hbm, ⟨24, _⟩ => ⟨S32x16x1024, .f32⟩
  | .hbm, ⟨25, _⟩ => ⟨S512x1024, .f32⟩
  | .hbm, ⟨26, _⟩ => ⟨S32x16x1024, .f32⟩
  | .hbm, ⟨27, _⟩ => ⟨S512x1024, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S512x1024, .f32⟩
  | .hbm, ⟨33, _⟩ => ⟨S512x512, .i32⟩
  | .local _ .vmem, ⟨0, _⟩ => ⟨S512x1024, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x512, .i32⟩
  | _, _ => ⟨S32x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [BitOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x512 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Kernel5Ideal.lean ====
abbrev S32x16x1024 : Shape := ⟨3, ![32, 16, 1024]⟩
abbrev S32x16x512 : Shape := ⟨3, ![32, 16, 512]⟩
abbrev S512x1024 : Shape := ⟨2, ![512, 1024]⟩
abbrev S32x1024 : Shape := ⟨2, ![32, 1024]⟩
abbrev S1x1024x1024 : Shape := ⟨3, ![1, 1024, 1024]⟩
abbrev S1x512x1024 : Shape := ⟨3, ![1, 512, 1024]⟩
abbrev S1x1024 : Shape := ⟨2, ![1, 1024]⟩
abbrev S1024x1024 : Shape := ⟨2, ![1024, 1024]⟩
abbrev S512x512 : Shape := ⟨2, ![512, 512]⟩
abbrev S1024 : Shape := ⟨1, ![1024]⟩
abbrev S512x2x512 : Shape := ⟨3, ![512, 2, 512]⟩
abbrev S512x1x512 : Shape := ⟨3, ![512, 1, 512]⟩
abbrev S512 : Shape := ⟨1, ![512]⟩
abbrev S512x1 : Shape := ⟨2, ![512, 1]⟩

abbrev nBuf : Space → Nat
  | .hbm => 34
  | .vmem => 15
  | .smem => 0
  | _ => 0

abbrev bufTy : (tb : Table) → Fin (tcTables nBuf tb) → BufTy
  | .hbm, ⟨0, _⟩ => ⟨S32x16x1024, .bf16⟩
  | .hbm, ⟨1, _⟩ => ⟨S32x16x512, .bf16⟩
  | .hbm, ⟨2, _⟩ => ⟨S512x1024, .bf16⟩
  | .hbm, ⟨3, _⟩ => ⟨S512x1024, .bf16⟩
  | .hbm, ⟨4, _⟩ => ⟨S32x16x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S1x1024x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S1024x1024, .f32⟩
  | .hbm, ⟨14, _⟩ => ⟨S1024x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S512x1024, .bf16⟩
  | .hbm, ⟨20, _⟩ => ⟨S512x512, .bf16⟩
  | .hbm, ⟨21, _⟩ => ⟨S512x1024, .f32⟩
  | .hbm, ⟨22, _⟩ => ⟨S32x16x1024, .f32⟩
  | .hbm, ⟨23, _⟩ => ⟨S512x1024, .f32⟩
  | .hbm, ⟨24, _⟩ => ⟨S32x16x1024, .f32⟩
  | .hbm, ⟨25, _⟩ => ⟨S512x1024, .f32⟩
  | .hbm, ⟨26, _⟩ => ⟨S32x16x1024, .f32⟩
  | .hbm, ⟨27, _⟩ => ⟨S512x1024, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S512x1024, .f32⟩
  | .hbm, ⟨33, _⟩ => ⟨S512x2x512, .bf16⟩
  | .local _ .vmem, ⟨0, _⟩ => ⟨S512x1024, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x2x512, .bf16⟩
  | _, _ => ⟨S32x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x2x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference5Ideal.lean ====
abbrev S32x16x1024 : Shape := ⟨3, ![32, 16, 1024]⟩
abbrev S32x16x512 : Shape := ⟨3, ![32, 16, 512]⟩
abbrev S512x1024 : Shape := ⟨2, ![512, 1024]⟩
abbrev S32x1024 : Shape := ⟨2, ![32, 1024]⟩
abbrev S1x1024x1024 : Shape := ⟨3, ![1, 1024, 1024]⟩
abbrev S1x512x1024 : Shape := ⟨3, ![1, 512, 1024]⟩
abbrev S1x1024 : Shape := ⟨2, ![1, 1024]⟩
abbrev S1024x1024 : Shape := ⟨2, ![1024, 1024]⟩
abbrev S32x1x1024 : Shape := ⟨3, ![32, 1, 1024]⟩
abbrev S1024 : Shape := ⟨1, ![1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S32x16x1024, .bf16⟩
  | .hbm, ⟨1, _⟩ => ⟨S32x16x512, .bf16⟩
  | .hbm, ⟨2, _⟩ => ⟨S512x1024, .bf16⟩
  | .hbm, ⟨3, _⟩ => ⟨S512x1024, .bf16⟩
  | .hbm, ⟨4, _⟩ => ⟨S32x16x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S1x1024x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S512x1024, .f32⟩
  | .hbm, ⟨14, _⟩ => ⟨S32x16x1024, .f32⟩
  | .hbm, ⟨15, _⟩ => ⟨S1024x1024, .f32⟩
  | .hbm, ⟨16, _⟩ => ⟨S32x16x1024, .f32⟩
  | .hbm, ⟨17, _⟩ => ⟨S32x16x1024, .f32⟩
  | .hbm, ⟨18, _⟩ => ⟨S512x1024, .f32⟩
  | .hbm, ⟨19, _⟩ => ⟨S32x16x1024, .f32⟩
  | .hbm, ⟨20, _⟩ => ⟨S512x1024, .f32⟩
  | .hbm, ⟨21, _⟩ => ⟨S32x16x1024, .f32⟩
  | .hbm, ⟨22, _⟩ => ⟨S32x16x1024, .f32⟩
  | .hbm, ⟨23, _⟩ => ⟨S32x16x1024, .f32⟩
  | .hbm, ⟨24, _⟩ => ⟨S32x1x1024, .f32⟩
  | .hbm, ⟨25, _⟩ => ⟨S1024x1024, .f32⟩
  | .hbm, ⟨26, _⟩ => ⟨S32x16x1024, .f32⟩
  | .hbm, ⟨27, _⟩ => ⟨S32x16x1024, .f32⟩
  | .hbm, ⟨28, _⟩ => ⟨S32x16x1024, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S32x16x1024, .f32⟩
  | .hbm, ⟨33, _⟩ => ⟨S32x16x1024, .f32⟩
  | .hbm, ⟨34, _⟩ => ⟨S32x16x1024, .f32⟩
  | .hbm, ⟨35, _⟩ => ⟨S_, .f32⟩
  | .hbm, ⟨36, _⟩ => ⟨S32x16, .f32⟩
  | .hbm, ⟨37, _⟩ => ⟨S32x16x1, .f32⟩
  | .hbm, ⟨38, _⟩ => ⟨S_, .f32⟩
  | .hbm, ⟨39, _⟩ => ⟨S32x16x1, .f32⟩
  | .hbm, ⟨40, _⟩ => ⟨S32x16x1, .f32⟩
  | .hbm, ⟨41, _⟩ => ⟨S32x16x1024, .f32⟩
  | .hbm, ⟨42, _⟩ => ⟨S32x16x1024, .f32⟩
  | .hbm, ⟨43, _⟩ => ⟨S32x16x1024, .f32⟩
  | .hbm, ⟨44, _⟩ => ⟨S_, .f32⟩
  | .hbm, ⟨45, _⟩ => ⟨S32x16, .f32⟩
  | .hbm, ⟨46, _⟩ => ⟨S32x16x1, .f32⟩
  | .hbm, ⟨47, _⟩ => ⟨S_, .f32⟩
  | .hbm, ⟨48, _⟩ => ⟨S32x16x1, .f32⟩
  | .hbm, ⟨49, _⟩ => ⟨S32x16x1, .f32⟩
  | .hbm, ⟨50, _⟩ => ⟨S32x16x1024, .f32⟩
  | .hbm, ⟨51, _⟩ => ⟨S32x16x1024, .f32⟩
  | .hbm, ⟨52, _⟩ => ⟨S_, .f32⟩
  | .hbm, ⟨53, _⟩ => ⟨S32x16x1, .f32⟩
  | .hbm, ⟨54, _⟩ => ⟨S32x16x1, .f32⟩
  | .hbm, ⟨55, _⟩ => ⟨S32x16x1, .f32⟩
  | .hbm, ⟨56, _⟩ => ⟨S32x16x1024, .f32⟩
  | .hbm, ⟨57, _⟩ => ⟨S32x16x1024, .f32⟩
  | .hbm, ⟨58, _⟩ => ⟨S1x1x1024, .f32⟩
  | .hbm, ⟨59, _⟩ => ⟨S32x16x1024, .f32⟩
  | .hbm, ⟨60, _⟩ => ⟨S32x16x1024, .f32⟩
  | .hbm, ⟨61, _⟩ => ⟨S1x1x1024, .f32⟩
  | .hbm, ⟨62, _⟩ => ⟨S32x16x1024, .f32⟩
  | .hbm, ⟨63, _⟩ => ⟨S32x16x1024, .f32⟩
  | .hbm, ⟨64, _⟩ => ⟨S512x1024, .f32⟩
  | _, _ => ⟨S32x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Proof.IdealRun.lean ====
/-
  The run of the attention kernel of `Cert.KernelIdeal`: one trip of its loop over query tiles, the loop by its invariant, the
  body at a grid point, and the program's run.
-/
module

public import proofs.«01_k».proof.Proof.Gen.KernelIdeal.Loops
public import proofs.«01_k».proof.Proof.Gen.KernelIdeal.Frame
public import Idealize.ShloMosaic.Lib.Claim
public import Idealize.ShloMosaic.Lib.Tactic
public import Idealize.ShloMosaic.Lib.Pipeline.Kit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One query tile -/

section Tile

variable (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x512x512 .f32) (harg4 : arg4.IsWhole) (arg5 : Memref sig .tc .vmem S1x2048x128 .bf16) (harg5 : arg5.IsWhole)
  (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (v11 : Vec F S4x64 .f32)
  (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ)))

/-- Memref `M`'s buffer held at `f`. -/
abbrev held {sp : Space} {S : Shape} {e : EltTy} (M : Memref sig .tc sp S e) (f : Buf (Elt F) (M.view.loc (c : Thread nD τ))) : sProp 𝕄 :=
  M.view.loc (c : Thread nD τ) ↦[M.view.set]{fullShare} f

/-- What a tile's trip touches: the scale row, the own-block table, the queries, keys, key columns and values at their contents,
    the output buffer at `f`. -/
abbrev Tile (f : Buf (Elt F) (arg9.view.loc (c : Thread nD τ))) : sProp 𝕄 :=
  iprop(held c arg3 X3 ∗ held c arg4 X4 ∗ held c arg5 X5 ∗ held c arg6 X6 ∗ held c arg7 X7 ∗ held c arg8 X8 ∗ held c arg9 f)

/-- The trip of query tile `k`: what it stores is found by the run. -/
@[irreducible] def tile (k : Fin k0_t1_loop.trips) :
    { L : List (View.Piece (Elt F) S1x2048x128 .bf16) // ∀ (E : Set ℕ) (f : Buf (Elt F) (arg9.view.loc (c : Thread nD τ))) (u : Unit),
      Tile c arg3 arg4 arg5 arg6 arg7 arg8 arg9 X3 X4 X5 X6 X7 X8 f
        ⊢ wp frame (wpE (defs₀ (F := F)) Variants.none (c : Thread nD τ) none) E (k0_t1_body (F := F) i arg2 harg2 arg3 harg3 arg4 harg4 arg5 harg5 arg6 harg6 arg7 harg7 arg8 harg8 arg9 harg9 v11 k u)
            (fun _ => Tile c arg3 arg4 arg5 arg6 arg7 arg8 arg9 X3 X4 X5 X6 X7 X8 (arg9.view.writes (Elt F) f L)) } := by
  refine ⟨?_, fun E f u => ?run⟩
  case run =>
    unfold k0_t1_body
    iintro ⟨H3, H4, H5, H6, H7, H8, H9⟩
    sl_exec
    sl_step
    sl_close

/-- The stores of the tiles before `k`, last first. -/
def tilesTo : ℕ → List (View.Piece (Elt F) S1x2048x128 .bf16)
  | 0 => []
  | k + 1 => if h : k < k0_t1_loop.trips then (tile c i arg2 harg2 arg3 harg3 arg4 harg4 arg5 harg5 arg6 harg6 arg7 harg7 arg8 harg8 arg9 harg9 v11 X3 X4 X5 X6 X7 X8 ⟨k, h⟩).1 ++ tilesTo k else tilesTo k

theorem tilesTo_succ (k : Fin k0_t1_loop.trips) :
    tilesTo c i arg2 harg2 arg3 harg3 arg4 harg4 arg5 harg5 arg6 harg6 arg7 harg7 arg8 harg8 arg9 harg9 v11 X3 X4 X5 X6 X7 X8 (k.val + 1) = (tile c i arg2 harg2 arg3 harg3 arg4 harg4 arg5 harg5 arg6 harg6 arg7 harg7 arg8 harg8 arg9 harg9 v11 X3 X4 X5 X6 X7 X8 k).1 ++ tilesTo c i arg2 harg2 arg3 harg3 arg4 harg4 arg5 harg5 arg6 harg6 arg7 harg7 arg8 harg8 arg9 harg9 v11 X3 X4 X5 X6 X7 X8 k.val := by
  rw [tilesTo.eq_2]; exact dif_pos k.isLt

set_option warn.classDefReducibility false in
/-- The loop over query tiles: before tile `k` the output buffer holds the stores of the tiles before it. -/
@[sl_loop] def loopInv (f9 : Buf (Elt F) (arg9.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 v11 where
  inv k _ := iprop(held c arg3 X3 ∗ held c arg4 X4 ∗ held c arg5 X5 ∗ held c arg6 X6 ∗ held c arg7 X7 ∗ held c arg8 X8
      ∗ held c arg9 (arg9.view.writes (Elt F) f9 (tilesTo c i arg2 harg2 arg3 harg3 arg4 harg4 arg5 harg5 arg6 harg6 arg7 harg7 arg8 harg8 arg9 harg9 v11 X3 X4 X5 X6 X7 X8 k)))
  step k u := by
    rw [tilesTo_succ, View.writes_append]
    exact (tile c i arg2 harg2 arg3 harg3 arg4 harg4 arg5 harg5 arg6 harg6 arg7 harg7 arg8 harg8 arg9 harg9 v11 X3 X4 X5 X6 X7 X8 k).2 Set.univ _ u

end Tile

/-! ## The body -/

set_option maxHeartbeats 1000000 in
/-- The body leaves its inputs in place and writes the output buffer, whatever it held, by the tiles' stores. -/
@[irreducible] def body (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x512x512 .f32) (harg4 : arg4.IsWhole) (arg5 : Memref sig .tc .vmem S1x2048x128 .bf16) (harg5 : arg5.IsWhole)
  (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole)
  (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ)))  :
    { L : List (View.Piece (Elt F) S1x2048x128 .bf16) // ∀ (f : Buf (Elt F) (arg9.view.loc (c : Thread nD τ))) (K : PUnit → sProp 𝕄),
      iprop(held c arg2 X2 ∗ held c arg3 X3 ∗ held c arg4 X4 ∗ held c arg5 X5 ∗ held c arg6 X6 ∗ held c arg7 X7 ∗ held c arg8 X8 ∗ held c arg9 f
        ∗ (iprop(held c arg2 X2 ∗ held c arg3 X3 ∗ held c arg4 X4 ∗ held c arg5 X5 ∗ held c arg6 X6 ∗ held c arg7 X7 ∗ held c arg8 X8
              ∗ held c arg9 (arg9.view.writes (Elt F) f L)) -∗ K ⟨⟩))
        ⊢ wp frame (wpE (defs₀ (F := F)) Variants.none (c : Thread nD τ) none) Set.univ (cc0_diffattn (F := F) i arg2 harg2 arg3 harg3 arg4 harg4 arg5 harg5 arg6 harg6 arg7 harg7 arg8 harg8 arg9 harg9) K } := by
  refine ⟨?_, fun f K => ?run⟩
  case run =>
    simp only [cc0_diffattn_eq_skeleton]; unfold cc0_diffattn_skel
    iintro ⟨H2, H3, H4, H5, H6, H7, H8, H9, Hk⟩
    sl_exec
    sl_step
    iapply Hk
    sl_close

/-! ## The block the body leaves -/

section Block

variable (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x512x512 .f32) (harg4 : arg4.IsWhole) (arg5 : Memref sig .tc .vmem S1x2048x128 .bf16) (harg5 : arg5.IsWhole)
  (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole)

/-- A tile's trip stores one block of 512 rows. -/
theorem tile_single (v11 : Vec F S4x64 .f32) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ)))  (k : Fin k0_t1_loop.trips) :
    ∃ w, (tile c i arg2 harg2 arg3 harg3 arg4 harg4 arg5 harg5 arg6 harg6 arg7 harg7 arg8 harg8 arg9 harg9 v11 X3 X4 X5 X6 X7 X8 k).1 = [⟨Rect.unit (k0_off1 k) S1x512x128.size (k0_off1_inb k), w⟩] := by
  unfold tile
  exact ⟨_, rfl⟩

/-- The body's stores are those of its tiles. -/
theorem body_tiles (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ)))  :
    (body c i arg2 harg2 arg3 harg3 arg4 harg4 arg5 harg5 arg6 harg6 arg7 harg7 arg8 harg8 arg9 harg9 X2 X3 X4 X5 X6 X7 X8).1
      = tilesTo c i arg2 harg2 arg3 harg3 arg4 harg4 arg5 harg5 arg6 harg6 arg7 harg7 arg8 harg8 arg9 harg9 (arg2.view.readAt (Elt F) (Rect.unit ![0, 0] S4x64.size inb_S4x64_S4x64_0_0).toLoadRect X2) X3 X4 X5 X6 X7 X8 k0_t1_loop.trips := by
  unfold body
  rfl

/-- A tile's piece is among the stores of the tiles before any later one. -/
theorem mem_tilesTo (v11 : Vec F S4x64 .f32) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ)))  (k : Fin k0_t1_loop.trips) (n : ℕ) (hn : k.val < n) (p : View.Piece (Elt F) S1x2048x128 .bf16)
    (hp : p ∈ (tile c i arg2 harg2 arg3 harg3 arg4 harg4 arg5 harg5 arg6 harg6 arg7 harg7 arg8 harg8 arg9 harg9 v11 X3 X4 X5 X6 X7 X8 k).1) : p ∈ tilesTo c i arg2 harg2 arg3 harg3 arg4 harg4 arg5 harg5 arg6 harg6 arg7 harg7 arg8 harg8 arg9 harg9 v11 X3 X4 X5 X6 X7 X8 n := by
  induction n with
  | zero => exact absurd hn (Nat.not_lt_zero _)
  | succ n ih =>
    rw [tilesTo.eq_2]
    by_cases h : n < k0_t1_loop.trips
    · rw [dif_pos h]
      rcases Nat.lt_succ_iff_lt_or_eq.mp hn with h' | h'
      · exact List.mem_append_right _ (ih h')
      · refine List.mem_append_left _ ?_
        have : (⟨n, h⟩ : Fin k0_t1_loop.trips) = k := Fin.ext h'.symm
        rw [this]; exact hp
    · rw [dif_neg h]
      exact ih (lt_of_lt_of_le k.isLt (Nat.not_lt.mp h))

theorem trips_eq : k0_t1_loop.trips = 4 := by decide +kernel

/-- The tiles' stores cover the block. -/
theorem cover_body (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ)))  (y : S1x2048x128.Idx) :
    ∃ p ∈ (body c i arg2 harg2 arg3 harg3 arg4 harg4 arg5 harg5 arg6 harg6 arg7 harg7 arg8 harg8 arg9 harg9 X2 X3 X4 X5 X6 X7 X8).1, y ∈ p.1.set := by
  rw [body_tiles]
  have h1 : (y 1).val < 2048 := (y 1).isLt
  have h0 : (y 0).val < 1 := (y 0).isLt
  have h2 : (y 2).val < 128 := (y 2).isLt
  have hk : (y 1).val / 512 < k0_t1_loop.trips := by rw [trips_eq]; omega
  obtain ⟨w, hw⟩ := tile_single c i arg2 harg2 arg3 harg3 arg4 harg4 arg5 harg5 arg6 harg6 arg7 harg7 arg8 harg8 arg9 harg9 (arg2.view.readAt (Elt F) (Rect.unit ![0, 0] S4x64.size inb_S4x64_S4x64_0_0).toLoadRect X2) X3 X4 X5 X6 X7 X8 ⟨_, hk⟩
  refine ⟨_, mem_tilesTo c i arg2 harg2 arg3 harg3 arg4 harg4 arg5 harg5 arg6 harg6 arg7 harg7 arg8 harg8 arg9 harg9 _ X3 X4 X5 X6 X7 X8 ⟨_, hk⟩ _ hk _ (by rw [hw]; exact List.mem_singleton.mpr rfl), ?_⟩
  rw [Rect.mem_set_unit]
  intro a
  rw [k0_off1_eq]
  fin_cases a
  · exact ⟨Nat.zero_le _, by show (y 0).val < 0 + 1; omega⟩
  · exact ⟨by show 512 * ((y 1).val / 512) ≤ (y 1).val; omega, by show (y 1).val < 512 * ((y 1).val / 512) + 512; omega⟩
  · exact ⟨Nat.zero_le _, by show (y 2).val < 0 + 128; omega⟩

/-- The block the body leaves, from its input blocks. -/
@[irreducible] def out (x2 : Vec F S4x64 .f32) (x3 : Vec F S1x128 .f32) (x4 : Vec F S1x512x512 .f32) (x5 : Vec F S1x2048x128 .bf16) (x6 : Vec F S1x2048x128 .bf16) (x7 : Vec F S1x2048x128 .bf16) (x8 : Vec F S1x2048x128 .bf16) : Vec F S1x2048x128 .bf16 :=
  View.canon (body c i arg2 harg2 arg3 harg3 arg4 harg4 arg5 harg5 arg6 harg6 arg7 harg7 arg8 harg8 arg9 harg9 (harg2.unread x2) (harg3.unread x3) (harg4.unread x4) (harg5.unread x5) (harg6.unread x6) (harg7.unread x7) (harg8.unread x8)).1

set_option maxHeartbeats 1000000 in
/-- The body at whole memrefs: its inputs stay, the output holds `out` of them. -/
theorem body_owns (x2 : Vec F S4x64 .f32) (x3 : Vec F S1x128 .f32) (x4 : Vec F S1x512x512 .f32) (x5 : Vec F S1x2048x128 .bf16) (x6 : Vec F S1x2048x128 .bf16) (x7 : Vec F S1x2048x128 .bf16) (x8 : Vec F S1x2048x128 .bf16) (x9 : Vec F S1x2048x128 .bf16) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8
            ∗ owns (c : Thread nD τ) arg9 fullShare (out c i arg2 harg2 arg3 harg3 arg4 harg4 arg5 harg5 arg6 harg6 arg7 harg7 arg8 harg8 arg9 harg9 x2 x3 x4 x5 x6 x7 x8)) -∗ K ⟨⟩))
      ⊢ wp frame (wpE (defs₀ (F := F)) Variants.none (c : Thread nD τ) none) Set.univ (cc0_diffattn (F := F) i arg2 harg2 arg3 harg3 arg4 harg4 arg5 harg5 arg6 harg6 arg7 harg7 arg8 harg8 arg9 harg9) K := by
  have hout : ∀ f9, arg9.view.read (Elt F) (arg9.view.writes (Elt F) f9 (body c i arg2 harg2 arg3 harg3 arg4 harg4 arg5 harg5 arg6 harg6 arg7 harg7 arg8 harg8 arg9 harg9 (harg2.unread x2) (harg3.unread x3) (harg4.unread x4) (harg5.unread x5) (harg6.unread x6) (harg7.unread x7) (harg8.unread x8)).1) = out c i arg2 harg2 arg3 harg3 arg4 harg4 arg5 harg5 arg6 harg6 arg7 harg7 arg8 harg8 arg9 harg9 x2 x3 x4 x5 x6 x7 x8 :=
    fun f9 => by unfold out; exact View.read_writes_eq_canon _ _ _ (cover_body c i arg2 harg2 arg3 harg3 arg4 harg4 arg5 harg5 arg6 harg6 arg7 harg7 arg8 harg8 arg9 harg9 (harg2.unread x2) (harg3.unread x3) (harg4.unread x4) (harg5.unread x5) (harg6.unread x6) (harg7.unread x7) (harg8.unread x8))
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, Hk⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  iapply ((body c i arg2 harg2 arg3 harg3 arg4 harg4 arg5 harg5 arg6 harg6 arg7 harg7 arg8 harg8 arg9 harg9 (harg2.unread x2) (harg3.unread x3) (harg4.unread x4) (harg5.unread x5) (harg6.unread x6) (harg7.unread x7) (harg8.unread x8)).2 f9 K)
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  iintro ⟨H2, H3, H4, H5, H6, H7, H8, H9⟩
  iapply Hk
  isplitl [H2]
  · iexists (harg2.unread x2)
    isplitr
    · ipureintro; exact h2
    iexact H2
  isplitl [H3]
  · iexists (harg3.unread x3)
    isplitr
    · ipureintro; exact h3
    iexact H3
  isplitl [H4]
  · iexists (harg4.unread x4)
    isplitr
    · ipureintro; exact h4
    iexact H4
  isplitl [H5]
  · iexists (harg5.unread x5)
    isplitr
    · ipureintro; exact h5
    iexact H5
  isplitl [H6]
  · iexists (harg6.unread x6)
    isplitr
    · ipureintro; exact h6
    iexact H6
  isplitl [H7]
  · iexists (harg7.unread x7)
    isplitr
    · ipureintro; exact h7
    iexact H7
  isplitl [H8]
  · iexists (harg8.unread x8)
    isplitr
    · ipureintro; exact h8
    iexact H8
  iexists _
  isplitr
  · ipureintro
    exact hout f9
  iexact H9

end Block

/-! ## The program's run -/

section Main

variable (m : (ℓ : Loc nD τ sig) → Buf (Elt F) ℓ) (ρ : Dev nD → PrngReg)

/-- The output block at a grid point, of that point's input blocks. -/
def outAt (c : Dev nD) (t : Fin cfg0.N) : Vec F S1x2048x128 .bf16 :=
  out c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (iblk m c 0 t) (iblk m c 1 t) (iblk m c 2 t) (iblk m c 3 t) (iblk m c 4 t) (iblk m c 5 t) (iblk m c 6 t)

/-- The pipeline's proof data: every array as the region finds it; after a point each input buffer at its block, the output
    buffer at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it ends at. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_owns c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (iblk m c 0 t) (iblk m c 1 t) (iblk m c 2 t) (iblk m c 3 t) (iblk m c 4 t) (iblk m c 5 t) (iblk m c 6 t) ((dats m 0 c).before 7 t d7) _)
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  iintro ⟨H0, H1, H2, H3, H4, H5, H6, H7⟩
  isplitl [HΦ]; iexact HΦ
  isplitl [HO]; iexact HO
  isplitl [H0]; iexact H0
  isplitl [H1]; iexact H1
  isplitl [H2]; iexact H2
  isplitl [H3]; iexact H3
  isplitl [H4]; iexact H4
  isplitl [H5]; iexact H5
  isplitl [H6]; iexact H6
  iexact H7

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The program's run: the windowed arrays at what the schedule's flushes leave, every other array as the region found it. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main (hbody := fun c => (body_obligation m c).loose)
    (hshare := fun c => (dats m 0 c).share_full fun _ => rfl) (howed := fun _ _ => rfl) (V := V m) (hmain := hmain m Variants.none)
    (hA := fun _ _ => rfl) (hΦ := fun _ _ => rfl)

/-- The run ends with the arguments as launched and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (fun _ _ => rfl) ((θ_run defs _ _).mono (fun _ h => h.1) (run_main m ρ)))
    ((θ_run defs _ _).mono (fun _ h => h.2) (run_main m ρ))

end Main

end Cert.KernelIdeal.Run

end
-- ==== Proof.Softmax.lean ====
/-
  Softmax over the extended reals, in base two and taken block by block: the facts the equation between the kernel and
  the reference rests on. Scores are indexed by the natural numbers, a block is a stretch of them, and nothing is
  assumed of the scores: they may be infinite.
-/
module

public import Idealize.ShloMosaic.PureOps.Ideal

@[expose] public section

noncomputable section

namespace Cert.Softmax

open Idealize.ShloMosaic Finset

/-! ## Differences and powers of two -/

theorem sub_top (x : EReal) : x - ⊤ = ⊥ := by
  rw [sub_eq_add_neg, EReal.neg_top, EReal.add_bot]

theorem bot_sub (x : EReal) : ⊥ - x = ⊥ := by
  rw [sub_eq_add_neg, EReal.bot_add]

/-- The weight of a score `s` under a maximum `m`, a real number. -/
def wt (s m : EReal) : ℝ := (Ideal.exp2 (s - m)).toReal

theorem exp2_sub {s m : EReal} (h : s ≤ m) : Ideal.exp2 (s - m) = (wt s m : EReal) := by
  unfold wt
  induction m with
  | bot => obtain rfl := le_bot_iff.1 h; rw [bot_sub]; simp
  | top => rw [sub_top]; simp
  | coe b =>
    induction s with
    | bot => rw [bot_sub]; simp
    | top => exact absurd h (by simp)
    | coe a => rw [← EReal.coe_sub, Ideal.exp2_coe, EReal.toReal_coe]

theorem wt_nonneg (s m : EReal) : 0 ≤ wt s m := by
  unfold wt
  apply EReal.toReal_nonneg
  generalize s - m = d
  induction d with
  | bot => simp
  | top => simp
  | coe a => rw [Ideal.exp2_coe]; exact_mod_cast (Real.rpow_pos_of_pos two_pos a).le

theorem wt_bot (m : EReal) : wt ⊥ m = 0 := by
  unfold wt; rw [bot_sub]; simp

/-- Moving a weight to a larger maximum. -/
theorem wt_rescale {s m m' : EReal} (h : s ≤ m) (h' : m ≤ m') :
    Ideal.exp2 (m - m') * (wt s m : EReal) = (wt s m' : EReal) := by
  rw [← exp2_sub h, ← exp2_sub (h.trans h')]
  induction m' with
  | bot =>
    obtain rfl := le_bot_iff.1 h'
    obtain rfl := le_bot_iff.1 h
    simp [bot_sub]
  | top => simp [sub_top]
  | coe c =>
    induction m with
    | bot => obtain rfl := le_bot_iff.1 h; simp [bot_sub]
    | top => exact absurd h' (by simp)
    | coe b =>
      induction s with
      | bot => simp [bot_sub]
      | top => exact absurd h (by simp)
      | coe a =>
        rw [← EReal.coe_sub, ← EReal.coe_sub, ← EReal.coe_sub, Ideal.exp2_coe, Ideal.exp2_coe, Ideal.exp2_coe,
          ← EReal.coe_mul]
        congr 1
        show (2 : ℝ) ^ (b - c) * (2 : ℝ) ^ (a - b) = (2 : ℝ) ^ (a - c)
        rw [← Real.rpow_add two_pos]; congr 1; ring

/-! ## Sums of reals -/

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [sum_insert ha, sum_insert ha, EReal.coe_add, ih]

theorem mul_coe_sum {ι : Type} (S : Finset ι) (f : ι → ℝ) (c : EReal) (hc : 0 ≤ c) (hf : ∀ i ∈ S, 0 ≤ f i) :
    c * ((∑ i ∈ S, f i : ℝ) : EReal) = ∑ i ∈ S, c * (f i : EReal) := by
  classical
  induction S using Finset.induction_on with
  | empty => simp
  | insert a S ha ih =>
    rw [sum_insert ha, sum_insert ha, EReal.coe_add, ← ih fun i hi => hf i (mem_insert_of_mem hi)]
    exact EReal.left_distrib_of_nonneg (EReal.coe_nonneg.2 (hf a (mem_insert_self a S)))
      (EReal.coe_nonneg.2 (sum_nonneg fun i hi => hf i (mem_insert_of_mem hi)))

/-- A real factor that is positive goes over a sum of extended reals. -/
theorem coe_mul_add (c : ℝ) (hc : 0 < c) (x y : EReal) : (c : EReal) * (x + y) = c * x + c * y :=
  EReal.left_distrib_of_nonneg_of_ne_top (EReal.coe_nonneg.2 hc.le) (EReal.coe_ne_top c) x y

theorem coe_mul_sum {ι : Type} (S : Finset ι) (f : ι → EReal) (c : ℝ) (hc : 0 < c) :
    (c : EReal) * ∑ i ∈ S, f i = ∑ i ∈ S, (c : EReal) * f i := by
  classical
  induction S using Finset.induction_on with
  | empty => simp
  | insert a S ha ih => rw [sum_insert ha, sum_insert ha, coe_mul_add c hc, ih]

/-! ## The running maximum, sum and weighted sum -/

variable (f : ℕ → EReal) (v : ℕ → ℝ)

/-- The largest of the first `n` scores. -/
def top (n : ℕ) : EReal := (range n).sup f

theorem le_top {n s : ℕ} (h : s < n) : f s ≤ top f n := le_sup (mem_range.2 h)

theorem top_add (n k : ℕ) : top f (n + k) = max (top f n) ((range k).sup fun j => f (n + j)) := by
  unfold top
  apply le_antisymm
  · refine Finset.sup_le fun s hs => ?_
    rcases lt_or_ge s n with h | h
    · exact le_max_of_le_left (le_sup (mem_range.2 h))
    · refine le_max_of_le_right ?_
      obtain ⟨j, rfl⟩ := Nat.exists_eq_add_of_le h
      exact le_sup (f := fun j => f (n + j)) (mem_range.2 (by have := mem_range.1 hs; omega))
  · refine max_le (Finset.sup_le fun s hs => le_sup (mem_range.2 (by have := mem_range.1 hs; omega)))
      (Finset.sup_le fun j hj => le_sup (f := f) (mem_range.2 (by have := mem_range.1 hj; omega)))

/-- The sum of the first `n` weights. -/
def den (n : ℕ) : ℝ := ∑ s ∈ range n, wt (f s) (top f n)

/-- The weighted sum of the first `n` values. -/
def num (n : ℕ) : ℝ := ∑ s ∈ range n, wt (f s) (top f n) * v s

theorem top_le_add (n k : ℕ) : top f n ≤ top f (n + k) := (top_add f n k).symm ▸ le_max_left _ _

theorem exp2_nonneg (x : EReal) : 0 ≤ Ideal.exp2 x := by
  induction x with
  | bot => simp
  | top => simp
  | coe a => rw [Ideal.exp2_coe]; exact_mod_cast (Real.rpow_pos_of_pos two_pos a).le

/-- The factor the old sums are moved by, as a real number. -/
theorem factor (n k : ℕ) : Ideal.exp2 (top f n - top f (n + k)) = (wt (top f n) (top f (n + k)) : EReal) :=
  exp2_sub (top_le_add f n k)

theorem wt_factor {n k s : ℕ} (h : s < n) :
    wt (top f n) (top f (n + k)) * wt (f s) (top f n) = wt (f s) (top f (n + k)) := by
  have := wt_rescale (le_top f h) (top_le_add f n k)
  rw [factor f n k, ← EReal.coe_mul] at this
  exact_mod_cast this

/-- One block of `k` scores more: the sum. -/
theorem den_add (n k : ℕ) :
    Ideal.exp2 (top f n - top f (n + k)) * (den f n : EReal)
      + ∑ j ∈ range k, Ideal.exp2 (f (n + j) - top f (n + k)) = (den f (n + k) : EReal) := by
  rw [factor, sum_congr rfl fun j hj => exp2_sub (le_top f (by have := mem_range.1 hj; omega : n + j < n + k)),
    ← coe_sum, ← EReal.coe_mul, ← EReal.coe_add]
  congr 1
  unfold den
  rw [sum_range_add, mul_sum]
  congr 1
  exact sum_congr rfl fun s hs => wt_factor f (mem_range.1 hs)

/-- One block of `k` scores more: the weighted sum. -/
theorem num_add (n k : ℕ) :
    Ideal.exp2 (top f n - top f (n + k)) * (num f v n : EReal)
      + ∑ j ∈ range k, Ideal.exp2 (f (n + j) - top f (n + k)) * (v (n + j) : EReal) = (num f v (n + k) : EReal) := by
  rw [factor, sum_congr rfl fun j hj => by
      rw [exp2_sub (le_top f (by have := mem_range.1 hj; omega : n + j < n + k)), ← EReal.coe_mul],
    ← coe_sum, ← EReal.coe_mul, ← EReal.coe_add]
  congr 1
  unfold num
  rw [sum_range_add, mul_sum]
  congr 1
  exact sum_congr rfl fun s hs => by rw [← mul_assoc, wt_factor f (mem_range.1 hs)]

theorem top_zero : top f 0 = ⊥ := by simp [top]
theorem den_zero : den f 0 = 0 := by simp [den]
theorem num_zero : num f v 0 = 0 := by simp [num]

/-! ## From base two to the exponential -/

/-- The change of scale and shift from the reference's scores to the kernel's. -/
def rescale (l d : ℝ) (r : EReal) : EReal := (l : EReal) * (r + (d : EReal))

theorem rescale_bot (l d : ℝ) (hl : 0 < l) : rescale l d ⊥ = ⊥ := by
  unfold rescale; rw [EReal.bot_add, EReal.coe_mul_bot_of_pos hl]

theorem rescale_top (l d : ℝ) (hl : 0 < l) : rescale l d ⊤ = ⊤ := by
  unfold rescale; rw [EReal.top_add_coe, EReal.coe_mul_top_of_pos hl]

theorem rescale_coe (l d a : ℝ) : rescale l d (a : EReal) = ((l * (a + d) : ℝ) : EReal) := by
  unfold rescale; rw [← EReal.coe_add, ← EReal.coe_mul]

theorem rescale_mono (l d : ℝ) (hl : 0 < l) : Monotone (rescale l d) := by
  intro a b h
  induction b with
  | bot => obtain rfl := le_bot_iff.1 h; exact le_rfl
  | top => rw [rescale_top l d hl]; exact _root_.le_top
  | coe b =>
    induction a with
    | bot => rw [rescale_bot l d hl]; exact bot_le
    | top => exact absurd h (by simp)
    | coe a =>
      rw [rescale_coe, rescale_coe]
      have h' : a ≤ b := by exact_mod_cast h
      exact_mod_cast mul_le_mul_of_nonneg_left (by linarith) hl.le

theorem rescale_sup (l d : ℝ) (hl : 0 < l) (g : ℕ → EReal) (n : ℕ) :
    (range n).sup (fun s => rescale l d (g s)) = rescale l d ((range n).sup g) :=
  (Finset.comp_sup_eq_sup_comp_of_is_total (rescale l d) (rescale_mono l d hl) (rescale_bot l d hl)).symm

/-- The exponential of the reference's difference is the power of two of the kernel's. -/
theorem exp_sub {l d : ℝ} (hl : 0 < l) (h2 : ∀ y : ℝ, Real.rpow 2 (l * y) = Real.exp y) {r m : EReal} (h : r ≤ m) :
    Ideal.exp (r - m) = (wt (rescale l d r) (rescale l d m) : EReal) := by
  rw [← exp2_sub (rescale_mono l d hl h)]
  induction m with
  | bot => obtain rfl := le_bot_iff.1 h; rw [rescale_bot l d hl, bot_sub]; simp
  | top => rw [rescale_top l d hl, sub_top, sub_top]; simp
  | coe b =>
    induction r with
    | bot => rw [rescale_bot l d hl, bot_sub, bot_sub]; simp
    | top => exact absurd h (by simp)
    | coe a =>
      rw [rescale_coe, rescale_coe, ← EReal.coe_sub, ← EReal.coe_sub, Ideal.exp_coe, Ideal.exp2_coe, ← h2]
      congr 2; ring

/-- The largest of all the scores is that of the first `n` when the rest are `⊥`. -/
theorem top_eq_of_bot {n N : ℕ} (h : n ≤ N) (hb : ∀ s, n ≤ s → f s = ⊥) : top f N = top f n := by
  obtain ⟨k, rfl⟩ := Nat.exists_eq_add_of_le h
  rw [top_add]
  apply max_eq_left
  exact Finset.sup_le fun j _ => by simp only [hb (n + j) (by omega)]; exact bot_le

theorem den_eq_of_bot {n N : ℕ} (h : n ≤ N) (hb : ∀ s, n ≤ s → f s = ⊥) : den f N = den f n := by
  obtain ⟨k, rfl⟩ := Nat.exists_eq_add_of_le h
  unfold den
  rw [top_eq_of_bot f h hb, sum_range_add, sum_eq_zero (s := range k), add_zero]
  intro j _; rw [hb (n + j) (by omega), wt_bot]

theorem num_eq_of_bot {n N : ℕ} (h : n ≤ N) (hb : ∀ s, n ≤ s → f s = ⊥) : num f v N = num f v n := by
  obtain ⟨k, rfl⟩ := Nat.exists_eq_add_of_le h
  unfold num
  rw [top_eq_of_bot f h hb, sum_range_add, sum_eq_zero (s := range k), add_zero]
  intro j _; rw [hb (n + j) (by omega), wt_bot, zero_mul]

/-! ## The quotients -/

/-- A row of the kernel's: the weighted sum over the sum. -/
theorem div_pos {D : ℝ} (hD : D ≠ 0) (A : ℝ) : Ideal.div (A : EReal) (D : EReal) = ((A / D : ℝ) : EReal) := by
  rw [Ideal.div_coe hD, ← EReal.coe_mul]; congr 1; ring

theorem div_zero_zero : Ideal.div ((0 : ℝ) : EReal) ((0 : ℝ) : EReal) = ⊥ := by
  simp [Ideal.div]

theorem wt_of_den_zero {n s : ℕ} (h : den f n = 0) (hs : s < n) : wt (f s) (top f n) = 0 :=
  (sum_eq_zero_iff_of_nonneg fun i _ => wt_nonneg _ _).1 h s (mem_range.2 hs)

theorem num_of_den_zero {n : ℕ} (h : den f n = 0) : num f v n = 0 :=
  sum_eq_zero fun s hs => by rw [wt_of_den_zero f h (mem_range.1 hs), zero_mul]

/-- Division by the root of the mean square, as both programs write it. -/
def norm {n : ℕ} (c e : EReal) (o : Fin n → EReal) (i : Fin n) : EReal :=
  o i * Ideal.rsqrt (Ideal.div (∑ j, o j * o j) c + e)

/-- A row each entry of which is zero or infinite goes to zero. -/
theorem norm_degenerate {n : ℕ} {c e : ℝ} (hc : 0 < c) (o : Fin n → EReal) (h : ∀ j, o j = 0 ∨ o j = ⊥ ∨ o j = ⊤)
    (i : Fin n) : norm (c : EReal) (e : EReal) o i = 0 := by
  unfold norm
  by_cases hz : o i = 0
  · rw [hz, zero_mul]
  · have hsq : ∀ j, 0 ≤ o j * o j := by
      intro j; rcases h j with h | h | h <;> rw [h] <;> simp
    have hi : o i * o i = ⊤ := by
      rcases h i with h | h | h
      · exact absurd h hz
      · rw [h]; simp
      · rw [h]; simp
    have hs : (∑ j, o j * o j) = ⊤ :=
      top_le_iff.1 (hi ▸ Finset.single_le_sum (f := fun j => o j * o j) (fun j _ => hsq j) (mem_univ i))
    rw [hs, Ideal.div_coe hc.ne', EReal.top_mul_coe_of_pos (by positivity), EReal.top_add_coe, Ideal.rsqrt_top, mul_zero]

/-- A sum of infinite terms and zeros is infinite or zero. -/
theorem sum_infinite {ι : Type} (S : Finset ι) (g : ι → EReal) (h : ∀ i ∈ S, g i = 0 ∨ g i = ⊥ ∨ g i = ⊤) :
    (∑ i ∈ S, g i) = 0 ∨ (∑ i ∈ S, g i) = ⊥ ∨ (∑ i ∈ S, g i) = ⊤ := by
  classical
  induction S using Finset.induction_on with
  | empty => simp
  | insert a S ha ih =>
    rw [sum_insert ha]
    rcases h a (mem_insert_self a S) with h1 | h1 | h1 <;>
      rcases ih (fun i hi => h i (mem_insert_of_mem hi)) with h2 | h2 | h2 <;> rw [h1, h2] <;> simp

theorem coe_mul_infinite (c : ℝ) (x : EReal) (hx : x = ⊥ ∨ x = ⊤) :
    (c : EReal) * x = 0 ∨ (c : EReal) * x = ⊥ ∨ (c : EReal) * x = ⊤ := by
  rcases lt_trichotomy c 0 with h | h | h <;> rcases hx with rfl | rfl
  · simp [EReal.coe_mul_bot_of_neg h]
  · simp [EReal.coe_mul_top_of_neg h]
  · simp [h]
  · simp [h]
  · simp [EReal.coe_mul_bot_of_pos h]
  · simp [EReal.coe_mul_top_of_pos h]

/-- THE EQUATION, for one query: the kernel's two rows over the first `n` scores, subtracted and normalised, are the
    reference's combination of two softmaxes over all `N`, applied to the values and normalised. `x`, `y` are the two
    halves' scores in base two, `⊥` past `n`. -/
theorem norm_eq {n N w : ℕ} (hn : n ≤ N) (x y : ℕ → EReal) (hx : ∀ s, n ≤ s → x s = ⊥) (hy : ∀ s, n ≤ s → y s = ⊥)
    (u : Fin w → ℕ → ℝ) (lam : ℝ) {c e : ℝ} (hc : 0 < c) (i : Fin w) :
    norm (c : EReal) (e : EReal) (fun j => Ideal.div (num x (u j) n : EReal) (den x n : EReal)
        - (lam : EReal) * Ideal.div (num y (u j) n : EReal) (den y n : EReal)) i
      = norm (c : EReal) (e : EReal) (fun j => ∑ s ∈ range N, (u j s : EReal)
        * (Ideal.div (wt (x s) (top x N) : EReal) (den x N : EReal)
          - (lam : EReal) * Ideal.div (wt (y s) (top y N) : EReal) (den y N : EReal))) i := by
  have infin : ∀ o : Fin w → EReal, (∀ j, o j = 0 ∨ o j = ⊥ ∨ o j = ⊤) → norm (c : EReal) (e : EReal) o i = 0 :=
    fun o h => norm_degenerate hc o h i
  rw [← den_eq_of_bot x hn hx, ← den_eq_of_bot y hn hy]
  simp only [fun j => (num_eq_of_bot x (u j) hn hx).symm, fun j => (num_eq_of_bot y (u j) hn hy).symm]
  by_cases hX : den x N = 0
  · rw [infin, infin]
    · intro j
      refine sum_infinite _ _ fun s hs => ?_
      rw [hX, wt_of_den_zero x hX (mem_range.1 hs), div_zero_zero, bot_sub]
      exact coe_mul_infinite _ _ (Or.inl rfl)
    · intro j
      rw [hX, num_of_den_zero x (u j) hX, div_zero_zero, bot_sub]
      exact Or.inr (Or.inl rfl)
  by_cases hY : den y N = 0
  · rcases eq_or_ne lam 0 with rfl | hl
    · congr 1
      funext j
      simp only [EReal.coe_zero, zero_mul, sub_zero]
      rw [div_pos hX]
      simp only [div_pos hX, ← EReal.coe_mul]
      rw [← coe_sum]
      congr 1
      unfold num
      rw [sum_div]
      exact sum_congr rfl fun s _ => by ring
    · have hinf : ∀ a : ℝ, ((a : EReal) - (lam : EReal) * ⊥) = ⊥ ∨ ((a : EReal) - (lam : EReal) * ⊥) = ⊤ := by
        intro a
        rcases lt_or_gt_of_ne hl with h | h
        · left; rw [EReal.coe_mul_bot_of_neg h, sub_top]
        · right; rw [EReal.coe_mul_bot_of_pos h, sub_eq_add_neg, EReal.neg_bot, EReal.coe_add_top]
      rw [infin, infin]
      · intro j
        refine sum_infinite _ _ fun s hs => ?_
        rw [hY, wt_of_den_zero y hY (mem_range.1 hs), div_zero_zero, div_pos hX]
        exact coe_mul_infinite _ _ (hinf _)
      · intro j
        rw [hY, num_of_den_zero y (u j) hY, div_zero_zero, div_pos hX]
        exact Or.inr (hinf _)
  · congr 1
    funext j
    simp only [div_pos hX, div_pos hY, ← EReal.coe_mul, ← EReal.coe_sub]
    rw [← coe_sum]
    congr 1
    unfold num
    rw [sum_div, sum_div, mul_sum, ← sum_sub_distrib]
    exact sum_congr rfl fun s _ => by ring

end Cert.Softmax

end
-- ==== Proof.Scores.lean ====
/-
  The scores of one query against the keys, at the extended reals: as the reference computes them, and as the kernel does, in
  base two and without the part that does not depend on the key.
-/
module

public import proofs.«01_k».proof.Proof.Softmax
public import Idealize.ShloMosaic.Lib.Pointwise

@[expose] public section

set_option maxRecDepth 16384

noncomputable section

namespace Cert.Scores

open Cert.Softmax Idealize.ShloMosaic

/-- `log2 e`. -/
def L : ℝ := 1 / Real.log 2

theorem L_pos : 0 < L := one_div_pos.2 (Real.log_pos (by norm_num))

theorem two_bits : Ideal.ofBits .f32 0x40000000#32 = ((2 : ℝ) : EReal) := by
  simp [Ideal.ofBits, Ideal.ieee, -EReal.coe_mul]; norm_num

theorem eighth_bits : Ideal.ofBits .f32 0x3E000000#32 = ((0.125 : ℝ) : EReal) := by
  simp [Ideal.ofBits, Ideal.ieee, -EReal.coe_mul]; norm_num

theorem width_bits : Ideal.ofBits .f32 0x43000000#32 = ((128 : ℝ) : EReal) := by
  simp [Ideal.ofBits, Ideal.ieee, -EReal.coe_mul]; norm_num

theorem log2e_eq : Ideal.div 1 (Ideal.log (Ideal.ofBits .f32 0x40000000#32)) = (L : EReal) := by
  have h : (0 : ℝ) < Real.log 2 := Real.log_pos (by norm_num)
  rw [two_bits, Ideal.log_coe, if_neg (by norm_num), Ideal.div_coe h.ne']
  rw [← EReal.coe_one, ← EReal.coe_mul]
  unfold L
  congr 1
  ring

theorem rpow_L (y : ℝ) : Real.rpow 2 (L * y) = Real.exp y := by
  have h : Real.log 2 ≠ 0 := (Real.log_pos (by norm_num)).ne'
  show (2 : ℝ) ^ (L * y) = _
  rw [Real.rpow_def_of_pos (by norm_num)]
  unfold L
  congr 1
  field_simp

/-- The head's slope. -/
def slope (h : Fin 8) : ℝ := (1 / 2) ^ (h.val + 1)

/-- The reference's score of key `s` for query `t`: the scaled product `a` less the slope times the distance, if the key's
    chunk of 64 is not after the query's. -/
def refScore (a : ℕ → EReal) (p : ℝ) (t s : ℕ) : EReal :=
  if s < 2048 ∧ s / 64 ≤ t / 64 then a s * ((0.125 : ℝ) : EReal) + ((-p * |(t : ℝ) - s| : ℝ) : EReal) else ⊥

/-- The kernel's score, over all keys. -/
def keyScore (a : ℕ → EReal) (p : ℝ) (t s : ℕ) : EReal := rescale L (p * t) (refScore a p t s)

theorem keyScore_bot (a : ℕ → EReal) (p : ℝ) (t s : ℕ) (h : ¬(s < 2048 ∧ s / 64 ≤ t / 64)) : keyScore a p t s = ⊥ := by
  unfold keyScore refScore
  rw [if_neg h, rescale_bot _ _ L_pos]

theorem keyScore_eq (a : ℕ → EReal) (p : ℝ) (t s : ℕ) (h : s < 2048 ∧ s / 64 ≤ t / 64) :
    keyScore a p t s = (L : EReal) * (a s * ((0.125 : ℝ) : EReal)) + ((L * (p * t - p * |(t : ℝ) - s|) : ℝ) : EReal) := by
  unfold keyScore refScore rescale
  rw [if_pos h, add_assoc, ← EReal.coe_add, coe_mul_add _ L_pos, ← EReal.coe_mul]
  congr 2
  ring

/-- A key not after the query. -/
theorem keyScore_le (a : ℕ → EReal) (p : ℝ) (t s : ℕ) (ht : t < 2048) (h : s ≤ t) :
    keyScore a p t s = (L : EReal) * (a s * ((0.125 : ℝ) : EReal)) + ((L * p * s : ℝ) : EReal) := by
  rw [keyScore_eq a p t s ⟨by omega, Nat.div_le_div_right h⟩]
  have : (s : ℝ) ≤ t := by exact_mod_cast h
  rw [abs_of_nonneg (by linarith)]
  congr 2
  ring

/-- A key after the query, in its chunk. -/
theorem keyScore_gt (a : ℕ → EReal) (p : ℝ) (t s : ℕ) (hs : s < 2048) (h : t < s) (hc : s / 64 ≤ t / 64) :
    keyScore a p t s = (L : EReal) * (a s * ((0.125 : ℝ) : EReal)) + ((L * p * s : ℝ) : EReal) + ((L * p * (2 * ((t : ℝ) - s)) : ℝ) : EReal) := by
  rw [keyScore_eq a p t s ⟨hs, hc⟩, add_assoc, ← EReal.coe_add]
  have : (t : ℝ) ≤ s := by exact_mod_cast h.le
  rw [abs_of_nonpos (by linarith)]
  congr 2
  ring

/-- The sum of products with the scale put on the queries. -/
theorem scaled_sum {n : ℕ} (q k : Fin n → EReal) :
    ∑ d, q d * (((0.125 : ℝ) : EReal) * (L : EReal)) * k d = (L : EReal) * ((∑ d, q d * k d) * ((0.125 : ℝ) : EReal)) := by
  have h : ∀ d, q d * (((0.125 : ℝ) : EReal) * (L : EReal)) * k d = (((L * 0.125 : ℝ)) : EReal) * (q d * k d) := fun d => by
    rw [EReal.coe_mul]
    ac_rfl
  simp only [h]
  rw [← coe_mul_sum _ _ _ (mul_pos L_pos (by norm_num)), EReal.coe_mul]
  ac_rfl

/-- The kernel's own-block correction. -/
def fixOf (p : ℝ) (i j : ℕ) : EReal :=
  if j / 64 ≤ i / 64 then ((L * p * (if i < j then 2 * ((i : ℝ) - j) else 0) : ℝ) : EReal) else ⊥

/-- The kernel's score of a key of the query's own block of 512. -/
theorem own_score (a : ℕ → EReal) (p : ℝ) (k i j : ℕ) (hk : k < 4) (hi : i < 512) (hj : j < 512) :
    (L : EReal) * (a (512 * k + j) * ((0.125 : ℝ) : EReal)) + ((L * p * ((512 * k + j : ℕ) : ℝ) : ℝ) : EReal) + fixOf p i j = keyScore a p (512 * k + i) (512 * k + j) := by
  unfold fixOf
  by_cases hc : j / 64 ≤ i / 64
  · rw [if_pos hc]
    by_cases hij : i < j
    · rw [if_pos hij, keyScore_gt a p _ _ (by omega) (by omega) (by omega)]
      congr 3
      push_cast
      ring
    · rw [if_neg hij, keyScore_le a p _ _ (by omega) (by omega), mul_zero, EReal.coe_zero, add_zero]
  · rw [if_neg hc, keyScore_bot a p _ _ (by omega), EReal.add_bot]

end Cert.Scores
end
-- ==== Proof.Words.lean ====
/-
  The integer words of the two programs: a position as a word, its quotient by 64 as `jnp.floor_divide` prints it, the order
  and the difference of two positions, and the slopes' bits.
-/
module

public import proofs.«01_k».proof.Proof.Scores
public import proofs.«01_k».proof.KernelIdeal

@[expose] public section

set_option maxRecDepth 16384

noncomputable section

namespace Cert.Words

open Cert.Scores Idealize.ShloMosaic

theorem toInt_ofNat (n : ℕ) (h : n < 2 ^ 31) : (BitVec.ofNat 32 n).toInt = n := by
  rw [BitVec.toInt_ofNat', Int.bmod_def]
  omega

theorem sitofp_ofNat (n : ℕ) (h : n < 2 ^ 31) : FloatOps.sitofp (F := Ideal) FTy.f32 (BitVec.ofNat 32 n) = ((n : ℝ) : EReal) := by
  show (((BitVec.ofNat 32 n).toInt : ℝ) : EReal) = _
  rw [toInt_ofNat n h]
  rfl

theorem sitofp_sub (i j : ℕ) (hi : i < 2 ^ 30) (hj : j < 2 ^ 30) :
    FloatOps.sitofp (F := Ideal) FTy.f32 (IntOp.subi (BitVec.ofNat 32 i) (BitVec.ofNat 32 j)) = (((i : ℝ) - j : ℝ) : EReal) := by
  show (((BitVec.ofNat 32 i - BitVec.ofNat 32 j).toInt : ℝ) : EReal) = _
  have : (BitVec.ofNat 32 i - BitVec.ofNat 32 j).toInt = (i : ℤ) - j := by
    rw [BitVec.toInt_sub, toInt_ofNat i (by omega), toInt_ofNat j (by omega), Int.bmod_def]
    omega
  rw [this]
  push_cast
  rfl

/-- `jnp.floor_divide` of a word by 64. -/
def quot (w : BitVec 32) : BitVec 32 :=
  Scalar.select
    (IntOp.andi
      (IntOp.cmpi CmpIPredicate.ne (if w = 0 then 0 else if w.msb = true then -1 else 1 : BitVec 32) (if 64#32 = 0 then 0 else if BitVec.msb 64#32 = true then -1 else 1))
      (IntOp.cmpi CmpIPredicate.ne (IntOp.remsi ArithUnit.host w 64#32) 0#32))
    (IntOp.subi (IntOp.divsi ArithUnit.host w 64#32) 1#32)
    (IntOp.divsi ArithUnit.host w 64#32)

theorem quot_ofNat : ∀ n : Fin 2048, quot (BitVec.ofNat 32 n.val) = BitVec.ofNat 32 (n.val / 64) := by
  decide +kernel

theorem sle_ofNat (i j : ℕ) (hi : i < 2 ^ 31) (hj : j < 2 ^ 31) (α : Type) (x y : α) :
    Scalar.select (IntOp.cmpi CmpIPredicate.sle (BitVec.ofNat 32 i) (BitVec.ofNat 32 j)) x y = if i ≤ j then x else y := by
  have h : (BitVec.ofNat 32 i).sle (BitVec.ofNat 32 j) = decide (i ≤ j) := by
    rw [BitVec.sle_eq_decide, toInt_ofNat i hi, toInt_ofNat j hj]
    simp
  show (if BitVec.ofBool ((BitVec.ofNat 32 i).sle (BitVec.ofNat 32 j)) = 1#1 then x else y) = _
  rw [h]
  by_cases hij : i ≤ j <;> simp [hij]

theorem sgt_ofNat (i j : ℕ) (hi : i < 2 ^ 31) (hj : j < 2 ^ 31) (α : Type) (x y : α) :
    Scalar.select (IntOp.cmpi CmpIPredicate.sgt (BitVec.ofNat 32 j) (BitVec.ofNat 32 i)) x y = if i < j then x else y := by
  have h : (BitVec.ofNat 32 i).slt (BitVec.ofNat 32 j) = decide (i < j) := by
    rw [BitVec.slt_eq_decide, toInt_ofNat i hi, toInt_ofNat j hj]
    simp
  show (if BitVec.ofBool ((BitVec.ofNat 32 i).slt (BitVec.ofNat 32 j)) = 1#1 then x else y) = _
  rw [h]
  by_cases hij : i < j <;> simp [hij]

theorem inf_bits : Ideal.ofBits .f32 0xFF800000#32 = ⊥ := by
  simp [Ideal.ofBits, Ideal.ieee]

theorem slope_bits (h : Fin 8) : Ideal.ofBits .f32 (Cert.KernelIdeal.lit0 h) = (Scores.slope h : EReal) := by
  unfold Scores.slope
  fin_cases h <;> (simp [Cert.KernelIdeal.lit0, Ideal.ofBits, Ideal.ieee, -EReal.coe_mul, -EReal.coe_pow]; norm_num)

end Cert.Words
end
-- ==== Proof.HostArrays.lean ====
/-
  The arrays that the kernel of `Cert.KernelIdeal` is launched on, at the extended reals, each at an index.
-/
module

public import proofs.«01_k».proof.Proof.Gen.KernelIdeal.Frame
public import proofs.«01_k».proof.Proof.Words
public import Idealize.ShloMosaic.Lib.Claim
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Host

open Cert.KernelIdeal Cert.KernelIdeal.Gen
open Cert.Scores Cert.Words
open Idealize.ShloMosaic Idealize.ShloMosaic.TcCoe

variable (m : (ℓ : Loc nD τ sig) → Buf (Elt Ideal) ℓ) (c : Dev nD)

/-- Argument 0. -/
abbrev arg0 : Vec Ideal S32x2048x1024 .f32 := m ((c : Thread nD τ).loc main_arg0)
/-- Argument 1. -/
abbrev arg1 : Vec Ideal S32x2048x1024 .f32 := m ((c : Thread nD τ).loc main_arg1)
/-- Argument 2. -/
abbrev arg2 : Vec Ideal S32x2048x1024 .f32 := m ((c : Thread nD τ).loc main_arg2)
/-- Argument 3. -/
abbrev arg3 : Vec Ideal S1x64 .f32 := m ((c : Thread nD τ).loc main_arg3)
/-- Argument 4. -/
abbrev arg4 : Vec Ideal S1x64 .f32 := m ((c : Thread nD τ).loc main_arg4)
/-- Argument 5. -/
abbrev arg5 : Vec Ideal S1x64 .f32 := m ((c : Thread nD τ).loc main_arg5)
/-- Argument 6. -/
abbrev arg6 : Vec Ideal S1x64 .f32 := m ((c : Thread nD τ).loc main_arg6)
/-- Argument 7. -/
abbrev arg7 : Vec Ideal S1x128 .f32 := m ((c : Thread nD τ).loc main_arg7)

/-- The slopes as the program prints them. -/
theorem slope_lit (h : Fin 8) : Ideal.ofBits .f32 (lit0 (S8.rowMajor (ix1 h))) = (Scores.slope h : EReal) := by
  rw [show S8.rowMajor (ix1 h) = h from Fin.ext (Shape.rowMajor_val_one (ix1 h))]
  exact slope_bits h

theorem q_entry (b : Fin 32) (t : Fin 2048) (e : Fin 1024) :
    V m c main_v37 (ix3 b t e) = arg0 m c (ix3 b t e) * (((0.125 : ℝ) : EReal) * (L : EReal)) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append]
  after_reads_at
  rw [log2e_eq, eighth_bits]

theorem k_entry (b : Fin 32) (t : Fin 2048) (e : Fin 1024) : V m c main_v38 (ix3 b t e) = arg1 m c (ix3 b t e) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append]
  after_reads_at

theorem v_entry (b : Fin 32) (t : Fin 2048) (e : Fin 1024) : V m c main_v39 (ix3 b t e) = arg2 m c (ix3 b t e) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append]
  after_reads_at

theorem g_entry (e : Fin 128) : V m c main_v41 (ix2 0 e) = arg7 m c (ix2 0 e) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append]
  after_reads_at

theorem lam_entry (a : Fin 4) (e : Fin 64) : V m c main_v33 (ix2 a e)
    = if a.val = 0 then arg3 m c (ix2 0 e) else if a.val = 1 then arg4 m c (ix2 0 e)
      else if a.val = 2 then arg5 m c (ix2 0 e) else arg6 m c (ix2 0 e) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append]
  after_reads_at
  after_reads_at
  pointwise
  fin_vals a with ha
  all_goals simp only [ha, Nat.reduceSub, Nat.reduceLT, ↓reduceDIte]
  all_goals rfl

/-- The key-bias columns: the first is the scaled slope times the key, the next two what its roundings leave. -/
theorem cols_entry (h : Fin 8) (s : Fin 2048) (e : Fin 128) : V m c main_v24 (ix3 h s e)
    = if e.val = 0 then ((L * Scores.slope h * s.val : ℝ) : EReal) else 0 := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append]
  after_reads_at
  after_reads_at
  pointwise
  rw [log2e_eq, slope_lit, sitofp_ofNat s.val (by omega), ← EReal.coe_mul, ← EReal.coe_mul, ← EReal.coe_sub, sub_self, ← EReal.coe_sub, sub_self, EReal.coe_zero,
    show FloatOps.sitofp (F := Ideal) FTy.f32 0#32 = (0 : EReal) from sitofp_ofNat 0 (by omega) |>.trans (by simp)]
  by_cases h0 : e.val = 0
  · simp [h0]
  · rw [if_neg h0, dif_neg (show ¬ e.val < 1 by omega)]
    split_ifs <;> rfl

/-- The own-block correction. -/
theorem fix_entry (h : Fin 8) (i j : Fin 512) : V m c main_v59 (ix3 h i j) = fixOf (Scores.slope h) i.val j.val := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append]
  after_reads_at
  rw [log2e_eq, slope_lit, two_bits]
  show Scalar.select (IntOp.cmpi CmpIPredicate.sle (quot (BitVec.ofNat 32 j.val)) (quot (BitVec.ofNat 32 i.val)))
    ((L : EReal) * (Scores.slope h : EReal) * Scalar.select (IntOp.cmpi CmpIPredicate.sgt (BitVec.ofNat 32 j.val) (BitVec.ofNat 32 i.val))
      (((2 : ℝ) : EReal) * FloatOps.sitofp (F := Ideal) FTy.f32 (IntOp.subi (BitVec.ofNat 32 i.val) (BitVec.ofNat 32 j.val))) (Ideal.ofBits .f32 0#32))
    (Ideal.ofBits .f32 0xFF800000#32) = _
  rw [show quot (BitVec.ofNat 32 j.val) = _ from quot_ofNat ⟨j.val, by omega⟩, show quot (BitVec.ofNat 32 i.val) = _ from quot_ofNat ⟨i.val, by omega⟩,
    sle_ofNat _ _ (by omega) (by omega), sgt_ofNat _ _ (by omega) (by omega), sitofp_sub _ _ (by omega) (by omega), Ideal.ofBits_zero_f32, inf_bits]
  unfold fixOf
  by_cases hb : j.val / 64 ≤ i.val / 64
  · rw [if_pos hb, if_pos hb]
    by_cases hij : i.val < j.val
    · simp only [hij, ↓reduceIte]
      rw [← EReal.coe_mul, ← EReal.coe_mul, ← EReal.coe_mul]
    · simp only [hij, ↓reduceIte, mul_zero, EReal.coe_zero]
  · rw [if_neg hb, if_neg hb]

end Cert.KernelIdeal.Host
end
-- ==== Proof.Blocks.lean ====
/-
  The kernel's blocks at a grid point, as reads of its arrays: point `t` works on batch `t / 8` and head `t % 8`.
-/
module

public import proofs.«01_k».proof.Proof.HostArrays

@[expose] public section

set_option maxRecDepth 16384

noncomputable section

namespace Cert.KernelIdeal.Host

open Cert.KernelIdeal Cert.KernelIdeal.Gen
open Idealize.ShloMosaic

theorem idx : ∀ t : Fin cfg0.N, win0_0.index t = ![0, 0] ∧ win0_1.index t = ![0, 0] ∧ win0_2.index t = ![t.val % 8, 0, 0]
    ∧ win0_3.index t = ![t.val / 8, 0, t.val % 8] ∧ win0_4.index t = ![t.val / 8, 0, t.val % 8] ∧ win0_5.index t = ![t.val % 8, 0, 0]
    ∧ win0_6.index t = ![t.val / 8, 0, t.val % 8] ∧ win0_7.index t = ![t.val / 8, 0, t.val % 8] :=
  (by decide +kernel : ∀ t : Fin grid0.N, _)

variable (m : (ℓ : Loc nD τ sig) → Buf (Elt Ideal) ℓ) (c : Dev nD) (t : Fin cfg0.N)

theorem points (t : Fin cfg0.N) : t.val < 256 := lt_of_lt_of_eq t.isLt N_0

/-- The batch a grid point works on. -/
abbrev batch : Fin 32 := ⟨t.val / 8, by have := points t; omega⟩

/-- The head a grid point works on. -/
abbrev head : Fin 8 := ⟨t.val % 8, by omega⟩

/-- A column of a grid point's head. -/
abbrev column (d : Fin 128) : Fin 1024 := ⟨t.val % 8 * 128 + d.val, by omega⟩

theorem q_block (s : Fin 2048) (d : Fin 128) : (iblk m c 3 t : Vec Ideal S1x2048x128 .bf16) (ix3 0 s d) = V m c main_v37 (ix3 (batch t) s (column t d)) := by
  blk_point [iblk, idx t]

theorem k_block (s : Fin 2048) (d : Fin 128) : (iblk m c 4 t : Vec Ideal S1x2048x128 .bf16) (ix3 0 s d) = V m c main_v38 (ix3 (batch t) s (column t d)) := by
  blk_ext [iblk, idx t]

theorem v_block (s : Fin 2048) (d : Fin 128) : (iblk m c 6 t : Vec Ideal S1x2048x128 .bf16) (ix3 0 s d) = V m c main_v39 (ix3 (batch t) s (column t d)) := by
  blk_ext [iblk, idx t]

theorem cols_block (s : Fin 2048) (d : Fin 128) : (iblk m c 5 t : Vec Ideal S1x2048x128 .bf16) (ix3 0 s d) = V m c main_v24 (ix3 (head t) s d) := by
  blk_ext [iblk, idx t]

theorem fix_block (i j : Fin 512) : (iblk m c 2 t : Vec Ideal S1x512x512 .f32) (ix3 0 i j) = V m c main_v59 (ix3 (head t) i j) := by
  blk_ext [iblk, idx t]

theorem g_block (e : Fin 128) : (iblk m c 1 t : Vec Ideal S1x128 .f32) (ix2 0 e) = V m c main_v41 (ix2 0 e) := by
  blk_ext [iblk, idx t]

theorem lam_block (a : Fin 4) (e : Fin 64) : (iblk m c 0 t : Vec Ideal S4x64 .f32) (ix2 a e) = V m c main_v33 (ix2 a e) := by
  blk_ext [iblk, idx t]

end Cert.KernelIdeal.Host
end
-- ==== Proof.TileValue.lean ====
/-
  What a query tile of the kernel of `Cert.KernelIdeal` stores, from its loads: the trip of the loop over the earlier key
  blocks and the tile's block, each written by the kernel's own payloads.
-/
module

public import proofs.«01_k».proof.Proof.IdealRun
public import Idealize.ShloMosaic.Lib.WholeRead
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F] [Named F]

/-- What the loop over key blocks carries: the running maximum, denominator and numerators of the two halves. -/
abbrev Carry (F : FTy → Type) : Type :=
  FVec F S512x1 .f32 × FVec F S512x1 .f32 × FVec F S512x128 .f32 × FVec F S512x1 .f32 × FVec F S512x1 .f32 × FVec F S512x128 .f32

/-- The carried values after a key block, from those before it. -/
def blockStep (q : Vec F S1x512x128 .bf16) (k b v : Vec F S1x512x128 .bf16) (s : Carry F) : Carry F :=
  (k0_pay9 (k0_pay36 k0_pay1 k0_pay3 q) s.1 k b,
    k0_pay12 (k0_pay36 k0_pay1 k0_pay3 q) s.1 s.2.1 k b,
    k0_pay13 (k0_pay36 k0_pay1 k0_pay3 q) s.1 s.2.2.1 k b v,
    k0_pay9 (k0_pay36 k0_pay2 k0_pay3 q) s.2.2.2.1 k b,
    k0_pay12 (k0_pay36 k0_pay2 k0_pay3 q) s.2.2.2.1 s.2.2.2.2.1 k b,
    k0_pay13 (k0_pay36 k0_pay2 k0_pay3 q) s.2.2.2.1 s.2.2.2.2.2 k b v)

/-- The carried values before the first key block. -/
def blockInit : Carry F := (k0_pay38, k0_pay39, k0_pay40, k0_pay38, k0_pay39, k0_pay40)

/-- The difference of the two halves' averages in a tile, after its own block. -/
def tileDiff (v11 : Vec F S4x64 .f32) (q : Vec F S1x512x128 .bf16) (f : Vec F S1x512x512 .f32) (k b v : Vec F S1x512x128 .bf16) (s : Carry F) : FVec F S512x128 .f32 :=
  k0_pay48 (k0_pay4 v11) (k0_pay36 k0_pay2 k0_pay3 q) s.1 s.2.1 s.2.2.1 s.2.2.2.1 s.2.2.2.2.1 s.2.2.2.2.2 (k0_pay43 f) (k0_pay44 k b) (k0_pay45 v)
    (k0_pay46 k0_pay1 k0_pay3 q f k b)

/-- The block a tile stores: the difference, normalised. -/
def tileOut (v11 : Vec F S4x64 .f32) (g : Vec F S1x128 .f32) (q : Vec F S1x512x128 .bf16) (f : Vec F S1x512x512 .f32) (k b v : Vec F S1x512x128 .bf16) (s : Carry F) : FVec F S1x512x128 .bf16 :=
  k0_pay5 (k0_pay47 g) (tileDiff v11 q f k b v s)
    (k0_pay49 (k0_pay4 v11) (k0_pay36 k0_pay2 k0_pay3 q) s.1 s.2.1 s.2.2.1 s.2.2.2.1 s.2.2.2.2.1 s.2.2.2.2.2 (k0_pay43 f) (k0_pay44 k b) (k0_pay45 v)
      (k0_pay46 k0_pay1 k0_pay3 q f k b))

/-- Key block `n` of an array. -/
def rows (x : Vec F S1x2048x128 .bf16) (n : ℕ) : Vec F S1x512x128 .bf16 :=
  fun y => x (ix3 0 ⟨(512 * n + (y 1).val) % 2048, Nat.mod_lt _ (by decide)⟩ (y 2))

/-- The carried values before key block `n`, from the queries and the arrays of keys, key columns and values. -/
def carryTo (q : Vec F S1x512x128 .bf16) (x6 x7 x8 : Vec F S1x2048x128 .bf16) : ℕ → Carry F
  | 0 => blockInit
  | n + 1 => blockStep q (rows x6 n) (rows x7 n) (rows x8 n) (carryTo q x6 x7 x8 n)

theorem trips_t2 : ∀ k : Fin k0_t1_loop.trips, (k0_t2_loop k).trips = k.val := by decide +kernel

/-- A load of 512 rows reads a key block. -/
theorem load_rows {m : Memref sig .tc .vmem S1x2048x128 .bf16} (h : m.IsWhole) (x : Vec F S1x2048x128 .bf16) (n : ℕ) (off : Fin 3 → ℕ) (hoff : off = ![0, 512 * n, 0])
    (hb : ∀ a, off a + S1x512x128.size a ≤ S1x2048x128.size a) :
    m.view.readAt (Elt F) (Rect.unit (s := S1x2048x128) off S1x512x128.size hb).toLoadRect (h.unread x) = rows x n := by
  subst hoff
  have hn : 512 * n + 512 ≤ 2048 := hb 1
  funext y
  rw [Memref.IsWhole.readAt_unread]
  unfold rows
  congr 1
  funext a
  apply Fin.ext
  have h1 : (y 1).val < 512 := (y 1).isLt
  have h0 : (y 0).val < 1 := (y 0).isLt
  match a with
  | ⟨0, _⟩ => show 0 + 1 * (y 0).val = 0; omega
  | ⟨1, _⟩ => show 512 * n + 1 * (y 1).val = (512 * n + (y 1).val) % 2048; omega
  | ⟨2, _⟩ => show 0 + 1 * (y 2).val = (y 2).val; omega

section Block

variable (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x512x512 .f32) (harg4 : arg4.IsWhole) (arg5 : Memref sig .tc .vmem S1x2048x128 .bf16) (harg5 : arg5.IsWhole)
  (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole)

/-- A trip of the loop over key blocks carries the values one block on. -/
theorem trip_value (k0_t1 : Fin k0_t1_loop.trips) (v32 : Vec F S1x512x128 .bf16) (X6 : BufTy.Contents (Elt F) arg6.view.ty) (X7 : BufTy.Contents (Elt F) arg7.view.ty) (X8 : BufTy.Contents (Elt F) arg8.view.ty) (k : Fin (k0_t2_loop k0_t1).trips) (s : Carry F) :
    tripR_k0_t2 (F := F) Variants.none c none i arg2 harg2 arg3 harg3 arg4 harg4 arg5 harg5 arg6 harg6 arg7 harg7 arg8 harg8 arg9 harg9 k0_pay1 k0_pay2 k0_pay3 (0#32) (1#32) k0_t1 v32 X6 X7 X8 k s
      = blockStep v32 (arg6.view.readAt (Elt F) (Rect.unit (s := S1x2048x128) (k0_off2 k0_t1 k) S1x512x128.size (k0_off2_inb k0_t1 k)).toLoadRect X6)
          (arg7.view.readAt (Elt F) (Rect.unit (s := S1x2048x128) (k0_off2 k0_t1 k) S1x512x128.size (k0_off2_inb k0_t1 k)).toLoadRect X7)
          (arg8.view.readAt (Elt F) (Rect.unit (s := S1x2048x128) (k0_off2 k0_t1 k) S1x512x128.size (k0_off2_inb k0_t1 k)).toLoadRect X8) s := by
  unfold tripR_k0_t2 trip_k0_t2
  rfl

/-- The carried values before key block `n` of tile `k`. -/
abbrev carried (v32 : Vec F S1x512x128 .bf16) (X6 : BufTy.Contents (Elt F) arg6.view.ty) (X7 : BufTy.Contents (Elt F) arg7.view.ty) (X8 : BufTy.Contents (Elt F) arg8.view.ty) (k : Fin k0_t1_loop.trips) (n : ℕ) : Carry F :=
  st_k0_t2 (F := F) Variants.none c none i arg2 harg2 arg3 harg3 arg4 harg4 arg5 harg5 arg6 harg6 arg7 harg7 arg8 harg8 arg9 harg9 k0_pay1 k0_pay2 k0_pay3 (0#32) (1#32) k v32 X6 X7 X8 blockInit n

/-- The loop that follows, over no block, carries the values through. -/
theorem carried_rest (v32 : Vec F S1x512x128 .bf16) (X6 : BufTy.Contents (Elt F) arg6.view.ty) (X7 : BufTy.Contents (Elt F) arg7.view.ty) (X8 : BufTy.Contents (Elt F) arg8.view.ty) (k : Fin k0_t1_loop.trips) (e : BitVec 32) (s : Carry F) :
    st_k0_t3 (F := F) Variants.none c none i arg2 harg2 arg3 harg3 arg4 harg4 arg5 harg5 arg6 harg6 arg7 harg7 arg8 harg8 arg9 harg9 k0_pay1 k0_pay2 k0_pay3 (0#32) (1#32) k v32 e X6 X7 X8 s (k0_t3_loop k).trips = s := by
  rw [Nat.le_zero.mp (k0_t3_abs k).2.1]
  rfl

/-- The carried values of a tile are those of its blocks. -/
theorem carried_eq (q : Vec F S1x512x128 .bf16) (x6 x7 x8 : Vec F S1x2048x128 .bf16) (k : Fin k0_t1_loop.trips) (n : ℕ) (hn : n ≤ (k0_t2_loop k).trips) :
    carried c i arg2 harg2 arg3 harg3 arg4 harg4 arg5 harg5 arg6 harg6 arg7 harg7 arg8 harg8 arg9 harg9 q (harg6.unread x6) (harg7.unread x7) (harg8.unread x8) k n = carryTo q x6 x7 x8 n := by
  induction n with
  | zero => rfl
  | succ n ih =>
    have h := st_k0_t2_succ (F := F) Variants.none c none i arg2 harg2 arg3 harg3 arg4 harg4 arg5 harg5 arg6 harg6 arg7 harg7 arg8 harg8 arg9 harg9 k0_pay1 k0_pay2 k0_pay3 (0#32) (1#32) k q (harg6.unread x6) (harg7.unread x7) (harg8.unread x8) blockInit ⟨n, hn⟩
    unfold carried
    rw [h, trip_value, load_rows harg6 x6 n _ (k0_off2_eq k ⟨n, hn⟩), load_rows harg7 x7 n _ (k0_off2_eq k ⟨n, hn⟩), load_rows harg8 x8 n _ (k0_off2_eq k ⟨n, hn⟩)]
    rw [carryTo, ← ih (Nat.le_of_succ_le hn)]

/-- A tile's trip stores its block, from its loads. -/
theorem tile_loads (v11 : Vec F S4x64 .f32) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (k : Fin k0_t1_loop.trips) :
    (tile c i arg2 harg2 arg3 harg3 arg4 harg4 arg5 harg5 arg6 harg6 arg7 harg7 arg8 harg8 arg9 harg9 v11 X3 X4 X5 X6 X7 X8 k).1
      = [⟨Rect.unit (k0_off1 k) S1x512x128.size (k0_off1_inb k),
          tileOut v11 (arg3.view.readAt (Elt F) (Rect.unit ![0, 0] S1x128.size inb_S1x128_S1x128_0_0).toLoadRect X3)
            (arg5.view.readAt (Elt F) (Rect.unit (s := S1x2048x128) (k0_off1 k) S1x512x128.size (k0_off1_inb k)).toLoadRect X5)
            (arg4.view.readAt (Elt F) (Rect.unit ![0, 0, 0] S1x512x512.size inb_S1x512x512_S1x512x512_0_0_0).toLoadRect X4)
            (arg6.view.readAt (Elt F) (Rect.unit (s := S1x2048x128) (k0_off1 k) S1x512x128.size (k0_off1_inb k)).toLoadRect X6)
            (arg7.view.readAt (Elt F) (Rect.unit (s := S1x2048x128) (k0_off1 k) S1x512x128.size (k0_off1_inb k)).toLoadRect X7)
            (arg8.view.readAt (Elt F) (Rect.unit (s := S1x2048x128) (k0_off1 k) S1x512x128.size (k0_off1_inb k)).toLoadRect X8)
            (st_k0_t3 (F := F) Variants.none c none i arg2 harg2 arg3 harg3 arg4 harg4 arg5 harg5 arg6 harg6 arg7 harg7 arg8 harg8 arg9 harg9 k0_pay1 k0_pay2 k0_pay3 (0#32) (1#32) k
              (arg5.view.readAt (Elt F) (Rect.unit (s := S1x2048x128) (k0_off1 k) S1x512x128.size (k0_off1_inb k)).toLoadRect X5)
              (Scalar.addi (0#32) (Scalar.muli (Scalar.divsi (Scalar.subi (Scf.iv 0#32 1#32 ↑k) 0#32) 1#32) 1#32)) X6 X7 X8
              (carried c i arg2 harg2 arg3 harg3 arg4 harg4 arg5 harg5 arg6 harg6 arg7 harg7 arg8 harg8 arg9 harg9 (arg5.view.readAt (Elt F) (Rect.unit (s := S1x2048x128) (k0_off1 k) S1x512x128.size (k0_off1_inb k)).toLoadRect X5) X6 X7 X8 k (k0_t2_loop k).trips)
              (k0_t3_loop k).trips)⟩] := by
  unfold tile
  rfl

/-- A tile's trip stores its block, from the arrays. -/
theorem tile_value (v11 : Vec F S4x64 .f32) (x3 : Vec F S1x128 .f32) (x4 : Vec F S1x512x512 .f32) (x5 x6 x7 x8 : Vec F S1x2048x128 .bf16) (k : Fin k0_t1_loop.trips) :
    (tile c i arg2 harg2 arg3 harg3 arg4 harg4 arg5 harg5 arg6 harg6 arg7 harg7 arg8 harg8 arg9 harg9 v11 (harg3.unread x3) (harg4.unread x4) (harg5.unread x5) (harg6.unread x6) (harg7.unread x7) (harg8.unread x8) k).1
      = [⟨Rect.unit (k0_off1 k) S1x512x128.size (k0_off1_inb k),
          tileOut v11 x3 (rows x5 k.val) x4 (rows x6 k.val) (rows x7 k.val) (rows x8 k.val) (carryTo (rows x5 k.val) x6 x7 x8 k.val)⟩] := by
  have e3 : arg3.view.readAt (Elt F) (Rect.unit ![0, 0] S1x128.size inb_S1x128_S1x128_0_0).toLoadRect (harg3.unread x3) = x3 := by
    funext y
    rw [Memref.IsWhole.readAt_unread]
    congr 1
    funext a
    apply Fin.ext
    match a with
    | ⟨0, _⟩ => show 0 + 1 * (y 0).val = (y 0).val; omega
    | ⟨1, _⟩ => show 0 + 1 * (y 1).val = (y 1).val; omega
  have e4 : arg4.view.readAt (Elt F) (Rect.unit ![0, 0, 0] S1x512x512.size inb_S1x512x512_S1x512x512_0_0_0).toLoadRect (harg4.unread x4) = x4 := by
    funext y
    rw [Memref.IsWhole.readAt_unread]
    congr 1
    funext a
    apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [tile_loads, carried_rest, e3, e4, load_rows harg5 x5 k.val _ (k0_off1_eq k), load_rows harg6 x6 k.val _ (k0_off1_eq k), load_rows harg7 x7 k.val _ (k0_off1_eq k),
    load_rows harg8 x8 k.val _ (k0_off1_eq k), carried_eq c i arg2 harg2 arg3 harg3 arg4 harg4 arg5 harg5 arg6 harg6 arg7 harg7 arg8 harg8 arg9 harg9 _ x6 x7 x8 k _ le_rfl, trips_t2]

end Block
end Cert.KernelIdeal.Run
end
-- ==== Proof.Block.lean ====
/-
  One block of keys in the attention kernel of `Cert.KernelIdeal`, at the extended reals: the running maximum, the running
  denominator and the running numerators of one row of queries after the block, from those before it.
-/
module

public import proofs.«01_k».proof.Proof.TileValue
public import proofs.«01_k».proof.Proof.Softmax

@[expose] public section

set_option maxRecDepth 16384

noncomputable section

namespace Cert.KernelIdeal.Block

open Cert.KernelIdeal Cert.KernelIdeal.Gen Cert.KernelIdeal.Run Cert.Softmax
open Idealize.ShloMosaic

/-- A running maximum, denominator and numerators are those of the first `n` keys. -/
structure Holds (x : ℕ → EReal) (u : Fin 128 → ℕ → ℝ) (n : ℕ) (m l : EReal) (a : Fin 128 → EReal) : Prop where
  max : m = top x n
  den : l = Softmax.den x n
  num : ∀ e, a e = Softmax.num x (u e) n

theorem Holds.zero (x : ℕ → EReal) (u : Fin 128 → ℕ → ℝ) : Holds x u 0 ⊥ 0 (fun _ => 0) :=
  ⟨(top_zero x).symm, by rw [den_zero]; rfl, fun e => by rw [num_zero]; rfl⟩

theorem bot_bits : Ideal.ofBits .f32 0xFF800000#32 = ⊥ := by
  simp [Ideal.ofBits, Ideal.ieee]

/-- The largest of a maximum and a block's scores. -/
theorem fold_top (x : ℕ → EReal) (n : ℕ) (s : Fin 512 → EReal) (hs : ∀ j, s j = x (n + j.val)) :
    Max.max (top x n) (Finset.fold Max.max (Ideal.ofBits .f32 0xFF800000#32) s Finset.univ) = top x (n + 512) := by
  rw [top_add, bot_bits]
  congr 1
  change Finset.univ.sup s = _
  apply le_antisymm
  · refine Finset.sup_le fun j _ => ?_
    rw [hs j]
    exact Finset.le_sup (f := fun j => x (n + j)) (Finset.mem_range.2 j.isLt)
  · refine Finset.sup_le fun j hj => ?_
    rw [show x (n + j) = s ⟨j, Finset.mem_range.1 hj⟩ from (hs ⟨j, Finset.mem_range.1 hj⟩).symm]
    exact Finset.le_sup (Finset.mem_univ _)

/-- A block's step on one row. -/
theorem Holds.step {x : ℕ → EReal} {u : Fin 128 → ℕ → ℝ} {n : ℕ} {m l : EReal} {a : Fin 128 → EReal} (h : Holds x u n m l a)
    (s : Fin 512 → EReal) (v : Fin 512 → Fin 128 → EReal) (hs : ∀ j, s j = x (n + j.val)) (hv : ∀ j e, v j e = (u e (n + j.val) : EReal))
    (m' : EReal) (hm : m' = Max.max m (Finset.fold Max.max (Ideal.ofBits .f32 0xFF800000#32) s Finset.univ)) :
    Holds x u (n + 512) m' (Ideal.exp2 (m - m') * l + ∑ j, Ideal.exp2 (s j - m'))
      (fun e => Ideal.exp2 (m - m') * a e + ∑ j, Ideal.exp2 (s j - m') * v j e) := by
  have hm' : m' = top x (n + 512) := by rw [hm, h.max, fold_top x n s hs]
  refine ⟨hm', ?_, fun e => ?_⟩
  · rw [← den_add, h.max, h.den, hm', Finset.sum_range]
    simp only [hs]
  · rw [← num_add]
    rw [h.max, h.num e, hm', Finset.sum_range]
    simp only [hs, hv]

section

variable (q : FVec Ideal S512x256 .bf16) (k b v : Vec Ideal S1x512x128 .bf16) (m l : FVec Ideal S512x1 .f32) (a : FVec Ideal S512x128 .f32)

theorem pay9_apply (r : Fin 512) : k0_pay9 q m k b (ix2 r 0)
    = Max.max (m (ix2 r 0)) (Finset.fold Max.max (Ideal.ofBits .f32 0xFF800000#32) (fun x => k0_pay8 q k b (ix2 r x)) Finset.univ) := by
  pointwise [k0_pay9]

theorem pay12_apply (r : Fin 512) : k0_pay12 q m l k b (ix2 r 0)
    = Ideal.exp2 (m (ix2 r 0) - k0_pay9 q m k b (ix2 r 0)) * l (ix2 r 0) + ∑ x : Fin 512, Ideal.exp2 (k0_pay8 q k b (ix2 r x) - k0_pay9 q m k b (ix2 r 0)) := by
  pointwise [k0_pay12, k0_pay10, k0_pay11]
  rfl

theorem pay13_apply (r : Fin 512) (e : Fin 128) : k0_pay13 q m a k b v (ix2 r e)
    = Ideal.exp2 (m (ix2 r 0) - k0_pay9 q m k b (ix2 r 0)) * a (ix2 r e)
      + ∑ x : Fin 512, Ideal.exp2 (k0_pay8 q k b (ix2 r x) - k0_pay9 q m k b (ix2 r 0)) * v (ix3 0 x e) := by
  pointwise [k0_pay13, k0_pay10, k0_pay11, k0_pay7]
  rfl

/-- A score: a query's and a key's product, and the query's and key's further columns'. -/
theorem pay8_apply (r s : Fin 512) : k0_pay8 q k b (ix2 r s)
    = ∑ x : Fin 128, q (ix2 r ⟨x.val, by omega⟩) * k (ix3 0 s x) + ∑ x : Fin 128, q (ix2 r ⟨128 + x.val, by omega⟩) * b (ix3 0 s x) := by
  pointwise [k0_pay8, k0_pay6]

/-- One half's step over a key block, on one row. -/
theorem half_step {x : ℕ → EReal} {u : Fin 128 → ℕ → ℝ} {n : ℕ} (r : Fin 512)
    (h : Holds x u n (m (ix2 r 0)) (l (ix2 r 0)) (fun e => a (ix2 r e)))
    (hs : ∀ j : Fin 512, k0_pay8 q k b (ix2 r j) = x (n + j.val)) (hv : ∀ (j : Fin 512) (e : Fin 128), v (ix3 0 j e) = (u e (n + j.val) : EReal)) :
    Holds x u (n + 512) (k0_pay9 q m k b (ix2 r 0)) (k0_pay12 q m l k b (ix2 r 0)) (fun e => k0_pay13 q m a k b v (ix2 r e)) := by
  simp only [pay12_apply, pay13_apply]
  exact h.step (fun j => k0_pay8 q k b (ix2 r j)) (fun j e => v (ix3 0 j e)) hs hv _ (pay9_apply q k b m r)

end

/-- The carried values of one row before key block `j`. -/
theorem carry_holds (q : Vec Ideal S1x512x128 .bf16) (x6 x7 x8 : Vec Ideal S1x2048x128 .bf16) (r : Fin 512) (x y : ℕ → EReal) (u : Fin 128 → ℕ → ℝ) (n : ℕ)
    (hx : ∀ i < n, ∀ j : Fin 512, k0_pay8 (k0_pay36 k0_pay1 k0_pay3 q) (rows x6 i) (rows x7 i) (ix2 r j) = x (512 * i + j.val))
    (hy : ∀ i < n, ∀ j : Fin 512, k0_pay8 (k0_pay36 k0_pay2 k0_pay3 q) (rows x6 i) (rows x7 i) (ix2 r j) = y (512 * i + j.val))
    (hv : ∀ i < n, ∀ (j : Fin 512) (e : Fin 128), rows x8 i (ix3 0 j e) = (u e (512 * i + j.val) : EReal)) :
    Holds x u (512 * n) ((carryTo q x6 x7 x8 n).1 (ix2 r 0)) ((carryTo q x6 x7 x8 n).2.1 (ix2 r 0)) (fun e => (carryTo q x6 x7 x8 n).2.2.1 (ix2 r e))
    ∧ Holds y u (512 * n) ((carryTo q x6 x7 x8 n).2.2.2.1 (ix2 r 0)) ((carryTo q x6 x7 x8 n).2.2.2.2.1 (ix2 r 0)) (fun e => (carryTo q x6 x7 x8 n).2.2.2.2.2 (ix2 r e)) := by
  induction n with
  | zero =>
    have h38 : (k0_pay38 : FVec Ideal S512x1 .f32) (ix2 r 0) = ⊥ := rfl
    have h39 : (k0_pay39 : FVec Ideal S512x1 .f32) (ix2 r 0) = 0 := by pointwise [k0_pay39]
    have h40 : (fun e => (k0_pay40 : FVec Ideal S512x128 .f32) (ix2 r e)) = fun _ => 0 := by funext e; pointwise [k0_pay40]
    simp only [carryTo, blockInit, h38, h39, h40]
    exact ⟨Holds.zero x u, Holds.zero y u⟩
  | succ n ih =>
    have ih := ih (fun i hi => hx i (by omega)) (fun i hi => hy i (by omega)) (fun i hi => hv i (by omega))
    have e : 512 * (n + 1) = 512 * n + 512 := by omega
    rw [e]
    simp only [carryTo, blockStep]
    exact ⟨half_step _ _ _ _ _ _ _ r ih.1 (hx n (by omega)) (hv n (by omega)), half_step _ _ _ _ _ _ _ r ih.2 (hy n (by omega)) (hv n (by omega))⟩

section

variable (v11 : Vec Ideal S4x64 .f32) (g : Vec Ideal S1x128 .f32) (q : Vec Ideal S1x512x128 .bf16) (f : Vec Ideal S1x512x512 .f32) (k b v : Vec Ideal S1x512x128 .bf16) (s : Carry Ideal)

/-- The weight of the second half. -/
def lam : EReal := k0_pay4 v11 (ix2 0 0)

/-- The difference of the halves' averages, on one row. -/
theorem diff_apply (r : Fin 512) (e : Fin 128) (x y : ℕ → EReal) (u : Fin 128 → ℕ → ℝ) (n : ℕ)
    (hx : Holds x u n (s.1 (ix2 r 0)) (s.2.1 (ix2 r 0)) (fun e => s.2.2.1 (ix2 r e)))
    (hy : Holds y u n (s.2.2.2.1 (ix2 r 0)) (s.2.2.2.2.1 (ix2 r 0)) (fun e => s.2.2.2.2.2 (ix2 r e)))
    (hsx : ∀ j : Fin 512, k0_pay8 (k0_pay36 k0_pay1 k0_pay3 q) k b (ix2 r j) + f (ix3 0 r j) = x (n + j.val))
    (hsy : ∀ j : Fin 512, k0_pay8 (k0_pay36 k0_pay2 k0_pay3 q) k b (ix2 r j) + f (ix3 0 r j) = y (n + j.val))
    (hv : ∀ (j : Fin 512) (e : Fin 128), v (ix3 0 j e) = (u e (n + j.val) : EReal)) :
    tileDiff v11 q f k b v s (ix2 r e)
      = Ideal.div (num x (u e) (n + 512)) (den x (n + 512)) - lam v11 * Ideal.div (num y (u e) (n + 512)) (den y (n + 512)) := by
  have h46 : ∀ j : Fin 512, k0_pay46 k0_pay1 k0_pay3 q f k b (ix2 r j) = x (n + j.val) := fun j => by
    rw [← hsx j, pay8_apply]
    pointwise [k0_pay46, k0_pay43, k0_pay44]
  have hX := hx.step (fun j => k0_pay46 k0_pay1 k0_pay3 q f k b (ix2 r j)) (fun j e => v (ix3 0 j e)) h46 hv _ rfl
  have hY := hy.step (fun j => k0_pay8 (k0_pay36 k0_pay2 k0_pay3 q) k b (ix2 r j) + f (ix3 0 r j)) (fun j e => v (ix3 0 j e)) hsy hv _ rfl
  rw [← hX.num e, ← hX.den, ← hY.num e, ← hY.den]
  simp only [pay8_apply]
  unfold tileDiff lam
  pointwise [k0_pay48, k0_pay43, k0_pay44, k0_pay45]
  rfl

/-- The block a tile stores, on one row. -/
theorem out_apply (r : Fin 512) (e : Fin 128) : tileOut v11 g q f k b v s (ix3 0 r e)
    = Softmax.norm (Ideal.ofBits .f32 0x43000000#32) (Ideal.ofBits .f32 0x3727C5AC#32) (fun e => tileDiff v11 q f k b v s (ix2 r e)) e * g (ix2 0 e) * Ideal.ofBits .f32 0x3F4CCCCD#32 := by
  unfold tileOut Softmax.norm
  pointwise [k0_pay5, k0_pay47, k0_pay49]
  rfl

end

end Cert.KernelIdeal.Block
end
-- ==== Proof.OutBlock.lean ====
/-
  The block the kernel of `Cert.KernelIdeal` leaves at a grid point, row by row: row `t` lies in query tile `t / 512`.
-/
module

public import proofs.«01_k».proof.Proof.TileValue
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F] [Named F]

/-- The block, by its input blocks. -/
def blockOut (x2 : Vec F S4x64 .f32) (x3 : Vec F S1x128 .f32) (x4 : Vec F S1x512x512 .f32) (x5 x6 x7 x8 : Vec F S1x2048x128 .bf16) : Vec F S1x2048x128 .bf16 := fun y =>
  tileOut x2 x3 (rows x5 ((y 1).val / 512)) x4 (rows x6 ((y 1).val / 512)) (rows x7 ((y 1).val / 512)) (rows x8 ((y 1).val / 512))
    (carryTo (rows x5 ((y 1).val / 512)) x6 x7 x8 ((y 1).val / 512)) (ix3 0 ⟨(y 1).val % 512, Nat.mod_lt _ (by decide)⟩ (y 2))

variable (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S1x512x512 .f32) (harg4 : arg4.IsWhole) (arg5 : Memref sig .tc .vmem S1x2048x128 .bf16) (harg5 : arg5.IsWhole)
  (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole)

/-- Every tile's piece has the block's value wherever it lies. -/
theorem tiles_at (x2 : Vec F S4x64 .f32) (x3 : Vec F S1x128 .f32) (x4 : Vec F S1x512x512 .f32) (x5 x6 x7 x8 : Vec F S1x2048x128 .bf16) (y : S1x2048x128.Idx) (n : ℕ) :
    View.AllAt (tilesTo c i arg2 harg2 arg3 harg3 arg4 harg4 arg5 harg5 arg6 harg6 arg7 harg7 arg8 harg8 arg9 harg9 x2 (harg3.unread x3) (harg4.unread x4) (harg5.unread x5) (harg6.unread x6) (harg7.unread x7) (harg8.unread x8) n) y
      (blockOut x2 x3 x4 x5 x6 x7 x8 y) := by
  induction n with
  | zero => exact fun p hp => absurd hp List.not_mem_nil
  | succ n ih =>
    rw [tilesTo.eq_2]
    by_cases h : n < k0_t1_loop.trips
    · rw [dif_pos h, tile_value]
      rintro p hp x hx
      rcases List.mem_append.1 hp with hp | hp
      · obtain rfl := List.mem_singleton.1 hp
        have e := fun a => congrArg (fun z : S1x2048x128.Idx => (z a).val) hx
        have o1 : (k0_off1 ⟨n, h⟩) 1 = 512 * n := congrFun (k0_off1_eq ⟨n, h⟩) 1
        have o2 : (k0_off1 ⟨n, h⟩) 2 = 0 := congrFun (k0_off1_eq ⟨n, h⟩) 2
        have e1 : (k0_off1 ⟨n, h⟩) 1 + 1 * (x 1).val = (y 1).val := e 1
        have e2 : (k0_off1 ⟨n, h⟩) 2 + 1 * (x 2).val = (y 2).val := e 2
        have b1 : (x 1).val < 512 := (x 1).isLt
        have b0 : (x 0).val < 1 := (x 0).isLt
        have hd : (y 1).val / 512 = n := by omega
        unfold blockOut
        rw [hd]
        show tileOut x2 x3 _ _ _ _ _ _ x = _
        congr 1
        funext a
        apply Fin.ext
        match a with
        | ⟨0, _⟩ => show (x 0).val = 0; omega
        | ⟨1, _⟩ => show (x 1).val = (y 1).val % 512; omega
        | ⟨2, _⟩ => show (x 2).val = (y 2).val; omega
      · exact ih p hp x hx
    · rw [dif_neg h]
      exact ih

/-- What the body leaves is the block. -/
theorem out_eq (x2 : Vec F S4x64 .f32) (x3 : Vec F S1x128 .f32) (x4 : Vec F S1x512x512 .f32) (x5 x6 x7 x8 : Vec F S1x2048x128 .bf16) :
    out c i arg2 harg2 arg3 harg3 arg4 harg4 arg5 harg5 arg6 harg6 arg7 harg7 arg8 harg8 arg9 harg9 x2 x3 x4 x5 x6 x7 x8 = blockOut x2 x3 x4 x5 x6 x7 x8 := by
  have e2 : arg2.view.readAt (Elt F) (Rect.unit ![0, 0] S4x64.size inb_S4x64_S4x64_0_0).toLoadRect (harg2.unread x2) = x2 := by
    funext y
    rw [Memref.IsWhole.readAt_unread]
    congr 1
    funext a
    apply Fin.ext
    match a with
    | ⟨0, _⟩ => show 0 + 1 * (y 0).val = (y 0).val; omega
    | ⟨1, _⟩ => show 0 + 1 * (y 1).val = (y 1).val; omega
  funext y
  unfold out
  refine View.canon_eq_of_allAt _ y _ (cover_body c i arg2 harg2 arg3 harg3 arg4 harg4 arg5 harg5 arg6 harg6 arg7 harg7 arg8 harg8 arg9 harg9 _ _ _ _ _ _ _ y) ?_
  rw [body_tiles, e2]
  exact tiles_at c i arg2 harg2 arg3 harg3 arg4 harg4 arg5 harg5 arg6 harg6 arg7 harg7 arg8 harg8 arg9 harg9 x2 x3 x4 x5 x6 x7 x8 y _

/-- The block of a grid point, by its input blocks. -/
theorem outAt_eq (m : (ℓ : Loc nD τ sig) → Buf (Elt F) ℓ) (c : Dev nD) (t : Fin cfg0.N) :
    outAt m c t = blockOut (iblk m c 0 t) (iblk m c 1 t) (iblk m c 2 t) (iblk m c 3 t) (iblk m c 4 t) (iblk m c 5 t) (iblk m c 6 t) := by
  unfold outAt
  exact out_eq ..

end Cert.KernelIdeal.Run
end
-- ==== Proof.KernelRow.lean ====
/-
  One row of the block the kernel of `Cert.KernelIdeal` leaves at the extended reals: the scores of its query against every
  key, and from them the row's value.
-/
module

public import proofs.«01_k».proof.Proof.Block
public import proofs.«01_k».proof.Proof.OutBlock
public import proofs.«01_k».proof.Proof.Words

@[expose] public section

set_option maxRecDepth 16384

noncomputable section

namespace Cert.KernelIdeal.Block

open Cert.KernelIdeal Cert.KernelIdeal.Gen Cert.KernelIdeal.Run Cert.Softmax Cert.Scores Cert.Words
open Idealize.ShloMosaic Finset

theorem slt_word (i j : ℕ) (hi : i < 2 ^ 31) (hj : j < 2 ^ 31) : IntOp.cmpi CmpIPredicate.slt (BitVec.ofNat 32 i) (BitVec.ofNat 32 j) = if i < j then 1#1 else 0#1 := by
  have h : (BitVec.ofNat 32 i).slt (BitVec.ofNat 32 j) = decide (i < j) := by
    rw [BitVec.slt_eq_decide, toInt_ofNat i hi, toInt_ofNat j hj]
    simp
  show BitVec.ofBool ((BitVec.ofNat 32 i).slt (BitVec.ofNat 32 j)) = _
  rw [h]
  by_cases hij : i < j <;> simp [hij]

theorem sge_word (i j : ℕ) (hi : i < 2 ^ 31) (hj : j < 2 ^ 31) : IntOp.cmpi CmpIPredicate.sge (BitVec.ofNat 32 i) (BitVec.ofNat 32 j) = if i < j then 0#1 else 1#1 := by
  have h : (BitVec.ofNat 32 j).sle (BitVec.ofNat 32 i) = decide (j ≤ i) := by
    rw [BitVec.sle_eq_decide, toInt_ofNat i hi, toInt_ofNat j hj]
    simp
  show BitVec.ofBool ((BitVec.ofNat 32 j).sle (BitVec.ofNat 32 i)) = _
  rw [h]
  by_cases hij : i < j
  · simp [hij, not_le.2 hij]
  · simp [hij, not_lt.1 hij]

theorem bit_value (p : Prop) [Decidable p] : FloatOps.sitofp (F := Ideal) FTy.f32 (BitVec.setWidth 32 (if p then 1#1 else 0#1)) = if p then (1 : EReal) else 0 := by
  by_cases h : p
  · rw [if_pos h, if_pos h]
    exact (sitofp_ofNat 1 (by omega)).trans (by simp)
  · rw [if_neg h, if_neg h]
    exact (sitofp_ofNat 0 (by omega)).trans (by simp)

/-- The augmented queries of the first half: its 64 columns, then ones against the bias columns. -/
theorem first_apply (q : Vec Ideal S1x512x128 .bf16) (r : Fin 512) (e : Fin 256) : k0_pay36 k0_pay1 k0_pay3 q (ix2 r e)
    = if h : e.val < 128 then if e.val < 64 then q (ix3 0 r ⟨e.val, h⟩) else 0 else if e.val - 128 < 3 then 1 else 0 := by
  pointwise [k0_pay36, k0_pay34, k0_pay35, k0_pay1, k0_pay3]
  by_cases h : e.val < 128
  · rw [dif_pos h, dif_pos h, slt_word _ _ (by omega) (by omega)]
    by_cases h' : e.val < 64
    · rw [if_pos h', if_pos h']; rfl
    · rw [if_neg h', if_neg h']; rfl
  · rw [dif_neg h, dif_neg h, slt_word _ _ (by omega) (by omega)]
    exact bit_value _

/-- The augmented queries of the second half. -/
theorem second_apply (q : Vec Ideal S1x512x128 .bf16) (r : Fin 512) (e : Fin 256) : k0_pay36 k0_pay2 k0_pay3 q (ix2 r e)
    = if h : e.val < 128 then if e.val < 64 then 0 else q (ix3 0 r ⟨e.val, h⟩) else if e.val - 128 < 3 then 1 else 0 := by
  pointwise [k0_pay36, k0_pay34, k0_pay35, k0_pay2, k0_pay3]
  by_cases h : e.val < 128
  · rw [dif_pos h, dif_pos h, sge_word _ _ (by omega) (by omega)]
    by_cases h' : e.val < 64
    · rw [if_pos h', if_pos h']; rfl
    · rw [if_neg h', if_neg h']; rfl
  · rw [dif_neg h, dif_neg h, slt_word _ _ (by omega) (by omega)]
    exact bit_value _

theorem sum_halves (f : Fin 128 → EReal) : ∑ x, f x = ∑ x : Fin 64, f ⟨x.val, by omega⟩ + ∑ x : Fin 64, f ⟨64 + x.val, by omega⟩ :=
  Fin.sum_univ_add (a := 64) (b := 64) f

section Row

variable {x2 : Vec Ideal S4x64 .f32} {x3 : Vec Ideal S1x128 .f32} {x4 : Vec Ideal S1x512x512 .f32} {x5 x6 x7 x8 : Vec Ideal S1x2048x128 .bf16}
variable {Q K : Fin 2048 → Fin 128 → EReal} {p : ℝ} {u : Fin 128 → ℕ → ℝ} {a b : Fin 2048 → ℕ → EReal}

/-- The bias columns' part of a score. -/
theorem bias_sum (hc : ∀ (s : Fin 2048) (d : Fin 128), x7 (ix3 0 s d) = if d.val = 0 then ((L * p * s.val : ℝ) : EReal) else 0)
    (w : Fin 128 → EReal) (hw : ∀ d, w d = if d.val < 3 then 1 else 0) (s : Fin 2048) :
    ∑ d, w d * x7 (ix3 0 s d) = ((L * p * s.val : ℝ) : EReal) := by
  rw [Finset.sum_eq_single (0 : Fin 128)]
  · rw [hc, hw]; simp
  · intro d _ hd
    rw [hc, if_neg (show ¬ d.val = 0 from fun h => hd (Fin.ext h)), mul_zero]
  · exact fun h => absurd (Finset.mem_univ _) h

variable (hq : ∀ (s : Fin 2048) (d : Fin 128), x5 (ix3 0 s d) = Q s d * (((0.125 : ℝ) : EReal) * (L : EReal)))
variable (hk : ∀ (s : Fin 2048) (d : Fin 128), x6 (ix3 0 s d) = K s d)
variable (hc : ∀ (s : Fin 2048) (d : Fin 128), x7 (ix3 0 s d) = if d.val = 0 then ((L * p * s.val : ℝ) : EReal) else 0)
variable (hf : ∀ i j : Fin 512, x4 (ix3 0 i j) = fixOf p i.val j.val)
variable (hv : ∀ (s : Fin 2048) (d : Fin 128), x8 (ix3 0 s d) = (u d s.val : EReal))
variable (ha : ∀ t s : Fin 2048, a t s.val = ∑ x : Fin 64, Q t ⟨x.val, by omega⟩ * K s ⟨x.val, by omega⟩)
variable (hb : ∀ t s : Fin 2048, b t s.val = ∑ x : Fin 64, Q t ⟨64 + x.val, by omega⟩ * K s ⟨64 + x.val, by omega⟩)

/-- A position, from its block and its place in it. -/
abbrev at_ (i : ℕ) (hi : i < 4) (j : Fin 512) : Fin 2048 := ⟨512 * i + j.val, by omega⟩

theorem rows_apply (x : Vec Ideal S1x2048x128 .bf16) (i : ℕ) (hi : i < 4) (j : Fin 512) (d : Fin 128) : rows x i (ix3 0 j d) = x (ix3 0 (at_ i hi j) d) := by
  show x (ix3 0 ⟨(512 * i + j.val) % 2048, _⟩ d) = _
  congr 2
  exact Fin.ext (Nat.mod_eq_of_lt (by omega))

include hq hk hc ha in
theorem first_score (n i : ℕ) (hn : n < 4) (hi : i < 4) (r j : Fin 512) : k0_pay8 (k0_pay36 k0_pay1 k0_pay3 (rows x5 n)) (rows x6 i) (rows x7 i) (ix2 r j)
    = (L : EReal) * (a (at_ n hn r) (512 * i + j.val) * ((0.125 : ℝ) : EReal)) + ((L * p * ((512 * i + j.val : ℕ) : ℝ) : ℝ) : EReal) := by
  rw [pay8_apply]
  congr 1
  · rw [sum_halves]
    refine Eq.trans (congrArg₂ (fun a b : EReal => a + b) ?_ (Finset.sum_eq_zero fun x _ => ?_)) (add_zero _)
    · rw [show a (at_ n hn r) (512 * i + j.val) = _ from ha (at_ n hn r) (at_ i hi j), ← scaled_sum]
      refine Finset.sum_congr rfl fun x _ => ?_
      rw [first_apply, dif_pos (show x.val < 128 by omega), if_pos (show x.val < 64 from x.isLt), rows_apply _ n hn, rows_apply _ i hi, hq, hk]
    · rw [first_apply, dif_pos (show 64 + x.val < 128 by omega), if_neg (show ¬ 64 + x.val < 64 by omega), zero_mul]
  · simp only [rows_apply x7 i hi]
    exact bias_sum hc _ (fun d => by rw [first_apply, dif_neg (by show ¬ 128 + d.val < 128; omega), show (128 + d.val) - 128 = d.val by omega]) (at_ i hi j)

include hq hk hc hb in
theorem second_score (n i : ℕ) (hn : n < 4) (hi : i < 4) (r j : Fin 512) : k0_pay8 (k0_pay36 k0_pay2 k0_pay3 (rows x5 n)) (rows x6 i) (rows x7 i) (ix2 r j)
    = (L : EReal) * (b (at_ n hn r) (512 * i + j.val) * ((0.125 : ℝ) : EReal)) + ((L * p * ((512 * i + j.val : ℕ) : ℝ) : ℝ) : EReal) := by
  rw [pay8_apply]
  congr 1
  · rw [sum_halves]
    refine Eq.trans (congrArg₂ (fun a b : EReal => a + b) (Finset.sum_eq_zero fun x _ => ?_) ?_) (zero_add _)
    · rw [second_apply, dif_pos (show x.val < 128 by omega), if_pos (show x.val < 64 from x.isLt), zero_mul]
    · rw [show b (at_ n hn r) (512 * i + j.val) = _ from hb (at_ n hn r) (at_ i hi j), ← scaled_sum]
      refine Finset.sum_congr rfl fun x _ => ?_
      rw [second_apply, dif_pos (show 64 + x.val < 128 by omega), if_neg (show ¬ 64 + x.val < 64 by omega), rows_apply _ n hn, rows_apply _ i hi, hq, hk]
  · simp only [rows_apply x7 i hi]
    exact bias_sum hc _ (fun d => by rw [second_apply, dif_neg (by show ¬ 128 + d.val < 128; omega), show (128 + d.val) - 128 = d.val by omega]) (at_ i hi j)

include hq hk hc hf hv ha hb in
/-- The difference of the halves' averages of a query's row. -/
theorem row_diff (r : ℝ) (hr : lam x2 = (r : EReal)) (n : ℕ) (hn : n < 4) (i : Fin 512) (e : Fin 128) :
    tileDiff x2 (rows x5 n) x4 (rows x6 n) (rows x7 n) (rows x8 n) (carryTo (rows x5 n) x6 x7 x8 n) (ix2 i e)
      = Ideal.div (num (keyScore (a (at_ n hn i)) p (512 * n + i.val)) (u e) (512 * n + 512)) (den (keyScore (a (at_ n hn i)) p (512 * n + i.val)) (512 * n + 512))
        - r * Ideal.div (num (keyScore (b (at_ n hn i)) p (512 * n + i.val)) (u e) (512 * n + 512)) (den (keyScore (b (at_ n hn i)) p (512 * n + i.val)) (512 * n + 512)) := by
  have early : ∀ (w : ℕ → EReal) (k : ℕ) (hk : k < n) (j : Fin 512), (L : EReal) * (w (512 * k + j.val) * ((0.125 : ℝ) : EReal)) + ((L * p * ((512 * k + j.val : ℕ) : ℝ) : ℝ) : EReal)
      = keyScore w p (512 * n + i.val) (512 * k + j.val) := fun w k hk j =>
    (keyScore_le w p (512 * n + i.val) (512 * k + j.val) (by omega) (by omega)).symm
  obtain ⟨h1, h2⟩ := carry_holds (rows x5 n) x6 x7 x8 i (keyScore (a (at_ n hn i)) p (512 * n + i.val)) (keyScore (b (at_ n hn i)) p (512 * n + i.val)) u n
    (fun k hk' j => (first_score hq hk hc ha n k hn (by omega) i j).trans (early _ k hk' j))
    (fun k hk' j => (second_score hq hk hc hb n k hn (by omega) i j).trans (early _ k hk' j))
    (fun k hk' j e => by rw [rows_apply _ k (by omega), hv])
  rw [diff_apply x2 (rows x5 n) x4 (rows x6 n) (rows x7 n) (rows x8 n) (carryTo (rows x5 n) x6 x7 x8 n) i e
    (keyScore (a (at_ n hn i)) p (512 * n + i.val)) (keyScore (b (at_ n hn i)) p (512 * n + i.val)) u (512 * n) h1 h2
    (fun j => by rw [first_score hq hk hc ha n n hn hn, hf]; exact own_score _ p n i.val j.val hn i.isLt j.isLt)
    (fun j => by rw [second_score hq hk hc hb n n hn hn, hf]; exact own_score _ p n i.val j.val hn i.isLt j.isLt)
    (fun j e => by rw [rows_apply _ n hn, hv]), hr]

/-- The weighted average over every key, from the weights of the scores `x`. -/
abbrev part (x : ℕ → EReal) (s : ℕ) : EReal := Ideal.div (wt (x s) (top x 2048)) (den x 2048)

include hq hk hc hf hv ha hb in
/-- A row of the block the kernel leaves. -/
theorem row_value (r : ℝ) (hr : lam x2 = (r : EReal)) (t : Fin 2048) (e : Fin 128) :
    blockOut x2 x3 x4 x5 x6 x7 x8 (ix3 0 t e)
      = Softmax.norm (Ideal.ofBits .f32 0x43000000#32) (Ideal.ofBits .f32 0x3727C5AC#32)
          (fun d => ∑ s ∈ range 2048, (u d s : EReal) * (part (keyScore (a t) p t.val) s - r * part (keyScore (b t) p t.val) s)) e
        * x3 (ix2 0 e) * Ideal.ofBits .f32 0x3F4CCCCD#32 := by
  have hn : t.val / 512 < 4 := by omega
  have ht : at_ (t.val / 512) hn ⟨t.val % 512, Nat.mod_lt _ (by decide)⟩ = t := Fin.ext (Nat.div_add_mod t.val 512)
  have hm : 512 * (t.val / 512) + t.val % 512 = t.val := Nat.div_add_mod t.val 512
  have he : ∃ c : ℝ, Ideal.ofBits .f32 0x3727C5AC#32 = (c : EReal) := ⟨_, by
    simp [Ideal.ofBits, Ideal.ieee, -EReal.coe_mul, -EReal.coe_pow]
    rfl⟩
  obtain ⟨c, he⟩ := he
  show tileOut x2 x3 (rows x5 (t.val / 512)) x4 (rows x6 (t.val / 512)) (rows x7 (t.val / 512)) (rows x8 (t.val / 512))
    (carryTo (rows x5 (t.val / 512)) x6 x7 x8 (t.val / 512)) (ix3 0 ⟨t.val % 512, Nat.mod_lt _ (by decide)⟩ e) = _
  rw [out_apply]
  congr 2
  simp only [row_diff hq hk hc hf hv ha hb r hr _ hn]
  simp only [ht, hm]
  rw [width_bits, he]
  exact norm_eq (n := 512 * (t.val / 512) + 512) (N := 2048) (by omega) _ _
    (fun s hs => keyScore_bot _ _ _ _ (by omega)) (fun s hs => keyScore_bot _ _ _ _ (by omega)) u r (by norm_num) e

end Row

end Cert.KernelIdeal.Block
end
-- ==== Proof.Stages.lean ====
/-
  The reference attention of `Cert.ReferenceIdeal` in stages: the mask, the distance bias, the scores, the probabilities, the
  mixing scalar, the mixed attention, and the normalized heads.
-/
module

public import proofs.«01_k».proof.Proof.Gen.ReferenceIdeal.Run
public import proofs.«01_k».proof.Proof.Words
public import Idealize.ShloMosaic.Lib.Pointwise
public import Idealize.ShloMosaic.Lib.Tactic.CleanTypes

@[expose] public section

set_option maxRecDepth 16384

noncomputable section

namespace Cert.ReferenceIdeal.Stage

open Cert.ReferenceIdeal Cert.ReferenceIdeal.Gen Cert.ReferenceIdeal.Value Cert.Scores Cert.Words
open Idealize.ShloMosaic

variable (q k v : FVec Ideal S32x2048x1024 .f32) (l1 l2 l3 l4 : FVec Ideal S1x64 .f32) (g : FVec Ideal S1x128 .f32)

/-- The positions of the keys, as a row. -/
def keys : IVec S1x2048 32 := broadcastInDim S1x2048 ![1] bcast_S2048_S1x2048_1 (iotaInDim S2048 32 0)

/-- The positions of the queries, as a column. -/
def queries : IVec S2048x1 32 := broadcastInDim S2048x1 ![0] bcast_S2048_S2048x1_0 (iotaInDim S2048 32 0)

/-- The keys' chunks. -/
def keyChunk : IVec S1x2048 32 :=
  select (andi (cmpi .ne (signi keys) (broadcastInDim S1x2048 ![] bcast_S_S1x2048 (signi (id (constantI S_ 32 64#32)))))
      (cmpi .ne (Host.remsi keys (broadcastInDim S1x2048 ![] bcast_S_S1x2048 (id (constantI S_ 32 64#32)))) (broadcastInDim S1x2048 ![] bcast_S_S1x2048 (constantI S_ 32 0#32))))
    (subi (Host.divsi keys (broadcastInDim S1x2048 ![] bcast_S_S1x2048 (id (constantI S_ 32 64#32)))) (broadcastInDim S1x2048 ![] bcast_S_S1x2048 (constantI S_ 32 1#32)))
    (Host.divsi keys (broadcastInDim S1x2048 ![] bcast_S_S1x2048 (id (constantI S_ 32 64#32))))

/-- The queries' chunks. -/
def queryChunk : IVec S2048x1 32 :=
  select (andi (cmpi .ne (signi queries) (broadcastInDim S2048x1 ![] bcast_S_S2048x1 (signi (id (constantI S_ 32 64#32)))))
      (cmpi .ne (Host.remsi queries (broadcastInDim S2048x1 ![] bcast_S_S2048x1 (id (constantI S_ 32 64#32)))) (broadcastInDim S2048x1 ![] bcast_S_S2048x1 (constantI S_ 32 0#32))))
    (subi (Host.divsi queries (broadcastInDim S2048x1 ![] bcast_S_S2048x1 (id (constantI S_ 32 64#32)))) (broadcastInDim S2048x1 ![] bcast_S_S2048x1 (constantI S_ 32 1#32)))
    (Host.divsi queries (broadcastInDim S2048x1 ![] bcast_S_S2048x1 (id (constantI S_ 32 64#32))))

/-- Whether a query sees a key. -/
def mask : IVec S2048x2048 1 :=
  cmpi .sle (broadcastInDim S2048x2048 ![0, 1] bcast_S1x2048_S2048x2048_0_1 keyChunk) (broadcastInDim S2048x2048 ![0, 1] bcast_S2048x1_S2048x2048_0_1 queryChunk)

/-- The distance bias of each head. -/
def bias : FVec Ideal S8x2048x2048 .f32 :=
  mulf (broadcastInDim S8x2048x2048 ![0, 1, 2] bcast_S8x1x1_S8x2048x2048_0_1_2 (Host.negf (broadcastInDim S8x1x1 ![0] bcast_S8_S8x1x1_0 (fun i => FloatOps.ofBits .f32 (lit0 (S8.rowMajor i))))))
    (broadcastInDim S8x2048x2048 ![0, 1, 2] bcast_S1x2048x2048_S8x2048x2048_0_1_2 (broadcastInDim S1x2048x2048 ![1, 2] bcast_S2048x2048_S1x2048x2048_1_2
      (sitofp .f32 (absi (subi (broadcastInDim S2048x2048 ![0, 1] bcast_S2048x1_S2048x2048_0_1 queries) (broadcastInDim S2048x2048 ![0, 1] bcast_S1x2048_S2048x2048_0_1 keys))))))

/-- The masked scores. -/
def scores : FVec Ideal S32x8x2x2048x2048 .f32 :=
  select (broadcastInDim S32x8x2x2048x2048 ![3, 4] bcast_S2048x2048_S32x8x2x2048x2048_3_4 mask)
    (addf (mulf (Host.dotGeneral dot_S32x2048x8x2x64_S32x2048x8x2x64_S32x8x2x2048x2048_4_4_1_1_023_023 none
          (shapeCast _ q shapeCasts_S32x2048x1024_S32x2048x8x2x64) (shapeCast _ k shapeCasts_S32x2048x1024_S32x2048x8x2x64))
        (broadcastInDim S32x8x2x2048x2048 ![] bcast_S_S32x8x2x2048x2048 (constant S_ .f32 0x3E000000#32)))
      (broadcastInDim S32x8x2x2048x2048 ![0, 1, 2, 3, 4] bcast_S1x8x1x2048x2048_S32x8x2x2048x2048_0_1_2_3_4 (broadcastInDim S1x8x1x2048x2048 ![1, 2, 3, 4] bcast_S8x1x2048x2048_S1x8x1x2048x2048_1_2_3_4
        (broadcastInDim S8x1x2048x2048 ![0, 2, 3] bcast_S8x2048x2048_S8x1x2048x2048_0_2_3 bias))))
    (broadcastInDim S32x8x2x2048x2048 ![] bcast_S_S32x8x2x2048x2048 (id (constant S_ .f32 0xFF800000#32)))

variable (s : FVec Ideal S32x8x2x2048x2048 .f32)

/-- The largest score of each query. -/
def peak : FVec Ideal S32x8x2x2048 .f32 :=
  maximumf (broadcastInDim S32x8x2x2048 ![] bcast_S_S32x8x2x2048 (constant S_ .f32 0xFF800000#32))
    (Host.reduce FloatOps.maximumf s (constant S_ .f32 0xFF800000#32) reducesTo_S32x8x2x2048x2048_S32x8x2x2048_d4 h_S_)

/-- The exponentials of the scores. -/
def expo : FVec Ideal S32x8x2x2048x2048 .f32 :=
  Host.exp (subf s (broadcastInDim S32x8x2x2048x2048 ![0, 1, 2, 3, 4] bcast_S32x8x2x2048x1_S32x8x2x2048x2048_0_1_2_3_4 (broadcastInDim S32x8x2x2048x1 ![0, 1, 2, 3] bcast_S32x8x2x2048_S32x8x2x2048x1_0_1_2_3 (peak s))))

/-- The probabilities. -/
def probs : FVec Ideal S32x8x2x2048x2048 .f32 :=
  Host.divf (expo s) (broadcastInDim S32x8x2x2048x2048 ![0, 1, 2, 3, 4] bcast_S32x8x2x2048x1_S32x8x2x2048x2048_0_1_2_3_4 (broadcastInDim S32x8x2x2048x1 ![0, 1, 2, 3] bcast_S32x8x2x2048_S32x8x2x2048x1_0_1_2_3
    (Host.reduceAdd (expo s) (constant S_ .f32 0x00000000#32) reducesTo_S32x8x2x2048x2048_S32x8x2x2048_d4 h_S_)))

/-- The mixing scalar. -/
def lam : FVec Ideal S_ .f32 :=
  addf (subf (Host.exp (Host.reduceAdd (mulf (shapeCast _ l1 shapeCasts_S1x64_S64) (shapeCast _ l2 shapeCasts_S1x64_S64)) (constant S_ .f32 0x00000000#32) reducesTo_S64_S_d0 h_S_))
      (Host.exp (Host.reduceAdd (mulf (shapeCast _ l3 shapeCasts_S1x64_S64) (shapeCast _ l4 shapeCasts_S1x64_S64)) (constant S_ .f32 0x00000000#32) reducesTo_S64_S_d0 h_S_)))
    (constant S_ .f32 0x3E4CCCCD#32)

variable (p : FVec Ideal S32x8x2x2048x2048 .f32) (l : FVec Ideal S_ .f32)

/-- The mixed probabilities. -/
def mixed : FVec Ideal S32x8x2048x2048 .f32 :=
  subf (shapeCast _ (extractStridedSlice S32x8x1x2048x2048 ![0, 0, 0, 0, 0] p slices_S32x8x2x2048x2048_S32x8x1x2048x2048_0_0_0_0_0) shapeCasts_S32x8x1x2048x2048_S32x8x2048x2048)
    (mulf (broadcastInDim S32x8x2048x2048 ![] bcast_S_S32x8x2048x2048 l)
      (shapeCast _ (extractStridedSlice S32x8x1x2048x2048 ![0, 0, 1, 0, 0] p slices_S32x8x2x2048x2048_S32x8x1x2048x2048_0_0_1_0_0) shapeCasts_S32x8x1x2048x2048_S32x8x2048x2048))

variable (a : FVec Ideal S32x8x2048x2048 .f32)

/-- The attention over the values. -/
def heads : FVec Ideal S32x2048x8x128 .f32 :=
  transpose S32x2048x8x128 [0, 3, 1, 2] (Host.dotGeneral dot_S32x2048x8x128_S32x8x2048x2048_S32x8x128x2048_1_3_3_2_02_01 none (shapeCast _ v shapeCasts_S32x2048x1024_S32x2048x8x128) a)
    transposes_S32x8x128x2048_S32x2048x8x128_0_3_1_2

variable (o : FVec Ideal S32x2048x8x128 .f32)

/-- The normalized heads, side by side. -/
def normed : FVec Ideal S32x2048x1024 .bf16 :=
  truncf .bf16 (shapeCast _ (mulf (mulf (mulf o
        (broadcastInDim S32x2048x8x128 ![0, 1, 2, 3] bcast_S32x2048x8x1_S32x2048x8x128_0_1_2_3 (Host.rsqrt (addf (Host.divf (broadcastInDim S32x2048x8x1 ![0, 1, 2] bcast_S32x2048x8_S32x2048x8x1_0_1_2
            (Host.reduceAdd (mulf o o) (constant S_ .f32 0x00000000#32) reducesTo_S32x2048x8x128_S32x2048x8_d3 h_S_)) (broadcastInDim S32x2048x8x1 ![] bcast_S_S32x2048x8x1 (constant S_ .f32 0x43000000#32)))
          (broadcastInDim S32x2048x8x1 ![] bcast_S_S32x2048x8x1 (constant S_ .f32 0x3727C5AC#32))))))
      (broadcastInDim S32x2048x8x128 ![0, 1, 2, 3] bcast_S1x1x1x128_S32x2048x8x128_0_1_2_3 (broadcastInDim S1x1x1x128 ![3] bcast_S128_S1x1x1x128_3 (shapeCast _ g shapeCasts_S1x128_S128))))
    (broadcastInDim S32x2048x8x128 ![] bcast_S_S32x2048x8x128 (constant S_ .f32 0x3F4CCCCD#32))) shapeCasts_S32x2048x8x128_S32x2048x1024) bitsLt_bf16_f32

/-- The reference's result is its stages in order. -/
theorem result_eq (m : (ℓ : Loc nD τ sig) → Buf (Elt Ideal) ℓ) (c : Dev nD) : res_main_v82 m c
    = normed (m ((c.tc : Thread nD τ).loc main_arg7)) (heads (m ((c.tc : Thread nD τ).loc main_arg2))
        (mixed (probs (scores (m ((c.tc : Thread nD τ).loc main_arg0)) (m ((c.tc : Thread nD τ).loc main_arg1))))
          (lam (m ((c.tc : Thread nD τ).loc main_arg3)) (m ((c.tc : Thread nD τ).loc main_arg4)) (m ((c.tc : Thread nD τ).loc main_arg5)) (m ((c.tc : Thread nD τ).loc main_arg6))))) := by
  unfold res_main_v82
  rfl

end Cert.ReferenceIdeal.Stage
end
-- ==== Proof.Reference.lean ====
/-
  The stages of the reference at an index.
-/
module

public import proofs.«01_k».proof.Proof.Stages

@[expose] public section

set_option maxRecDepth 16384

noncomputable section

namespace Cert.ReferenceIdeal.Stage

open Cert.Softmax Cert.ReferenceIdeal Cert.ReferenceIdeal.Gen Cert.ReferenceIdeal.Value Cert.Scores Cert.Words
open Idealize.ShloMosaic

variable (q k v : FVec Ideal S32x2048x1024 .f32) (l1 l2 l3 l4 : FVec Ideal S1x64 .f32) (g : FVec Ideal S1x128 .f32)
variable (s p : FVec Ideal S32x8x2x2048x2048 .f32) (l : FVec Ideal S_ .f32) (a : FVec Ideal S32x8x2048x2048 .f32) (o : FVec Ideal S32x2048x8x128 .f32)
variable (n : Fin 32) (h : Fin 8) (j : Fin 2) (t y : Fin 2048) (e : Fin 128)

/-- A maximum over the last of five axes, at an index, at any sizes. -/
theorem reduce_last {n0 n1 n2 n3 n4 : ℕ} {w : Shape} (x : FVec Ideal ⟨5, ![n0, n1, n2, n3, n4]⟩ .f32) (init : FVec Ideal w .f32)
    (hr : (⟨5, ![n0, n1, n2, n3, n4]⟩ : Shape).ReducesTo [4] ⟨4, ![n0, n1, n2, n3]⟩) (hu : 0 < w.numel)
    (a : Fin n0) (b : Fin n1) (c : Fin n2) (d : Fin n3) :
    Host.reduce FloatOps.maximumf x init hr hu (ix4 a b c d)
      = (Finset.univ : Finset (Fin n4)).fold (FloatOps.maximumf (F := Ideal)) (init (Shape.Idx.first hu)) (fun k => x (ix5 a b c d k)) := by
  rw [Host.reduce_eq_fold, hr.fold_fiber_r5_a4]
  rfl

theorem peak_apply : peak s (ix4 n h j t) = top (fun y => if hy : y < 2048 then s (ix5 n h j t ⟨y, hy⟩) else ⊥) 2048 := by
  unfold peak
  rw [maximumf_apply, reduce_last]
  show max (Ideal.ofBits .f32 0xFF800000#32) (Finset.fold max (Ideal.ofBits .f32 0xFF800000#32) (fun k => s (ix5 n h j t k)) Finset.univ) = _
  rw [inf_bits, max_eq_right bot_le]
  change Finset.univ.sup (fun k => s (ix5 n h j t k)) = _
  apply le_antisymm
  · refine Finset.sup_le fun k _ => ?_
    have := le_top (fun y => if hy : y < 2048 then s (ix5 n h j t ⟨y, hy⟩) else ⊥) (n := 2048) (s := k.val) k.isLt
    simpa using this
  · refine Finset.sup_le fun k hk => ?_
    have hk' := Finset.mem_range.1 hk
    simp only [hk', ↓reduceDIte]
    exact Finset.le_sup (f := fun k => s (ix5 n h j t k)) (Finset.mem_univ (⟨k, hk'⟩ : Fin 2048))

theorem mask_apply : mask (ix2 t y) = IntOp.cmpi CmpIPredicate.sle (BitVec.ofNat 32 (y.val / 64)) (BitVec.ofNat 32 (t.val / 64)) := by
  pointwise [mask, keyChunk, queryChunk, keys, queries]
  rw [← quot_ofNat y, ← quot_ofNat t]
  rfl

theorem absi_sub (i j : ℕ) (hi : i < 2 ^ 30) (hj : j < 2 ^ 30) :
    FloatOps.sitofp (F := Ideal) FTy.f32 (IntOp.absi (IntOp.subi (BitVec.ofNat 32 i) (BitVec.ofNat 32 j))) = ((|(i : ℝ) - j| : ℝ) : EReal) := by
  have hs : (BitVec.ofNat 32 i - BitVec.ofNat 32 j).toInt = (i : ℤ) - j := by
    rw [BitVec.toInt_sub, toInt_ofNat i (by omega), toInt_ofNat j (by omega), Int.bmod_def]
    omega
  show (((if (BitVec.ofNat 32 i - BitVec.ofNat 32 j).msb then -(BitVec.ofNat 32 i - BitVec.ofNat 32 j) else (BitVec.ofNat 32 i - BitVec.ofNat 32 j)).toInt : ℝ) : EReal) = _
  rw [BitVec.msb_eq_toInt, hs]
  by_cases h : (i : ℤ) - j < 0
  · have hr : (i : ℝ) - j < 0 := by exact_mod_cast h
    rw [if_pos (by simpa using h), BitVec.toInt_neg, hs, abs_of_neg hr, show (-((i : ℤ) - j)).bmod (2 ^ 32) = -((i : ℤ) - j) by rw [Int.bmod_def]; omega]
    push_cast
    rfl
  · have hr : (0 : ℝ) ≤ (i : ℝ) - j := by exact_mod_cast not_lt.mp h
    rw [if_neg (by simpa using h), hs, abs_of_nonneg hr]
    push_cast
    rfl

theorem bias_apply : bias (ix3 h t y) = ((-Scores.slope h * |(t.val : ℝ) - y.val| : ℝ) : EReal) := by
  pointwise [bias, keys, queries]
  rw [absi_sub _ _ (by omega) (by omega), show S8.rowMajor (ix1 h) = h from Fin.ext (Shape.rowMajor_val_one (ix1 h)), show Ideal.ofBits .f32 (lit0 h) = _ from slope_bits h,
    ← EReal.coe_neg, ← EReal.coe_mul]

theorem scores_apply : scores q k (ix5 n h j t y)
    = if y.val / 64 ≤ t.val / 64 then (∑ x : Fin 64, q (ix3 n t ⟨h.val * 128 + j.val * 64 + x.val, by omega⟩) * k (ix3 n y ⟨h.val * 128 + j.val * 64 + x.val, by omega⟩)) * ((0.125 : ℝ) : EReal)
        + ((-Scores.slope h * |(t.val : ℝ) - y.val| : ℝ) : EReal) else ⊥ := by
  pointwise [scores]
  rw [mask_apply, sle_ofNat _ _ (by omega) (by omega), bias_apply, eighth_bits]
  exact congrArg (fun b : EReal => if y.val / 64 ≤ t.val / 64 then (_ : EReal) else b) inf_bits

theorem expo_apply : expo s (ix5 n h j t y) = Ideal.exp (s (ix5 n h j t y) - peak s (ix4 n h j t)) := by
  pointwise [expo]

theorem probs_apply : probs s (ix5 n h j t y) = Ideal.div (expo s (ix5 n h j t y)) (∑ x, expo s (ix5 n h j t x)) := by
  pointwise [probs]

theorem lam_apply : lam l1 l2 l3 l4 ix0
    = Ideal.exp (∑ x, l1 (ix2 0 x) * l2 (ix2 0 x)) - Ideal.exp (∑ x, l3 (ix2 0 x) * l4 (ix2 0 x)) + Ideal.ofBits .f32 0x3E4CCCCD#32 := by
  pointwise [lam]

theorem mixed_apply : mixed p l (ix4 n h t y) = p (ix5 n h 0 t y) - l ix0 * p (ix5 n h 1 t y) := by
  pointwise [mixed]

theorem heads_apply : heads v a (ix4 n t h e) = ∑ x, v (ix3 n x ⟨h.val * 128 + e.val, by omega⟩) * a (ix4 n h t x) := by
  pointwise [heads]

theorem normed_apply : normed g o (ix3 n t ⟨128 * h.val + e.val, by omega⟩)
    = Softmax.norm (Ideal.ofBits .f32 0x43000000#32) (Ideal.ofBits .f32 0x3727C5AC#32) (fun x => o (ix4 n t h x)) e * g (ix2 0 e) * Ideal.ofBits .f32 0x3F4CCCCD#32 := by
  unfold Softmax.norm
  pointwise [normed]

end Cert.ReferenceIdeal.Stage
end
-- ==== Proof.ReferenceRow.lean ====
/-
  One row of the reference's result: the normalized, mixed attention of a query, over the weights the scaled scores have.
-/
module

public import proofs.«01_k».proof.Proof.Reference

@[expose] public section

set_option maxRecDepth 16384

noncomputable section

namespace Cert.ReferenceIdeal.Stage

open Cert.Softmax Cert.ReferenceIdeal Cert.ReferenceIdeal.Gen Cert.ReferenceIdeal.Value Cert.Scores Cert.Words
open Idealize.ShloMosaic Finset

variable (q k v : FVec Ideal S32x2048x1024 .f32) (l1 l2 l3 l4 : FVec Ideal S1x64 .f32) (g : FVec Ideal S1x128 .f32)
variable (n : Fin 32) (h : Fin 8) (j : Fin 2) (t : Fin 2048) (e : Fin 128)

/-- The product of a query with the key at a position, over one half of a head. -/
def dots (y : ℕ) : EReal :=
  if hy : y < 2048 then ∑ x : Fin 64, q (ix3 n t ⟨h.val * 128 + j.val * 64 + x.val, by omega⟩) * k (ix3 n ⟨y, hy⟩ ⟨h.val * 128 + j.val * 64 + x.val, by omega⟩) else 0

/-- The scores of one half of a head. -/
def ref : ℕ → EReal := refScore (dots q k n h j t) (Scores.slope h) t.val

/-- The scores of one half of a head at the kernel's scale. -/
def key : ℕ → EReal := keyScore (dots q k n h j t) (Scores.slope h) t.val

theorem scores_ref (y : ℕ) (hy : y < 2048) : scores q k (ix5 n h j t ⟨y, hy⟩) = ref q k n h j t y := by
  rw [scores_apply]
  unfold ref refScore dots
  simp only [hy, true_and, ↓reduceDIte]

theorem peak_ref : peak (scores q k) (ix4 n h j t) = top (ref q k n h j t) 2048 := by
  rw [peak_apply]
  congr 1
  funext y
  by_cases hy : y < 2048
  · rw [dif_pos hy, scores_ref]
  · rw [dif_neg hy]
    unfold ref refScore
    rw [if_neg (fun h => hy h.1)]

theorem top_key : top (key q k n h j t) 2048 = rescale L (Scores.slope h * t.val) (top (ref q k n h j t) 2048) :=
  rescale_sup L (Scores.slope h * t.val) L_pos (ref q k n h j t) 2048

theorem expo_ref (y : ℕ) (hy : y < 2048) : expo (scores q k) (ix5 n h j t ⟨y, hy⟩) = (wt (key q k n h j t y) (top (key q k n h j t) 2048) : EReal) := by
  rw [expo_apply, scores_ref, peak_ref, top_key]
  exact exp_sub L_pos rpow_L (le_top _ hy)

theorem probs_ref (y : ℕ) (hy : y < 2048) : probs (scores q k) (ix5 n h j t ⟨y, hy⟩)
    = Ideal.div (wt (key q k n h j t y) (top (key q k n h j t) 2048)) (den (key q k n h j t) 2048) := by
  rw [probs_apply, expo_ref]
  congr 1
  unfold den
  rw [Softmax.coe_sum, Finset.sum_range]
  exact Finset.sum_congr rfl fun x _ => expo_ref q k n h j t x.val x.isLt

/-- One row of the reference. -/
theorem result_row (u : Fin 128 → ℕ → ℝ) (r : ℝ) (hr : lam l1 l2 l3 l4 ix0 = (r : EReal))
    (hu : ∀ (x : Fin 128) (y : Fin 2048), v (ix3 n y ⟨h.val * 128 + x.val, by omega⟩) = (u x y.val : EReal)) :
    normed g (heads v (mixed (probs (scores q k)) (lam l1 l2 l3 l4))) (ix3 n t ⟨128 * h.val + e.val, by omega⟩)
      = Softmax.norm (Ideal.ofBits .f32 0x43000000#32) (Ideal.ofBits .f32 0x3727C5AC#32)
          (fun x => ∑ y ∈ range 2048, (u x y : EReal) * (Ideal.div (wt (key q k n h 0 t y) (top (key q k n h 0 t) 2048)) (den (key q k n h 0 t) 2048)
            - r * Ideal.div (wt (key q k n h 1 t y) (top (key q k n h 1 t) 2048)) (den (key q k n h 1 t) 2048))) e
        * g (ix2 0 e) * Ideal.ofBits .f32 0x3F4CCCCD#32 := by
  rw [normed_apply]
  congr 4
  funext x
  rw [heads_apply, Finset.sum_range]
  refine Finset.sum_congr rfl fun y _ => ?_
  rw [hu, mixed_apply, hr, show y = ⟨y.val, y.isLt⟩ from rfl, probs_ref, probs_ref]

/-- The mixing scalar of finite vectors is finite. -/
theorem lam_real (h1 : ∀ x, ∃ r : ℝ, l1 (ix2 0 x) = (r : EReal)) (h2 : ∀ x, ∃ r : ℝ, l2 (ix2 0 x) = (r : EReal))
    (h3 : ∀ x, ∃ r : ℝ, l3 (ix2 0 x) = (r : EReal)) (h4 : ∀ x, ∃ r : ℝ, l4 (ix2 0 x) = (r : EReal)) :
    ∃ r : ℝ, lam l1 l2 l3 l4 ix0 = (r : EReal) := by
  choose r1 h1 using h1
  choose r2 h2 using h2
  choose r3 h3 using h3
  choose r4 h4 using h4
  have hb : ∃ b : ℝ, Ideal.ofBits .f32 0x3E4CCCCD#32 = (b : EReal) := ⟨_, by
    simp [Ideal.ofBits, Ideal.ieee, -EReal.coe_mul, -EReal.coe_pow]
    rfl⟩
  obtain ⟨b, hb⟩ := hb
  refine ⟨Real.exp (∑ x, r1 x * r2 x) - Real.exp (∑ x, r3 x * r4 x) + b, ?_⟩
  rw [lam_apply, hb]
  simp only [h1, h2, h3, h4, ← EReal.coe_mul]
  rw [← Softmax.coe_sum, ← Softmax.coe_sum, Ideal.exp_coe, Ideal.exp_coe, ← EReal.coe_sub, ← EReal.coe_add]

end Cert.ReferenceIdeal.Stage
end
-- ==== Proof.Equation.lean ====
/-
  The array the kernel of `Cert.KernelIdeal` leaves is the reference's result, for real values and weights of the mix.
-/
module

public import proofs.«01_k».proof.Proof.Blocks
public import proofs.«01_k».proof.Proof.KernelRow
public import proofs.«01_k».proof.Proof.ReferenceRow
public import proofs.«01_k».proof.Pre_finite_values

@[expose] public section

set_option maxRecDepth 16384

noncomputable section

namespace Cert.Equation

open Idealize.ShloMosaic Finset

/-- A value whose magnitude is below infinity is real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : Ideal.cmp .olt (max x (-x)) (Ideal.ofBits .f32 0x7F800000#32) = 1 := h
  rw [Ideal.cmp_olt_eq_one] at h'
  have h'' := lt_of_lt_of_le h' le_top
  induction x with
  | bot => simp at h''
  | coe r => exact ⟨r, rfl⟩
  | top => simp at h''

section Pre

variable [Cert.Pre_finite_values.Facts]
variable (x0 x1 x2 : FVec Ideal Cert.Pre_finite_values.S32x2048x1024 .f32) (x3 x4 x5 x6 : FVec Ideal Cert.Pre_finite_values.S1x64 .f32) (x7 : FVec Ideal Cert.Pre_finite_values.S1x128 .f32)

theorem real_2 (h : (Cert.Pre_finite_values.fn x0 x1 x2 x3 x4 x5 x6 x7).1 = fun _ => 1#1) (i) : ∃ r : ℝ, x2 i = (r : EReal) :=
  real_of_lt _ (congrFun h i)
theorem real_3 (h : (Cert.Pre_finite_values.fn x0 x1 x2 x3 x4 x5 x6 x7).2.1 = fun _ => 1#1) (i) : ∃ r : ℝ, x3 i = (r : EReal) :=
  real_of_lt _ (congrFun h i)
theorem real_4 (h : (Cert.Pre_finite_values.fn x0 x1 x2 x3 x4 x5 x6 x7).2.2.1 = fun _ => 1#1) (i) : ∃ r : ℝ, x4 i = (r : EReal) :=
  real_of_lt _ (congrFun h i)
theorem real_5 (h : (Cert.Pre_finite_values.fn x0 x1 x2 x3 x4 x5 x6 x7).2.2.2.1 = fun _ => 1#1) (i) : ∃ r : ℝ, x5 i = (r : EReal) :=
  real_of_lt _ (congrFun h i)
theorem real_6 (h : (Cert.Pre_finite_values.fn x0 x1 x2 x3 x4 x5 x6 x7).2.2.2.2 = fun _ => 1#1) (i) : ∃ r : ℝ, x6 i = (r : EReal) :=
  real_of_lt _ (congrFun h i)

end Pre

section Value

open Cert.KernelIdeal Cert.KernelIdeal.Gen Cert.KernelIdeal.Host Cert.KernelIdeal.Run Cert.KernelIdeal.Block
open Cert.ReferenceIdeal.Stage (normed heads mixed probs scores dots key lam_real lam_apply result_row)
open Cert.Scores Cert.Softmax

variable (m : (ℓ : Loc nD τ sig) → Buf (Elt Ideal) ℓ) (c : Dev nD)

/-- The reference's result, of the kernel's arguments. -/
def result : Vec Ideal S32x2048x1024 .f32 :=
  normed (arg7 m c) (heads (arg2 m c) (mixed (probs (scores (arg0 m c) (arg1 m c)))
    (Cert.ReferenceIdeal.Stage.lam (arg3 m c) (arg4 m c) (arg5 m c) (arg6 m c))))

theorem lam_eq (t : Fin cfg0.N) : Block.lam (iblk m c 0 t : Vec Ideal S4x64 .f32)
    = Cert.ReferenceIdeal.Stage.lam (arg3 m c) (arg4 m c) (arg5 m c) (arg6 m c) ix0 := by
  have h : ∀ (a : Fin 4) (e : Fin 64), (iblk m c 0 t : Vec Ideal S4x64 .f32) (ix2 a e) = _ :=
    fun a e => (lam_block m c t a e).trans (lam_entry m c a e)
  rw [lam_apply]
  show k0_pay4 (iblk m c 0 t : Vec Ideal S4x64 .f32) (ix2 0 0) = _
  generalize (iblk m c 0 t : Vec Ideal S4x64 .f32) = x at h
  pointwise [k0_pay4]
  simp only [h]
  rfl

theorem row_eq (h2 : ∀ i, ∃ r : ℝ, arg2 m c i = (r : EReal)) (h3 : ∀ i, ∃ r : ℝ, arg3 m c i = (r : EReal)) (h4 : ∀ i, ∃ r : ℝ, arg4 m c i = (r : EReal))
    (h5 : ∀ i, ∃ r : ℝ, arg5 m c i = (r : EReal)) (h6 : ∀ i, ∃ r : ℝ, arg6 m c i = (r : EReal)) (t : Fin cfg0.N) (s : Fin 2048) (e : Fin 128) :
    outAt m c t (ix3 0 s e) = result m c (ix3 (batch t) s (column t e)) := by
  obtain ⟨r, hr⟩ := lam_real (arg3 m c) (arg4 m c) (arg5 m c) (arg6 m c) (fun x => h3 _) (fun x => h4 _) (fun x => h5 _) (fun x => h6 _)
  choose u hu using h2
  have hcol : column t e = ⟨128 * (head t).val + e.val, by omega⟩ := Fin.ext (by show t.val % 8 * 128 + e.val = 128 * (t.val % 8) + e.val; omega)
  rw [outAt_eq, row_value (Q := fun s d => arg0 m c (ix3 (batch t) s (column t d))) (K := fun s d => arg1 m c (ix3 (batch t) s (column t d)))
    (p := Scores.slope (head t)) (u := fun d y => if hy : y < 2048 then u (ix3 (batch t) ⟨y, hy⟩ (column t d)) else 0)
    (a := fun s => dots (arg0 m c) (arg1 m c) (batch t) (head t) 0 s) (b := fun s => dots (arg0 m c) (arg1 m c) (batch t) (head t) 1 s)
    (fun s d => (q_block m c t s d).trans (q_entry m c _ _ _))
    (fun s d => (k_block m c t s d).trans (k_entry m c _ _ _))
    (fun s d => (cols_block m c t s d).trans (cols_entry m c _ _ _))
    (fun i j => (fix_block m c t i j).trans (fix_entry m c _ _ _))
    (fun s d => (v_block m c t s d).trans ((v_entry m c _ _ _).trans (by rw [hu, dif_pos s.isLt])))
    (fun s y => by
      unfold dots
      rw [dif_pos y.isLt]
      refine Finset.sum_congr rfl fun x _ => ?_
      congr 3 <;> exact Fin.ext (by simp))
    (fun s y => by
      unfold dots
      rw [dif_pos y.isLt]
      refine Finset.sum_congr rfl fun x _ => ?_
      congr 3 <;> exact Fin.ext (by simp; omega))
    r ((lam_eq m c t).trans hr) s e, hcol]
  unfold result
  rw [result_row (arg0 m c) (arg1 m c) (arg2 m c) (arg3 m c) (arg4 m c) (arg5 m c) (arg6 m c) (arg7 m c) (batch t) (head t) s e
    (fun d y => if hy : y < 2048 then u (ix3 (batch t) ⟨y, hy⟩ (column t d)) else 0) r hr (fun x y => by rw [hu, dif_pos y.isLt])]
  rw [show (iblk m c 1 t : Vec Ideal S1x128 .f32) (ix2 0 e) = _ from (g_block m c t e).trans (g_entry m c e)]
  rfl

theorem final (h2 : ∀ i, ∃ r : ℝ, arg2 m c i = (r : EReal)) (h3 : ∀ i, ∃ r : ℝ, arg3 m c i = (r : EReal)) (h4 : ∀ i, ∃ r : ℝ, arg4 m c i = (r : EReal))
    (h5 : ∀ i, ∃ r : ℝ, arg5 m c i = (r : EReal)) (h6 : ∀ i, ∃ r : ℝ, arg6 m c i = (r : EReal)) :
    (dats m 0 c).arrAt 7 (cfgs 0).N = result m c := by
  refine (dats m 0 c).arrAt_eq_of_covers 7 _ (by decide +kernel) fun t _ y => ?_
  blk_simp
  rw [after_7]
  have hy : y = ix3 0 (y 1) (y 2) := by blk_ext
  rw [hy]
  refine (row_eq m c h2 h3 h4 h5 h6 t (y 1) (y 2)).trans ?_
  blk_ext [idx t]

end Value

end Cert.Equation
end
-- ==== Proof.ProjRun.lean ====
/-
  What a run of `Cert.Kernel2Ideal` leaves in every buffer of the host: the contents after its last kernel.
-/
module

public import proofs.«01_k».proof.Proof.Gen.Kernel2Ideal.Frame

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ c : Dev nD,
    ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

end Cert.Kernel2Ideal.Proj
end
-- ==== Proof.Projection.lean ====
/-
  The input projection of one row: the layer norm of the row's features, scaled and shifted by the conditioning, times the
  weights, plus the bias.
-/
module

public import Idealize.ShloMosaic.Lib.Pointwise
public import Idealize.ShloMosaic.PureOps.IdealRules
public import Idealize.ShloMosaic.Lib.Pipeline.ValueKit

@[expose] public section

noncomputable section

namespace Cert.Projection

open Idealize.ShloMosaic

/-- The mean of a row of 1024 features. -/
def mean (x : Fin 1024 → EReal) : EReal := Ideal.div (∑ d, x d) (Ideal.ofBits .f32 0x44800000#32)

/-- A feature less the row's mean. -/
def centered (x : Fin 1024 → EReal) (d : Fin 1024) : EReal := x d - mean x

/-- The normalized features of a row, scaled and shifted. -/
def modulated (x sc sh : Fin 1024 → EReal) (k : Fin 1024) : EReal :=
  (x k - mean x) * Ideal.rsqrt (mean (fun d => (x d - mean x) * (x d - mean x)) + Ideal.ofBits .f32 0x3727C5AC#32)
    * (1 + sc k) + sh k

/-- One column of a row times the weights, plus the bias. -/
def projected (u w : Fin 1024 → EReal) (b : EReal) : EReal := ∑ k, u k * w k + b

/-- One column of the conditioning of a sequence. -/
def conditioned (c w : Fin 1024 → EReal) (b : EReal) : EReal := projected (fun k => c k * Ideal.logistic (c k)) w b

/-- The logistic of a real value is real. -/
theorem logistic_real (r : ℝ) : ∃ s : ℝ, Ideal.logistic (r : EReal) = (s : EReal) := ⟨_, Ideal.logistic_coe r⟩

/-- A column of the conditioning whose factors are split in a high and a low part, the low part being what the high part
    leaves, is the column. -/
theorem conditioned_split (c w : Fin 1024 → EReal) (b : EReal) (hc : ∀ k, ∃ r : ℝ, c k = (r : EReal)) (hw : ∀ k, ∃ r : ℝ, w k = (r : EReal)) :
    ∑ k, c k * Ideal.logistic (c k) * w k + ∑ k, (c k * Ideal.logistic (c k) - c k * Ideal.logistic (c k)) * w k
      + ∑ k, c k * Ideal.logistic (c k) * (w k - w k) + b = conditioned c w b := by
  have h1 : ∀ k, (c k * Ideal.logistic (c k) - c k * Ideal.logistic (c k)) * w k = 0 := fun k => by
    obtain ⟨r, hr⟩ := hc k
    obtain ⟨s, hs⟩ := logistic_real r
    rw [hr, hs, ← EReal.coe_mul, ← EReal.coe_sub, sub_self, EReal.coe_zero, zero_mul]
  have h2 : ∀ k, c k * Ideal.logistic (c k) * (w k - w k) = 0 := fun k => by
    obtain ⟨r, hr⟩ := hw k
    rw [hr, ← EReal.coe_sub, sub_self, EReal.coe_zero, mul_zero]
  simp only [h1, h2, Finset.sum_const_zero, add_zero]
  rfl

/-- One column of the projection of a token: the token's features, its sequence's conditioning features, the weights and
    bias of the conditioning (scale in columns 1024 to 2047, shift in columns 0 to 1023), the column's weights and bias. -/
def column (x c : Fin 1024 → EReal) (wa : Fin 1024 → Fin 6144 → EReal) (ba : Fin 6144 → EReal) (w : Fin 1024 → EReal) (b : EReal) : EReal :=
  projected (modulated x (fun d => conditioned c (fun k => wa k ⟨1024 + d.val, by omega⟩) (ba ⟨1024 + d.val, by omega⟩))
    (fun d => conditioned c (fun k => wa k ⟨d.val, by omega⟩) (ba ⟨d.val, by omega⟩))) w b

/-- The projection of every token of `S` tokens a sequence. -/
def tokens {S : ℕ} (x : FVec Ideal ⟨3, ![32, S, 1024]⟩ .f32) (c : FVec Ideal ⟨2, ![32, 1024]⟩ .f32) (wa : FVec Ideal ⟨3, ![1, 1024, 6144]⟩ .f32)
    (ba : FVec Ideal ⟨2, ![1, 6144]⟩ .f32) (w : FVec Ideal ⟨3, ![1, 1024, 6656]⟩ .f32) (b : FVec Ideal ⟨2, ![1, 6656]⟩ .f32)
    (i : Fin 32) (t : Fin S) (n : Fin 6656) : EReal :=
  column (fun d => x (ix3 i t d)) (fun k => c (ix2 i k)) (fun k j => wa (ix3 0 k j)) (fun j => ba (ix2 0 j)) (fun k => w (ix3 0 k n)) (b (ix2 0 n))

/-- The scale of the queries. -/
def qscale : EReal := (((1 / 8) * (Real.log 2)⁻¹ : ℝ) : EReal)

section Rows

variable (z : Fin 32 → Fin 2048 → Fin 6656 → EReal) (y : Fin 32 → Fin 16 → Fin 6656 → EReal)

/-- The prompt's tokens, one sequence after the other. -/
def promptRow (r : Fin 65536) : Fin 6656 → EReal := z ⟨r.val / 2048, by omega⟩ ⟨r.val % 2048, by omega⟩

/-- The last 512 tokens of each of the prompt's sequences, one sequence after the other. -/
def tailRow (r : Fin 16384) : Fin 6656 → EReal := z ⟨r.val / 512, by omega⟩ ⟨1536 + r.val % 512, by omega⟩

/-- The sample's tokens, one sequence after the other. -/
def sampleRow (r : Fin 512) : Fin 6656 → EReal := y ⟨r.val / 16, by omega⟩ ⟨r.val % 16, by omega⟩

end Rows

section Results

variable {N M : ℕ} (row : Fin N → Fin 6656 → EReal) (o : ℕ)

/-- The columns from `o` on. -/
def columns (h : o + M ≤ 6656) : FVec Ideal ⟨2, ![N, M]⟩ .f32 := fun i =>
  row (i 0) ⟨o + (i 1).val, by have h1 : (i 1).val < M := (i 1).isLt; omega⟩

/-- The columns from `o` on, as queries. -/
def queries (h : o + M ≤ 6656) : FVec Ideal ⟨2, ![N, M]⟩ .f32 := fun i => columns row o h i * qscale

/-- The logistic of the columns from `o` on. -/
def gates (h : o + M ≤ 6656) : FVec Ideal ⟨2, ![N, M]⟩ .f32 := fun i => Ideal.logistic (columns row o h i)

/-- The 1024 columns from `o` on, by head, half and feature. -/
def halves (h : o + 1024 ≤ 6656) : FVec Ideal ⟨4, ![N, 8, 2, 64]⟩ .f32 := fun i =>
  row (i 0) ⟨o + ((i 1).val * 128 + (i 2).val * 64 + (i 3).val), by
    have h1 : (i 1).val < 8 := (i 1).isLt
    have h2 : (i 2).val < 2 := (i 2).isLt
    have h3 : (i 3).val < 64 := (i 3).isLt
    omega⟩

/-- The 512 columns from `o` on, by head and feature. -/
def heads (h : o + 512 ≤ 6656) : FVec Ideal ⟨3, ![N, 8, 64]⟩ .f32 := fun i =>
  row (i 0) ⟨o + ((i 1).val * 64 + (i 2).val), by
    have h1 : (i 1).val < 8 := (i 1).isLt
    have h2 : (i 2).val < 64 := (i 2).isLt
    omega⟩

end Results

end Cert.Projection
end
-- ==== Proof.PromptRow.lean ====
/-
  A row of the blocks the prompt's projection kernel of `Cert.Kernel2Ideal` stores.
-/
module

public import proofs.«01_k».proof.Proof.Projection
public import proofs.«01_k».proof.Proof.Gen.Kernel2Ideal.Skeleton

@[expose] public section

set_option maxRecDepth 16384

noncomputable section

namespace Cert.Kernel2Ideal.Proj

open Cert.Kernel2Ideal Cert.Kernel2Ideal.Gen Cert.Projection
open Idealize.ShloMosaic

/-- The scale of the queries as the kernel names it. -/
theorem qscale_eq : (Named.named κ "qscale" 0x3E38AA3B#32 : Ideal .f32) = (((1 / 8) * (Real.log 2)⁻¹ : ℝ) : EReal) :=
  IdealRules.named_const.ideal_named_scalar _ _ _ _ rfl

theorem ada_row (c : Vec Ideal S64x1024 .f32) (w : Vec Ideal S1024x1024 .f32) (b : Vec Ideal S1x1024 .f32) (i : Fin 64) (n : Fin 1024)
    (hc : ∀ k, ∃ r : ℝ, c (ix2 i k) = (r : EReal)) (hw : ∀ k, ∃ r : ℝ, w (ix2 k n) = (r : EReal)) :
    k0_pay1 c w b (ix2 i n) = conditioned (fun k => c (ix2 i k)) (fun k => w (ix2 k n)) (b (ix2 0 n)) := by
  refine Eq.trans ?_ (conditioned_split _ _ _ hc hw)
  pointwise [k0_pay1]

section Prompt

variable (x : Vec Ideal S256x1024 .f32) (sc sh : Vec Ideal S1x1x1024 .f32)

theorem u_prompt (r : Fin 256) (k : Fin 1024) : k1_pay17 x sc sh (ix2 r k)
    = modulated (fun d => x (ix2 r d)) (fun d => sc (ix3 0 0 d)) (fun d => sh (ix3 0 0 d)) k := by
  pointwise [k1_pay17]
  rfl

variable (w : Vec Ideal S1024x1024 .bf16) (w2 : Vec Ideal S1024x512 .bf16) (b : Vec Ideal S1x1024 .f32) (b2 : Vec Ideal S1x512 .f32)

/-- A column of the prompt's projection. -/
def zp (r : Fin 256) (wc : Fin 1024 → EReal) (bc : EReal) : EReal :=
  projected (modulated (fun d => x (ix2 r d)) (fun d => sc (ix3 0 0 d)) (fun d => sh (ix3 0 0 d))) wc bc

theorem q_prompt (r : Fin 256) (n : Fin 1024) : k1_pay20 (k1_pay18 x sc sh w b) k1_pay19 (ix2 r n)
    = zp x sc sh r (fun k => w (ix2 k n)) (b (ix2 0 n)) * (((1 / 8) * (Real.log 2)⁻¹ : ℝ) : EReal) := by
  pointwise [k1_pay20, k1_pay18, k1_pay19, u_prompt]
  rw [qscale_eq]
  rfl

theorem ka_prompt (r : Fin 256) (n : Fin 1024) : k1_pay21 (k1_pay17 x sc sh) w b (ix2 r n)
    = zp x sc sh r (fun k => w (ix2 k n)) (b (ix2 0 n)) := by
  pointwise [k1_pay21, u_prompt]
  rfl

theorem va_prompt (r : Fin 256) (n : Fin 1024) : k1_pay41 (k1_pay17 x sc sh) w b (ix2 r n)
    = zp x sc sh r (fun k => w (ix2 k n)) (b (ix2 0 n)) := by
  pointwise [k1_pay41, u_prompt]
  rfl

theorem kb_prompt (r : Fin 256) (n : Fin 512) : k1_pay44 (k1_pay17 x sc sh) w2 b2 (ix2 r n)
    = zp x sc sh r (fun k => w2 (ix2 k n)) (b2 (ix2 0 n)) := by
  pointwise [k1_pay44, u_prompt]
  rfl

theorem vb_prompt (r : Fin 256) (n : Fin 512) : k1_pay46 (k1_pay17 x sc sh) w2 b2 (ix2 r n)
    = zp x sc sh r (fun k => w2 (ix2 k n)) (b2 (ix2 0 n)) := by
  pointwise [k1_pay46, u_prompt]
  rfl

theorem ka16_prompt (r : Fin 256) (n : Fin 1024) : k1_pay40 (k1_pay21 (k1_pay17 x sc sh) w b) (ix2 r n)
    = zp x sc sh r (fun k => w (ix2 k n)) (b (ix2 0 n)) := by
  pointwise [k1_pay40, ka_prompt]

theorem va16_prompt (r : Fin 256) (n : Fin 1024) : k1_pay42 (k1_pay41 (k1_pay17 x sc sh) w b) (ix2 r n)
    = zp x sc sh r (fun k => w (ix2 k n)) (b (ix2 0 n)) := by
  pointwise [k1_pay42, va_prompt]

theorem kb16_prompt (r : Fin 256) (n : Fin 512) : k1_pay45 (k1_pay17 x sc sh) w2 b2 (ix2 r n)
    = zp x sc sh r (fun k => w2 (ix2 k n)) (b2 (ix2 0 n)) := by
  pointwise [k1_pay45, kb_prompt]

theorem vb16_prompt (r : Fin 256) (n : Fin 512) : k1_pay47 (k1_pay17 x sc sh) w2 b2 (ix2 r n)
    = zp x sc sh r (fun k => w2 (ix2 k n)) (b2 (ix2 0 n)) := by
  pointwise [k1_pay47, vb_prompt]

theorem qb_prompt (r : Fin 256) (n : Fin 512) : k1_pay43 (k1_pay17 x sc sh) w2 b2 (ix2 r n)
    = zp x sc sh r (fun k => w2 (ix2 k n)) (b2 (ix2 0 n)) * (((1 / 8) * (Real.log 2)⁻¹ : ℝ) : EReal) := by
  pointwise [k1_pay43, u_prompt]
  rw [qscale_eq]
  rfl

theorem gate1_prompt (r : Fin 256) (n : Fin 1024) : k1_pay49 (k1_pay17 x sc sh) w b (ix2 r n)
    = Ideal.logistic (zp x sc sh r (fun k => w (ix2 k n)) (b (ix2 0 n))) := by
  pointwise [k1_pay49, u_prompt]
  rfl

theorem gate2_prompt (r : Fin 256) (n : Fin 1024) : k1_pay50 (k1_pay17 x sc sh) w b (ix2 r n)
    = Ideal.logistic (zp x sc sh r (fun k => w (ix2 k n)) (b (ix2 0 n))) := by
  pointwise [k1_pay50, u_prompt]
  rfl

end Prompt
end Cert.Kernel2Ideal.Proj
end
-- ==== Proof.AdaBlock.lean ====
/-
  The conditioning array the first kernel of `Cert.Kernel2Ideal` leaves, for real conditioning features and weights.
-/
module

public import proofs.«01_k».proof.Proof.PromptRow
public import proofs.«01_k».proof.Proof.Gen.Kernel2Ideal.Frame.Region0
public import Idealize.ShloMosaic.Lib.Pipeline.ValueKit

@[expose] public section

set_option maxRecDepth 16384

noncomputable section

namespace Cert.Kernel2Ideal.Proj

open Cert.Kernel2Ideal Cert.Kernel2Ideal.Gen Cert.Projection
open Idealize.ShloMosaic Idealize.ShloMosaic.TcCoe

theorem idx0 : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem points0 (t : Fin cfg0.N) : t.val < 6 := lt_of_lt_of_eq t.isLt N_0

variable (V : (c : Dev nD) → (b : Ref sig .tc) → Buf (Elt Ideal) ((c : Thread nD τ).loc b)) (c : Dev nD)

/-- The conditioning of every sequence, from the arrays the kernel is launched on. -/
def condArr : Vec Ideal S64x6144 .f32 := fun y =>
  conditioned (fun k => (V c main_v4 : Vec Ideal S64x1024 .f32) (ix2 (y 0) k)) (fun k => (V c main_v5 : Vec Ideal S1024x6144 .f32) (ix2 k (y 1)))
    ((V c main_v7 : Vec Ideal S1x6144 .f32) (ix2 0 (y 1)))

variable (t : Fin cfg0.N)

theorem c_block (i : Fin 64) (k : Fin 1024) : (iblk0 V c 0 t : Vec Ideal S64x1024 .f32) (ix2 i k) = (V c main_v4 : Vec Ideal S64x1024 .f32) (ix2 i k) := by
  blk_ext [iblk0, idx0 t]

theorem wa_block (k n : Fin 1024) : (iblk0 V c 1 t : Vec Ideal S1024x1024 .f32) (ix2 k n)
    = (V c main_v5 : Vec Ideal S1024x6144 .f32) (ix2 k ⟨t.val * 1024 + n.val, by have := points0 t; omega⟩) := by
  blk_ext [iblk0, idx0 t]

theorem ba_block (n : Fin 1024) : (iblk0 V c 2 t : Vec Ideal S1x1024 .f32) (ix2 0 n)
    = (V c main_v7 : Vec Ideal S1x6144 .f32) (ix2 0 ⟨t.val * 1024 + n.val, by have := points0 t; omega⟩) := by
  blk_ext [iblk0, idx0 t]

theorem cond_point (hc : ∀ i, ∃ r : ℝ, (V c main_v4 : Vec Ideal S64x1024 .f32) i = (r : EReal)) (hw : ∀ i, ∃ r : ℝ, (V c main_v5 : Vec Ideal S1024x6144 .f32) i = (r : EReal))
    (i : Fin 64) (n : Fin 1024) : k0_pay1 (F := Ideal) (iblk0 V c 0 t) (iblk0 V c 1 t) (iblk0 V c 2 t) (ix2 i n)
      = condArr V c (ix2 i ⟨t.val * 1024 + n.val, by have := points0 t; omega⟩) := by
  refine (ada_row _ _ _ i n (fun k => ?_) (fun k => ?_)).trans ?_
  · rw [c_block]
    exact hc _
  · rw [wa_block]
    exact hw _
  · simp only [c_block, wa_block, ba_block]
    rfl

theorem cond_final (hc : ∀ i, ∃ r : ℝ, (V c main_v4 : Vec Ideal S64x1024 .f32) i = (r : EReal)) (hw : ∀ i, ∃ r : ℝ, (V c main_v5 : Vec Ideal S1024x6144 .f32) i = (r : EReal)) :
    (dat0 V c).arrAt 3 cfg0.N = condArr V c := by
  refine (dat0 V c).arrAt_eq_of_covers 3 _ (by decide +kernel) fun t _ y => ?_
  blk_simp
  rw [after0_3]
  have hy : y = ix2 (y 0) (y 1) := by blk_ext
  rw [hy]
  frame_out
  refine (cond_point V c t hc hw (y 0) (y 1)).trans ?_
  blk_ext [idx0 t]

end Cert.Kernel2Ideal.Proj
end
-- ==== Proof.ProjHost.lean ====
/-
  The arrays that the three kernels of `Cert.Kernel2Ideal` are launched on, each at an index.
-/
module

public import proofs.«01_k».proof.Proof.AdaBlock
public import proofs.«01_k».proof.Proof.Gen.Kernel2Ideal.Frame.Fold0
public import Idealize.ShloMosaic.Lib.Claim
public import Idealize.ShloMosaic.Lib.Pointwise
public import Idealize.ShloMosaic.Lib.StableHlo.ReadAt

@[expose] public section

set_option maxRecDepth 16384

noncomputable section

namespace Cert.Kernel2Ideal.Proj

open Cert.Kernel2Ideal Cert.Kernel2Ideal.Gen Cert.Projection
open Idealize.ShloMosaic Idealize.ShloMosaic.TcCoe

variable (m : (ℓ : Loc nD τ sig) → Buf (Elt Ideal) ℓ) (ρ : Dev nD → PrngReg) (c : Dev nD)

/-- Argument 0. -/
abbrev arg0 : Vec Ideal S32x2048x1024 .f32 := m ((c : Thread nD τ).loc main_arg0)
/-- Argument 1. -/
abbrev arg1 : Vec Ideal S32x16x1024 .f32 := m ((c : Thread nD τ).loc main_arg1)
/-- Argument 2. -/
abbrev arg2 : Vec Ideal S32x1024 .f32 := m ((c : Thread nD τ).loc main_arg2)
/-- Argument 3. -/
abbrev arg3 : Vec Ideal S32x1024 .f32 := m ((c : Thread nD τ).loc main_arg3)
/-- Argument 4. -/
abbrev arg4 : Vec Ideal S1x1024x6144 .f32 := m ((c : Thread nD τ).loc main_arg4)
/-- Argument 5. -/
abbrev arg5 : Vec Ideal S1x6144 .f32 := m ((c : Thread nD τ).loc main_arg5)
/-- Argument 6. -/
abbrev arg6 : Vec Ideal S1x1024x6656 .f32 := m ((c : Thread nD τ).loc main_arg6)
/-- Argument 7. -/
abbrev arg7 : Vec Ideal S1x6656 .f32 := m ((c : Thread nD τ).loc main_arg7)

theorem c_entry (i : Fin 64) (k : Fin 1024) : (V1 m ρ c main_v4 : Vec Ideal S64x1024 .f32) (ix2 i k)
    = if h : i.val < 32 then arg2 m c (ix2 ⟨i.val, h⟩ k) else arg3 m c (ix2 ⟨i.val - 32, by omega⟩ k) := by
  unfold V1 W1
  simp only [hostOps0]
  after_reads_at

theorem wa_entry (k : Fin 1024) (n : Fin 6144) : (V1 m ρ c main_v5 : Vec Ideal S1024x6144 .f32) (ix2 k n) = arg4 m c (ix3 0 k n) := by
  unfold V1 W1
  simp only [hostOps0]
  after_reads_at

theorem ba_entry (n : Fin 6144) : (V1 m ρ c main_v7 : Vec Ideal S1x6144 .f32) (ix2 0 n) = arg5 m c (ix2 0 n) := by
  unfold V1 W1
  simp only [hostOps0]
  after_reads_at

theorem w_entry (k : Fin 1024) (n : Fin 6656) : (V1 m ρ c main_v1 : Vec Ideal S1024x6656 .bf16) (ix2 k n) = arg6 m c (ix3 0 k n) := by
  unfold V1 W1
  simp only [hostOps0]
  after_reads_at

theorem b_entry (n : Fin 6656) : (V1 m ρ c main_v3 : Vec Ideal S1x6656 .f32) (ix2 0 n) = arg7 m c (ix2 0 n) := by
  unfold V1 W1
  simp only [hostOps0]
  after_reads_at

/-- What the first kernel leaves, read at the next stretch's entry. -/
abbrev ada : Vec Ideal S64x6144 .f32 := W2 m ρ c (Proc.devRef .tc main_v8)

theorem sh_prompt_entry (i : Fin 32) (d : Fin 1024) : (V3 m ρ c main_v16 : Vec Ideal S32x1x1024 .f32) (ix3 i 0 d) = ada m ρ c (ix2 ⟨i.val, by omega⟩ ⟨d.val, by omega⟩) := by
  unfold V3 W3
  simp only [hostOps1]
  after_reads_at

theorem sc_prompt_entry (i : Fin 32) (d : Fin 1024) : (V3 m ρ c main_v17 : Vec Ideal S32x1x1024 .f32) (ix3 i 0 d) = ada m ρ c (ix2 ⟨i.val, by omega⟩ ⟨1024 + d.val, by omega⟩) := by
  unfold V3 W3
  simp only [hostOps1]
  after_reads_at

theorem sh_sample_entry (r : Fin 512) (d : Fin 1024) : (V3 m ρ c main_v30 : Vec Ideal S512x1024 .f32) (ix2 r d) = ada m ρ c (ix2 ⟨32 + r.val / 16, by omega⟩ ⟨d.val, by omega⟩) := by
  unfold V3 W3
  simp only [hostOps1]
  after_reads_at

theorem sc_sample_entry (r : Fin 512) (d : Fin 1024) : (V3 m ρ c main_v32 : Vec Ideal S512x1024 .f32) (ix2 r d) = ada m ρ c (ix2 ⟨32 + r.val / 16, by omega⟩ ⟨1024 + d.val, by omega⟩) := by
  unfold V3 W3
  simp only [hostOps1]
  after_reads_at

theorem x_prompt_entry (r : Fin 65536) (d : Fin 1024) : (V3 m ρ c main_v41 : Vec Ideal S65536x1024 .f32) (ix2 r d)
    = (W2 m ρ c (Proc.devRef .tc main_arg0) : Vec Ideal S32x2048x1024 .f32) (ix3 ⟨r.val / 2048, by omega⟩ ⟨r.val % 2048, by omega⟩ d) := by
  unfold V3 W3
  simp only [hostOps1]
  after_reads_at

theorem x_sample_entry (r : Fin 512) (d : Fin 1024) : (V5 m ρ c main_v43 : Vec Ideal S512x1024 .f32) (ix2 r d)
    = (W4 m ρ c (Proc.devRef .tc main_arg1) : Vec Ideal S32x16x1024 .f32) (ix3 ⟨r.val / 16, by omega⟩ ⟨r.val % 16, by omega⟩ d) := by
  unfold V5 W5
  simp only [hostOps2]
  after_reads_at

end Cert.Kernel2Ideal.Proj
end
-- ==== Proof.Segments.lean ====
/-
  A stretch of the columns of a matrix, at an index.
-/
module

public import Idealize.ShloMosaic.Lib.Pipeline.ValueKit

@[expose] public section

noncomputable section

namespace Cert.Projection

open Idealize.ShloMosaic

theorem ld_columns {Val : EltTy → Type} {e : EltTy} {A B o m : ℕ} (x : (⟨2, ![A, B]⟩ : Shape).Idx → Val e)
    (inb : ∀ a, ![0, o] a + ![A, m] a ≤ (⟨2, ![A, B]⟩ : Shape).size a) (k : Fin A) (n : Fin m) (h : o + n.val < B) :
    View.ld x (Rect.unit (s := ⟨2, ![A, B]⟩) ![0, o] ![A, m] inb) (ix2 k n) = x (ix2 k ⟨o + n.val, h⟩) :=
  View.ld_unit_apply_of x ![0, o] ![A, m] inb (ix2 k n) (ix2 k ⟨o + n.val, h⟩) (fun a => by
    fin_cases a
    · exact (Nat.zero_add k.val).symm
    · rfl)

end Cert.Projection
end
-- ==== Proof.PromptBlock.lean ====
/-
  What each grid point of the prompt's projection kernel of `Cert.Kernel2Ideal` computes, as columns of its tokens' projections.
-/
module

public import proofs.«01_k».proof.Proof.PromptRow
public import proofs.«01_k».proof.Proof.Segments
public import proofs.«01_k».proof.Proof.Gen.Kernel2Ideal.Frame.Region1
public import Idealize.ShloMosaic.Lib.Pipeline.ValueKit

@[expose] public section

set_option maxRecDepth 16384

noncomputable section

namespace Cert.Kernel2Ideal.Prompt

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

theorem idx1 : ∀ t : Fin cfg1.N, win1_0.index t = ![t.val, 0] ∧ win1_1.index t = ![t.val / 8, 0, 0] ∧ win1_2.index t = ![t.val / 8, 0, 0]
    ∧ win1_3.index t = ![0, 0] ∧ win1_4.index t = ![0, 0] ∧ win1_5.index t = ![t.val, 0] ∧ win1_6.index t = ![t.val, 0, 0, 0]
    ∧ win1_7.index t = ![t.val, 0] ∧ win1_8.index t = ![t.val, 0] ∧ win1_9.index t = ![t.val, 0] ∧ win1_10.index t = ![t.val, 0]
    ∧ win1_11.index t = ![t.val, 0] ∧ win1_12.index t = ![t.val, 0] ∧ win1_13.index t = ![t.val, 0] ∧ win1_14.index t = ![t.val, 0] :=
  (by decide +kernel : ∀ t : Fin grid1.N, _)

/-- The last 512 tokens of a sequence leave the kernel at its last two grid points. -/
theorem idxTail : ∀ t : Fin cfg1.N, win1_15.index t = ![t.val / 8 * 2 + (t.val % 8 - 6), 0, 0] ∧ win1_16.index t = ![t.val / 8 * 2 + (t.val % 8 - 6), 0, 0] :=
  (by decide +kernel : ∀ t : Fin grid1.N, _)

theorem points1 (t : Fin cfg1.N) : t.val < 256 := lt_of_lt_of_eq t.isLt N_1

/-- The projection of every token of the prompt, from the arrays the kernel is launched on. -/
def zPrompt (R : Fin 65536) (n : Fin 6656) : EReal :=
  projected (modulated (fun d => (V c main_v41 : Vec Ideal S65536x1024 .f32) (ix2 R d)) (fun d => (V c main_v17 : Vec Ideal S32x1x1024 .f32) (ix3 ⟨R.val / 2048, by omega⟩ 0 d))
    (fun d => (V c main_v16 : Vec Ideal S32x1x1024 .f32) (ix3 ⟨R.val / 2048, by omega⟩ 0 d)))
    (fun k => (V c main_v1 : Vec Ideal S1024x6656 .bf16) (ix2 k n)) ((V c main_v3 : Vec Ideal S1x6656 .f32) (ix2 0 n))

/-- The rows of the last 512 tokens of every sequence of the prompt. -/
def zTail (R : Fin 16384) : Fin 6656 → EReal := zPrompt V c ⟨R.val / 512 * 2048 + (1536 + R.val % 512), by omega⟩

variable (t : Fin cfg1.N)

/-- A grid point's row of the prompt. -/
abbrev rowAt (r : Fin 256) : Fin 65536 := ⟨t.val * 256 + r.val, by have := points1 t; omega⟩

theorem x_block (r : Fin 256) (d : Fin 1024) : (iblk1 V c 0 t : Vec Ideal S256x1024 .f32) (ix2 r d) = (V c main_v41 : Vec Ideal S65536x1024 .f32) (ix2 (rowAt t r) d) := by
  blk_ext [iblk1, idx1 t]

theorem sh_block (r : Fin 256) (d : Fin 1024) : (iblk1 V c 1 t : Vec Ideal S1x1x1024 .f32) (ix3 0 0 d) = (V c main_v16 : Vec Ideal S32x1x1024 .f32) (ix3 ⟨(rowAt t r).val / 2048, by have := (rowAt t r).isLt; omega⟩ 0 d) := by
  blk_ext [iblk1, idx1 t]

theorem sc_block (r : Fin 256) (d : Fin 1024) : (iblk1 V c 2 t : Vec Ideal S1x1x1024 .f32) (ix3 0 0 d) = (V c main_v17 : Vec Ideal S32x1x1024 .f32) (ix3 ⟨(rowAt t r).val / 2048, by have := (rowAt t r).isLt; omega⟩ 0 d) := by
  blk_ext [iblk1, idx1 t]

theorem z_point (r : Fin 256) (n : Fin 6656) (w : Fin 1024 → EReal) (b : EReal) (hw : ∀ k, w k = (V c main_v1 : Vec Ideal S1024x6656 .bf16) (ix2 k n))
    (hb : b = (V c main_v3 : Vec Ideal S1x6656 .f32) (ix2 0 n)) : zp (iblk1 V c 0 t) (iblk1 V c 2 t) (iblk1 V c 1 t) r w b = zPrompt V c (rowAt t r) n := by
  obtain rfl : w = _ := funext hw
  unfold zp zPrompt
  simp only [x_block, sh_block V c t r, sc_block V c t r, hb]

theorem q_point (r : Fin 256) (n : Fin 1024) : k1_pay20 (F := Ideal) (k1_pay18 (iblk1 V c 0 t) (iblk1 V c 2 t) (iblk1 V c 1 t) (View.ld (iblk1 V c 3 t) (Rect.unit ![0, 0] ![1024, 1024] inb_S1024x6656_S1024x1024_0_0)) (View.ld (iblk1 V c 4 t) (Rect.unit ![0, 0] ![1, 1024] inb_S1x6656_S1x1024_0_0))) k1_pay19 (ix2 r n)
    = zPrompt V c (rowAt t r) ⟨0 + n.val, by omega⟩ * qscale :=
  (q_prompt _ _ _ _ _ r n).trans (congrArg (· * qscale) (z_point V c t r ⟨0 + n.val, by omega⟩ _ _ (fun k => (ld_columns _ _ k n (by omega)).trans (by blk_ext [iblk1, idx1 t])) ((ld_columns _ _ 0 n (by omega)).trans (by blk_ext [iblk1, idx1 t]))))

theorem q_core (i : S256x1024.Idx) (j : S65536x1024.Idx) (h0 : (j 0).val = t.val * 256 + (i 0).val)
    (h1 : (i 1).val = (j 1).val) : k1_pay20 (F := Ideal) (k1_pay18 (iblk1 V c 0 t) (iblk1 V c 2 t) (iblk1 V c 1 t) (View.ld (iblk1 V c 3 t) (Rect.unit ![0, 0] ![1024, 1024] inb_S1024x6656_S1024x1024_0_0)) (View.ld (iblk1 V c 4 t) (Rect.unit ![0, 0] ![1, 1024] inb_S1x6656_S1x1024_0_0))) k1_pay19 i = queries (M := 1024) (zPrompt V c) 0 (by decide) j := by
  have hi : i = ix2 (i 0) (i 1) := by blk_ext
  rw [hi]
  exact (q_point V c t (i 0) (i 1)).trans (congrArg (· * qscale) (congrArg₂ (zPrompt V c) (Fin.ext h0.symm) (Fin.ext (congrArg (0 + ·) h1))))

theorem ka16_point (r : Fin 256) (n : Fin 1024) : k1_pay40 (F := Ideal) (k1_pay21 (k1_pay17 (iblk1 V c 0 t) (iblk1 V c 2 t) (iblk1 V c 1 t)) (View.ld (iblk1 V c 3 t) (Rect.unit ![0, 1024] ![1024, 1024] inb_S1024x6656_S1024x1024_0_1024)) (View.ld (iblk1 V c 4 t) (Rect.unit ![0, 1024] ![1, 1024] inb_S1x6656_S1x1024_0_1024))) (ix2 r n)
    = zPrompt V c (rowAt t r) ⟨1024 + n.val, by omega⟩ :=
  (ka16_prompt _ _ _ _ _ r n).trans (z_point V c t r ⟨1024 + n.val, by omega⟩ _ _ (fun k => (ld_columns _ _ k n (by omega)).trans (by blk_ext [iblk1, idx1 t])) ((ld_columns _ _ 0 n (by omega)).trans (by blk_ext [iblk1, idx1 t])))

theorem ka16_core (i : S256x1024.Idx) (j : S65536x1024.Idx) (h0 : (j 0).val = t.val * 256 + (i 0).val)
    (h1 : (i 1).val = (j 1).val) : k1_pay40 (F := Ideal) (k1_pay21 (k1_pay17 (iblk1 V c 0 t) (iblk1 V c 2 t) (iblk1 V c 1 t)) (View.ld (iblk1 V c 3 t) (Rect.unit ![0, 1024] ![1024, 1024] inb_S1024x6656_S1024x1024_0_1024)) (View.ld (iblk1 V c 4 t) (Rect.unit ![0, 1024] ![1, 1024] inb_S1x6656_S1x1024_0_1024))) i = columns (M := 1024) (zPrompt V c) 1024 (by decide) j := by
  have hi : i = ix2 (i 0) (i 1) := by blk_ext
  rw [hi]
  exact (ka16_point V c t (i 0) (i 1)).trans (congrArg₂ (zPrompt V c) (Fin.ext h0.symm) (Fin.ext (congrArg (1024 + ·) h1)))

theorem va_point (r : Fin 256) (n : Fin 1024) : k1_pay41 (F := Ideal) (k1_pay17 (iblk1 V c 0 t) (iblk1 V c 2 t) (iblk1 V c 1 t)) (View.ld (iblk1 V c 3 t) (Rect.unit ![0, 2048] ![1024, 1024] inb_S1024x6656_S1024x1024_0_2048)) (View.ld (iblk1 V c 4 t) (Rect.unit ![0, 2048] ![1, 1024] inb_S1x6656_S1x1024_0_2048)) (ix2 r n)
    = zPrompt V c (rowAt t r) ⟨2048 + n.val, by omega⟩ :=
  (va_prompt _ _ _ _ _ r n).trans (z_point V c t r ⟨2048 + n.val, by omega⟩ _ _ (fun k => (ld_columns _ _ k n (by omega)).trans (by blk_ext [iblk1, idx1 t])) ((ld_columns _ _ 0 n (by omega)).trans (by blk_ext [iblk1, idx1 t])))

theorem va_core (i : S256x1024.Idx) (j : S65536x1024.Idx) (h0 : (j 0).val = t.val * 256 + (i 0).val)
    (h1 : (i 1).val = (j 1).val) : k1_pay41 (F := Ideal) (k1_pay17 (iblk1 V c 0 t) (iblk1 V c 2 t) (iblk1 V c 1 t)) (View.ld (iblk1 V c 3 t) (Rect.unit ![0, 2048] ![1024, 1024] inb_S1024x6656_S1024x1024_0_2048)) (View.ld (iblk1 V c 4 t) (Rect.unit ![0, 2048] ![1, 1024] inb_S1x6656_S1x1024_0_2048)) i = columns (M := 1024) (zPrompt V c) 2048 (by decide) j := by
  have hi : i = ix2 (i 0) (i 1) := by blk_ext
  rw [hi]
  exact (va_point V c t (i 0) (i 1)).trans (congrArg₂ (zPrompt V c) (Fin.ext h0.symm) (Fin.ext (congrArg (2048 + ·) h1)))

theorem va16_point (r : Fin 256) (n : Fin 1024) : k1_pay42 (F := Ideal) (k1_pay41 (k1_pay17 (iblk1 V c 0 t) (iblk1 V c 2 t) (iblk1 V c 1 t)) (View.ld (iblk1 V c 3 t) (Rect.unit ![0, 2048] ![1024, 1024] inb_S1024x6656_S1024x1024_0_2048)) (View.ld (iblk1 V c 4 t) (Rect.unit ![0, 2048] ![1, 1024] inb_S1x6656_S1x1024_0_2048))) (ix2 r n)
    = zPrompt V c (rowAt t r) ⟨2048 + n.val, by omega⟩ :=
  (va16_prompt _ _ _ _ _ r n).trans (z_point V c t r ⟨2048 + n.val, by omega⟩ _ _ (fun k => (ld_columns _ _ k n (by omega)).trans (by blk_ext [iblk1, idx1 t])) ((ld_columns _ _ 0 n (by omega)).trans (by blk_ext [iblk1, idx1 t])))

theorem va16_core (i : S256x1024.Idx) (j : S65536x1024.Idx) (h0 : (j 0).val = t.val * 256 + (i 0).val)
    (h1 : (i 1).val = (j 1).val) : k1_pay42 (F := Ideal) (k1_pay41 (k1_pay17 (iblk1 V c 0 t) (iblk1 V c 2 t) (iblk1 V c 1 t)) (View.ld (iblk1 V c 3 t) (Rect.unit ![0, 2048] ![1024, 1024] inb_S1024x6656_S1024x1024_0_2048)) (View.ld (iblk1 V c 4 t) (Rect.unit ![0, 2048] ![1, 1024] inb_S1x6656_S1x1024_0_2048))) i = columns (M := 1024) (zPrompt V c) 2048 (by decide) j := by
  have hi : i = ix2 (i 0) (i 1) := by blk_ext
  rw [hi]
  exact (va16_point V c t (i 0) (i 1)).trans (congrArg₂ (zPrompt V c) (Fin.ext h0.symm) (Fin.ext (congrArg (2048 + ·) h1)))

theorem qb_point (r : Fin 256) (n : Fin 512) : k1_pay43 (F := Ideal) (k1_pay17 (iblk1 V c 0 t) (iblk1 V c 2 t) (iblk1 V c 1 t)) (View.ld (iblk1 V c 3 t) (Rect.unit ![0, 3072] ![1024, 512] inb_S1024x6656_S1024x512_0_3072)) (View.ld (iblk1 V c 4 t) (Rect.unit ![0, 3072] ![1, 512] inb_S1x6656_S1x512_0_3072)) (ix2 r n)
    = zPrompt V c (rowAt t r) ⟨3072 + n.val, by omega⟩ * qscale :=
  (qb_prompt _ _ _ _ _ r n).trans (congrArg (· * qscale) (z_point V c t r ⟨3072 + n.val, by omega⟩ _ _ (fun k => (ld_columns _ _ k n (by omega)).trans (by blk_ext [iblk1, idx1 t])) ((ld_columns _ _ 0 n (by omega)).trans (by blk_ext [iblk1, idx1 t]))))

theorem qb_core (i : S256x512.Idx) (j : S65536x512.Idx) (h0 : (j 0).val = t.val * 256 + (i 0).val)
    (h1 : (i 1).val = (j 1).val) : k1_pay43 (F := Ideal) (k1_pay17 (iblk1 V c 0 t) (iblk1 V c 2 t) (iblk1 V c 1 t)) (View.ld (iblk1 V c 3 t) (Rect.unit ![0, 3072] ![1024, 512] inb_S1024x6656_S1024x512_0_3072)) (View.ld (iblk1 V c 4 t) (Rect.unit ![0, 3072] ![1, 512] inb_S1x6656_S1x512_0_3072)) i = queries (M := 512) (zPrompt V c) 3072 (by decide) j := by
  have hi : i = ix2 (i 0) (i 1) := by blk_ext
  rw [hi]
  exact (qb_point V c t (i 0) (i 1)).trans (congrArg (· * qscale) (congrArg₂ (zPrompt V c) (Fin.ext h0.symm) (Fin.ext (congrArg (3072 + ·) h1))))

theorem kb16_point (r : Fin 256) (n : Fin 512) : k1_pay45 (F := Ideal) (k1_pay17 (iblk1 V c 0 t) (iblk1 V c 2 t) (iblk1 V c 1 t)) (View.ld (iblk1 V c 3 t) (Rect.unit ![0, 3584] ![1024, 512] inb_S1024x6656_S1024x512_0_3584)) (View.ld (iblk1 V c 4 t) (Rect.unit ![0, 3584] ![1, 512] inb_S1x6656_S1x512_0_3584)) (ix2 r n)
    = zPrompt V c (rowAt t r) ⟨3584 + n.val, by omega⟩ :=
  (kb16_prompt _ _ _ _ _ r n).trans (z_point V c t r ⟨3584 + n.val, by omega⟩ _ _ (fun k => (ld_columns _ _ k n (by omega)).trans (by blk_ext [iblk1, idx1 t])) ((ld_columns _ _ 0 n (by omega)).trans (by blk_ext [iblk1, idx1 t])))

theorem kb16_core (i : S256x512.Idx) (j : S65536x512.Idx) (h0 : (j 0).val = t.val * 256 + (i 0).val)
    (h1 : (i 1).val = (j 1).val) : k1_pay45 (F := Ideal) (k1_pay17 (iblk1 V c 0 t) (iblk1 V c 2 t) (iblk1 V c 1 t)) (View.ld (iblk1 V c 3 t) (Rect.unit ![0, 3584] ![1024, 512] inb_S1024x6656_S1024x512_0_3584)) (View.ld (iblk1 V c 4 t) (Rect.unit ![0, 3584] ![1, 512] inb_S1x6656_S1x512_0_3584)) i = columns (M := 512) (zPrompt V c) 3584 (by decide) j := by
  have hi : i = ix2 (i 0) (i 1) := by blk_ext
  rw [hi]
  exact (kb16_point V c t (i 0) (i 1)).trans (congrArg₂ (zPrompt V c) (Fin.ext h0.symm) (Fin.ext (congrArg (3584 + ·) h1)))

theorem vb16_point (r : Fin 256) (n : Fin 512) : k1_pay47 (F := Ideal) (k1_pay17 (iblk1 V c 0 t) (iblk1 V c 2 t) (iblk1 V c 1 t)) (View.ld (iblk1 V c 3 t) (Rect.unit ![0, 4096] ![1024, 512] inb_S1024x6656_S1024x512_0_4096)) (View.ld (iblk1 V c 4 t) (Rect.unit ![0, 4096] ![1, 512] inb_S1x6656_S1x512_0_4096)) (ix2 r n)
    = zPrompt V c (rowAt t r) ⟨4096 + n.val, by omega⟩ :=
  (vb16_prompt _ _ _ _ _ r n).trans (z_point V c t r ⟨4096 + n.val, by omega⟩ _ _ (fun k => (ld_columns _ _ k n (by omega)).trans (by blk_ext [iblk1, idx1 t])) ((ld_columns _ _ 0 n (by omega)).trans (by blk_ext [iblk1, idx1 t])))

theorem vb16_core (i : S256x512.Idx) (j : S65536x512.Idx) (h0 : (j 0).val = t.val * 256 + (i 0).val)
    (h1 : (i 1).val = (j 1).val) : k1_pay47 (F := Ideal) (k1_pay17 (iblk1 V c 0 t) (iblk1 V c 2 t) (iblk1 V c 1 t)) (View.ld (iblk1 V c 3 t) (Rect.unit ![0, 4096] ![1024, 512] inb_S1024x6656_S1024x512_0_4096)) (View.ld (iblk1 V c 4 t) (Rect.unit ![0, 4096] ![1, 512] inb_S1x6656_S1x512_0_4096)) i = columns (M := 512) (zPrompt V c) 4096 (by decide) j := by
  have hi : i = ix2 (i 0) (i 1) := by blk_ext
  rw [hi]
  exact (vb16_point V c t (i 0) (i 1)).trans (congrArg₂ (zPrompt V c) (Fin.ext h0.symm) (Fin.ext (congrArg (4096 + ·) h1)))

theorem gate1_point (r : Fin 256) (n : Fin 1024) : k1_pay49 (F := Ideal) (k1_pay17 (iblk1 V c 0 t) (iblk1 V c 2 t) (iblk1 V c 1 t)) (View.ld (iblk1 V c 3 t) (Rect.unit ![0, 4608] ![1024, 1024] inb_S1024x6656_S1024x1024_0_4608)) (View.ld (iblk1 V c 4 t) (Rect.unit ![0, 4608] ![1, 1024] inb_S1x6656_S1x1024_0_4608)) (ix2 r n)
    = Ideal.logistic (zPrompt V c (rowAt t r) ⟨4608 + n.val, by omega⟩) :=
  (gate1_prompt _ _ _ _ _ r n).trans (congrArg Ideal.logistic (z_point V c t r ⟨4608 + n.val, by omega⟩ _ _ (fun k => (ld_columns _ _ k n (by omega)).trans (by blk_ext [iblk1, idx1 t])) ((ld_columns _ _ 0 n (by omega)).trans (by blk_ext [iblk1, idx1 t]))))

theorem gate1_core (i : S256x1024.Idx) (j : S65536x1024.Idx) (h0 : (j 0).val = t.val * 256 + (i 0).val)
    (h1 : (i 1).val = (j 1).val) : k1_pay49 (F := Ideal) (k1_pay17 (iblk1 V c 0 t) (iblk1 V c 2 t) (iblk1 V c 1 t)) (View.ld (iblk1 V c 3 t) (Rect.unit ![0, 4608] ![1024, 1024] inb_S1024x6656_S1024x1024_0_4608)) (View.ld (iblk1 V c 4 t) (Rect.unit ![0, 4608] ![1, 1024] inb_S1x6656_S1x1024_0_4608)) i = gates (M := 1024) (zPrompt V c) 4608 (by decide) j := by
  have hi : i = ix2 (i 0) (i 1) := by blk_ext
  rw [hi]
  exact (gate1_point V c t (i 0) (i 1)).trans (congrArg Ideal.logistic (congrArg₂ (zPrompt V c) (Fin.ext h0.symm) (Fin.ext (congrArg (4608 + ·) h1))))

theorem gate2_point (r : Fin 256) (n : Fin 1024) : k1_pay50 (F := Ideal) (k1_pay17 (iblk1 V c 0 t) (iblk1 V c 2 t) (iblk1 V c 1 t)) (View.ld (iblk1 V c 3 t) (Rect.unit ![0, 5632] ![1024, 1024] inb_S1024x6656_S1024x1024_0_5632)) (View.ld (iblk1 V c 4 t) (Rect.unit ![0, 5632] ![1, 1024] inb_S1x6656_S1x1024_0_5632)) (ix2 r n)
    = Ideal.logistic (zPrompt V c (rowAt t r) ⟨5632 + n.val, by omega⟩) :=
  (gate2_prompt _ _ _ _ _ r n).trans (congrArg Ideal.logistic (z_point V c t r ⟨5632 + n.val, by omega⟩ _ _ (fun k => (ld_columns _ _ k n (by omega)).trans (by blk_ext [iblk1, idx1 t])) ((ld_columns _ _ 0 n (by omega)).trans (by blk_ext [iblk1, idx1 t]))))

theorem gate2_core (i : S256x1024.Idx) (j : S65536x1024.Idx) (h0 : (j 0).val = t.val * 256 + (i 0).val)
    (h1 : (i 1).val = (j 1).val) : k1_pay50 (F := Ideal) (k1_pay17 (iblk1 V c 0 t) (iblk1 V c 2 t) (iblk1 V c 1 t)) (View.ld (iblk1 V c 3 t) (Rect.unit ![0, 5632] ![1024, 1024] inb_S1024x6656_S1024x1024_0_5632)) (View.ld (iblk1 V c 4 t) (Rect.unit ![0, 5632] ![1, 1024] inb_S1x6656_S1x1024_0_5632)) i = gates (M := 1024) (zPrompt V c) 5632 (by decide) j := by
  have hi : i = ix2 (i 0) (i 1) := by blk_ext
  rw [hi]
  exact (gate2_point V c t (i 0) (i 1)).trans (congrArg Ideal.logistic (congrArg₂ (zPrompt V c) (Fin.ext h0.symm) (Fin.ext (congrArg (5632 + ·) h1))))

theorem ka_point (r : Fin 256) (n : Fin 1024) : k1_pay21 (F := Ideal) (k1_pay17 (iblk1 V c 0 t) (iblk1 V c 2 t) (iblk1 V c 1 t)) (View.ld (iblk1 V c 3 t) (Rect.unit ![0, 1024] ![1024, 1024] inb_S1024x6656_S1024x1024_0_1024)) (View.ld (iblk1 V c 4 t) (Rect.unit ![0, 1024] ![1, 1024] inb_S1x6656_S1x1024_0_1024)) (ix2 r n)
    = zPrompt V c (rowAt t r) ⟨1024 + n.val, by omega⟩ :=
  (ka_prompt _ _ _ _ _ r n).trans (z_point V c t r ⟨1024 + n.val, by omega⟩ _ _ (fun k => (ld_columns _ _ k n (by omega)).trans (by blk_ext [iblk1, idx1 t])) ((ld_columns _ _ 0 n (by omega)).trans (by blk_ext [iblk1, idx1 t])))

theorem ka_core (i : S256x1024.Idx) (j : S65536x8x2x64.Idx) (h0 : (j 0).val = t.val * 256 + (i 0).val)
    (h1 : (i 1).val = (j 1).val * 128 + (j 2).val * 64 + (j 3).val) : k1_pay21 (F := Ideal) (k1_pay17 (iblk1 V c 0 t) (iblk1 V c 2 t) (iblk1 V c 1 t)) (View.ld (iblk1 V c 3 t) (Rect.unit ![0, 1024] ![1024, 1024] inb_S1024x6656_S1024x1024_0_1024)) (View.ld (iblk1 V c 4 t) (Rect.unit ![0, 1024] ![1, 1024] inb_S1x6656_S1x1024_0_1024)) i = halves (zPrompt V c) 1024 (by decide) j := by
  have hi : i = ix2 (i 0) (i 1) := by blk_ext
  rw [hi]
  exact (ka_point V c t (i 0) (i 1)).trans (congrArg₂ (zPrompt V c) (Fin.ext h0.symm) (Fin.ext (congrArg (1024 + ·) h1)))

theorem kb_point (r : Fin 256) (n : Fin 512) : k1_pay44 (F := Ideal) (k1_pay17 (iblk1 V c 0 t) (iblk1 V c 2 t) (iblk1 V c 1 t)) (View.ld (iblk1 V c 3 t) (Rect.unit ![0, 3584] ![1024, 512] inb_S1024x6656_S1024x512_0_3584)) (View.ld (iblk1 V c 4 t) (Rect.unit ![0, 3584] ![1, 512] inb_S1x6656_S1x512_0_3584)) (ix2 r n)
    = zPrompt V c (rowAt t r) ⟨3584 + n.val, by omega⟩ :=
  (kb_prompt _ _ _ _ _ r n).trans (z_point V c t r ⟨3584 + n.val, by omega⟩ _ _ (fun k => (ld_columns _ _ k n (by omega)).trans (by blk_ext [iblk1, idx1 t])) ((ld_columns _ _ 0 n (by omega)).trans (by blk_ext [iblk1, idx1 t])))

theorem kb_core (i : S256x512.Idx) (j : S16384x8x64.Idx) (h0 : (j 0).val / 512 * 2048 + (1536 + (j 0).val % 512) = t.val * 256 + (i 0).val)
    (h1 : (i 1).val = (j 1).val * 64 + (j 2).val) : k1_pay44 (F := Ideal) (k1_pay17 (iblk1 V c 0 t) (iblk1 V c 2 t) (iblk1 V c 1 t)) (View.ld (iblk1 V c 3 t) (Rect.unit ![0, 3584] ![1024, 512] inb_S1024x6656_S1024x512_0_3584)) (View.ld (iblk1 V c 4 t) (Rect.unit ![0, 3584] ![1, 512] inb_S1x6656_S1x512_0_3584)) i = heads (zTail V c) 3584 (by decide) j := by
  have hi : i = ix2 (i 0) (i 1) := by blk_ext
  rw [hi]
  exact (kb_point V c t (i 0) (i 1)).trans (congrArg₂ (zPrompt V c) (Fin.ext h0.symm) (Fin.ext (congrArg (3584 + ·) h1)))

theorem vb_point (r : Fin 256) (n : Fin 512) : k1_pay46 (F := Ideal) (k1_pay17 (iblk1 V c 0 t) (iblk1 V c 2 t) (iblk1 V c 1 t)) (View.ld (iblk1 V c 3 t) (Rect.unit ![0, 4096] ![1024, 512] inb_S1024x6656_S1024x512_0_4096)) (View.ld (iblk1 V c 4 t) (Rect.unit ![0, 4096] ![1, 512] inb_S1x6656_S1x512_0_4096)) (ix2 r n)
    = zPrompt V c (rowAt t r) ⟨4096 + n.val, by omega⟩ :=
  (vb_prompt _ _ _ _ _ r n).trans (z_point V c t r ⟨4096 + n.val, by omega⟩ _ _ (fun k => (ld_columns _ _ k n (by omega)).trans (by blk_ext [iblk1, idx1 t])) ((ld_columns _ _ 0 n (by omega)).trans (by blk_ext [iblk1, idx1 t])))

theorem vb_core (i : S256x512.Idx) (j : S16384x8x64.Idx) (h0 : (j 0).val / 512 * 2048 + (1536 + (j 0).val % 512) = t.val * 256 + (i 0).val)
    (h1 : (i 1).val = (j 1).val * 64 + (j 2).val) : k1_pay46 (F := Ideal) (k1_pay17 (iblk1 V c 0 t) (iblk1 V c 2 t) (iblk1 V c 1 t)) (View.ld (iblk1 V c 3 t) (Rect.unit ![0, 4096] ![1024, 512] inb_S1024x6656_S1024x512_0_4096)) (View.ld (iblk1 V c 4 t) (Rect.unit ![0, 4096] ![1, 512] inb_S1x6656_S1x512_0_4096)) i = heads (zTail V c) 4096 (by decide) j := by
  have hi : i = ix2 (i 0) (i 1) := by blk_ext
  rw [hi]
  exact (vb_point V c t (i 0) (i 1)).trans (congrArg₂ (zPrompt V c) (Fin.ext h0.symm) (Fin.ext (congrArg (4096 + ·) h1)))

end Cert.Kernel2Ideal.Prompt
end
-- ==== Proof.SampleRow.lean ====
/-
  A row of the blocks the sample's projection kernel of `Cert.Kernel2Ideal` stores.
-/
module

public import proofs.«01_k».proof.Proof.PromptRow

@[expose] public section

set_option maxRecDepth 16384

noncomputable section

namespace Cert.Kernel2Ideal.Proj

open Cert.Kernel2Ideal Cert.Kernel2Ideal.Gen Cert.Projection
open Idealize.ShloMosaic

section Sample

variable (x sc sh : Vec Ideal S512x1024 .f32)

theorem u_sample (r : Fin 512) (k : Fin 1024) : k2_pay20 x sc sh (ix2 r k)
    = modulated (fun d => x (ix2 r d)) (fun d => sc (ix2 r d)) (fun d => sh (ix2 r d)) k := by
  pointwise [k2_pay20]
  rfl

variable (w : Vec Ideal S1024x1024 .bf16) (w2 : Vec Ideal S1024x512 .bf16) (b : Vec Ideal S1x1024 .f32) (b2 : Vec Ideal S1x512 .f32)

/-- A column of the sample's projection. -/
def zs (r : Fin 512) (wc : Fin 1024 → EReal) (bc : EReal) : EReal :=
  projected (modulated (fun d => x (ix2 r d)) (fun d => sc (ix2 r d)) (fun d => sh (ix2 r d))) wc bc

theorem q_sample (r : Fin 512) (n : Fin 1024) : k2_pay21 x sc sh w b (ix2 r n)
    = zs x sc sh r (fun k => w (ix2 k n)) (b (ix2 0 n)) * (((1 / 8) * (Real.log 2)⁻¹ : ℝ) : EReal) := by
  pointwise [k2_pay21, u_sample]
  rw [qscale_eq]
  rfl

theorem ka_sample (r : Fin 512) (n : Fin 1024) : k2_pay22 (k2_pay20 x sc sh) w b (ix2 r n)
    = zs x sc sh r (fun k => w (ix2 k n)) (b (ix2 0 n)) := by
  pointwise [k2_pay22, u_sample]
  rfl

theorem va_sample (r : Fin 512) (n : Fin 1024) : k2_pay41 (k2_pay20 x sc sh) w b (ix2 r n)
    = zs x sc sh r (fun k => w (ix2 k n)) (b (ix2 0 n)) := by
  pointwise [k2_pay41, u_sample]
  rfl

theorem kb_sample (r : Fin 512) (n : Fin 512) : k2_pay44 (k2_pay20 x sc sh) w2 b2 (ix2 r n)
    = zs x sc sh r (fun k => w2 (ix2 k n)) (b2 (ix2 0 n)) := by
  pointwise [k2_pay44, u_sample]
  rfl

theorem vb_sample (r : Fin 512) (n : Fin 512) : k2_pay46 (k2_pay20 x sc sh) w2 b2 (ix2 r n)
    = zs x sc sh r (fun k => w2 (ix2 k n)) (b2 (ix2 0 n)) := by
  pointwise [k2_pay46, u_sample]
  rfl

theorem ka16_sample (r : Fin 512) (n : Fin 1024) : k2_pay40 (k2_pay22 (k2_pay20 x sc sh) w b) (ix2 r n)
    = zs x sc sh r (fun k => w (ix2 k n)) (b (ix2 0 n)) := by
  pointwise [k2_pay40, ka_sample]

theorem va16_sample (r : Fin 512) (n : Fin 1024) : k2_pay42 (k2_pay20 x sc sh) w b (ix2 r n)
    = zs x sc sh r (fun k => w (ix2 k n)) (b (ix2 0 n)) := by
  pointwise [k2_pay42, va_sample]

theorem kb16_sample (r : Fin 512) (n : Fin 512) : k2_pay45 (k2_pay20 x sc sh) w2 b2 (ix2 r n)
    = zs x sc sh r (fun k => w2 (ix2 k n)) (b2 (ix2 0 n)) := by
  pointwise [k2_pay45, kb_sample]

theorem vb16_sample (r : Fin 512) (n : Fin 512) : k2_pay47 (k2_pay20 x sc sh) w2 b2 (ix2 r n)
    = zs x sc sh r (fun k => w2 (ix2 k n)) (b2 (ix2 0 n)) := by
  pointwise [k2_pay47, vb_sample]

theorem qb_sample (r : Fin 512) (n : Fin 512) : k2_pay43 (k2_pay20 x sc sh) w2 b2 (ix2 r n)
    = zs x sc sh r (fun k => w2 (ix2 k n)) (b2 (ix2 0 n)) * (((1 / 8) * (Real.log 2)⁻¹ : ℝ) : EReal) := by
  pointwise [k2_pay43, u_sample]
  rw [qscale_eq]
  rfl

theorem gate1_sample (r : Fin 512) (n : Fin 1024) : k2_pay2 (k2_pay20 x sc sh) w b (ix2 r n)
    = Ideal.logistic (zs x sc sh r (fun k => w (ix2 k n)) (b (ix2 0 n))) := by
  pointwise [k2_pay2, u_sample]
  rfl

theorem gate2_sample (r : Fin 512) (n : Fin 1024) : k2_pay3 (k2_pay20 x sc sh) w b (ix2 r n)
    = Ideal.logistic (zs x sc sh r (fun k => w (ix2 k n)) (b (ix2 0 n))) := by
  pointwise [k2_pay3, u_sample]
  rfl

end Sample
end Cert.Kernel2Ideal.Proj
end
-- ==== Proof.SampleBlock.lean ====
/-
  What each grid point of the sample's projection kernel of `Cert.Kernel2Ideal` computes, as columns of its tokens' projections.
-/
module

public import proofs.«01_k».proof.Proof.SampleRow
public import proofs.«01_k».proof.Proof.Segments
public import proofs.«01_k».proof.Proof.Gen.Kernel2Ideal.Frame.Region2
public import Idealize.ShloMosaic.Lib.Pipeline.ValueKit

@[expose] public section

set_option maxRecDepth 16384

noncomputable section

namespace Cert.Kernel2Ideal.Sample

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

theorem idx2 : ∀ t : Fin cfg2.N, win2_0.index t = ![0, 0] ∧ win2_1.index t = ![0, 0] ∧ win2_2.index t = ![0, 0]
    ∧ win2_3.index t = ![0, 0] ∧ win2_4.index t = ![0, 0] ∧ win2_5.index t = ![0, 0] ∧ win2_6.index t = ![0, 0, 0, 0]
    ∧ win2_7.index t = ![0, 0] ∧ win2_8.index t = ![0, 0] ∧ win2_9.index t = ![0, 0] ∧ win2_10.index t = ![0, 0]
    ∧ win2_11.index t = ![0, 0] ∧ win2_12.index t = ![0, 0] ∧ win2_13.index t = ![0, 0] ∧ win2_14.index t = ![0, 0]
    ∧ win2_15.index t = ![0, 0, 0] ∧ win2_16.index t = ![0, 0, 0] :=
  (by decide +kernel : ∀ t : Fin grid2.N, _)

/-- The projection of every token of the samples, from the arrays the kernel is launched on. -/
def zSample (R : Fin 512) (n : Fin 6656) : EReal :=
  projected (modulated (fun d => (V c main_v43 : Vec Ideal S512x1024 .f32) (ix2 R d)) (fun d => (V c main_v32 : Vec Ideal S512x1024 .f32) (ix2 R d))
    (fun d => (V c main_v30 : Vec Ideal S512x1024 .f32) (ix2 R d)))
    (fun k => (V c main_v1 : Vec Ideal S1024x6656 .bf16) (ix2 k n)) ((V c main_v3 : Vec Ideal S1x6656 .f32) (ix2 0 n))

variable (t : Fin cfg2.N)

theorem x_block (r : Fin 512) (d : Fin 1024) : (iblk2 V c 0 t : Vec Ideal S512x1024 .f32) (ix2 r d) = (V c main_v43 : Vec Ideal S512x1024 .f32) (ix2 r d) := by
  blk_ext [iblk2, idx2 t]

theorem sh_block (r : Fin 512) (d : Fin 1024) : (iblk2 V c 1 t : Vec Ideal S512x1024 .f32) (ix2 r d) = (V c main_v30 : Vec Ideal S512x1024 .f32) (ix2 r d) := by
  blk_ext [iblk2, idx2 t]

theorem sc_block (r : Fin 512) (d : Fin 1024) : (iblk2 V c 2 t : Vec Ideal S512x1024 .f32) (ix2 r d) = (V c main_v32 : Vec Ideal S512x1024 .f32) (ix2 r d) := by
  blk_ext [iblk2, idx2 t]

theorem z_point (r : Fin 512) (n : Fin 6656) (w : Fin 1024 → EReal) (b : EReal) (hw : ∀ k, w k = (V c main_v1 : Vec Ideal S1024x6656 .bf16) (ix2 k n))
    (hb : b = (V c main_v3 : Vec Ideal S1x6656 .f32) (ix2 0 n)) : zs (iblk2 V c 0 t) (iblk2 V c 2 t) (iblk2 V c 1 t) r w b = zSample V c r n := by
  obtain rfl : w = _ := funext hw
  unfold zs zSample
  simp only [x_block, sh_block, sc_block, hb]

theorem q_point (r : Fin 512) (n : Fin 1024) : k2_pay21 (F := Ideal) (iblk2 V c 0 t) (iblk2 V c 2 t) (iblk2 V c 1 t) (View.ld (iblk2 V c 3 t) (Rect.unit ![0, 0] ![1024, 1024] inb_S1024x6656_S1024x1024_0_0)) (View.ld (iblk2 V c 4 t) (Rect.unit ![0, 0] ![1, 1024] inb_S1x6656_S1x1024_0_0)) (ix2 r n)
    = zSample V c r ⟨0 + n.val, by omega⟩ * qscale :=
  (q_sample _ _ _ _ _ r n).trans (congrArg (· * qscale) (z_point V c t r ⟨0 + n.val, by omega⟩ _ _ (fun k => (ld_columns _ _ k n (by omega)).trans (by blk_ext [iblk2, idx2 t])) ((ld_columns _ _ 0 n (by omega)).trans (by blk_ext [iblk2, idx2 t]))))

theorem q_core (i : S512x1024.Idx) (j : S512x1024.Idx) (h0 : (j 0).val = (i 0).val)
    (h1 : (i 1).val = (j 1).val) : k2_pay21 (F := Ideal) (iblk2 V c 0 t) (iblk2 V c 2 t) (iblk2 V c 1 t) (View.ld (iblk2 V c 3 t) (Rect.unit ![0, 0] ![1024, 1024] inb_S1024x6656_S1024x1024_0_0)) (View.ld (iblk2 V c 4 t) (Rect.unit ![0, 0] ![1, 1024] inb_S1x6656_S1x1024_0_0)) i = queries (M := 1024) (zSample V c) 0 (by decide) j := by
  have hi : i = ix2 (i 0) (i 1) := by blk_ext
  rw [hi]
  exact (q_point V c t (i 0) (i 1)).trans (congrArg (· * qscale) (congrArg₂ (zSample V c) (Fin.ext h0.symm) (Fin.ext (congrArg (0 + ·) h1))))

theorem ka16_point (r : Fin 512) (n : Fin 1024) : k2_pay40 (F := Ideal) (k2_pay22 (k2_pay20 (iblk2 V c 0 t) (iblk2 V c 2 t) (iblk2 V c 1 t)) (View.ld (iblk2 V c 3 t) (Rect.unit ![0, 1024] ![1024, 1024] inb_S1024x6656_S1024x1024_0_1024)) (View.ld (iblk2 V c 4 t) (Rect.unit ![0, 1024] ![1, 1024] inb_S1x6656_S1x1024_0_1024))) (ix2 r n)
    = zSample V c r ⟨1024 + n.val, by omega⟩ :=
  (ka16_sample _ _ _ _ _ r n).trans (z_point V c t r ⟨1024 + n.val, by omega⟩ _ _ (fun k => (ld_columns _ _ k n (by omega)).trans (by blk_ext [iblk2, idx2 t])) ((ld_columns _ _ 0 n (by omega)).trans (by blk_ext [iblk2, idx2 t])))

theorem ka16_core (i : S512x1024.Idx) (j : S512x1024.Idx) (h0 : (j 0).val = (i 0).val)
    (h1 : (i 1).val = (j 1).val) : k2_pay40 (F := Ideal) (k2_pay22 (k2_pay20 (iblk2 V c 0 t) (iblk2 V c 2 t) (iblk2 V c 1 t)) (View.ld (iblk2 V c 3 t) (Rect.unit ![0, 1024] ![1024, 1024] inb_S1024x6656_S1024x1024_0_1024)) (View.ld (iblk2 V c 4 t) (Rect.unit ![0, 1024] ![1, 1024] inb_S1x6656_S1x1024_0_1024))) i = columns (M := 1024) (zSample V c) 1024 (by decide) j := by
  have hi : i = ix2 (i 0) (i 1) := by blk_ext
  rw [hi]
  exact (ka16_point V c t (i 0) (i 1)).trans (congrArg₂ (zSample V c) (Fin.ext h0.symm) (Fin.ext (congrArg (1024 + ·) h1)))

theorem va_point (r : Fin 512) (n : Fin 1024) : k2_pay41 (F := Ideal) (k2_pay20 (iblk2 V c 0 t) (iblk2 V c 2 t) (iblk2 V c 1 t)) (View.ld (iblk2 V c 3 t) (Rect.unit ![0, 2048] ![1024, 1024] inb_S1024x6656_S1024x1024_0_2048)) (View.ld (iblk2 V c 4 t) (Rect.unit ![0, 2048] ![1, 1024] inb_S1x6656_S1x1024_0_2048)) (ix2 r n)
    = zSample V c r ⟨2048 + n.val, by omega⟩ :=
  (va_sample _ _ _ _ _ r n).trans (z_point V c t r ⟨2048 + n.val, by omega⟩ _ _ (fun k => (ld_columns _ _ k n (by omega)).trans (by blk_ext [iblk2, idx2 t])) ((ld_columns _ _ 0 n (by omega)).trans (by blk_ext [iblk2, idx2 t])))

theorem va_core (i : S512x1024.Idx) (j : S512x1024.Idx) (h0 : (j 0).val = (i 0).val)
    (h1 : (i 1).val = (j 1).val) : k2_pay41 (F := Ideal) (k2_pay20 (iblk2 V c 0 t) (iblk2 V c 2 t) (iblk2 V c 1 t)) (View.ld (iblk2 V c 3 t) (Rect.unit ![0, 2048] ![1024, 1024] inb_S1024x6656_S1024x1024_0_2048)) (View.ld (iblk2 V c 4 t) (Rect.unit ![0, 2048] ![1, 1024] inb_S1x6656_S1x1024_0_2048)) i = columns (M := 1024) (zSample V c) 2048 (by decide) j := by
  have hi : i = ix2 (i 0) (i 1) := by blk_ext
  rw [hi]
  exact (va_point V c t (i 0) (i 1)).trans (congrArg₂ (zSample V c) (Fin.ext h0.symm) (Fin.ext (congrArg (2048 + ·) h1)))

theorem va16_point (r : Fin 512) (n : Fin 1024) : k2_pay42 (F := Ideal) (k2_pay20 (iblk2 V c 0 t) (iblk2 V c 2 t) (iblk2 V c 1 t)) (View.ld (iblk2 V c 3 t) (Rect.unit ![0, 2048] ![1024, 1024] inb_S1024x6656_S1024x1024_0_2048)) (View.ld (iblk2 V c 4 t) (Rect.unit ![0, 2048] ![1, 1024] inb_S1x6656_S1x1024_0_2048)) (ix2 r n)
    = zSample V c r ⟨2048 + n.val, by omega⟩ :=
  (va16_sample _ _ _ _ _ r n).trans (z_point V c t r ⟨2048 + n.val, by omega⟩ _ _ (fun k => (ld_columns _ _ k n (by omega)).trans (by blk_ext [iblk2, idx2 t])) ((ld_columns _ _ 0 n (by omega)).trans (by blk_ext [iblk2, idx2 t])))

theorem va16_core (i : S512x1024.Idx) (j : S512x1024.Idx) (h0 : (j 0).val = (i 0).val)
    (h1 : (i 1).val = (j 1).val) : k2_pay42 (F := Ideal) (k2_pay20 (iblk2 V c 0 t) (iblk2 V c 2 t) (iblk2 V c 1 t)) (View.ld (iblk2 V c 3 t) (Rect.unit ![0, 2048] ![1024, 1024] inb_S1024x6656_S1024x1024_0_2048)) (View.ld (iblk2 V c 4 t) (Rect.unit ![0, 2048] ![1, 1024] inb_S1x6656_S1x1024_0_2048)) i = columns (M := 1024) (zSample V c) 2048 (by decide) j := by
  have hi : i = ix2 (i 0) (i 1) := by blk_ext
  rw [hi]
  exact (va16_point V c t (i 0) (i 1)).trans (congrArg₂ (zSample V c) (Fin.ext h0.symm) (Fin.ext (congrArg (2048 + ·) h1)))

theorem qb_point (r : Fin 512) (n : Fin 512) : k2_pay43 (F := Ideal) (k2_pay20 (iblk2 V c 0 t) (iblk2 V c 2 t) (iblk2 V c 1 t)) (View.ld (iblk2 V c 3 t) (Rect.unit ![0, 3072] ![1024, 512] inb_S1024x6656_S1024x512_0_3072)) (View.ld (iblk2 V c 4 t) (Rect.unit ![0, 3072] ![1, 512] inb_S1x6656_S1x512_0_3072)) (ix2 r n)
    = zSample V c r ⟨3072 + n.val, by omega⟩ * qscale :=
  (qb_sample _ _ _ _ _ r n).trans (congrArg (· * qscale) (z_point V c t r ⟨3072 + n.val, by omega⟩ _ _ (fun k => (ld_columns _ _ k n (by omega)).trans (by blk_ext [iblk2, idx2 t])) ((ld_columns _ _ 0 n (by omega)).trans (by blk_ext [iblk2, idx2 t]))))

theorem qb_core (i : S512x512.Idx) (j : S512x512.Idx) (h0 : (j 0).val = (i 0).val)
    (h1 : (i 1).val = (j 1).val) : k2_pay43 (F := Ideal) (k2_pay20 (iblk2 V c 0 t) (iblk2 V c 2 t) (iblk2 V c 1 t)) (View.ld (iblk2 V c 3 t) (Rect.unit ![0, 3072] ![1024, 512] inb_S1024x6656_S1024x512_0_3072)) (View.ld (iblk2 V c 4 t) (Rect.unit ![0, 3072] ![1, 512] inb_S1x6656_S1x512_0_3072)) i = queries (M := 512) (zSample V c) 3072 (by decide) j := by
  have hi : i = ix2 (i 0) (i 1) := by blk_ext
  rw [hi]
  exact (qb_point V c t (i 0) (i 1)).trans (congrArg (· * qscale) (congrArg₂ (zSample V c) (Fin.ext h0.symm) (Fin.ext (congrArg (3072 + ·) h1))))

theorem kb16_point (r : Fin 512) (n : Fin 512) : k2_pay45 (F := Ideal) (k2_pay20 (iblk2 V c 0 t) (iblk2 V c 2 t) (iblk2 V c 1 t)) (View.ld (iblk2 V c 3 t) (Rect.unit ![0, 3584] ![1024, 512] inb_S1024x6656_S1024x512_0_3584)) (View.ld (iblk2 V c 4 t) (Rect.unit ![0, 3584] ![1, 512] inb_S1x6656_S1x512_0_3584)) (ix2 r n)
    = zSample V c r ⟨3584 + n.val, by omega⟩ :=
  (kb16_sample _ _ _ _ _ r n).trans (z_point V c t r ⟨3584 + n.val, by omega⟩ _ _ (fun k => (ld_columns _ _ k n (by omega)).trans (by blk_ext [iblk2, idx2 t])) ((ld_columns _ _ 0 n (by omega)).trans (by blk_ext [iblk2, idx2 t])))

theorem kb16_core (i : S512x512.Idx) (j : S512x512.Idx) (h0 : (j 0).val = (i 0).val)
    (h1 : (i 1).val = (j 1).val) : k2_pay45 (F := Ideal) (k2_pay20 (iblk2 V c 0 t) (iblk2 V c 2 t) (iblk2 V c 1 t)) (View.ld (iblk2 V c 3 t) (Rect.unit ![0, 3584] ![1024, 512] inb_S1024x6656_S1024x512_0_3584)) (View.ld (iblk2 V c 4 t) (Rect.unit ![0, 3584] ![1, 512] inb_S1x6656_S1x512_0_3584)) i = columns (M := 512) (zSample V c) 3584 (by decide) j := by
  have hi : i = ix2 (i 0) (i 1) := by blk_ext
  rw [hi]
  exact (kb16_point V c t (i 0) (i 1)).trans (congrArg₂ (zSample V c) (Fin.ext h0.symm) (Fin.ext (congrArg (3584 + ·) h1)))

theorem vb16_point (r : Fin 512) (n : Fin 512) : k2_pay47 (F := Ideal) (k2_pay20 (iblk2 V c 0 t) (iblk2 V c 2 t) (iblk2 V c 1 t)) (View.ld (iblk2 V c 3 t) (Rect.unit ![0, 4096] ![1024, 512] inb_S1024x6656_S1024x512_0_4096)) (View.ld (iblk2 V c 4 t) (Rect.unit ![0, 4096] ![1, 512] inb_S1x6656_S1x512_0_4096)) (ix2 r n)
    = zSample V c r ⟨4096 + n.val, by omega⟩ :=
  (vb16_sample _ _ _ _ _ r n).trans (z_point V c t r ⟨4096 + n.val, by omega⟩ _ _ (fun k => (ld_columns _ _ k n (by omega)).trans (by blk_ext [iblk2, idx2 t])) ((ld_columns _ _ 0 n (by omega)).trans (by blk_ext [iblk2, idx2 t])))

theorem vb16_core (i : S512x512.Idx) (j : S512x512.Idx) (h0 : (j 0).val = (i 0).val)
    (h1 : (i 1).val = (j 1).val) : k2_pay47 (F := Ideal) (k2_pay20 (iblk2 V c 0 t) (iblk2 V c 2 t) (iblk2 V c 1 t)) (View.ld (iblk2 V c 3 t) (Rect.unit ![0, 4096] ![1024, 512] inb_S1024x6656_S1024x512_0_4096)) (View.ld (iblk2 V c 4 t) (Rect.unit ![0, 4096] ![1, 512] inb_S1x6656_S1x512_0_4096)) i = columns (M := 512) (zSample V c) 4096 (by decide) j := by
  have hi : i = ix2 (i 0) (i 1) := by blk_ext
  rw [hi]
  exact (vb16_point V c t (i 0) (i 1)).trans (congrArg₂ (zSample V c) (Fin.ext h0.symm) (Fin.ext (congrArg (4096 + ·) h1)))

theorem gate1_point (r : Fin 512) (n : Fin 1024) : k2_pay2 (F := Ideal) (k2_pay20 (iblk2 V c 0 t) (iblk2 V c 2 t) (iblk2 V c 1 t)) (View.ld (iblk2 V c 3 t) (Rect.unit ![0, 4608] ![1024, 1024] inb_S1024x6656_S1024x1024_0_4608)) (View.ld (iblk2 V c 4 t) (Rect.unit ![0, 4608] ![1, 1024] inb_S1x6656_S1x1024_0_4608)) (ix2 r n)
    = Ideal.logistic (zSample V c r ⟨4608 + n.val, by omega⟩) :=
  (gate1_sample _ _ _ _ _ r n).trans (congrArg Ideal.logistic (z_point V c t r ⟨4608 + n.val, by omega⟩ _ _ (fun k => (ld_columns _ _ k n (by omega)).trans (by blk_ext [iblk2, idx2 t])) ((ld_columns _ _ 0 n (by omega)).trans (by blk_ext [iblk2, idx2 t]))))

theorem gate1_core (i : S512x1024.Idx) (j : S512x1024.Idx) (h0 : (j 0).val = (i 0).val)
    (h1 : (i 1).val = (j 1).val) : k2_pay2 (F := Ideal) (k2_pay20 (iblk2 V c 0 t) (iblk2 V c 2 t) (iblk2 V c 1 t)) (View.ld (iblk2 V c 3 t) (Rect.unit ![0, 4608] ![1024, 1024] inb_S1024x6656_S1024x1024_0_4608)) (View.ld (iblk2 V c 4 t) (Rect.unit ![0, 4608] ![1, 1024] inb_S1x6656_S1x1024_0_4608)) i = gates (M := 1024) (zSample V c) 4608 (by decide) j := by
  have hi : i = ix2 (i 0) (i 1) := by blk_ext
  rw [hi]
  exact (gate1_point V c t (i 0) (i 1)).trans (congrArg Ideal.logistic (congrArg₂ (zSample V c) (Fin.ext h0.symm) (Fin.ext (congrArg (4608 + ·) h1))))

theorem gate2_point (r : Fin 512) (n : Fin 1024) : k2_pay3 (F := Ideal) (k2_pay20 (iblk2 V c 0 t) (iblk2 V c 2 t) (iblk2 V c 1 t)) (View.ld (iblk2 V c 3 t) (Rect.unit ![0, 5632] ![1024, 1024] inb_S1024x6656_S1024x1024_0_5632)) (View.ld (iblk2 V c 4 t) (Rect.unit ![0, 5632] ![1, 1024] inb_S1x6656_S1x1024_0_5632)) (ix2 r n)
    = Ideal.logistic (zSample V c r ⟨5632 + n.val, by omega⟩) :=
  (gate2_sample _ _ _ _ _ r n).trans (congrArg Ideal.logistic (z_point V c t r ⟨5632 + n.val, by omega⟩ _ _ (fun k => (ld_columns _ _ k n (by omega)).trans (by blk_ext [iblk2, idx2 t])) ((ld_columns _ _ 0 n (by omega)).trans (by blk_ext [iblk2, idx2 t]))))

theorem gate2_core (i : S512x1024.Idx) (j : S512x1024.Idx) (h0 : (j 0).val = (i 0).val)
    (h1 : (i 1).val = (j 1).val) : k2_pay3 (F := Ideal) (k2_pay20 (iblk2 V c 0 t) (iblk2 V c 2 t) (iblk2 V c 1 t)) (View.ld (iblk2 V c 3 t) (Rect.unit ![0, 5632] ![1024, 1024] inb_S1024x6656_S1024x1024_0_5632)) (View.ld (iblk2 V c 4 t) (Rect.unit ![0, 5632] ![1, 1024] inb_S1x6656_S1x1024_0_5632)) i = gates (M := 1024) (zSample V c) 5632 (by decide) j := by
  have hi : i = ix2 (i 0) (i 1) := by blk_ext
  rw [hi]
  exact (gate2_point V c t (i 0) (i 1)).trans (congrArg Ideal.logistic (congrArg₂ (zSample V c) (Fin.ext h0.symm) (Fin.ext (congrArg (5632 + ·) h1))))

theorem ka_point (r : Fin 512) (n : Fin 1024) : k2_pay22 (F := Ideal) (k2_pay20 (iblk2 V c 0 t) (iblk2 V c 2 t) (iblk2 V c 1 t)) (View.ld (iblk2 V c 3 t) (Rect.unit ![0, 1024] ![1024, 1024] inb_S1024x6656_S1024x1024_0_1024)) (View.ld (iblk2 V c 4 t) (Rect.unit ![0, 1024] ![1, 1024] inb_S1x6656_S1x1024_0_1024)) (ix2 r n)
    = zSample V c r ⟨1024 + n.val, by omega⟩ :=
  (ka_sample _ _ _ _ _ r n).trans (z_point V c t r ⟨1024 + n.val, by omega⟩ _ _ (fun k => (ld_columns _ _ k n (by omega)).trans (by blk_ext [iblk2, idx2 t])) ((ld_columns _ _ 0 n (by omega)).trans (by blk_ext [iblk2, idx2 t])))

theorem ka_core (i : S512x1024.Idx) (j : S512x8x2x64.Idx) (h0 : (j 0).val = (i 0).val)
    (h1 : (i 1).val = (j 1).val * 128 + (j 2).val * 64 + (j 3).val) : k2_pay22 (F := Ideal) (k2_pay20 (iblk2 V c 0 t) (iblk2 V c 2 t) (iblk2 V c 1 t)) (View.ld (iblk2 V c 3 t) (Rect.unit ![0, 1024] ![1024, 1024] inb_S1024x6656_S1024x1024_0_1024)) (View.ld (iblk2 V c 4 t) (Rect.unit ![0, 1024] ![1, 1024] inb_S1x6656_S1x1024_0_1024)) i = halves (zSample V c) 1024 (by decide) j := by
  have hi : i = ix2 (i 0) (i 1) := by blk_ext
  rw [hi]
  exact (ka_point V c t (i 0) (i 1)).trans (congrArg₂ (zSample V c) (Fin.ext h0.symm) (Fin.ext (congrArg (1024 + ·) h1)))

theorem kb_point (r : Fin 512) (n : Fin 512) : k2_pay44 (F := Ideal) (k2_pay20 (iblk2 V c 0 t) (iblk2 V c 2 t) (iblk2 V c 1 t)) (View.ld (iblk2 V c 3 t) (Rect.unit ![0, 3584] ![1024, 512] inb_S1024x6656_S1024x512_0_3584)) (View.ld (iblk2 V c 4 t) (Rect.unit ![0, 3584] ![1, 512] inb_S1x6656_S1x512_0_3584)) (ix2 r n)
    = zSample V c r ⟨3584 + n.val, by omega⟩ :=
  (kb_sample _ _ _ _ _ r n).trans (z_point V c t r ⟨3584 + n.val, by omega⟩ _ _ (fun k => (ld_columns _ _ k n (by omega)).trans (by blk_ext [iblk2, idx2 t])) ((ld_columns _ _ 0 n (by omega)).trans (by blk_ext [iblk2, idx2 t])))

theorem kb_core (i : S512x512.Idx) (j : S512x8x64.Idx) (h0 : (j 0).val = (i 0).val)
    (h1 : (i 1).val = (j 1).val * 64 + (j 2).val) : k2_pay44 (F := Ideal) (k2_pay20 (iblk2 V c 0 t) (iblk2 V c 2 t) (iblk2 V c 1 t)) (View.ld (iblk2 V c 3 t) (Rect.unit ![0, 3584] ![1024, 512] inb_S1024x6656_S1024x512_0_3584)) (View.ld (iblk2 V c 4 t) (Rect.unit ![0, 3584] ![1, 512] inb_S1x6656_S1x512_0_3584)) i = heads (zSample V c) 3584 (by decide) j := by
  have hi : i = ix2 (i 0) (i 1) := by blk_ext
  rw [hi]
  exact (kb_point V c t (i 0) (i 1)).trans (congrArg₂ (zSample V c) (Fin.ext h0.symm) (Fin.ext (congrArg (3584 + ·) h1)))

theorem vb_point (r : Fin 512) (n : Fin 512) : k2_pay46 (F := Ideal) (k2_pay20 (iblk2 V c 0 t) (iblk2 V c 2 t) (iblk2 V c 1 t)) (View.ld (iblk2 V c 3 t) (Rect.unit ![0, 4096] ![1024, 512] inb_S1024x6656_S1024x512_0_4096)) (View.ld (iblk2 V c 4 t) (Rect.unit ![0, 4096] ![1, 512] inb_S1x6656_S1x512_0_4096)) (ix2 r n)
    = zSample V c r ⟨4096 + n.val, by omega⟩ :=
  (vb_sample _ _ _ _ _ r n).trans (z_point V c t r ⟨4096 + n.val, by omega⟩ _ _ (fun k => (ld_columns _ _ k n (by omega)).trans (by blk_ext [iblk2, idx2 t])) ((ld_columns _ _ 0 n (by omega)).trans (by blk_ext [iblk2, idx2 t])))

theorem vb_core (i : S512x512.Idx) (j : S512x8x64.Idx) (h0 : (j 0).val = (i 0).val)
    (h1 : (i 1).val = (j 1).val * 64 + (j 2).val) : k2_pay46 (F := Ideal) (k2_pay20 (iblk2 V c 0 t) (iblk2 V c 2 t) (iblk2 V c 1 t)) (View.ld (iblk2 V c 3 t) (Rect.unit ![0, 4096] ![1024, 512] inb_S1024x6656_S1024x512_0_4096)) (View.ld (iblk2 V c 4 t) (Rect.unit ![0, 4096] ![1, 512] inb_S1x6656_S1x512_0_4096)) i = heads (zSample V c) 4096 (by decide) j := by
  have hi : i = ix2 (i 0) (i 1) := by blk_ext
  rw [hi]
  exact (vb_point V c t (i 0) (i 1)).trans (congrArg₂ (zSample V c) (Fin.ext h0.symm) (Fin.ext (congrArg (4096 + ·) h1)))

end Cert.Kernel2Ideal.Sample
end
-- ==== Proof.ProjRows.lean ====
/-
  The rows that the projection kernels of `Cert.Kernel2Ideal` compute are the tokens' projections, from the arguments.
-/
module

public import proofs.«01_k».proof.Proof.ProjHost
public import proofs.«01_k».proof.Proof.PromptBlock
public import proofs.«01_k».proof.Proof.SampleBlock

@[expose] public section

set_option maxRecDepth 16384

noncomputable section

namespace Cert.Kernel2Ideal.Proj

open Cert.Kernel2Ideal Cert.Kernel2Ideal.Gen Cert.Projection
open Idealize.ShloMosaic Idealize.ShloMosaic.TcCoe

variable (m : (ℓ : Loc nD τ sig) → Buf (Elt Ideal) ℓ) (ρ : Dev nD → PrngReg) (c : Dev nD)

/-- The conditioning and its weights are real. -/
structure Reals : Prop where
  prompt : ∀ i, ∃ r : ℝ, arg2 m c i = (r : EReal)
  sample : ∀ i, ∃ r : ℝ, arg3 m c i = (r : EReal)
  weight : ∀ i, ∃ r : ℝ, arg4 m c i = (r : EReal)

variable (hr : Reals m c)

include hr in
theorem c_real (i : Fin 64) (k : Fin 1024) : ∃ r : ℝ, (V1 m ρ c main_v4 : Vec Ideal S64x1024 .f32) (ix2 i k) = (r : EReal) := by
  rw [c_entry m ρ c i k]
  split
  · exact hr.prompt _
  · exact hr.sample _

include hr in
theorem wa_real (k : Fin 1024) (n : Fin 6144) : ∃ r : ℝ, (V1 m ρ c main_v5 : Vec Ideal S1024x6144 .f32) (ix2 k n) = (r : EReal) := by
  rw [wa_entry m ρ c k n]
  exact hr.weight _

theorem ix_eq {A B : ℕ} (i : (⟨2, ![A, B]⟩ : Shape).Idx) : i = ix2 (i 0) (i 1) := by blk_ext

include hr in
theorem ada_eq : ada m ρ c = condArr (V1 m ρ) c := by
  refine (W2_arr m ρ c 3).trans (cond_final (V1 m ρ) c (fun (i : (⟨2, ![64, 1024]⟩ : Shape).Idx) => ?_) (fun (i : (⟨2, ![1024, 6144]⟩ : Shape).Idx) => ?_))
  · exact (ix_eq i) ▸ c_real m ρ c hr (i 0) (i 1)
  · exact (ix_eq i) ▸ wa_real m ρ c hr (i 0) (i 1)

include hr in
theorem ada_prompt (i : Fin 32) (j : Fin 6144) : ada m ρ c (ix2 ⟨i.val, by omega⟩ j)
    = conditioned (fun k => arg2 m c (ix2 i k)) (fun k => arg4 m c (ix3 0 k j)) (arg5 m c (ix2 0 j)) := by
  rw [ada_eq m ρ c hr]
  show conditioned (fun k => (V1 m ρ c main_v4 : Vec Ideal S64x1024 .f32) (ix2 ⟨i.val, by omega⟩ k)) (fun k => (V1 m ρ c main_v5 : Vec Ideal S1024x6144 .f32) (ix2 k j))
    ((V1 m ρ c main_v7 : Vec Ideal S1x6144 .f32) (ix2 0 j)) = _
  simp only [c_entry m ρ c, wa_entry m ρ c, ba_entry m ρ c, i.isLt, dif_pos]

include hr in
theorem ada_sample (i : Fin 32) (j : Fin 6144) : ada m ρ c (ix2 ⟨32 + i.val, by omega⟩ j)
    = conditioned (fun k => arg3 m c (ix2 i k)) (fun k => arg4 m c (ix3 0 k j)) (arg5 m c (ix2 0 j)) := by
  rw [ada_eq m ρ c hr]
  show conditioned (fun k => (V1 m ρ c main_v4 : Vec Ideal S64x1024 .f32) (ix2 ⟨32 + i.val, by omega⟩ k)) (fun k => (V1 m ρ c main_v5 : Vec Ideal S1024x6144 .f32) (ix2 k j))
    ((V1 m ρ c main_v7 : Vec Ideal S1x6144 .f32) (ix2 0 j)) = _
  have hn : ¬ 32 + i.val < 32 := by omega
  have he : (⟨32 + i.val - 32, by omega⟩ : Fin 32) = i := Fin.ext (by simp)
  simp only [c_entry m ρ c, wa_entry m ρ c, ba_entry m ρ c, hn, dif_neg, not_false_eq_true, he]

theorem w_entry1 (k : Fin 1024) (n : Fin 6656) : (V3 m ρ c main_v1 : Vec Ideal S1024x6656 .bf16) (ix2 k n) = arg6 m c (ix3 0 k n) :=
  (congrFun ((W3_of m ρ c main_v1 (by decide)).trans (W2_of m ρ c main_v1 (by decide))) (ix2 k n)).trans (w_entry m ρ c k n)

theorem b_entry1 (n : Fin 6656) : (V3 m ρ c main_v3 : Vec Ideal S1x6656 .f32) (ix2 0 n) = arg7 m c (ix2 0 n) :=
  (congrFun ((W3_of m ρ c main_v3 (by decide)).trans (W2_of m ρ c main_v3 (by decide))) (ix2 0 n)).trans (b_entry m ρ c n)

/-- A reference that neither the prompt's kernel nor the stretch after it writes keeps its contents. -/
theorem V5_of (b : Ref sig .tc) (h : b ∉ hostOps2_W) (hw : ∀ w : Fin cfg1.W, Pipeline.arrRef spec1 w = b → (cfg1.win w).isOut = false) :
    V5 m ρ c b = V3 m ρ c b := (W5_of m ρ c b h).trans (W4_of m ρ c b hw)

theorem x_prompt_arg (r : Fin 65536) (d : Fin 1024) : (V3 m ρ c main_v41 : Vec Ideal S65536x1024 .f32) (ix2 r d)
    = arg0 m c (ix3 ⟨r.val / 2048, by omega⟩ ⟨r.val % 2048, by omega⟩ d) :=
  (x_prompt_entry m ρ c r d).trans (congrFun (W2_args m ρ c main_arg0 (by decide)) _)

theorem x_sample_arg (r : Fin 512) (d : Fin 1024) : (V5 m ρ c main_v43 : Vec Ideal S512x1024 .f32) (ix2 r d)
    = arg1 m c (ix3 ⟨r.val / 16, by omega⟩ ⟨r.val % 16, by omega⟩ d) :=
  (x_sample_entry m ρ c r d).trans (congrFun (W4_args m ρ c main_arg1 (by decide)) _)

/-- The projections of the prompt's tokens. -/
abbrev promptTokens : Fin 32 → Fin 2048 → Fin 6656 → EReal := tokens (arg0 m c) (arg2 m c) (arg4 m c) (arg5 m c) (arg6 m c) (arg7 m c)

/-- The projections of the samples' tokens. -/
abbrev sampleTokens : Fin 32 → Fin 16 → Fin 6656 → EReal := tokens (arg1 m c) (arg3 m c) (arg4 m c) (arg5 m c) (arg6 m c) (arg7 m c)

include hr in
theorem prompt_rows : Prompt.zPrompt (V3 m ρ) c = promptRow (promptTokens m c) := by
  funext R n
  unfold Prompt.zPrompt promptRow promptTokens tokens column
  simp only [x_prompt_arg m ρ c, sh_prompt_entry m ρ c, sc_prompt_entry m ρ c, w_entry1 m ρ c, b_entry1 m ρ c]
  have hq : ∀ (j : Fin 6144) (h : R.val / 2048 < 64), ada m ρ c (ix2 ⟨R.val / 2048, h⟩ j)
    = conditioned (fun k => arg2 m c (ix2 ⟨R.val / 2048, by omega⟩ k)) (fun k => arg4 m c (ix3 0 k j)) (arg5 m c (ix2 0 j)) :=
    fun j _ => ada_prompt m ρ c hr ⟨R.val / 2048, by omega⟩ j
  simp only [hq]

include hr in
theorem tail_rows : Prompt.zTail (V3 m ρ) c = tailRow (promptTokens m c) := by
  funext R n
  unfold Prompt.zTail
  rw [prompt_rows m ρ c hr]
  exact congrFun (congrArg₂ (promptTokens m c)
    (Fin.ext (show (R.val / 512 * 2048 + (1536 + R.val % 512)) / 2048 = R.val / 512 by omega))
    (Fin.ext (show (R.val / 512 * 2048 + (1536 + R.val % 512)) % 2048 = 1536 + R.val % 512 by omega))) n

include hr in
theorem sample_rows : Sample.zSample (V5 m ρ) c = sampleRow (sampleTokens m c) := by
  funext R n
  unfold Sample.zSample sampleRow sampleTokens tokens column
  rw [V5_of m ρ c main_v32 (by decide) (by decide), V5_of m ρ c main_v30 (by decide) (by decide), V5_of m ρ c main_v1 (by decide) (by decide),
    V5_of m ρ c main_v3 (by decide) (by decide)]
  simp only [x_sample_arg m ρ c, sh_sample_entry m ρ c, sc_sample_entry m ρ c, w_entry1 m ρ c, b_entry1 m ρ c]
  have hq : ∀ (j : Fin 6144) (h : 32 + R.val / 16 < 64), ada m ρ c (ix2 ⟨32 + R.val / 16, h⟩ j)
    = conditioned (fun k => arg3 m c (ix2 ⟨R.val / 16, by omega⟩ k)) (fun k => arg4 m c (ix3 0 k j)) (arg5 m c (ix2 0 j)) :=
    fun j _ => ada_sample m ρ c hr ⟨R.val / 16, by omega⟩ j
  simp only [hq]

end Cert.Kernel2Ideal.Proj
end
-- ==== Proof.PromptQueries.lean ====
/-
  The arrays of queries that the prompt's projection kernel of `Cert.Kernel2Ideal` leaves.
-/
module

public import proofs.«01_k».proof.Proof.PromptBlock

@[expose] public section

set_option maxRecDepth 16384

noncomputable section

namespace Cert.Kernel2Ideal.Prompt

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 800000 in
theorem q_final : (dat1 V c).arrAt 5 cfg1.N = queries (M := 1024) (zPrompt V c) 0 (by decide) := by
  refine (dat1 V c).arrAt_eq_of_covers 5 _ (by decide +kernel) fun t _ y => ?_
  blk_simp
  rw [after1_5]
  by_cases hc : (t.val % 8 = 6 ∨ t.val % 8 = 7)
  · rw [outsAt1_B V c t hc]
    frame_out
    refine q_core V c t _ _ ?_ ?_
    all_goals (blk_simp [idx1 t, idxTail t] <;> try omega)
  · rw [outsAt1_A V c t hc]
    frame_out
    refine q_core V c t _ _ ?_ ?_
    all_goals (blk_simp [idx1 t, idxTail t] <;> try omega)

set_option maxHeartbeats 800000 in
theorem qb_final : (dat1 V c).arrAt 10 cfg1.N = queries (M := 512) (zPrompt V c) 3072 (by decide) := by
  refine (dat1 V c).arrAt_eq_of_covers 10 _ (by decide +kernel) fun t _ y => ?_
  blk_simp
  rw [after1_10]
  by_cases hc : (t.val % 8 = 6 ∨ t.val % 8 = 7)
  · rw [outsAt1_B V c t hc]
    frame_out
    refine qb_core V c t _ _ ?_ ?_
    all_goals (blk_simp [idx1 t, idxTail t] <;> try omega)
  · rw [outsAt1_A V c t hc]
    frame_out
    refine qb_core V c t _ _ ?_ ?_
    all_goals (blk_simp [idx1 t, idxTail t] <;> try omega)

end Cert.Kernel2Ideal.Prompt
end
-- ==== Proof.PromptKeys.lean ====
/-
  The arrays of keys that the prompt's projection kernel of `Cert.Kernel2Ideal` leaves.
-/
module

public import proofs.«01_k».proof.Proof.PromptBlock

@[expose] public section

set_option maxRecDepth 16384

noncomputable section

namespace Cert.Kernel2Ideal.Prompt

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 800000 in
theorem ka16_final : (dat1 V c).arrAt 8 cfg1.N = columns (M := 1024) (zPrompt V c) 1024 (by decide) := by
  refine (dat1 V c).arrAt_eq_of_covers 8 _ (by decide +kernel) fun t _ y => ?_
  blk_simp
  rw [after1_8]
  by_cases hc : (t.val % 8 = 6 ∨ t.val % 8 = 7)
  · rw [outsAt1_B V c t hc]
    frame_out
    refine ka16_core V c t _ _ ?_ ?_
    all_goals (blk_simp [idx1 t, idxTail t] <;> try omega)
  · rw [outsAt1_A V c t hc]
    frame_out
    refine ka16_core V c t _ _ ?_ ?_
    all_goals (blk_simp [idx1 t, idxTail t] <;> try omega)

set_option maxHeartbeats 800000 in
theorem kb16_final : (dat1 V c).arrAt 11 cfg1.N = columns (M := 512) (zPrompt V c) 3584 (by decide) := by
  refine (dat1 V c).arrAt_eq_of_covers 11 _ (by decide +kernel) fun t _ y => ?_
  blk_simp
  rw [after1_11]
  by_cases hc : (t.val % 8 = 6 ∨ t.val % 8 = 7)
  · rw [outsAt1_B V c t hc]
    frame_out
    refine kb16_core V c t _ _ ?_ ?_
    all_goals (blk_simp [idx1 t, idxTail t] <;> try omega)
  · rw [outsAt1_A V c t hc]
    frame_out
    refine kb16_core V c t _ _ ?_ ?_
    all_goals (blk_simp [idx1 t, idxTail t] <;> try omega)

end Cert.Kernel2Ideal.Prompt
end
-- ==== Proof.PromptValues.lean ====
/-
  The arrays of values that the prompt's projection kernel of `Cert.Kernel2Ideal` leaves.
-/
module

public import proofs.«01_k».proof.Proof.PromptBlock

@[expose] public section

set_option maxRecDepth 16384

noncomputable section

namespace Cert.Kernel2Ideal.Prompt

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 800000 in
theorem va_final : (dat1 V c).arrAt 7 cfg1.N = columns (M := 1024) (zPrompt V c) 2048 (by decide) := by
  refine (dat1 V c).arrAt_eq_of_covers 7 _ (by decide +kernel) fun t _ y => ?_
  blk_simp
  rw [after1_7]
  by_cases hc : (t.val % 8 = 6 ∨ t.val % 8 = 7)
  · rw [outsAt1_B V c t hc]
    frame_out
    refine va_core V c t _ _ ?_ ?_
    all_goals (blk_simp [idx1 t, idxTail t] <;> try omega)
  · rw [outsAt1_A V c t hc]
    frame_out
    refine va_core V c t _ _ ?_ ?_
    all_goals (blk_simp [idx1 t, idxTail t] <;> try omega)

set_option maxHeartbeats 800000 in
theorem va16_final : (dat1 V c).arrAt 9 cfg1.N = columns (M := 1024) (zPrompt V c) 2048 (by decide) := by
  refine (dat1 V c).arrAt_eq_of_covers 9 _ (by decide +kernel) fun t _ y => ?_
  blk_simp
  rw [after1_9]
  by_cases hc : (t.val % 8 = 6 ∨ t.val % 8 = 7)
  · rw [outsAt1_B V c t hc]
    frame_out
    refine va16_core V c t _ _ ?_ ?_
    all_goals (blk_simp [idx1 t, idxTail t] <;> try omega)
  · rw [outsAt1_A V c t hc]
    frame_out
    refine va16_core V c t _ _ ?_ ?_
    all_goals (blk_simp [idx1 t, idxTail t] <;> try omega)

set_option maxHeartbeats 800000 in
theorem vb16_final : (dat1 V c).arrAt 12 cfg1.N = columns (M := 512) (zPrompt V c) 4096 (by decide) := by
  refine (dat1 V c).arrAt_eq_of_covers 12 _ (by decide +kernel) fun t _ y => ?_
  blk_simp
  rw [after1_12]
  by_cases hc : (t.val % 8 = 6 ∨ t.val % 8 = 7)
  · rw [outsAt1_B V c t hc]
    frame_out
    refine vb16_core V c t _ _ ?_ ?_
    all_goals (blk_simp [idx1 t, idxTail t] <;> try omega)
  · rw [outsAt1_A V c t hc]
    frame_out
    refine vb16_core V c t _ _ ?_ ?_
    all_goals (blk_simp [idx1 t, idxTail t] <;> try omega)

end Cert.Kernel2Ideal.Prompt
end
-- ==== Proof.PromptGates.lean ====
/-
  The arrays of gates that the prompt's projection kernel of `Cert.Kernel2Ideal` leaves.
-/
module

public import proofs.«01_k».proof.Proof.PromptBlock

@[expose] public section

set_option maxRecDepth 16384

noncomputable section

namespace Cert.Kernel2Ideal.Prompt

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 800000 in
theorem gate1_final : (dat1 V c).arrAt 13 cfg1.N = gates (M := 1024) (zPrompt V c) 4608 (by decide) := by
  refine (dat1 V c).arrAt_eq_of_covers 13 _ (by decide +kernel) fun t _ y => ?_
  blk_simp
  rw [after1_13]
  by_cases hc : (t.val % 8 = 6 ∨ t.val % 8 = 7)
  · rw [outsAt1_B V c t hc]
    frame_out
    refine gate1_core V c t _ _ ?_ ?_
    all_goals (blk_simp [idx1 t, idxTail t] <;> try omega)
  · rw [outsAt1_A V c t hc]
    frame_out
    refine gate1_core V c t _ _ ?_ ?_
    all_goals (blk_simp [idx1 t, idxTail t] <;> try omega)

set_option maxHeartbeats 800000 in
theorem gate2_final : (dat1 V c).arrAt 14 cfg1.N = gates (M := 1024) (zPrompt V c) 5632 (by decide) := by
  refine (dat1 V c).arrAt_eq_of_covers 14 _ (by decide +kernel) fun t _ y => ?_
  blk_simp
  rw [after1_14]
  by_cases hc : (t.val % 8 = 6 ∨ t.val % 8 = 7)
  · rw [outsAt1_B V c t hc]
    frame_out
    refine gate2_core V c t _ _ ?_ ?_
    all_goals (blk_simp [idx1 t, idxTail t] <;> try omega)
  · rw [outsAt1_A V c t hc]
    frame_out
    refine gate2_core V c t _ _ ?_ ?_
    all_goals (blk_simp [idx1 t, idxTail t] <;> try omega)

end Cert.Kernel2Ideal.Prompt
end
-- ==== Proof.PromptHalves.lean ====
/-
  The arrays of keys by head and half that the prompt's projection kernel of `Cert.Kernel2Ideal` leaves.
-/
module

public import proofs.«01_k».proof.Proof.PromptBlock

@[expose] public section

set_option maxRecDepth 16384

noncomputable section

namespace Cert.Kernel2Ideal.Prompt

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 1600000 in
theorem ka_final : (dat1 V c).arrAt 6 cfg1.N = halves (zPrompt V c) 1024 (by decide) := by
  refine (dat1 V c).arrAt_eq_of_covers 6 _ (by decide +kernel) fun t _ y => ?_
  blk_simp
  rw [after1_6]
  by_cases hc : (t.val % 8 = 6 ∨ t.val % 8 = 7)
  · rw [outsAt1_B V c t hc]
    frame_out
    obtain_idx i : S256x1024 := [(y 0 : ℕ), (y 1 : ℕ) * 128 + (y 2 : ℕ) * 64 + (y 3 : ℕ)] with hi
    refine Eq.trans (b := k1_pay21 (F := Ideal) (k1_pay17 (iblk1 V c 0 t) (iblk1 V c 2 t) (iblk1 V c 1 t)) (View.ld (iblk1 V c 3 t) (Rect.unit ![0, 1024] ![1024, 1024] inb_S1024x6656_S1024x1024_0_1024)) (View.ld (iblk1 V c 4 t) (Rect.unit ![0, 1024] ![1, 1024] inb_S1x6656_S1x1024_0_1024)) i) ?_ (ka_core V c t i _ ?_ ?_)
    · canon_tiles x h
      all_goals (open_payloads; pointwise; blk_ext)
    all_goals (blk_simp [idx1 t, idxTail t] <;> try omega)
  · rw [outsAt1_A V c t hc]
    frame_out
    obtain_idx i : S256x1024 := [(y 0 : ℕ), (y 1 : ℕ) * 128 + (y 2 : ℕ) * 64 + (y 3 : ℕ)] with hi
    refine Eq.trans (b := k1_pay21 (F := Ideal) (k1_pay17 (iblk1 V c 0 t) (iblk1 V c 2 t) (iblk1 V c 1 t)) (View.ld (iblk1 V c 3 t) (Rect.unit ![0, 1024] ![1024, 1024] inb_S1024x6656_S1024x1024_0_1024)) (View.ld (iblk1 V c 4 t) (Rect.unit ![0, 1024] ![1, 1024] inb_S1x6656_S1x1024_0_1024)) i) ?_ (ka_core V c t i _ ?_ ?_)
    · canon_tiles x h
      all_goals (open_payloads; pointwise; blk_ext)
    all_goals (blk_simp [idx1 t, idxTail t] <;> try omega)

end Cert.Kernel2Ideal.Prompt
end
-- ==== Proof.PromptKeyHeads.lean ====
/-
  The arrays of keys by head that the prompt's projection kernel of `Cert.Kernel2Ideal` leaves.
-/
module

public import proofs.«01_k».proof.Proof.PromptBlock

@[expose] public section

set_option maxRecDepth 16384

noncomputable section

namespace Cert.Kernel2Ideal.Prompt

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 1600000 in
theorem kb_final : (dat1 V c).arrAt 15 cfg1.N = heads (zTail V c) 3584 (by decide) := by
  refine (dat1 V c).arrAt_eq_of_covers 15 _ (by decide +kernel) fun t hf y => ?_
  have hc : (t.val % 8 = 6 ∨ t.val % 8 = 7) := by
    by_contra hn
    exact Bool.noConfusion ((noFlush1_15_A t (fun h => hn ((hcond1_0 t).mp h))).symm.trans hf)
  have hy0 : (y 0).val < 256 := (y 0).isLt
  have ht := points1 t
  blk_simp
  rw [after1_15]
  rw [outsAt1_B V c t hc]
  frame_out
  obtain_idx i : S256x512 := [(y 0 : ℕ), (y 1 : ℕ) * 64 + (y 2 : ℕ)] with hi
  refine Eq.trans (b := k1_pay44 (F := Ideal) (k1_pay17 (iblk1 V c 0 t) (iblk1 V c 2 t) (iblk1 V c 1 t)) (View.ld (iblk1 V c 3 t) (Rect.unit ![0, 3584] ![1024, 512] inb_S1024x6656_S1024x512_0_3584)) (View.ld (iblk1 V c 4 t) (Rect.unit ![0, 3584] ![1, 512] inb_S1x6656_S1x512_0_3584)) i) ?_ (kb_core V c t i _ ?_ ?_)
  · canon_tiles x h
    all_goals (open_payloads; pointwise; blk_ext)
  all_goals (blk_simp [idx1 t, idxTail t] <;> try omega)

end Cert.Kernel2Ideal.Prompt
end
-- ==== Proof.PromptValueHeads.lean ====
/-
  The arrays of values by head that the prompt's projection kernel of `Cert.Kernel2Ideal` leaves.
-/
module

public import proofs.«01_k».proof.Proof.PromptBlock

@[expose] public section

set_option maxRecDepth 16384

noncomputable section

namespace Cert.Kernel2Ideal.Prompt

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 1600000 in
theorem vb_final : (dat1 V c).arrAt 16 cfg1.N = heads (zTail V c) 4096 (by decide) := by
  refine (dat1 V c).arrAt_eq_of_covers 16 _ (by decide +kernel) fun t hf y => ?_
  have hc : (t.val % 8 = 6 ∨ t.val % 8 = 7) := by
    by_contra hn
    exact Bool.noConfusion ((noFlush1_16_A t (fun h => hn ((hcond1_0 t).mp h))).symm.trans hf)
  have hy0 : (y 0).val < 256 := (y 0).isLt
  have ht := points1 t
  blk_simp
  rw [after1_16]
  rw [outsAt1_B V c t hc]
  frame_out
  obtain_idx i : S256x512 := [(y 0 : ℕ), (y 1 : ℕ) * 64 + (y 2 : ℕ)] with hi
  refine Eq.trans (b := k1_pay46 (F := Ideal) (k1_pay17 (iblk1 V c 0 t) (iblk1 V c 2 t) (iblk1 V c 1 t)) (View.ld (iblk1 V c 3 t) (Rect.unit ![0, 4096] ![1024, 512] inb_S1024x6656_S1024x512_0_4096)) (View.ld (iblk1 V c 4 t) (Rect.unit ![0, 4096] ![1, 512] inb_S1x6656_S1x512_0_4096)) i) ?_ (vb_core V c t i _ ?_ ?_)
  · canon_tiles x h
    all_goals (open_payloads; pointwise; blk_ext)
  all_goals (blk_simp [idx1 t, idxTail t] <;> try omega)

end Cert.Kernel2Ideal.Prompt
end
-- ==== Proof.SampleQueries.lean ====
/-
  The arrays of queries that the sample's projection kernel of `Cert.Kernel2Ideal` leaves.
-/
module

public import proofs.«01_k».proof.Proof.SampleBlock

@[expose] public section

set_option maxRecDepth 16384

noncomputable section

namespace Cert.Kernel2Ideal.Sample

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 800000 in
theorem q_final : (dat2 V c).arrAt 5 cfg2.N = queries (M := 1024) (zSample V c) 0 (by decide) := by
  refine (dat2 V c).arrAt_eq_of_covers 5 _ (by decide +kernel) fun t _ y => ?_
  blk_simp
  rw [after2_5]
  unfold Gen.outsAt2
  frame_out
  refine q_core V c t _ _ ?_ ?_
  all_goals (blk_simp [idx2 t] <;> try omega)

set_option maxHeartbeats 800000 in
theorem qb_final : (dat2 V c).arrAt 10 cfg2.N = queries (M := 512) (zSample V c) 3072 (by decide) := by
  refine (dat2 V c).arrAt_eq_of_covers 10 _ (by decide +kernel) fun t _ y => ?_
  blk_simp
  rw [after2_10]
  unfold Gen.outsAt2
  frame_out
  refine qb_core V c t _ _ ?_ ?_
  all_goals (blk_simp [idx2 t] <;> try omega)

end Cert.Kernel2Ideal.Sample
end
-- ==== Proof.SampleKeys.lean ====
/-
  The arrays of keys that the sample's projection kernel of `Cert.Kernel2Ideal` leaves.
-/
module

public import proofs.«01_k».proof.Proof.SampleBlock

@[expose] public section

set_option maxRecDepth 16384

noncomputable section

namespace Cert.Kernel2Ideal.Sample

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 800000 in
theorem ka16_final : (dat2 V c).arrAt 8 cfg2.N = columns (M := 1024) (zSample V c) 1024 (by decide) := by
  refine (dat2 V c).arrAt_eq_of_covers 8 _ (by decide +kernel) fun t _ y => ?_
  blk_simp
  rw [after2_8]
  unfold Gen.outsAt2
  frame_out
  refine ka16_core V c t _ _ ?_ ?_
  all_goals (blk_simp [idx2 t] <;> try omega)

set_option maxHeartbeats 800000 in
theorem kb16_final : (dat2 V c).arrAt 11 cfg2.N = columns (M := 512) (zSample V c) 3584 (by decide) := by
  refine (dat2 V c).arrAt_eq_of_covers 11 _ (by decide +kernel) fun t _ y => ?_
  blk_simp
  rw [after2_11]
  unfold Gen.outsAt2
  frame_out
  refine kb16_core V c t _ _ ?_ ?_
  all_goals (blk_simp [idx2 t] <;> try omega)

end Cert.Kernel2Ideal.Sample
end
-- ==== Proof.SampleValues.lean ====
/-
  The arrays of values that the sample's projection kernel of `Cert.Kernel2Ideal` leaves.
-/
module

public import proofs.«01_k».proof.Proof.SampleBlock

@[expose] public section

set_option maxRecDepth 16384

noncomputable section

namespace Cert.Kernel2Ideal.Sample

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 800000 in
theorem va_final : (dat2 V c).arrAt 7 cfg2.N = columns (M := 1024) (zSample V c) 2048 (by decide) := by
  refine (dat2 V c).arrAt_eq_of_covers 7 _ (by decide +kernel) fun t _ y => ?_
  blk_simp
  rw [after2_7]
  unfold Gen.outsAt2
  frame_out
  refine va_core V c t _ _ ?_ ?_
  all_goals (blk_simp [idx2 t] <;> try omega)

set_option maxHeartbeats 800000 in
theorem va16_final : (dat2 V c).arrAt 9 cfg2.N = columns (M := 1024) (zSample V c) 2048 (by decide) := by
  refine (dat2 V c).arrAt_eq_of_covers 9 _ (by decide +kernel) fun t _ y => ?_
  blk_simp
  rw [after2_9]
  unfold Gen.outsAt2
  frame_out
  refine va16_core V c t _ _ ?_ ?_
  all_goals (blk_simp [idx2 t] <;> try omega)

set_option maxHeartbeats 800000 in
theorem vb16_final : (dat2 V c).arrAt 12 cfg2.N = columns (M := 512) (zSample V c) 4096 (by decide) := by
  refine (dat2 V c).arrAt_eq_of_covers 12 _ (by decide +kernel) fun t _ y => ?_
  blk_simp
  rw [after2_12]
  unfold Gen.outsAt2
  frame_out
  refine vb16_core V c t _ _ ?_ ?_
  all_goals (blk_simp [idx2 t] <;> try omega)

end Cert.Kernel2Ideal.Sample
end
-- ==== Proof.SampleGates.lean ====
/-
  The arrays of gates that the sample's projection kernel of `Cert.Kernel2Ideal` leaves.
-/
module

public import proofs.«01_k».proof.Proof.SampleBlock

@[expose] public section

set_option maxRecDepth 16384

noncomputable section

namespace Cert.Kernel2Ideal.Sample

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 800000 in
theorem gate1_final : (dat2 V c).arrAt 13 cfg2.N = gates (M := 1024) (zSample V c) 4608 (by decide) := by
  refine (dat2 V c).arrAt_eq_of_covers 13 _ (by decide +kernel) fun t _ y => ?_
  blk_simp
  rw [after2_13]
  unfold Gen.outsAt2
  frame_out
  refine gate1_core V c t _ _ ?_ ?_
  all_goals (blk_simp [idx2 t] <;> try omega)

set_option maxHeartbeats 800000 in
theorem gate2_final : (dat2 V c).arrAt 14 cfg2.N = gates (M := 1024) (zSample V c) 5632 (by decide) := by
  refine (dat2 V c).arrAt_eq_of_covers 14 _ (by decide +kernel) fun t _ y => ?_
  blk_simp
  rw [after2_14]
  unfold Gen.outsAt2
  frame_out
  refine gate2_core V c t _ _ ?_ ?_
  all_goals (blk_simp [idx2 t] <;> try omega)

end Cert.Kernel2Ideal.Sample
end
-- ==== Proof.SampleHalves.lean ====
/-
  The arrays of keys by head and half that the sample's projection kernel of `Cert.Kernel2Ideal` leaves.
-/
module

public import proofs.«01_k».proof.Proof.SampleBlock

@[expose] public section

set_option maxRecDepth 16384

noncomputable section

namespace Cert.Kernel2Ideal.Sample

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 1600000 in
theorem ka_final : (dat2 V c).arrAt 6 cfg2.N = halves (zSample V c) 1024 (by decide) := by
  refine (dat2 V c).arrAt_eq_of_covers 6 _ (by decide +kernel) fun t _ y => ?_
  blk_simp
  rw [after2_6]
  unfold Gen.outsAt2
  frame_out
  obtain_idx i : S512x1024 := [(y 0 : ℕ), (y 1 : ℕ) * 128 + (y 2 : ℕ) * 64 + (y 3 : ℕ)] with hi
  refine Eq.trans (b := k2_pay22 (F := Ideal) (k2_pay20 (iblk2 V c 0 t) (iblk2 V c 2 t) (iblk2 V c 1 t)) (View.ld (iblk2 V c 3 t) (Rect.unit ![0, 1024] ![1024, 1024] inb_S1024x6656_S1024x1024_0_1024)) (View.ld (iblk2 V c 4 t) (Rect.unit ![0, 1024] ![1, 1024] inb_S1x6656_S1x1024_0_1024)) i) ?_ (ka_core V c t i _ ?_ ?_)
  · canon_tiles x h
    all_goals (open_payloads; pointwise; blk_ext)
  all_goals (blk_simp [idx2 t] <;> try omega)

end Cert.Kernel2Ideal.Sample
end
-- ==== Proof.SampleKeyHeads.lean ====
/-
  The arrays of keys by head that the sample's projection kernel of `Cert.Kernel2Ideal` leaves.
-/
module

public import proofs.«01_k».proof.Proof.SampleBlock

@[expose] public section

set_option maxRecDepth 16384

noncomputable section

namespace Cert.Kernel2Ideal.Sample

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 1600000 in
theorem kb_final : (dat2 V c).arrAt 15 cfg2.N = heads (zSample V c) 3584 (by decide) := by
  refine (dat2 V c).arrAt_eq_of_covers 15 _ (by decide +kernel) fun t _ y => ?_
  blk_simp
  rw [after2_15]
  unfold Gen.outsAt2
  frame_out
  obtain_idx i : S512x512 := [(y 0 : ℕ), (y 1 : ℕ) * 64 + (y 2 : ℕ)] with hi
  refine Eq.trans (b := k2_pay44 (F := Ideal) (k2_pay20 (iblk2 V c 0 t) (iblk2 V c 2 t) (iblk2 V c 1 t)) (View.ld (iblk2 V c 3 t) (Rect.unit ![0, 3584] ![1024, 512] inb_S1024x6656_S1024x512_0_3584)) (View.ld (iblk2 V c 4 t) (Rect.unit ![0, 3584] ![1, 512] inb_S1x6656_S1x512_0_3584)) i) ?_ (kb_core V c t i _ ?_ ?_)
  · canon_tiles x h
    all_goals (open_payloads; pointwise; blk_ext)
  all_goals (blk_simp [idx2 t] <;> try omega)

end Cert.Kernel2Ideal.Sample
end
-- ==== Proof.SampleValueHeads.lean ====
/-
  The arrays of values by head that the sample's projection kernel of `Cert.Kernel2Ideal` leaves.
-/
module

public import proofs.«01_k».proof.Proof.SampleBlock

@[expose] public section

set_option maxRecDepth 16384

noncomputable section

namespace Cert.Kernel2Ideal.Sample

open Cert.Kernel2Ideal Cert.Kernel2Ideal.Gen Cert.Kernel2Ideal.Proj Cert.Projection
open Idealize.ShloMosaic Idealize.ShloMosaic.TcCoe

variable (V : (c : Dev nD) → (b : Ref sig .tc) → Buf (Elt Ideal) ((c : Thread nD τ).loc b)) (c : Dev nD)

set_option maxHeartbeats 1600000 in
theorem vb_final : (dat2 V c).arrAt 16 cfg2.N = heads (zSample V c) 4096 (by decide) := by
  refine (dat2 V c).arrAt_eq_of_covers 16 _ (by decide +kernel) fun t _ y => ?_
  blk_simp
  rw [after2_16]
  unfold Gen.outsAt2
  frame_out
  obtain_idx i : S512x512 := [(y 0 : ℕ), (y 1 : ℕ) * 64 + (y 2 : ℕ)] with hi
  refine Eq.trans (b := k2_pay46 (F := Ideal) (k2_pay20 (iblk2 V c 0 t) (iblk2 V c 2 t) (iblk2 V c 1 t)) (View.ld (iblk2 V c 3 t) (Rect.unit ![0, 4096] ![1024, 512] inb_S1024x6656_S1024x512_0_4096)) (View.ld (iblk2 V c 4 t) (Rect.unit ![0, 4096] ![1, 512] inb_S1x6656_S1x512_0_4096)) i) ?_ (vb_core V c t i _ ?_ ?_)
  · canon_tiles x h
    all_goals (open_payloads; pointwise; blk_ext)
  all_goals (blk_simp [idx2 t] <;> try omega)

end Cert.Kernel2Ideal.Sample
end
-- ==== Proof.ProjResults.lean ====
/-
  What `Cert.Kernel2Ideal` leaves in each of its results: columns of the tokens' projections.
-/
module

public import proofs.«01_k».proof.Proof.ProjRows
public import proofs.«01_k».proof.Proof.PromptQueries
public import proofs.«01_k».proof.Proof.PromptKeys
public import proofs.«01_k».proof.Proof.PromptValues
public import proofs.«01_k».proof.Proof.PromptGates
public import proofs.«01_k».proof.Proof.PromptHalves
public import proofs.«01_k».proof.Proof.PromptKeyHeads
public import proofs.«01_k».proof.Proof.PromptValueHeads
public import proofs.«01_k».proof.Proof.SampleQueries
public import proofs.«01_k».proof.Proof.SampleKeys
public import proofs.«01_k».proof.Proof.SampleValues
public import proofs.«01_k».proof.Proof.SampleGates
public import proofs.«01_k».proof.Proof.SampleHalves
public import proofs.«01_k».proof.Proof.SampleKeyHeads
public import proofs.«01_k».proof.Proof.SampleValueHeads

@[expose] public section

set_option maxRecDepth 16384

noncomputable section

namespace Cert.Kernel2Ideal.Proj

open Cert.Kernel2Ideal Cert.Kernel2Ideal.Gen Cert.Projection
open Idealize.ShloMosaic Idealize.ShloMosaic.TcCoe

variable (m : (ℓ : Loc nD τ sig) → Buf (Elt Ideal) ℓ) (ρ : Dev nD → PrngReg) (c : Dev nD) (hr : Reals m c)

/-- A result of the prompt's kernel stays until the end. -/
theorem W6_prompt (b : Ref sig .tc) (h : b ∉ hostOps2_W) (hw : ∀ w : Fin cfg2.W, Pipeline.arrRef spec2 w = b → (cfg2.win w).isOut = false) :
    W6 m ρ c (Proc.devRef .tc b) = W4 m ρ c (Proc.devRef .tc b) := (W6_of m ρ c b hw).trans (W5_of m ρ c b h)

include hr in
theorem q_prompt_end : W6 m ρ c (Proc.devRef .tc main_v42_0) = queries (M := 1024) (promptRow (promptTokens m c)) 0 (by decide) :=
  (W6_prompt m ρ c main_v42_0 (by decide) (by decide)).trans ((W4_arr m ρ c 5).trans ((Prompt.q_final (V3 m ρ) c).trans (congrArg (fun row => queries (M := 1024) row 0 (by decide)) (prompt_rows m ρ c hr))))

include hr in
theorem ka_prompt_end : W6 m ρ c (Proc.devRef .tc main_v42_1) = halves (promptRow (promptTokens m c)) 1024 (by decide) :=
  (W6_prompt m ρ c main_v42_1 (by decide) (by decide)).trans ((W4_arr m ρ c 6).trans ((Prompt.ka_final (V3 m ρ) c).trans (congrArg (fun row => halves row 1024 (by decide)) (prompt_rows m ρ c hr))))

include hr in
theorem va_prompt_end : W6 m ρ c (Proc.devRef .tc main_v42_2) = columns (M := 1024) (promptRow (promptTokens m c)) 2048 (by decide) :=
  (W6_prompt m ρ c main_v42_2 (by decide) (by decide)).trans ((W4_arr m ρ c 7).trans ((Prompt.va_final (V3 m ρ) c).trans (congrArg (fun row => columns (M := 1024) row 2048 (by decide)) (prompt_rows m ρ c hr))))

include hr in
theorem ka16_prompt_end : W6 m ρ c (Proc.devRef .tc main_v42_3) = columns (M := 1024) (promptRow (promptTokens m c)) 1024 (by decide) :=
  (W6_prompt m ρ c main_v42_3 (by decide) (by decide)).trans ((W4_arr m ρ c 8).trans ((Prompt.ka16_final (V3 m ρ) c).trans (congrArg (fun row => columns (M := 1024) row 1024 (by decide)) (prompt_rows m ρ c hr))))

include hr in
theorem va16_prompt_end : W6 m ρ c (Proc.devRef .tc main_v42_4) = columns (M := 1024) (promptRow (promptTokens m c)) 2048 (by decide) :=
  (W6_prompt m ρ c main_v42_4 (by decide) (by decide)).trans ((W4_arr m ρ c 9).trans ((Prompt.va16_final (V3 m ρ) c).trans (congrArg (fun row => columns (M := 1024) row 2048 (by decide)) (prompt_rows m ρ c hr))))

include hr in
theorem qb_prompt_end : W6 m ρ c (Proc.devRef .tc main_v42_5) = queries (M := 512) (promptRow (promptTokens m c)) 3072 (by decide) :=
  (W6_prompt m ρ c main_v42_5 (by decide) (by decide)).trans ((W4_arr m ρ c 10).trans ((Prompt.qb_final (V3 m ρ) c).trans (congrArg (fun row => queries (M := 512) row 3072 (by decide)) (prompt_rows m ρ c hr))))

include hr in
theorem kb16_prompt_end : W6 m ρ c (Proc.devRef .tc main_v42_6) = columns (M := 512) (promptRow (promptTokens m c)) 3584 (by decide) :=
  (W6_prompt m ρ c main_v42_6 (by decide) (by decide)).trans ((W4_arr m ρ c 11).trans ((Prompt.kb16_final (V3 m ρ) c).trans (congrArg (fun row => columns (M := 512) row 3584 (by decide)) (prompt_rows m ρ c hr))))

include hr in
theorem vb16_prompt_end : W6 m ρ c (Proc.devRef .tc main_v42_7) = columns (M := 512) (promptRow (promptTokens m c)) 4096 (by decide) :=
  (W6_prompt m ρ c main_v42_7 (by decide) (by decide)).trans ((W4_arr m ρ c 12).trans ((Prompt.vb16_final (V3 m ρ) c).trans (congrArg (fun row => columns (M := 512) row 4096 (by decide)) (prompt_rows m ρ c hr))))

include hr in
theorem gate1_prompt_end : W6 m ρ c (Proc.devRef .tc main_v42_8) = gates (M := 1024) (promptRow (promptTokens m c)) 4608 (by decide) :=
  (W6_prompt m ρ c main_v42_8 (by decide) (by decide)).trans ((W4_arr m ρ c 13).trans ((Prompt.gate1_final (V3 m ρ) c).trans (congrArg (fun row => gates (M := 1024) row 4608 (by decide)) (prompt_rows m ρ c hr))))

include hr in
theorem gate2_prompt_end : W6 m ρ c (Proc.devRef .tc main_v42_9) = gates (M := 1024) (promptRow (promptTokens m c)) 5632 (by decide) :=
  (W6_prompt m ρ c main_v42_9 (by decide) (by decide)).trans ((W4_arr m ρ c 14).trans ((Prompt.gate2_final (V3 m ρ) c).trans (congrArg (fun row => gates (M := 1024) row 5632 (by decide)) (prompt_rows m ρ c hr))))

include hr in
theorem kb_prompt_end : W6 m ρ c (Proc.devRef .tc main_v42_10) = heads (tailRow (promptTokens m c)) 3584 (by decide) :=
  (W6_prompt m ρ c main_v42_10 (by decide) (by decide)).trans ((W4_arr m ρ c 15).trans ((Prompt.kb_final (V3 m ρ) c).trans (congrArg (fun row => heads row 3584 (by decide)) (tail_rows m ρ c hr))))

include hr in
theorem vb_prompt_end : W6 m ρ c (Proc.devRef .tc main_v42_11) = heads (tailRow (promptTokens m c)) 4096 (by decide) :=
  (W6_prompt m ρ c main_v42_11 (by decide) (by decide)).trans ((W4_arr m ρ c 16).trans ((Prompt.vb_final (V3 m ρ) c).trans (congrArg (fun row => heads row 4096 (by decide)) (tail_rows m ρ c hr))))

include hr in
theorem q_sample_end : W6 m ρ c (Proc.devRef .tc main_v44_0) = queries (M := 1024) (sampleRow (sampleTokens m c)) 0 (by decide) :=
  (W6_arr m ρ c 5).trans ((Sample.q_final (V5 m ρ) c).trans (congrArg (fun row => queries (M := 1024) row 0 (by decide)) (sample_rows m ρ c hr)))

include hr in
theorem ka_sample_end : W6 m ρ c (Proc.devRef .tc main_v44_1) = halves (sampleRow (sampleTokens m c)) 1024 (by decide) :=
  (W6_arr m ρ c 6).trans ((Sample.ka_final (V5 m ρ) c).trans (congrArg (fun row => halves row 1024 (by decide)) (sample_rows m ρ c hr)))

include hr in
theorem va_sample_end : W6 m ρ c (Proc.devRef .tc main_v44_2) = columns (M := 1024) (sampleRow (sampleTokens m c)) 2048 (by decide) :=
  (W6_arr m ρ c 7).trans ((Sample.va_final (V5 m ρ) c).trans (congrArg (fun row => columns (M := 1024) row 2048 (by decide)) (sample_rows m ρ c hr)))

include hr in
theorem ka16_sample_end : W6 m ρ c (Proc.devRef .tc main_v44_3) = columns (M := 1024) (sampleRow (sampleTokens m c)) 1024 (by decide) :=
  (W6_arr m ρ c 8).trans ((Sample.ka16_final (V5 m ρ) c).trans (congrArg (fun row => columns (M := 1024) row 1024 (by decide)) (sample_rows m ρ c hr)))

include hr in
theorem va16_sample_end : W6 m ρ c (Proc.devRef .tc main_v44_4) = columns (M := 1024) (sampleRow (sampleTokens m c)) 2048 (by decide) :=
  (W6_arr m ρ c 9).trans ((Sample.va16_final (V5 m ρ) c).trans (congrArg (fun row => columns (M := 1024) row 2048 (by decide)) (sample_rows m ρ c hr)))

include hr in
theorem qb_sample_end : W6 m ρ c (Proc.devRef .tc main_v44_5) = queries (M := 512) (sampleRow (sampleTokens m c)) 3072 (by decide) :=
  (W6_arr m ρ c 10).trans ((Sample.qb_final (V5 m ρ) c).trans (congrArg (fun row => queries (M := 512) row 3072 (by decide)) (sample_rows m ρ c hr)))

include hr in
theorem kb16_sample_end : W6 m ρ c (Proc.devRef .tc main_v44_6) = columns (M := 512) (sampleRow (sampleTokens m c)) 3584 (by decide) :=
  (W6_arr m ρ c 11).trans ((Sample.kb16_final (V5 m ρ) c).trans (congrArg (fun row => columns (M := 512) row 3584 (by decide)) (sample_rows m ρ c hr)))

include hr in
theorem vb16_sample_end : W6 m ρ c (Proc.devRef .tc main_v44_7) = columns (M := 512) (sampleRow (sampleTokens m c)) 4096 (by decide) :=
  (W6_arr m ρ c 12).trans ((Sample.vb16_final (V5 m ρ) c).trans (congrArg (fun row => columns (M := 512) row 4096 (by decide)) (sample_rows m ρ c hr)))

include hr in
theorem gate1_sample_end : W6 m ρ c (Proc.devRef .tc main_v44_8) = gates (M := 1024) (sampleRow (sampleTokens m c)) 4608 (by decide) :=
  (W6_arr m ρ c 13).trans ((Sample.gate1_final (V5 m ρ) c).trans (congrArg (fun row => gates (M := 1024) row 4608 (by decide)) (sample_rows m ρ c hr)))

include hr in
theorem gate2_sample_end : W6 m ρ c (Proc.devRef .tc main_v44_9) = gates (M := 1024) (sampleRow (sampleTokens m c)) 5632 (by decide) :=
  (W6_arr m ρ c 14).trans ((Sample.gate2_final (V5 m ρ) c).trans (congrArg (fun row => gates (M := 1024) row 5632 (by decide)) (sample_rows m ρ c hr)))

include hr in
theorem kb_sample_end : W6 m ρ c (Proc.devRef .tc main_v44_10) = heads (sampleRow (sampleTokens m c)) 3584 (by decide) :=
  (W6_arr m ρ c 15).trans ((Sample.kb_final (V5 m ρ) c).trans (congrArg (fun row => heads row 3584 (by decide)) (sample_rows m ρ c hr)))

include hr in
theorem vb_sample_end : W6 m ρ c (Proc.devRef .tc main_v44_11) = heads (sampleRow (sampleTokens m c)) 4096 (by decide) :=
  (W6_arr m ρ c 16).trans ((Sample.vb_final (V5 m ρ) c).trans (congrArg (fun row => heads row 4096 (by decide)) (sample_rows m ρ c hr)))

end Cert.Kernel2Ideal.Proj
end
-- ==== Proof.ProjReference.lean ====
/-
  What the projections' reference `Cert.Reference2Ideal` computes: each result, as columns of its tokens' projections.
-/
module

public import proofs.«01_k».proof.Proof.Projection
public import proofs.«01_k».proof.Proof.Scores
public import proofs.«01_k».proof.Proof.Gen.Reference2Ideal.Run

@[expose] public section

set_option maxRecDepth 16384

noncomputable section

namespace Cert.Reference2Ideal.Proj

open Cert.Reference2Ideal Cert.Reference2Ideal.Gen Cert.Reference2Ideal.Value Cert.Projection
open Idealize.ShloMosaic Idealize.ShloMosaic.TcCoe

variable (V : Valuation τ sig (Elt Ideal))

/-- The prompt's projections. -/
def zp : Fin 32 → Fin 2048 → Fin 6656 → EReal :=
  tokens (V (Proc.devRef .tc main_arg0) : FVec Ideal S32x2048x1024 .f32) (V (Proc.devRef .tc main_arg2) : FVec Ideal S32x1024 .f32)
    (V (Proc.devRef .tc main_arg4) : FVec Ideal S1x1024x6144 .f32) (V (Proc.devRef .tc main_arg5) : FVec Ideal S1x6144 .f32)
    (V (Proc.devRef .tc main_arg6) : FVec Ideal S1x1024x6656 .f32) (V (Proc.devRef .tc main_arg7) : FVec Ideal S1x6656 .f32)

/-- The sample's projections. -/
def zs : Fin 32 → Fin 16 → Fin 6656 → EReal :=
  tokens (V (Proc.devRef .tc main_arg1) : FVec Ideal S32x16x1024 .f32) (V (Proc.devRef .tc main_arg3) : FVec Ideal S32x1024 .f32)
    (V (Proc.devRef .tc main_arg4) : FVec Ideal S1x1024x6144 .f32) (V (Proc.devRef .tc main_arg5) : FVec Ideal S1x6144 .f32)
    (V (Proc.devRef .tc main_arg6) : FVec Ideal S1x1024x6656 .f32) (V (Proc.devRef .tc main_arg7) : FVec Ideal S1x6656 .f32)

theorem cond_prompt (i : Fin 32) (n : Fin 6144) : (res_main_v8 V : FVec Ideal S32x6144 .f32) (ix2 i n)
    = conditioned (fun k => (V (Proc.devRef .tc main_arg2) : FVec Ideal S32x1024 .f32) (ix2 i k))
      (fun k => (V (Proc.devRef .tc main_arg4) : FVec Ideal S1x1024x6144 .f32) (ix3 0 k n)) ((V (Proc.devRef .tc main_arg5) : FVec Ideal S1x6144 .f32) (ix2 0 n)) := by
  unfold res_main_v8
  pointwise
  rfl

theorem cond_sample (i : Fin 32) (n : Fin 6144) : (res_main_v111 V : FVec Ideal S32x6144 .f32) (ix2 i n)
    = conditioned (fun k => (V (Proc.devRef .tc main_arg3) : FVec Ideal S32x1024 .f32) (ix2 i k))
      (fun k => (V (Proc.devRef .tc main_arg4) : FVec Ideal S1x1024x6144 .f32) (ix3 0 k n)) ((V (Proc.devRef .tc main_arg5) : FVec Ideal S1x6144 .f32) (ix2 0 n)) := by
  unfold res_main_v111
  pointwise
  rfl

theorem mean_prompt (i : Fin 32) (t : Fin 2048) : (res_main_v24 V : FVec Ideal S32x2048x1 .f32) (ix3 i t 0)
    = mean (fun d => (V (Proc.devRef .tc main_arg0) : FVec Ideal S32x2048x1024 .f32) (ix3 i t d)) := by
  unfold res_main_v24
  pointwise
  rfl

theorem centered_prompt (i : Fin 32) (t : Fin 2048) (d : Fin 1024) : (res_main_v26 V : FVec Ideal S32x2048x1024 .f32) (ix3 i t d)
    = centered (fun d => (V (Proc.devRef .tc main_arg0) : FVec Ideal S32x2048x1024 .f32) (ix3 i t d)) d := by
  unfold res_main_v26
  pointwise [mean_prompt]
  rfl

theorem z_prompt (i : Fin 32) (t : Fin 2048) (n : Fin 6656) : (res_main_v48 V : FVec Ideal S32x2048x6656 .f32) (ix3 i t n) = zp V i t n := by
  unfold res_main_v48
  pointwise [mean_prompt, cond_prompt]
  simp only [centered_prompt]
  rfl

theorem mean_sample (i : Fin 32) (t : Fin 16) : (res_main_v127 V : FVec Ideal S32x16x1 .f32) (ix3 i t 0)
    = mean (fun d => (V (Proc.devRef .tc main_arg1) : FVec Ideal S32x16x1024 .f32) (ix3 i t d)) := by
  unfold res_main_v127
  pointwise
  rfl

theorem centered_sample (i : Fin 32) (t : Fin 16) (d : Fin 1024) : (res_main_v129 V : FVec Ideal S32x16x1024 .f32) (ix3 i t d)
    = centered (fun d => (V (Proc.devRef .tc main_arg1) : FVec Ideal S32x16x1024 .f32) (ix3 i t d)) d := by
  unfold res_main_v129
  pointwise [mean_sample]
  rfl

theorem z_sample (i : Fin 32) (t : Fin 16) (n : Fin 6656) : (res_main_v151 V : FVec Ideal S32x16x6656 .f32) (ix3 i t n) = zs V i t n := by
  unfold res_main_v151
  pointwise [mean_sample, cond_sample]
  simp only [centered_sample]
  rfl

/-- The reference's scale of the queries, a division by the logarithm after the product, is the product with the one scale. -/
theorem scale_eq (x : EReal) : Ideal.div (x * Ideal.ofBits .f32 0x3E000000#32) (Ideal.log (Ideal.ofBits .f32 0x40000000#32)) = x * qscale := by
  rw [Scores.eighth_bits, Scores.two_bits, Ideal.log_coe, if_neg (by norm_num), Ideal.div_coe (Real.log_pos one_lt_two).ne', mul_assoc, ← EReal.coe_mul]
  unfold qscale
  congr 2
  rw [one_div]
  norm_num

theorem q_prompt : val4 V (Proc.devRef .tc main_v68) = queries (promptRow (zp V)) 0 (by decide) := by
  refine (val4_main_v68 V).trans ?_
  funext y
  have hy : y = ix2 (y 0) (y 1) := by blk_ext
  rw [hy]
  pointwise [z_prompt]
  refine (scale_eq _).trans ?_
  exact congrArg (fun n => zp V ⟨(y 0).val / 2048, _⟩ ⟨(y 0).val % 2048, _⟩ n * qscale) (Fin.ext (Nat.zero_add _).symm)

theorem k32_prompt : val4 V (Proc.devRef .tc main_v69) = halves (promptRow (zp V)) 1024 (by decide) := by
  refine (val4_main_v69 V).trans ?_
  unfold res_main_v50
  funext y
  have hy : y = ix4 (y 0) (y 1) (y 2) (y 3) := by blk_ext
  rw [hy]
  pointwise [z_prompt]
  rfl

theorem v32_prompt : val4 V (Proc.devRef .tc main_v70) = columns (promptRow (zp V)) 2048 (by decide) := by
  refine (val4_main_v70 V).trans ?_
  unfold res_main_v51
  funext y
  have hy : y = ix2 (y 0) (y 1) := by blk_ext
  rw [hy]
  pointwise [z_prompt]
  rfl

theorem k16_prompt : val4 V (Proc.devRef .tc main_v72) = columns (promptRow (zp V)) 1024 (by decide) := by
  refine (val4_main_v72 V).trans ?_
  unfold res_main_v50
  funext y
  have hy : y = ix2 (y 0) (y 1) := by blk_ext
  rw [hy]
  pointwise [z_prompt]
  rfl

theorem v16_prompt : val4 V (Proc.devRef .tc main_v74) = columns (promptRow (zp V)) 2048 (by decide) := by
  refine (val4_main_v74 V).trans ?_
  unfold res_main_v51
  funext y
  have hy : y = ix2 (y 0) (y 1) := by blk_ext
  rw [hy]
  pointwise [z_prompt]
  rfl

theorem qb_prompt : val4 V (Proc.devRef .tc main_v76) = queries (promptRow (zp V)) 3072 (by decide) := by
  refine (val4_main_v76 V).trans ?_
  funext y
  have hy : y = ix2 (y 0) (y 1) := by blk_ext
  rw [hy]
  pointwise [z_prompt]
  refine (scale_eq _).trans ?_
  rfl

theorem kb_prompt : val4 V (Proc.devRef .tc main_v78) = columns (promptRow (zp V)) 3584 (by decide) := by
  refine (val4_main_v78 V).trans ?_
  unfold res_main_v53
  funext y
  have hy : y = ix2 (y 0) (y 1) := by blk_ext
  rw [hy]
  pointwise [z_prompt]
  rfl

theorem vb_prompt : val4 V (Proc.devRef .tc main_v80) = columns (promptRow (zp V)) 4096 (by decide) := by
  refine (val4_main_v80 V).trans ?_
  unfold res_main_v54
  funext y
  have hy : y = ix2 (y 0) (y 1) := by blk_ext
  rw [hy]
  pointwise [z_prompt]
  rfl

theorem gate1_prompt : val4 V (Proc.devRef .tc main_v88) = gates (promptRow (zp V)) 4608 (by decide) := by
  refine (val4_main_v88 V).trans ?_
  funext y
  have hy : y = ix2 (y 0) (y 1) := by blk_ext
  rw [hy]
  pointwise [z_prompt]
  rfl

theorem gate2_prompt : val4 V (Proc.devRef .tc main_v96) = gates (promptRow (zp V)) 5632 (by decide) := by
  refine (val4_main_v96 V).trans ?_
  funext y
  have hy : y = ix2 (y 0) (y 1) := by blk_ext
  rw [hy]
  pointwise [z_prompt]
  rfl

theorem kt_prompt : val4 V (Proc.devRef .tc main_v99) = heads (tailRow (zp V)) 3584 (by decide) := by
  refine (val4_main_v99 V).trans ?_
  unfold res_main_v53
  funext y
  have hy : y = ix3 (y 0) (y 1) (y 2) := by blk_ext
  rw [hy]
  pointwise [z_prompt]
  rfl

theorem vt_prompt : val4 V (Proc.devRef .tc main_v102) = heads (tailRow (zp V)) 4096 (by decide) := by
  refine (val4_main_v102 V).trans ?_
  unfold res_main_v54
  funext y
  have hy : y = ix3 (y 0) (y 1) (y 2) := by blk_ext
  rw [hy]
  pointwise [z_prompt]
  rfl

theorem q_sample : val4 V (Proc.devRef .tc main_v171) = queries (sampleRow (zs V)) 0 (by decide) := by
  refine (val4_main_v171 V).trans ?_
  funext y
  have hy : y = ix2 (y 0) (y 1) := by blk_ext
  rw [hy]
  pointwise [z_sample]
  refine (scale_eq _).trans ?_
  exact congrArg (fun n => zs V ⟨(y 0).val / 16, _⟩ ⟨(y 0).val % 16, _⟩ n * qscale) (Fin.ext (Nat.zero_add _).symm)

theorem k32_sample : val4 V (Proc.devRef .tc main_v172) = halves (sampleRow (zs V)) 1024 (by decide) := by
  refine (val4_main_v172 V).trans ?_
  unfold res_main_v153
  funext y
  have hy : y = ix4 (y 0) (y 1) (y 2) (y 3) := by blk_ext
  rw [hy]
  pointwise [z_sample]
  rfl

theorem v32_sample : val4 V (Proc.devRef .tc main_v173) = columns (sampleRow (zs V)) 2048 (by decide) := by
  refine (val4_main_v173 V).trans ?_
  unfold res_main_v154
  funext y
  have hy : y = ix2 (y 0) (y 1) := by blk_ext
  rw [hy]
  pointwise [z_sample]
  rfl

theorem k16_sample : val4 V (Proc.devRef .tc main_v175) = columns (sampleRow (zs V)) 1024 (by decide) := by
  refine (val4_main_v175 V).trans ?_
  unfold res_main_v153
  funext y
  have hy : y = ix2 (y 0) (y 1) := by blk_ext
  rw [hy]
  pointwise [z_sample]
  rfl

theorem v16_sample : val4 V (Proc.devRef .tc main_v177) = columns (sampleRow (zs V)) 2048 (by decide) := by
  refine (val4_main_v177 V).trans ?_
  unfold res_main_v154
  funext y
  have hy : y = ix2 (y 0) (y 1) := by blk_ext
  rw [hy]
  pointwise [z_sample]
  rfl

theorem qb_sample : val4 V (Proc.devRef .tc main_v179) = queries (sampleRow (zs V)) 3072 (by decide) := by
  refine (val4_main_v179 V).trans ?_
  funext y
  have hy : y = ix2 (y 0) (y 1) := by blk_ext
  rw [hy]
  pointwise [z_sample]
  refine (scale_eq _).trans ?_
  rfl

theorem kb_sample : val4 V (Proc.devRef .tc main_v181) = columns (sampleRow (zs V)) 3584 (by decide) := by
  refine (val4_main_v181 V).trans ?_
  unfold res_main_v156
  funext y
  have hy : y = ix2 (y 0) (y 1) := by blk_ext
  rw [hy]
  pointwise [z_sample]
  rfl

theorem vb_sample : val4 V (Proc.devRef .tc main_v183) = columns (sampleRow (zs V)) 4096 (by decide) := by
  refine (val4_main_v183 V).trans ?_
  unfold res_main_v157
  funext y
  have hy : y = ix2 (y 0) (y 1) := by blk_ext
  rw [hy]
  pointwise [z_sample]
  rfl

theorem gate1_sample : val4 V (Proc.devRef .tc main_v191) = gates (sampleRow (zs V)) 4608 (by decide) := by
  refine (val4_main_v191 V).trans ?_
  funext y
  have hy : y = ix2 (y 0) (y 1) := by blk_ext
  rw [hy]
  pointwise [z_sample]
  rfl

theorem gate2_sample : val4 V (Proc.devRef .tc main_v199) = gates (sampleRow (zs V)) 5632 (by decide) := by
  refine (val4_main_v199 V).trans ?_
  funext y
  have hy : y = ix2 (y 0) (y 1) := by blk_ext
  rw [hy]
  pointwise [z_sample]
  rfl

theorem kt_sample : val4 V (Proc.devRef .tc main_v201) = heads (sampleRow (zs V)) 3584 (by decide) := by
  refine (val4_main_v201 V).trans ?_
  unfold res_main_v156
  funext y
  have hy : y = ix3 (y 0) (y 1) (y 2) := by blk_ext
  rw [hy]
  pointwise [z_sample]
  rfl

theorem vt_sample : val4 V (Proc.devRef .tc main_v203) = heads (sampleRow (zs V)) 4096 (by decide) := by
  refine (val4_main_v203 V).trans ?_
  unfold res_main_v157
  funext y
  have hy : y = ix3 (y 0) (y 1) (y 2) := by blk_ext
  rw [hy]
  pointwise [z_sample]
  rfl

end Cert.Reference2Ideal.Proj
end
-- ==== Proof.ProjEquation.lean ====
/-
  The projections' kernel `Cert.Kernel2Ideal` and their reference `Cert.Reference2Ideal` leave equal results.
-/
module

public import proofs.«01_k».proof.Defs
public import proofs.«01_k».proof.Proof.ProjRun
public import proofs.«01_k».proof.Proof.ProjResults
public import proofs.«01_k».proof.Proof.ProjReference
public import proofs.«01_k».proof.Proof.Equation
public import Idealize.ShloMosaic.Adequacy

@[expose] public section

set_option maxRecDepth 16384

noncomputable section

namespace Cert.Kernel2Ideal.Proj

open Cert.Kernel2Ideal Cert.Kernel2Ideal.Gen Cert.Projection
open Cert.Reference2Ideal.Value (val4_main_v68 val4_main_v69 val4_main_v70 val4_main_v72 val4_main_v74 val4_main_v76 val4_main_v78 val4_main_v80 val4_main_v88 val4_main_v96 val4_main_v99 val4_main_v102 val4_main_v171 val4_main_v172 val4_main_v173 val4_main_v175 val4_main_v177 val4_main_v179 val4_main_v181 val4_main_v183 val4_main_v191 val4_main_v199 val4_main_v201 val4_main_v203)
open Idealize.ShloMosaic Idealize.ShloMosaic.TcCoe Idealize.SL.Sem

/-- The side conditions the precondition states. -/
theorem preFacts : Cert.Pre_finite_conditioning.Facts := ⟨by decide, by decide⟩

/-- Under the precondition the conditioning and its weights are real. -/
theorem reals (m : (ℓ : Loc nD τ sig) → Buf (Elt Ideal) ℓ) (hpre : Cert.Pre_Kernel2Ideal_finite_conditioning (hPre_finite_conditioning := preFacts) m) (c : Dev nD) : Reals m c :=
  haveI := preFacts
  ⟨fun i => Cert.Equation.real_of_lt _ (congrFun (hpre c).1 i), fun i => Cert.Equation.real_of_lt _ (congrFun (hpre c).2.1 i),
    fun i => Cert.Equation.real_of_lt _ (congrFun (hpre c).2.2 i)⟩

set_option maxHeartbeats 2000000 in
theorem algebraic : Cert.algebraic_Kernel2Ideal_Reference2Ideal_pre_finite_conditioning (hKernel2Ideal := Cert.Kernel2Ideal.Gen.facts)
    (hReference2Ideal := Cert.Reference2Ideal.Gen.facts) (hPre_finite_conditioning := preFacts) := by
  intro m g m' g' hpre hargs
  have hzp : ∀ c, Cert.Reference2Ideal.Proj.zp (StableHlo.launchContents m' c) = promptTokens m c := fun c => by
    obtain ⟨a0, a1, a2, a3, a4, a5, a6, a7⟩ := hargs c
    have h : tokens (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = promptTokens m c := by
      rw [a0, a2, a4, a5, a6, a7]
    exact h
  have hzs : ∀ c, Cert.Reference2Ideal.Proj.zs (StableHlo.launchContents m' c) = sampleTokens m c := fun c => by
    obtain ⟨a0, a1, a2, a3, a4, a5, a6, a7⟩ := hargs c
    have h : tokens (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = sampleTokens m c := by
      rw [a1, a3, a4, a5, a6, a7]
    exact h
  refine ⟨fun c => queries (M := 1024) (promptRow (promptTokens m c)) 0 (by decide),
    fun c => halves (promptRow (promptTokens m c)) 1024 (by decide),
    fun c => columns (M := 1024) (promptRow (promptTokens m c)) 2048 (by decide),
    fun c => columns (M := 1024) (promptRow (promptTokens m c)) 1024 (by decide),
    fun c => columns (M := 1024) (promptRow (promptTokens m c)) 2048 (by decide),
    fun c => queries (M := 512) (promptRow (promptTokens m c)) 3072 (by decide),
    fun c => columns (M := 512) (promptRow (promptTokens m c)) 3584 (by decide),
    fun c => columns (M := 512) (promptRow (promptTokens m c)) 4096 (by decide),
    fun c => gates (M := 1024) (promptRow (promptTokens m c)) 4608 (by decide),
    fun c => gates (M := 1024) (promptRow (promptTokens m c)) 5632 (by decide),
    fun c => heads (tailRow (promptTokens m c)) 3584 (by decide),
    fun c => heads (tailRow (promptTokens m c)) 4096 (by decide),
    fun c => queries (M := 1024) (sampleRow (sampleTokens m c)) 0 (by decide),
    fun c => halves (sampleRow (sampleTokens m c)) 1024 (by decide),
    fun c => columns (M := 1024) (sampleRow (sampleTokens m c)) 2048 (by decide),
    fun c => columns (M := 1024) (sampleRow (sampleTokens m c)) 1024 (by decide),
    fun c => columns (M := 1024) (sampleRow (sampleTokens m c)) 2048 (by decide),
    fun c => queries (M := 512) (sampleRow (sampleTokens m c)) 3072 (by decide),
    fun c => columns (M := 512) (sampleRow (sampleTokens m c)) 3584 (by decide),
    fun c => columns (M := 512) (sampleRow (sampleTokens m c)) 4096 (by decide),
    fun c => gates (M := 1024) (sampleRow (sampleTokens m c)) 4608 (by decide),
    fun c => gates (M := 1024) (sampleRow (sampleTokens m c)) 5632 (by decide),
    fun c => heads (sampleRow (sampleTokens m c)) 3584 (by decide),
    fun c => heads (sampleRow (sampleTokens m c)) 4096 (by decide), ?_, ?_⟩
  · refine (θ_run Cert.Kernel2Ideal.defs _ _).mono (fun r h c => ?_) (θ_run_and (Cert.Kernel2Ideal.Gen.frame (F := Ideal) m g) (run_all (F := Ideal) m g))
    exact ⟨(h.2 c _ (mem_uc main_v42_0 (by decide))).trans (q_prompt_end m g c (reals m hpre c)),
      (h.2 c _ (mem_uc main_v42_1 (by decide))).trans (ka_prompt_end m g c (reals m hpre c)),
      (h.2 c _ (mem_uc main_v42_2 (by decide))).trans (va_prompt_end m g c (reals m hpre c)),
      (h.2 c _ (mem_uc main_v42_3 (by decide))).trans (ka16_prompt_end m g c (reals m hpre c)),
      (h.2 c _ (mem_uc main_v42_4 (by decide))).trans (va16_prompt_end m g c (reals m hpre c)),
      (h.2 c _ (mem_uc main_v42_5 (by decide))).trans (qb_prompt_end m g c (reals m hpre c)),
      (h.2 c _ (mem_uc main_v42_6 (by decide))).trans (kb16_prompt_end m g c (reals m hpre c)),
      (h.2 c _ (mem_uc main_v42_7 (by decide))).trans (vb16_prompt_end m g c (reals m hpre c)),
      (h.2 c _ (mem_uc main_v42_8 (by decide))).trans (gate1_prompt_end m g c (reals m hpre c)),
      (h.2 c _ (mem_uc main_v42_9 (by decide))).trans (gate2_prompt_end m g c (reals m hpre c)),
      (h.2 c _ (mem_uc main_v42_10 (by decide))).trans (kb_prompt_end m g c (reals m hpre c)),
      (h.2 c _ (mem_uc main_v42_11 (by decide))).trans (vb_prompt_end m g c (reals m hpre c)),
      (h.2 c _ (mem_uc main_v44_0 (by decide))).trans (q_sample_end m g c (reals m hpre c)),
      (h.2 c _ (mem_uc main_v44_1 (by decide))).trans (ka_sample_end m g c (reals m hpre c)),
      (h.2 c _ (mem_uc main_v44_2 (by decide))).trans (va_sample_end m g c (reals m hpre c)),
      (h.2 c _ (mem_uc main_v44_3 (by decide))).trans (ka16_sample_end m g c (reals m hpre c)),
      (h.2 c _ (mem_uc main_v44_4 (by decide))).trans (va16_sample_end m g c (reals m hpre c)),
      (h.2 c _ (mem_uc main_v44_5 (by decide))).trans (qb_sample_end m g c (reals m hpre c)),
      (h.2 c _ (mem_uc main_v44_6 (by decide))).trans (kb16_sample_end m g c (reals m hpre c)),
      (h.2 c _ (mem_uc main_v44_7 (by decide))).trans (vb16_sample_end m g c (reals m hpre c)),
      (h.2 c _ (mem_uc main_v44_8 (by decide))).trans (gate1_sample_end m g c (reals m hpre c)),
      (h.2 c _ (mem_uc main_v44_9 (by decide))).trans (gate2_sample_end m g c (reals m hpre c)),
      (h.2 c _ (mem_uc main_v44_10 (by decide))).trans (kb_sample_end m g c (reals m hpre c)),
      (h.2 c _ (mem_uc main_v44_11 (by decide))).trans (vb_sample_end m g c (reals m hpre c)), h.1.1 c⟩
  · refine (θ_run Cert.Reference2Ideal.defs _ _).mono (fun r h c => ?_) (Cert.Reference2Ideal.Value.run (F := Ideal) m' g')
    exact ⟨((h c).1).trans ((val4_main_v68 (StableHlo.launchContents m' c)).symm.trans ((Cert.Reference2Ideal.Proj.q_prompt (StableHlo.launchContents m' c)).trans (congrArg (fun z => queries (M := 1024) (promptRow z) 0 (by decide)) (hzp c)))),
      ((h c).2.1).trans ((val4_main_v69 (StableHlo.launchContents m' c)).symm.trans ((Cert.Reference2Ideal.Proj.k32_prompt (StableHlo.launchContents m' c)).trans (congrArg (fun z => halves (promptRow z) 1024 (by decide)) (hzp c)))),
      ((h c).2.2.1).trans ((val4_main_v70 (StableHlo.launchContents m' c)).symm.trans ((Cert.Reference2Ideal.Proj.v32_prompt (StableHlo.launchContents m' c)).trans (congrArg (fun z => columns (M := 1024) (promptRow z) 2048 (by decide)) (hzp c)))),
      ((h c).2.2.2.1).trans ((val4_main_v72 (StableHlo.launchContents m' c)).symm.trans ((Cert.Reference2Ideal.Proj.k16_prompt (StableHlo.launchContents m' c)).trans (congrArg (fun z => columns (M := 1024) (promptRow z) 1024 (by decide)) (hzp c)))),
      ((h c).2.2.2.2.1).trans ((val4_main_v74 (StableHlo.launchContents m' c)).symm.trans ((Cert.Reference2Ideal.Proj.v16_prompt (StableHlo.launchContents m' c)).trans (congrArg (fun z => columns (M := 1024) (promptRow z) 2048 (by decide)) (hzp c)))),
      ((h c).2.2.2.2.2.1).trans ((val4_main_v76 (StableHlo.launchContents m' c)).symm.trans ((Cert.Reference2Ideal.Proj.qb_prompt (StableHlo.launchContents m' c)).trans (congrArg (fun z => queries (M := 512) (promptRow z) 3072 (by decide)) (hzp c)))),
      ((h c).2.2.2.2.2.2.1).trans ((val4_main_v78 (StableHlo.launchContents m' c)).symm.trans ((Cert.Reference2Ideal.Proj.kb_prompt (StableHlo.launchContents m' c)).trans (congrArg (fun z => columns (M := 512) (promptRow z) 3584 (by decide)) (hzp c)))),
      ((h c).2.2.2.2.2.2.2.1).trans ((val4_main_v80 (StableHlo.launchContents m' c)).symm.trans ((Cert.Reference2Ideal.Proj.vb_prompt (StableHlo.launchContents m' c)).trans (congrArg (fun z => columns (M := 512) (promptRow z) 4096 (by decide)) (hzp c)))),
      ((h c).2.2.2.2.2.2.2.2.1).trans ((val4_main_v88 (StableHlo.launchContents m' c)).symm.trans ((Cert.Reference2Ideal.Proj.gate1_prompt (StableHlo.launchContents m' c)).trans (congrArg (fun z => gates (M := 1024) (promptRow z) 4608 (by decide)) (hzp c)))),
      ((h c).2.2.2.2.2.2.2.2.2.1).trans ((val4_main_v96 (StableHlo.launchContents m' c)).symm.trans ((Cert.Reference2Ideal.Proj.gate2_prompt (StableHlo.launchContents m' c)).trans (congrArg (fun z => gates (M := 1024) (promptRow z) 5632 (by decide)) (hzp c)))),
      ((h c).2.2.2.2.2.2.2.2.2.2.1).trans ((val4_main_v99 (StableHlo.launchContents m' c)).symm.trans ((Cert.Reference2Ideal.Proj.kt_prompt (StableHlo.launchContents m' c)).trans (congrArg (fun z => heads (tailRow z) 3584 (by decide)) (hzp c)))),
      ((h c).2.2.2.2.2.2.2.2.2.2.2.1).trans ((val4_main_v102 (StableHlo.launchContents m' c)).symm.trans ((Cert.Reference2Ideal.Proj.vt_prompt (StableHlo.launchContents m' c)).trans (congrArg (fun z => heads (tailRow z) 4096 (by decide)) (hzp c)))),
      ((h c).2.2.2.2.2.2.2.2.2.2.2.2.1).trans ((val4_main_v171 (StableHlo.launchContents m' c)).symm.trans ((Cert.Reference2Ideal.Proj.q_sample (StableHlo.launchContents m' c)).trans (congrArg (fun z => queries (M := 1024) (sampleRow z) 0 (by decide)) (hzs c)))),
      ((h c).2.2.2.2.2.2.2.2.2.2.2.2.2.1).trans ((val4_main_v172 (StableHlo.launchContents m' c)).symm.trans ((Cert.Reference2Ideal.Proj.k32_sample (StableHlo.launchContents m' c)).trans (congrArg (fun z => halves (sampleRow z) 1024 (by decide)) (hzs c)))),
      ((h c).2.2.2.2.2.2.2.2.2.2.2.2.2.2.1).trans ((val4_main_v173 (StableHlo.launchContents m' c)).symm.trans ((Cert.Reference2Ideal.Proj.v32_sample (StableHlo.launchContents m' c)).trans (congrArg (fun z => columns (M := 1024) (sampleRow z) 2048 (by decide)) (hzs c)))),
      ((h c).2.2.2.2.2.2.2.2.2.2.2.2.2.2.2.1).trans ((val4_main_v175 (StableHlo.launchContents m' c)).symm.trans ((Cert.Reference2Ideal.Proj.k16_sample (StableHlo.launchContents m' c)).trans (congrArg (fun z => columns (M := 1024) (sampleRow z) 1024 (by decide)) (hzs c)))),
      ((h c).2.2.2.2.2.2.2.2.2.2.2.2.2.2.2.2.1).trans ((val4_main_v177 (StableHlo.launchContents m' c)).symm.trans ((Cert.Reference2Ideal.Proj.v16_sample (StableHlo.launchContents m' c)).trans (congrArg (fun z => columns (M := 1024) (sampleRow z) 2048 (by decide)) (hzs c)))),
      ((h c).2.2.2.2.2.2.2.2.2.2.2.2.2.2.2.2.2.1).trans ((val4_main_v179 (StableHlo.launchContents m' c)).symm.trans ((Cert.Reference2Ideal.Proj.qb_sample (StableHlo.launchContents m' c)).trans (congrArg (fun z => queries (M := 512) (sampleRow z) 3072 (by decide)) (hzs c)))),
      ((h c).2.2.2.2.2.2.2.2.2.2.2.2.2.2.2.2.2.2.1).trans ((val4_main_v181 (StableHlo.launchContents m' c)).symm.trans ((Cert.Reference2Ideal.Proj.kb_sample (StableHlo.launchContents m' c)).trans (congrArg (fun z => columns (M := 512) (sampleRow z) 3584 (by decide)) (hzs c)))),
      ((h c).2.2.2.2.2.2.2.2.2.2.2.2.2.2.2.2.2.2.2.1).trans ((val4_main_v183 (StableHlo.launchContents m' c)).symm.trans ((Cert.Reference2Ideal.Proj.vb_sample (StableHlo.launchContents m' c)).trans (congrArg (fun z => columns (M := 512) (sampleRow z) 4096 (by decide)) (hzs c)))),
      ((h c).2.2.2.2.2.2.2.2.2.2.2.2.2.2.2.2.2.2.2.2.1).trans ((val4_main_v191 (StableHlo.launchContents m' c)).symm.trans ((Cert.Reference2Ideal.Proj.gate1_sample (StableHlo.launchContents m' c)).trans (congrArg (fun z => gates (M := 1024) (sampleRow z) 4608 (by decide)) (hzs c)))),
      ((h c).2.2.2.2.2.2.2.2.2.2.2.2.2.2.2.2.2.2.2.2.2.1).trans ((val4_main_v199 (StableHlo.launchContents m' c)).symm.trans ((Cert.Reference2Ideal.Proj.gate2_sample (StableHlo.launchContents m' c)).trans (congrArg (fun z => gates (M := 1024) (sampleRow z) 5632 (by decide)) (hzs c)))),
      ((h c).2.2.2.2.2.2.2.2.2.2.2.2.2.2.2.2.2.2.2.2.2.2.1).trans ((val4_main_v201 (StableHlo.launchContents m' c)).symm.trans ((Cert.Reference2Ideal.Proj.kt_sample (StableHlo.launchContents m' c)).trans (congrArg (fun z => heads (sampleRow z) 3584 (by decide)) (hzs c)))),
      ((h c).2.2.2.2.2.2.2.2.2.2.2.2.2.2.2.2.2.2.2.2.2.2.2.1).trans ((val4_main_v203 (StableHlo.launchContents m' c)).symm.trans ((Cert.Reference2Ideal.Proj.vt_sample (StableHlo.launchContents m' c)).trans (congrArg (fun z => heads (sampleRow z) 4096 (by decide)) (hzs c)))), (h c).2.2.2.2.2.2.2.2.2.2.2.2.2.2.2.2.2.2.2.2.2.2.2.2⟩

end Cert.Kernel2Ideal.Proj
end
-- ==== Proof.PostNorm.lean ====
/-
  The output projection of one token: the two attention outputs projected, gated and added, the sum projected, gated and
  added to the token's features, and the layer norm of that.
-/
module

public import proofs.«01_k».proof.Proof.Projection

@[expose] public section

noncomputable section

namespace Cert.Output

open Idealize.ShloMosaic Cert.Projection

/-- The normalized features of a row. -/
def normed (v : Fin 1024 → EReal) (d : Fin 1024) : EReal :=
  (v d - mean v) * Ideal.rsqrt (mean (fun e => (v e - mean v) * (v e - mean v)) + Ideal.ofBits .f32 0x3727C5AC#32)

/-- A token's features, scaled, plus its gated projection. -/
def residual (oa : Fin 1024 → EReal) (ob : Fin 512 → EReal) (sga sgb x g : Fin 1024 → EReal) (pa : Fin 1024 → Fin 1024 → EReal)
    (pb : Fin 512 → Fin 1024 → EReal) (wo : Fin 1024 → Fin 1024 → EReal) (d : Fin 1024) : EReal :=
  Ideal.ofBits .f32 0x3F9837F0#32 * x d + g d * ∑ k, (sga k * ∑ j, oa j * pa j k + sgb k * ∑ j, ob j * pb j k) * wo k d

/-- The output of a token. -/
def output (oa : Fin 1024 → EReal) (ob : Fin 512 → EReal) (sga sgb x g : Fin 1024 → EReal) (pa : Fin 1024 → Fin 1024 → EReal)
    (pb : Fin 512 → Fin 1024 → EReal) (wo : Fin 1024 → Fin 1024 → EReal) (lg lb : Fin 1024 → EReal) (d : Fin 1024) : EReal :=
  normed (residual oa ob sga sgb x g pa pb wo) d * lg d + lb d

/-- The outputs of the prompt's tokens, one sequence after the other. -/
def outputs (oa : FVec Ideal ⟨3, ![32, 2048, 1024]⟩ .bf16) (ob : FVec Ideal ⟨3, ![32, 2048, 512]⟩ .bf16) (sga sgb : FVec Ideal ⟨2, ![65536, 1024]⟩ .bf16)
    (x : FVec Ideal ⟨3, ![32, 2048, 1024]⟩ .f32) (g : FVec Ideal ⟨2, ![32, 1024]⟩ .f32) (pa : FVec Ideal ⟨3, ![1, 1024, 1024]⟩ .f32)
    (pb : FVec Ideal ⟨3, ![1, 512, 1024]⟩ .f32) (wo : FVec Ideal ⟨3, ![1, 1024, 1024]⟩ .f32) (lg lb : FVec Ideal ⟨2, ![1, 1024]⟩ .f32)
    (R : Fin 65536) (d : Fin 1024) : EReal :=
  output (fun j => oa (ix3 ⟨R.val / 2048, by omega⟩ ⟨R.val % 2048, by omega⟩ j)) (fun j => ob (ix3 ⟨R.val / 2048, by omega⟩ ⟨R.val % 2048, by omega⟩ j))
    (fun k => sga (ix2 R k)) (fun k => sgb (ix2 R k)) (fun e => x (ix3 ⟨R.val / 2048, by omega⟩ ⟨R.val % 2048, by omega⟩ e))
    (fun e => g (ix2 ⟨R.val / 2048, by omega⟩ e)) (fun j k => pa (ix3 0 j k)) (fun j k => pb (ix3 0 j k)) (fun k e => wo (ix3 0 k e))
    (fun e => lg (ix2 0 e)) (fun e => lb (ix2 0 e)) d

/-- The outputs of the samples' tokens, one sequence after the other. -/
def sampleOutputs (oa : FVec Ideal ⟨3, ![32, 16, 1024]⟩ .bf16) (ob : FVec Ideal ⟨3, ![32, 16, 512]⟩ .bf16) (sga sgb : FVec Ideal ⟨2, ![512, 1024]⟩ .bf16)
    (x : FVec Ideal ⟨3, ![32, 16, 1024]⟩ .f32) (g : FVec Ideal ⟨2, ![32, 1024]⟩ .f32) (pa : FVec Ideal ⟨3, ![1, 1024, 1024]⟩ .f32)
    (pb : FVec Ideal ⟨3, ![1, 512, 1024]⟩ .f32) (wo : FVec Ideal ⟨3, ![1, 1024, 1024]⟩ .f32) (lg lb : FVec Ideal ⟨2, ![1, 1024]⟩ .f32)
    (R : Fin 512) (d : Fin 1024) : EReal :=
  output (fun j => oa (ix3 ⟨R.val / 16, by omega⟩ ⟨R.val % 16, by omega⟩ j)) (fun j => ob (ix3 ⟨R.val / 16, by omega⟩ ⟨R.val % 16, by omega⟩ j))
    (fun k => sga (ix2 R k)) (fun k => sgb (ix2 R k)) (fun e => x (ix3 ⟨R.val / 16, by omega⟩ ⟨R.val % 16, by omega⟩ e))
    (fun e => g (ix2 ⟨R.val / 16, by omega⟩ e)) (fun j k => pa (ix3 0 j k)) (fun j k => pb (ix3 0 j k)) (fun k e => wo (ix3 0 k e))
    (fun e => lg (ix2 0 e)) (fun e => lb (ix2 0 e)) d

end Cert.Output
end
-- ==== Proof.PostRow.lean ====
/-
  A row of the block the prompt's output projection kernel of `Cert.Kernel3Ideal` stores.
-/
module

public import proofs.«01_k».proof.Proof.PostNorm
public import proofs.«01_k».proof.Proof.Gen.Kernel3Ideal.Skeleton

@[expose] public section

set_option maxRecDepth 16384

noncomputable section

namespace Cert.Kernel3Ideal.Post

open Cert.Kernel3Ideal Cert.Kernel3Ideal.Gen Cert.Projection Cert.Output
open Idealize.ShloMosaic

variable (oa : Vec Ideal S512x1024 .bf16) (ob : Vec Ideal S512x512 .bf16) (sga sgb : Vec Ideal S512x1024 .bf16) (x : Vec Ideal S512x1024 .f32)
  (g : Vec Ideal S1x1x1024 .f32) (pa : Vec Ideal S1024x1024 .bf16) (pb : Vec Ideal S512x1024 .bf16) (wo : Vec Ideal S1024x1024 .bf16)
  (lg lb : Vec Ideal S1x1024 .f32)

/-- A row of the block before its layer norm. -/
def row (r : Fin 512) : Fin 1024 → EReal :=
  residual (fun j => oa (ix2 r j)) (fun j => ob (ix2 r j)) (fun k => sga (ix2 r k)) (fun k => sgb (ix2 r k)) (fun e => x (ix2 r e)) (fun e => g (ix3 0 0 e))
    (fun j k => pa (ix2 j k)) (fun j k => pb (ix2 j k)) (fun k e => wo (ix2 k e))

theorem residual_row (r : Fin 512) (d : Fin 1024) : k0_pay2 (F := Ideal) sga oa pa sgb ob pb wo x g (ix2 r d) = row oa ob sga sgb x g pa pb wo r d := by
  pointwise [k0_pay2]
  rfl

theorem sum_row (r : Fin 512) : k0_pay3 (F := Ideal) sga oa pa sgb ob pb wo x g (ix2 r 0) = ∑ d, row oa ob sga sgb x g pa pb wo r d := by
  pointwise [k0_pay3, residual_row]

theorem post_row (r : Fin 512) (d : Fin 1024) :
    k0_pay5 (F := Ideal) (k0_pay2 sga oa pa sgb ob pb wo x g) (k0_pay3 sga oa pa sgb ob pb wo x g) k0_pay4 lg lb (ix2 r d)
      = normed (row oa ob sga sgb x g pa pb wo r) d * lg (ix2 0 d) + lb (ix2 0 d) := by
  pointwise [k0_pay5, k0_pay4, sum_row, residual_row]
  rfl

end Cert.Kernel3Ideal.Post
end
-- ==== Proof.PostHost.lean ====
/-
  The arrays that the output projection's kernel of `Cert.Kernel3Ideal` is launched on, each at an index.
-/
module

public import proofs.«01_k».proof.Proof.PostNorm
public import proofs.«01_k».proof.Proof.Gen.Kernel3Ideal.Frame
public import Idealize.ShloMosaic.Lib.Claim
public import Idealize.ShloMosaic.Lib.Pointwise
public import Idealize.ShloMosaic.Lib.StableHlo.ReadAt

@[expose] public section

set_option maxRecDepth 16384

noncomputable section

namespace Cert.Kernel3Ideal.Post

open Cert.Kernel3Ideal Cert.Kernel3Ideal.Gen Cert.Projection Cert.Output
open Idealize.ShloMosaic Idealize.ShloMosaic.TcCoe

variable (m : (ℓ : Loc nD τ sig) → Buf (Elt Ideal) ℓ) (c : Dev nD)

/-- The first attention's output. -/
abbrev arg0 : Vec Ideal S32x2048x1024 .bf16 := m ((c : Thread nD τ).loc main_arg0)
/-- The second attention's output. -/
abbrev arg1 : Vec Ideal S32x2048x512 .bf16 := m ((c : Thread nD τ).loc main_arg1)
/-- The first attention's gates. -/
abbrev arg2 : Vec Ideal S65536x1024 .bf16 := m ((c : Thread nD τ).loc main_arg2)
/-- The second attention's gates. -/
abbrev arg3 : Vec Ideal S65536x1024 .bf16 := m ((c : Thread nD τ).loc main_arg3)
/-- The features. -/
abbrev arg4 : Vec Ideal S32x2048x1024 .f32 := m ((c : Thread nD τ).loc main_arg4)
/-- The sequences' gates. -/
abbrev arg5 : Vec Ideal S32x1024 .f32 := m ((c : Thread nD τ).loc main_arg5)
/-- The first projection's weights. -/
abbrev arg8 : Vec Ideal S1x1024x1024 .f32 := m ((c : Thread nD τ).loc main_arg8)
/-- The second projection's weights. -/
abbrev arg9 : Vec Ideal S1x512x1024 .f32 := m ((c : Thread nD τ).loc main_arg9)
/-- The output projection's weights. -/
abbrev arg10 : Vec Ideal S1x1024x1024 .f32 := m ((c : Thread nD τ).loc main_arg10)
/-- The layer norm's scale. -/
abbrev arg11 : Vec Ideal S1x1024 .f32 := m ((c : Thread nD τ).loc main_arg11)
/-- The layer norm's shift. -/
abbrev arg12 : Vec Ideal S1x1024 .f32 := m ((c : Thread nD τ).loc main_arg12)

theorem oa_entry (r : Fin 65536) (d : Fin 1024) : (V m c main_v6 : Vec Ideal S65536x1024 .bf16) (ix2 r d)
    = arg0 m c (ix3 ⟨r.val / 2048, by omega⟩ ⟨r.val % 2048, by omega⟩ d) := by
  unfold V
  simp only [hostOps0]
  after_reads_at

theorem ob_entry (r : Fin 65536) (d : Fin 512) : (V m c main_v7 : Vec Ideal S65536x512 .bf16) (ix2 r d)
    = arg1 m c (ix3 ⟨r.val / 2048, by omega⟩ ⟨r.val % 2048, by omega⟩ d) := by
  unfold V
  simp only [hostOps0]
  after_reads_at

theorem x_entry (r : Fin 65536) (d : Fin 1024) : (V m c main_v8 : Vec Ideal S65536x1024 .f32) (ix2 r d)
    = arg4 m c (ix3 ⟨r.val / 2048, by omega⟩ ⟨r.val % 2048, by omega⟩ d) := by
  unfold V
  simp only [hostOps0]
  after_reads_at

theorem g_entry (i : Fin 32) (d : Fin 1024) : (V m c main_v9 : Vec Ideal S32x1x1024 .f32) (ix3 i 0 d) = arg5 m c (ix2 i d) := by
  unfold V
  simp only [hostOps0]
  after_reads_at

theorem pa_entry (j k : Fin 1024) : (V m c main_v1 : Vec Ideal S1024x1024 .bf16) (ix2 j k) = arg8 m c (ix3 0 j k) := by
  unfold V
  simp only [hostOps0]
  after_reads_at

theorem pb_entry (j : Fin 512) (k : Fin 1024) : (V m c main_v3 : Vec Ideal S512x1024 .bf16) (ix2 j k) = arg9 m c (ix3 0 j k) := by
  unfold V
  simp only [hostOps0]
  after_reads_at

theorem wo_entry (j k : Fin 1024) : (V m c main_v5 : Vec Ideal S1024x1024 .bf16) (ix2 j k) = arg10 m c (ix3 0 j k) := by
  unfold V
  simp only [hostOps0]
  after_reads_at

theorem lg_entry (d : Fin 1024) : (V m c main_v14 : Vec Ideal S1x1024 .f32) (ix2 0 d) = arg11 m c (ix2 0 d) := by
  unfold V
  simp only [hostOps0]
  after_reads_at

theorem lb_entry (d : Fin 1024) : (V m c main_v15 : Vec Ideal S1x1024 .f32) (ix2 0 d) = arg12 m c (ix2 0 d) := by
  unfold V
  simp only [hostOps0]
  after_reads_at

end Cert.Kernel3Ideal.Post
end
-- ==== Proof.PostBlock.lean ====
/-
  The array of outputs that the output projection's kernel of `Cert.Kernel3Ideal` leaves.
-/
module

public import proofs.«01_k».proof.Proof.PostRow
public import proofs.«01_k».proof.Proof.PostHost
public import Idealize.ShloMosaic.Lib.Pipeline.ValueKit

@[expose] public section

set_option maxRecDepth 16384

noncomputable section

namespace Cert.Kernel3Ideal.Post

open Cert.Kernel3Ideal Cert.Kernel3Ideal.Gen Cert.Projection Cert.Output
open Idealize.ShloMosaic Idealize.ShloMosaic.TcCoe

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val / 4, 0, 0] ∧ win0_8.index t = ![0, 0]
    ∧ win0_9.index t = ![0, 0] ∧ win0_10.index t = ![0, 0] ∧ win0_11.index t = ![0, 0] ∧ win0_12.index t = ![0, 0] ∧ win0_13.index t = ![t.val, 0] :=
  (by decide +kernel : ∀ t : Fin grid0.N, _)

theorem points (t : Fin cfg0.N) : t.val < 128 := lt_of_lt_of_eq t.isLt N_0

/-- The outputs, from the program's arguments. -/
def result (R : Fin 65536) (d : Fin 1024) : EReal :=
  outputs (arg0 m c) (arg1 m c) (arg2 m c) (arg3 m c) (arg4 m c) (arg5 m c) (arg8 m c) (arg9 m c) (arg10 m c) (arg11 m c) (arg12 m c) R d

/-- The outputs as an array. -/
def resultArr : Vec Ideal S65536x1024 .f32 := fun y => result m c (y 0) (y 1)

theorem sga_entry (R : Fin 65536) (d : Fin 1024) : (V m c main_arg2 : Vec Ideal S65536x1024 .bf16) (ix2 R d) = arg2 m c (ix2 R d) :=
  congrFun (V_main_arg2 m c) _

theorem sgb_entry (R : Fin 65536) (d : Fin 1024) : (V m c main_arg3 : Vec Ideal S65536x1024 .bf16) (ix2 R d) = arg3 m c (ix2 R d) :=
  congrFun (V_main_arg3 m c) _

variable (t : Fin cfg0.N)

/-- A grid point's row of the prompt. -/
abbrev rowAt (r : Fin 512) : Fin 65536 := ⟨t.val * 512 + r.val, by have := points t; omega⟩

theorem oa_block (r : Fin 512) (d : Fin 1024) : (iblk m c 0 t : Vec Ideal S512x1024 .bf16) (ix2 r d)
    = arg0 m c (ix3 ⟨(rowAt t r).val / 2048, by have := (rowAt t r).isLt; omega⟩ ⟨(rowAt t r).val % 2048, by omega⟩ d) :=
  (show _ = (V m c main_v6 : Vec Ideal S65536x1024 .bf16) (ix2 (rowAt t r) d) by blk_ext [iblk, idx t]).trans (oa_entry m c _ _)

theorem ob_block (r : Fin 512) (d : Fin 512) : (iblk m c 1 t : Vec Ideal S512x512 .bf16) (ix2 r d)
    = arg1 m c (ix3 ⟨(rowAt t r).val / 2048, by have := (rowAt t r).isLt; omega⟩ ⟨(rowAt t r).val % 2048, by omega⟩ d) :=
  (show _ = (V m c main_v7 : Vec Ideal S65536x512 .bf16) (ix2 (rowAt t r) d) by blk_ext [iblk, idx t]).trans (ob_entry m c _ _)

theorem sga_block (r : Fin 512) (d : Fin 1024) : (iblk m c 2 t : Vec Ideal S512x1024 .bf16) (ix2 r d)
    = arg2 m c (ix2 (rowAt t r) d) :=
  (show _ = (V m c main_arg2 : Vec Ideal S65536x1024 .bf16) (ix2 (rowAt t r) d) by blk_ext [iblk, idx t]).trans (sga_entry m c _ _)

theorem sgb_block (r : Fin 512) (d : Fin 1024) : (iblk m c 3 t : Vec Ideal S512x1024 .bf16) (ix2 r d)
    = arg3 m c (ix2 (rowAt t r) d) :=
  (show _ = (V m c main_arg3 : Vec Ideal S65536x1024 .bf16) (ix2 (rowAt t r) d) by blk_ext [iblk, idx t]).trans (sgb_entry m c _ _)

theorem x_block (r : Fin 512) (d : Fin 1024) : (iblk m c 4 t : Vec Ideal S512x1024 .f32) (ix2 r d)
    = arg4 m c (ix3 ⟨(rowAt t r).val / 2048, by have := (rowAt t r).isLt; omega⟩ ⟨(rowAt t r).val % 2048, by omega⟩ d) :=
  (show _ = (V m c main_v8 : Vec Ideal S65536x1024 .f32) (ix2 (rowAt t r) d) by blk_ext [iblk, idx t]).trans (x_entry m c _ _)

theorem g_block (r : Fin 512) (d : Fin 1024) : (iblk m c 5 t : Vec Ideal S1x1x1024 .f32) (ix3 0 0 d)
    = arg5 m c (ix2 ⟨(rowAt t r).val / 2048, by have := (rowAt t r).isLt; omega⟩ d) :=
  (show _ = (V m c main_v9 : Vec Ideal S32x1x1024 .f32) (ix3 ⟨(rowAt t r).val / 2048, by have := (rowAt t r).isLt; omega⟩ 0 d) by blk_ext [iblk, idx t]).trans (g_entry m c _ _)

theorem pa_block (j k : Fin 1024) : (iblk m c 8 t : Vec Ideal S1024x1024 .bf16) (ix2 j k)
    = arg8 m c (ix3 0 j k) :=
  (show _ = (V m c main_v1 : Vec Ideal S1024x1024 .bf16) (ix2 j k) by blk_ext [iblk, idx t]).trans (pa_entry m c _ _)

theorem pb_block (j : Fin 512) (k : Fin 1024) : (iblk m c 9 t : Vec Ideal S512x1024 .bf16) (ix2 j k)
    = arg9 m c (ix3 0 j k) :=
  (show _ = (V m c main_v3 : Vec Ideal S512x1024 .bf16) (ix2 j k) by blk_ext [iblk, idx t]).trans (pb_entry m c _ _)

theorem wo_block (j k : Fin 1024) : (iblk m c 10 t : Vec Ideal S1024x1024 .bf16) (ix2 j k)
    = arg10 m c (ix3 0 j k) :=
  (show _ = (V m c main_v5 : Vec Ideal S1024x1024 .bf16) (ix2 j k) by blk_ext [iblk, idx t]).trans (wo_entry m c _ _)

theorem lg_block (d : Fin 1024) : (iblk m c 11 t : Vec Ideal S1x1024 .f32) (ix2 0 d)
    = arg11 m c (ix2 0 d) :=
  (show _ = (V m c main_v14 : Vec Ideal S1x1024 .f32) (ix2 0 d) by blk_ext [iblk, idx t]).trans (lg_entry m c _)

theorem lb_block (d : Fin 1024) : (iblk m c 12 t : Vec Ideal S1x1024 .f32) (ix2 0 d)
    = arg12 m c (ix2 0 d) :=
  (show _ = (V m c main_v15 : Vec Ideal S1x1024 .f32) (ix2 0 d) by blk_ext [iblk, idx t]).trans (lb_entry m c _)

/-- The block a grid point stores. -/
abbrev stored : Vec Ideal S512x1024 .f32 :=
  k0_pay5 (F := Ideal) (k0_pay2 (iblk m c 2 t) (iblk m c 0 t) (iblk m c 8 t) (iblk m c 3 t) (iblk m c 1 t) (iblk m c 9 t) (iblk m c 10 t) (iblk m c 4 t) (iblk m c 5 t))
    (k0_pay3 (iblk m c 2 t) (iblk m c 0 t) (iblk m c 8 t) (iblk m c 3 t) (iblk m c 1 t) (iblk m c 9 t) (iblk m c 10 t) (iblk m c 4 t) (iblk m c 5 t))
    k0_pay4 (iblk m c 11 t) (iblk m c 12 t)

theorem point (r : Fin 512) (d : Fin 1024) : stored m c t (ix2 r d) = result m c (rowAt t r) d := by
  refine (post_row (iblk m c 0 t) (iblk m c 1 t) (iblk m c 2 t) (iblk m c 3 t) (iblk m c 4 t) (iblk m c 5 t) (iblk m c 8 t) (iblk m c 9 t) (iblk m c 10 t) (iblk m c 11 t) (iblk m c 12 t) r d).trans ?_
  unfold row result outputs output
  rw [lg_block, lb_block]
  congr 2
  refine congrFun (congrArg normed (funext fun e => ?_)) d
  unfold Output.residual
  simp only [oa_block, ob_block, sga_block, sgb_block, x_block, g_block m c t r, pa_block, pb_block, wo_block]

theorem core (i : S512x1024.Idx) (j : S65536x1024.Idx) (h0 : (j 0).val = t.val * 512 + (i 0).val) (h1 : (j 1).val = (i 1).val) :
    stored m c t i = resultArr m c j := by
  have hi : i = ix2 (i 0) (i 1) := by blk_ext
  rw [hi]
  refine (point m c t (i 0) (i 1)).trans ?_
  unfold resultArr
  congr 1
  · exact Fin.ext h0.symm
  · exact Fin.ext h1.symm

set_option maxHeartbeats 800000 in
theorem final : (dats m 0 c).arrAt 13 cfg0.N = resultArr m c := by
  refine (dats m 0 c).arrAt_eq_of_covers 13 _ (by decide +kernel) fun t _ y => ?_
  blk_simp
  rw [after0_13]
  unfold_out out0_13
  frame_out
  refine core m c t _ _ ?_ ?_
  all_goals (blk_simp [idx t] <;> try omega)

end Cert.Kernel3Ideal.Post
end
-- ==== Proof.PostReference.lean ====
/-
  What the output projection's reference `Cert.Reference3Ideal` computes.
-/
module

public import proofs.«01_k».proof.Proof.PostNorm
public import proofs.«01_k».proof.Proof.Gen.Reference3Ideal.Run

@[expose] public section

set_option maxRecDepth 16384

noncomputable section

namespace Cert.Reference3Ideal.Post

open Cert.Reference3Ideal Cert.Reference3Ideal.Gen Cert.Reference3Ideal.Value Cert.Projection Cert.Output
open Idealize.ShloMosaic Idealize.ShloMosaic.TcCoe

variable (oa : FVec Ideal S32x2048x1024 .bf16) (ob : FVec Ideal S32x2048x512 .bf16) (sga sgb : FVec Ideal S65536x1024 .bf16)
  (x : FVec Ideal S32x2048x1024 .f32) (g : FVec Ideal S32x1024 .f32) (pa : FVec Ideal S1x1024x1024 .f32) (pb : FVec Ideal S1x512x1024 .f32)
  (wo : FVec Ideal S1x1024x1024 .f32) (lg lb : FVec Ideal S1x1024 .f32)

/-- The features before their layer norm. -/
def sums : FVec Ideal S32x2048x1024 .f32 :=
  addf (mulf (broadcastInDim S32x2048x1024 ![] bcast_S_S32x2048x1024 (constant S_ .f32 0x3F9837F0#32)) x) (mulf (broadcastInDim S32x2048x1024 ![0, 1, 2] bcast_S32x1x1024_S32x2048x1024_0_1_2 (broadcastInDim S32x1x1024 ![0, 2] bcast_S32x1024_S32x1x1024_0_2 g)) (Host.dotGeneral dot_S32x2048x1024_S1024x1024_S32x2048x1024_2_0_01_1_n_n none (addf (mulf (shapeCast _ (extf .f32 sga bitsLt_bf16_f32) shapeCasts_S65536x1024_S32x2048x1024) (Host.dotGeneral dot_S32x2048x1024_S1024x1024_S32x2048x1024_2_0_01_1_n_n none oa (shapeCast _ pa shapeCasts_S1x1024x1024_S1024x1024))) (mulf (shapeCast _ (extf .f32 sgb bitsLt_bf16_f32) shapeCasts_S65536x1024_S32x2048x1024) (Host.dotGeneral dot_S32x2048x512_S512x1024_S32x2048x1024_2_0_01_1_n_n none ob (shapeCast _ pb shapeCasts_S1x512x1024_S512x1024)))) (shapeCast _ wo shapeCasts_S1x1024x1024_S1024x1024)))

variable (v : FVec Ideal S32x2048x1024 .f32)

/-- The mean of every token's features. -/
def means : FVec Ideal S32x2048x1 .f32 :=
  Host.divf (broadcastInDim S32x2048x1 ![0, 1] bcast_S32x2048_S32x2048x1_0_1 (Host.reduceAdd v (constant S_ .f32 0x00000000#32) reducesTo_S32x2048x1024_S32x2048_d2 h_S_)) (broadcastInDim S32x2048x1 ![] bcast_S_S32x2048x1 (constant S_ .f32 0x44800000#32))

/-- The features less their mean. -/
def differences : FVec Ideal S32x2048x1024 .f32 :=
  subf v (broadcastInDim S32x2048x1024 ![0, 1, 2] bcast_S32x2048x1_S32x2048x1024_0_1_2 (means v))

/-- The layer norm of every token's features. -/
def norms : FVec Ideal S65536x1024 .f32 :=
  shapeCast S65536x1024 (addf (mulf (mulf (differences v) (broadcastInDim S32x2048x1024 ![0, 1, 2] bcast_S32x2048x1_S32x2048x1024_0_1_2 (Host.rsqrt (addf (means (mulf (differences v) (differences v))) (broadcastInDim S32x2048x1 ![] bcast_S_S32x2048x1 (constant S_ .f32 0x3727C5AC#32)))))) (broadcastInDim S32x2048x1024 ![0, 1, 2] bcast_S1x1x1024_S32x2048x1024_0_1_2 (broadcastInDim S1x1x1024 ![2] bcast_S1024_S1x1x1024_2 (shapeCast _ lg shapeCasts_S1x1024_S1024)))) (broadcastInDim S32x2048x1024 ![0, 1, 2] bcast_S1x1x1024_S32x2048x1024_0_1_2 (broadcastInDim S1x1x1024 ![2] bcast_S1024_S1x1x1024_2 (shapeCast _ lb shapeCasts_S1x1024_S1024)))) shapeCasts_S32x2048x1024_S65536x1024

theorem means_at (i : Fin 32) (t : Fin 2048) : means v (ix3 i t 0) = mean (fun d => v (ix3 i t d)) := by
  unfold means
  pointwise
  rfl

theorem differences_at (i : Fin 32) (t : Fin 2048) (d : Fin 1024) : differences v (ix3 i t d) = v (ix3 i t d) - mean (fun d => v (ix3 i t d)) := by
  unfold differences
  pointwise [means_at]

theorem norms_at (R : Fin 65536) (d : Fin 1024) : norms lg lb v (ix2 R d)
    = normed (fun e => v (ix3 ⟨R.val / 2048, by omega⟩ ⟨R.val % 2048, by omega⟩ e)) d * lg (ix2 0 d) + lb (ix2 0 d) := by
  unfold norms
  pointwise [means_at, differences_at]
  rfl

theorem sums_at (R : Fin 65536) (d : Fin 1024) : sums oa ob sga sgb x g pa pb wo (ix3 ⟨R.val / 2048, by omega⟩ ⟨R.val % 2048, by omega⟩ d)
    = Output.residual (fun j => oa (ix3 ⟨R.val / 2048, by omega⟩ ⟨R.val % 2048, by omega⟩ j)) (fun j => ob (ix3 ⟨R.val / 2048, by omega⟩ ⟨R.val % 2048, by omega⟩ j))
      (fun k => sga (ix2 R k)) (fun k => sgb (ix2 R k)) (fun e => x (ix3 ⟨R.val / 2048, by omega⟩ ⟨R.val % 2048, by omega⟩ e))
      (fun e => g (ix2 ⟨R.val / 2048, by omega⟩ e)) (fun j k => pa (ix3 0 j k)) (fun j k => pb (ix3 0 j k)) (fun k e => wo (ix3 0 k e)) d := by
  unfold sums Output.residual
  pointwise

theorem outputs_at (R : Fin 65536) (d : Fin 1024) : norms lg lb (sums oa ob sga sgb x g pa pb wo) (ix2 R d)
    = outputs oa ob sga sgb x g pa pb wo lg lb R d := by
  rw [norms_at]
  simp only [sums_at]
  rfl

theorem outputs_eq (m : (ℓ : Loc nD τ sig) → Buf (Elt Ideal) ℓ) (c : Dev nD) : res_main_v45 m c
    = fun y => outputs (m ((c.tc : Thread nD τ).loc main_arg0) : FVec Ideal S32x2048x1024 .bf16) (m ((c.tc : Thread nD τ).loc main_arg1) : FVec Ideal S32x2048x512 .bf16)
      (m ((c.tc : Thread nD τ).loc main_arg2) : FVec Ideal S65536x1024 .bf16) (m ((c.tc : Thread nD τ).loc main_arg3) : FVec Ideal S65536x1024 .bf16)
      (m ((c.tc : Thread nD τ).loc main_arg4) : FVec Ideal S32x2048x1024 .f32) (m ((c.tc : Thread nD τ).loc main_arg5) : FVec Ideal S32x1024 .f32)
      (m ((c.tc : Thread nD τ).loc main_arg8) : FVec Ideal S1x1024x1024 .f32) (m ((c.tc : Thread nD τ).loc main_arg9) : FVec Ideal S1x512x1024 .f32)
      (m ((c.tc : Thread nD τ).loc main_arg10) : FVec Ideal S1x1024x1024 .f32) (m ((c.tc : Thread nD τ).loc main_arg11) : FVec Ideal S1x1024 .f32)
      (m ((c.tc : Thread nD τ).loc main_arg12) : FVec Ideal S1x1024 .f32) (y 0) (y 1) := by
  funext y
  have hy : y = ix2 (y 0) (y 1) := by blk_ext
  exact (congrArg (res_main_v45 m c) hy).trans (outputs_at _ _ _ _ _ _ _ _ _ _ _ (y 0) (y 1))

end Cert.Reference3Ideal.Post
end
-- ==== Proof.PostEquation.lean ====
/-
  The output projection's kernel `Cert.Kernel3Ideal` and its reference `Cert.Reference3Ideal` leave equal results.
-/
module

public import proofs.«01_k».proof.Defs
public import proofs.«01_k».proof.Proof.PostBlock
public import proofs.«01_k».proof.Proof.PostReference
public import proofs.«01_k».proof.Proof.Gen.Kernel3Ideal.Value
public import Idealize.ShloMosaic.PureOps.IdealRules
public import Idealize.ShloMosaic.Lib.Bf16Pair
public import Idealize.ShloMosaic.Lib.Bf16PairInverse
public import Idealize.ShloMosaic.Adequacy

@[expose] public section

set_option maxRecDepth 16384

noncomputable section

namespace Cert.Kernel3Ideal.Post

open Cert.Kernel3Ideal Cert.Kernel3Ideal.Gen Cert.Output
open Idealize.ShloMosaic Idealize.ShloMosaic.TcCoe Idealize.SL.Sem

theorem preserves : Cert.preserves_Kernel3_Kernel3Ideal :=
  ⟨IdealRules.bf16_pair.bufferStatement _ _, IdealRules.bf16_pair.bufferStatement _ _, IdealRules.bf16_pair.statement _ _, IdealRules.bf16_pack.statement _⟩

set_option maxHeartbeats 800000 in
theorem algebraic : Cert.algebraic_Kernel3Ideal_Reference3Ideal (hKernel3Ideal := Cert.Kernel3Ideal.Gen.facts)
    (hReference3Ideal := Cert.Reference3Ideal.Gen.facts) := by
  intro m g m' g' hpre hargs
  refine ⟨fun c => resultArr m c, ?_, ?_⟩
  · refine (θ_run Cert.Kernel3Ideal.defs _ _).mono (fun r h c => ⟨(h c).1.trans (final m c), (h c).2.2⟩) (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨a0, a1, a2, a3, a4, a5, a6, a7, a8, a9, a10, a11, a12⟩ := hargs c
    refine (Cert.Reference3Ideal.Post.outputs_eq m' c).trans ?_
    rw [a0, a1, a2, a3, a4, a5, a8, a9, a10, a11, a12]
    rfl

end Cert.Kernel3Ideal.Post
end
-- ==== Proof.SamplePostRow.lean ====
/-
  A row of the block the samples' output projection kernel of `Cert.Kernel5Ideal` stores.
-/
module

public import proofs.«01_k».proof.Proof.PostNorm
public import proofs.«01_k».proof.Proof.Gen.Kernel5Ideal.Skeleton

@[expose] public section

set_option maxRecDepth 16384

noncomputable section

namespace Cert.Kernel5Ideal.Post

open Cert.Kernel5Ideal Cert.Kernel5Ideal.Gen Cert.Projection Cert.Output
open Idealize.ShloMosaic

variable (oa : Vec Ideal S512x1024 .bf16) (ob : Vec Ideal S512x512 .bf16) (sga sgb : Vec Ideal S512x1024 .bf16) (x : Vec Ideal S512x1024 .f32)
  (g : Vec Ideal S512x1024 .f32) (pa : Vec Ideal S1024x1024 .bf16) (pb : Vec Ideal S512x1024 .bf16) (wo : Vec Ideal S1024x1024 .bf16)
  (lg lb : Vec Ideal S1x1024 .f32)

/-- A row of the block before its layer norm. -/
def row (r : Fin 512) : Fin 1024 → EReal :=
  residual (fun j => oa (ix2 r j)) (fun j => ob (ix2 r j)) (fun k => sga (ix2 r k)) (fun k => sgb (ix2 r k)) (fun e => x (ix2 r e)) (fun e => g (ix2 r e))
    (fun j k => pa (ix2 j k)) (fun j k => pb (ix2 j k)) (fun k e => wo (ix2 k e))

theorem difference_row (r : Fin 512) (d : Fin 1024) : k0_pay2 (F := Ideal) sga oa pa sgb ob pb wo x g (ix2 r d)
    = row oa ob sga sgb x g pa pb wo r d - mean (row oa ob sga sgb x g pa pb wo r) := by
  pointwise [k0_pay2]
  rfl

theorem post_row (r : Fin 512) (d : Fin 1024) :
    k0_pay3 (F := Ideal) (k0_pay2 sga oa pa sgb ob pb wo x g) lg lb (ix2 r d)
      = normed (row oa ob sga sgb x g pa pb wo r) d * lg (ix2 0 d) + lb (ix2 0 d) := by
  pointwise [k0_pay3, difference_row]
  rfl

end Cert.Kernel5Ideal.Post
end
-- ==== Proof.SamplePostHost.lean ====
/-
  The arrays that the samples' output projection's kernel of `Cert.Kernel5Ideal` is launched on, each at an index.
-/
module

public import proofs.«01_k».proof.Proof.PostNorm
public import proofs.«01_k».proof.Proof.Gen.Kernel5Ideal.Frame
public import Idealize.ShloMosaic.Lib.Claim
public import Idealize.ShloMosaic.Lib.Pointwise
public import Idealize.ShloMosaic.Lib.StableHlo.ReadAt

@[expose] public section

set_option maxRecDepth 16384

noncomputable section

namespace Cert.Kernel5Ideal.Post

open Cert.Kernel5Ideal Cert.Kernel5Ideal.Gen Cert.Projection Cert.Output
open Idealize.ShloMosaic Idealize.ShloMosaic.TcCoe

variable (m : (ℓ : Loc nD τ sig) → Buf (Elt Ideal) ℓ) (c : Dev nD)

/-- The first attention's output. -/
abbrev arg0 : Vec Ideal S32x16x1024 .bf16 := m ((c : Thread nD τ).loc main_arg0)
/-- The second attention's output. -/
abbrev arg1 : Vec Ideal S32x16x512 .bf16 := m ((c : Thread nD τ).loc main_arg1)
/-- The first attention's gates. -/
abbrev arg2 : Vec Ideal S512x1024 .bf16 := m ((c : Thread nD τ).loc main_arg2)
/-- The second attention's gates. -/
abbrev arg3 : Vec Ideal S512x1024 .bf16 := m ((c : Thread nD τ).loc main_arg3)
/-- The features. -/
abbrev arg4 : Vec Ideal S32x16x1024 .f32 := m ((c : Thread nD τ).loc main_arg4)
/-- The sequences' gates. -/
abbrev arg5 : Vec Ideal S32x1024 .f32 := m ((c : Thread nD τ).loc main_arg5)
/-- The first projection's weights. -/
abbrev arg8 : Vec Ideal S1x1024x1024 .f32 := m ((c : Thread nD τ).loc main_arg8)
/-- The second projection's weights. -/
abbrev arg9 : Vec Ideal S1x512x1024 .f32 := m ((c : Thread nD τ).loc main_arg9)
/-- The output projection's weights. -/
abbrev arg10 : Vec Ideal S1x1024x1024 .f32 := m ((c : Thread nD τ).loc main_arg10)
/-- The layer norm's scale. -/
abbrev arg11 : Vec Ideal S1x1024 .f32 := m ((c : Thread nD τ).loc main_arg11)
/-- The layer norm's shift. -/
abbrev arg12 : Vec Ideal S1x1024 .f32 := m ((c : Thread nD τ).loc main_arg12)

theorem oa_entry (r : Fin 512) (d : Fin 1024) : (V m c main_v6 : Vec Ideal S512x1024 .bf16) (ix2 r d)
    = arg0 m c (ix3 ⟨r.val / 16, by omega⟩ ⟨r.val % 16, by omega⟩ d) := by
  unfold V
  simp only [hostOps0]
  after_reads_at

theorem ob_entry (r : Fin 512) (d : Fin 512) : (V m c main_v7 : Vec Ideal S512x512 .bf16) (ix2 r d)
    = arg1 m c (ix3 ⟨r.val / 16, by omega⟩ ⟨r.val % 16, by omega⟩ d) := by
  unfold V
  simp only [hostOps0]
  after_reads_at

theorem x_entry (r : Fin 512) (d : Fin 1024) : (V m c main_v8 : Vec Ideal S512x1024 .f32) (ix2 r d)
    = arg4 m c (ix3 ⟨r.val / 16, by omega⟩ ⟨r.val % 16, by omega⟩ d) := by
  unfold V
  simp only [hostOps0]
  after_reads_at

theorem g_entry (r : Fin 512) (d : Fin 1024) : (V m c main_v10 : Vec Ideal S512x1024 .f32) (ix2 r d) = arg5 m c (ix2 ⟨r.val / 16, by omega⟩ d) := by
  unfold V
  simp only [hostOps0]
  after_reads_at

theorem pa_entry (j k : Fin 1024) : (V m c main_v1 : Vec Ideal S1024x1024 .bf16) (ix2 j k) = arg8 m c (ix3 0 j k) := by
  unfold V
  simp only [hostOps0]
  after_reads_at

theorem pb_entry (j : Fin 512) (k : Fin 1024) : (V m c main_v3 : Vec Ideal S512x1024 .bf16) (ix2 j k) = arg9 m c (ix3 0 j k) := by
  unfold V
  simp only [hostOps0]
  after_reads_at

theorem wo_entry (j k : Fin 1024) : (V m c main_v5 : Vec Ideal S1024x1024 .bf16) (ix2 j k) = arg10 m c (ix3 0 j k) := by
  unfold V
  simp only [hostOps0]
  after_reads_at

theorem lg_entry (d : Fin 1024) : (V m c main_v17 : Vec Ideal S1x1024 .f32) (ix2 0 d) = arg11 m c (ix2 0 d) := by
  unfold V
  simp only [hostOps0]
  after_reads_at

theorem lb_entry (d : Fin 1024) : (V m c main_v18 : Vec Ideal S1x1024 .f32) (ix2 0 d) = arg12 m c (ix2 0 d) := by
  unfold V
  simp only [hostOps0]
  after_reads_at

end Cert.Kernel5Ideal.Post
end
-- ==== Proof.SamplePostBlock.lean ====
/-
  The array of outputs that the samples' output projection's kernel of `Cert.Kernel5Ideal` leaves.
-/
module

public import proofs.«01_k».proof.Proof.SamplePostRow
public import proofs.«01_k».proof.Proof.SamplePostHost
public import Idealize.ShloMosaic.Lib.Pipeline.ValueKit

@[expose] public section

set_option maxRecDepth 16384

noncomputable section

namespace Cert.Kernel5Ideal.Post

open Cert.Kernel5Ideal Cert.Kernel5Ideal.Gen Cert.Projection Cert.Output
open Idealize.ShloMosaic Idealize.ShloMosaic.TcCoe

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_8.index t = ![0, 0]
    ∧ win0_9.index t = ![0, 0] ∧ win0_10.index t = ![0, 0] ∧ win0_11.index t = ![0, 0] ∧ win0_12.index t = ![0, 0] ∧ win0_13.index t = ![t.val, 0] :=
  (by decide +kernel : ∀ t : Fin grid0.N, _)

theorem points (t : Fin cfg0.N) : t.val < 1 := lt_of_lt_of_eq t.isLt N_0

/-- The outputs, from the program's arguments. -/
def result (R : Fin 512) (d : Fin 1024) : EReal :=
  sampleOutputs (arg0 m c) (arg1 m c) (arg2 m c) (arg3 m c) (arg4 m c) (arg5 m c) (arg8 m c) (arg9 m c) (arg10 m c) (arg11 m c) (arg12 m c) R d

/-- The outputs as an array. -/
def resultArr : Vec Ideal S512x1024 .f32 := fun y => result m c (y 0) (y 1)

theorem sga_entry (R : Fin 512) (d : Fin 1024) : (V m c main_arg2 : Vec Ideal S512x1024 .bf16) (ix2 R d) = arg2 m c (ix2 R d) :=
  congrFun (V_main_arg2 m c) _

theorem sgb_entry (R : Fin 512) (d : Fin 1024) : (V m c main_arg3 : Vec Ideal S512x1024 .bf16) (ix2 R d) = arg3 m c (ix2 R d) :=
  congrFun (V_main_arg3 m c) _

variable (t : Fin cfg0.N)

/-- A grid point's row of the samples. -/
abbrev rowAt (r : Fin 512) : Fin 512 := ⟨t.val * 512 + r.val, by have := points t; omega⟩

theorem oa_block (r : Fin 512) (d : Fin 1024) : (iblk m c 0 t : Vec Ideal S512x1024 .bf16) (ix2 r d)
    = arg0 m c (ix3 ⟨(rowAt t r).val / 16, by have := (rowAt t r).isLt; omega⟩ ⟨(rowAt t r).val % 16, by omega⟩ d) :=
  (show _ = (V m c main_v6 : Vec Ideal S512x1024 .bf16) (ix2 (rowAt t r) d) by blk_ext [iblk, idx t]).trans (oa_entry m c _ _)

theorem ob_block (r : Fin 512) (d : Fin 512) : (iblk m c 1 t : Vec Ideal S512x512 .bf16) (ix2 r d)
    = arg1 m c (ix3 ⟨(rowAt t r).val / 16, by have := (rowAt t r).isLt; omega⟩ ⟨(rowAt t r).val % 16, by omega⟩ d) :=
  (show _ = (V m c main_v7 : Vec Ideal S512x512 .bf16) (ix2 (rowAt t r) d) by blk_ext [iblk, idx t]).trans (ob_entry m c _ _)

theorem sga_block (r : Fin 512) (d : Fin 1024) : (iblk m c 2 t : Vec Ideal S512x1024 .bf16) (ix2 r d)
    = arg2 m c (ix2 (rowAt t r) d) :=
  (show _ = (V m c main_arg2 : Vec Ideal S512x1024 .bf16) (ix2 (rowAt t r) d) by blk_ext [iblk, idx t]).trans (sga_entry m c _ _)

theorem sgb_block (r : Fin 512) (d : Fin 1024) : (iblk m c 3 t : Vec Ideal S512x1024 .bf16) (ix2 r d)
    = arg3 m c (ix2 (rowAt t r) d) :=
  (show _ = (V m c main_arg3 : Vec Ideal S512x1024 .bf16) (ix2 (rowAt t r) d) by blk_ext [iblk, idx t]).trans (sgb_entry m c _ _)

theorem x_block (r : Fin 512) (d : Fin 1024) : (iblk m c 4 t : Vec Ideal S512x1024 .f32) (ix2 r d)
    = arg4 m c (ix3 ⟨(rowAt t r).val / 16, by have := (rowAt t r).isLt; omega⟩ ⟨(rowAt t r).val % 16, by omega⟩ d) :=
  (show _ = (V m c main_v8 : Vec Ideal S512x1024 .f32) (ix2 (rowAt t r) d) by blk_ext [iblk, idx t]).trans (x_entry m c _ _)

theorem g_block (r : Fin 512) (d : Fin 1024) : (iblk m c 5 t : Vec Ideal S512x1024 .f32) (ix2 r d)
    = arg5 m c (ix2 ⟨(rowAt t r).val / 16, by have := (rowAt t r).isLt; omega⟩ d) :=
  (show _ = (V m c main_v10 : Vec Ideal S512x1024 .f32) (ix2 (rowAt t r) d) by blk_ext [iblk, idx t]).trans (g_entry m c _ _)

theorem pa_block (j k : Fin 1024) : (iblk m c 8 t : Vec Ideal S1024x1024 .bf16) (ix2 j k)
    = arg8 m c (ix3 0 j k) :=
  (show _ = (V m c main_v1 : Vec Ideal S1024x1024 .bf16) (ix2 j k) by blk_ext [iblk, idx t]).trans (pa_entry m c _ _)

theorem pb_block (j : Fin 512) (k : Fin 1024) : (iblk m c 9 t : Vec Ideal S512x1024 .bf16) (ix2 j k)
    = arg9 m c (ix3 0 j k) :=
  (show _ = (V m c main_v3 : Vec Ideal S512x1024 .bf16) (ix2 j k) by blk_ext [iblk, idx t]).trans (pb_entry m c _ _)

theorem wo_block (j k : Fin 1024) : (iblk m c 10 t : Vec Ideal S1024x1024 .bf16) (ix2 j k)
    = arg10 m c (ix3 0 j k) :=
  (show _ = (V m c main_v5 : Vec Ideal S1024x1024 .bf16) (ix2 j k) by blk_ext [iblk, idx t]).trans (wo_entry m c _ _)

theorem lg_block (d : Fin 1024) : (iblk m c 11 t : Vec Ideal S1x1024 .f32) (ix2 0 d)
    = arg11 m c (ix2 0 d) :=
  (show _ = (V m c main_v17 : Vec Ideal S1x1024 .f32) (ix2 0 d) by blk_ext [iblk, idx t]).trans (lg_entry m c _)

theorem lb_block (d : Fin 1024) : (iblk m c 12 t : Vec Ideal S1x1024 .f32) (ix2 0 d)
    = arg12 m c (ix2 0 d) :=
  (show _ = (V m c main_v18 : Vec Ideal S1x1024 .f32) (ix2 0 d) by blk_ext [iblk, idx t]).trans (lb_entry m c _)

/-- The block a grid point stores. -/
abbrev stored : Vec Ideal S512x1024 .f32 :=
  k0_pay3 (F := Ideal) (k0_pay2 (iblk m c 2 t) (iblk m c 0 t) (iblk m c 8 t) (iblk m c 3 t) (iblk m c 1 t) (iblk m c 9 t) (iblk m c 10 t) (iblk m c 4 t) (iblk m c 5 t))
    (iblk m c 11 t) (iblk m c 12 t)

theorem point (r : Fin 512) (d : Fin 1024) : stored m c t (ix2 r d) = result m c (rowAt t r) d := by
  refine (post_row (iblk m c 0 t) (iblk m c 1 t) (iblk m c 2 t) (iblk m c 3 t) (iblk m c 4 t) (iblk m c 5 t) (iblk m c 8 t) (iblk m c 9 t) (iblk m c 10 t) (iblk m c 11 t) (iblk m c 12 t) r d).trans ?_
  unfold row result sampleOutputs output
  rw [lg_block, lb_block]
  congr 2
  refine congrFun (congrArg normed (funext fun e => ?_)) d
  unfold Output.residual
  simp only [oa_block, ob_block, sga_block, sgb_block, x_block, g_block, pa_block, pb_block, wo_block]

theorem core (i : S512x1024.Idx) (j : S512x1024.Idx) (h0 : (j 0).val = t.val * 512 + (i 0).val) (h1 : (j 1).val = (i 1).val) :
    stored m c t i = resultArr m c j := by
  have hi : i = ix2 (i 0) (i 1) := by blk_ext
  rw [hi]
  refine (point m c t (i 0) (i 1)).trans ?_
  unfold resultArr
  congr 1
  · exact Fin.ext h0.symm
  · exact Fin.ext h1.symm

set_option maxHeartbeats 800000 in
theorem final : (dats m 0 c).arrAt 13 cfg0.N = resultArr m c := by
  refine (dats m 0 c).arrAt_eq_of_covers 13 _ (by decide +kernel) fun t _ y => ?_
  blk_simp
  rw [after0_13]
  unfold_out out0_13
  frame_out
  refine core m c t _ _ ?_ ?_
  all_goals (blk_simp [idx t] <;> try omega)

end Cert.Kernel5Ideal.Post
end
-- ==== Proof.SamplePostReference.lean ====
/-
  What the samples' output projection's reference `Cert.Reference5Ideal` computes.
-/
module

public import proofs.«01_k».proof.Proof.PostNorm
public import proofs.«01_k».proof.Proof.Gen.Reference5Ideal.Run

@[expose] public section

set_option maxRecDepth 16384

noncomputable section

namespace Cert.Reference5Ideal.Post

open Cert.Reference5Ideal Cert.Reference5Ideal.Gen Cert.Reference5Ideal.Value Cert.Projection Cert.Output
open Idealize.ShloMosaic Idealize.ShloMosaic.TcCoe

variable (oa : FVec Ideal S32x16x1024 .bf16) (ob : FVec Ideal S32x16x512 .bf16) (sga sgb : FVec Ideal S512x1024 .bf16)
  (x : FVec Ideal S32x16x1024 .f32) (g : FVec Ideal S32x1024 .f32) (pa : FVec Ideal S1x1024x1024 .f32) (pb : FVec Ideal S1x512x1024 .f32)
  (wo : FVec Ideal S1x1024x1024 .f32) (lg lb : FVec Ideal S1x1024 .f32)

/-- The features before their layer norm. -/
def sums : FVec Ideal S32x16x1024 .f32 :=
  addf (mulf (broadcastInDim S32x16x1024 ![] bcast_S_S32x16x1024 (constant S_ .f32 0x3F9837F0#32)) x) (mulf (broadcastInDim S32x16x1024 ![0, 1, 2] bcast_S32x1x1024_S32x16x1024_0_1_2 (broadcastInDim S32x1x1024 ![0, 2] bcast_S32x1024_S32x1x1024_0_2 g)) (Host.dotGeneral dot_S32x16x1024_S1024x1024_S32x16x1024_2_0_01_1_n_n none (addf (mulf (shapeCast _ (extf .f32 sga bitsLt_bf16_f32) shapeCasts_S512x1024_S32x16x1024) (Host.dotGeneral dot_S32x16x1024_S1024x1024_S32x16x1024_2_0_01_1_n_n none oa (shapeCast _ pa shapeCasts_S1x1024x1024_S1024x1024))) (mulf (shapeCast _ (extf .f32 sgb bitsLt_bf16_f32) shapeCasts_S512x1024_S32x16x1024) (Host.dotGeneral dot_S32x16x512_S512x1024_S32x16x1024_2_0_01_1_n_n none ob (shapeCast _ pb shapeCasts_S1x512x1024_S512x1024)))) (shapeCast _ wo shapeCasts_S1x1024x1024_S1024x1024)))

variable (v : FVec Ideal S32x16x1024 .f32)

/-- The mean of every token's features. -/
def means : FVec Ideal S32x16x1 .f32 :=
  Host.divf (broadcastInDim S32x16x1 ![0, 1] bcast_S32x16_S32x16x1_0_1 (Host.reduceAdd v (constant S_ .f32 0x00000000#32) reducesTo_S32x16x1024_S32x16_d2 h_S_)) (broadcastInDim S32x16x1 ![] bcast_S_S32x16x1 (constant S_ .f32 0x44800000#32))

/-- The features less their mean. -/
def differences : FVec Ideal S32x16x1024 .f32 :=
  subf v (broadcastInDim S32x16x1024 ![0, 1, 2] bcast_S32x16x1_S32x16x1024_0_1_2 (means v))

/-- The layer norm of every token's features. -/
def norms : FVec Ideal S512x1024 .f32 :=
  shapeCast S512x1024 (addf (mulf (mulf (differences v) (broadcastInDim S32x16x1024 ![0, 1, 2] bcast_S32x16x1_S32x16x1024_0_1_2 (Host.rsqrt (addf (means (mulf (differences v) (differences v))) (broadcastInDim S32x16x1 ![] bcast_S_S32x16x1 (constant S_ .f32 0x3727C5AC#32)))))) (broadcastInDim S32x16x1024 ![0, 1, 2] bcast_S1x1x1024_S32x16x1024_0_1_2 (broadcastInDim S1x1x1024 ![2] bcast_S1024_S1x1x1024_2 (shapeCast _ lg shapeCasts_S1x1024_S1024)))) (broadcastInDim S32x16x1024 ![0, 1, 2] bcast_S1x1x1024_S32x16x1024_0_1_2 (broadcastInDim S1x1x1024 ![2] bcast_S1024_S1x1x1024_2 (shapeCast _ lb shapeCasts_S1x1024_S1024)))) shapeCasts_S32x16x1024_S512x1024

theorem means_at (i : Fin 32) (t : Fin 16) : means v (ix3 i t 0) = mean (fun d => v (ix3 i t d)) := by
  unfold means
  pointwise
  rfl

theorem differences_at (i : Fin 32) (t : Fin 16) (d : Fin 1024) : differences v (ix3 i t d) = v (ix3 i t d) - mean (fun d => v (ix3 i t d)) := by
  unfold differences
  pointwise [means_at]

theorem norms_at (R : Fin 512) (d : Fin 1024) : norms lg lb v (ix2 R d)
    = normed (fun e => v (ix3 ⟨R.val / 16, by omega⟩ ⟨R.val % 16, by omega⟩ e)) d * lg (ix2 0 d) + lb (ix2 0 d) := by
  unfold norms
  pointwise [means_at, differences_at]
  rfl

theorem sums_at (R : Fin 512) (d : Fin 1024) : sums oa ob sga sgb x g pa pb wo (ix3 ⟨R.val / 16, by omega⟩ ⟨R.val % 16, by omega⟩ d)
    = Output.residual (fun j => oa (ix3 ⟨R.val / 16, by omega⟩ ⟨R.val % 16, by omega⟩ j)) (fun j => ob (ix3 ⟨R.val / 16, by omega⟩ ⟨R.val % 16, by omega⟩ j))
      (fun k => sga (ix2 R k)) (fun k => sgb (ix2 R k)) (fun e => x (ix3 ⟨R.val / 16, by omega⟩ ⟨R.val % 16, by omega⟩ e))
      (fun e => g (ix2 ⟨R.val / 16, by omega⟩ e)) (fun j k => pa (ix3 0 j k)) (fun j k => pb (ix3 0 j k)) (fun k e => wo (ix3 0 k e)) d := by
  unfold sums Output.residual
  pointwise

theorem outputs_at (R : Fin 512) (d : Fin 1024) : norms lg lb (sums oa ob sga sgb x g pa pb wo) (ix2 R d)
    = sampleOutputs oa ob sga sgb x g pa pb wo lg lb R d := by
  rw [norms_at]
  simp only [sums_at]
  rfl

theorem outputs_eq (m : (ℓ : Loc nD τ sig) → Buf (Elt Ideal) ℓ) (c : Dev nD) : res_main_v45 m c
    = fun y => sampleOutputs (m ((c.tc : Thread nD τ).loc main_arg0) : FVec Ideal S32x16x1024 .bf16) (m ((c.tc : Thread nD τ).loc main_arg1) : FVec Ideal S32x16x512 .bf16)
      (m ((c.tc : Thread nD τ).loc main_arg2) : FVec Ideal S512x1024 .bf16) (m ((c.tc : Thread nD τ).loc main_arg3) : FVec Ideal S512x1024 .bf16)
      (m ((c.tc : Thread nD τ).loc main_arg4) : FVec Ideal S32x16x1024 .f32) (m ((c.tc : Thread nD τ).loc main_arg5) : FVec Ideal S32x1024 .f32)
      (m ((c.tc : Thread nD τ).loc main_arg8) : FVec Ideal S1x1024x1024 .f32) (m ((c.tc : Thread nD τ).loc main_arg9) : FVec Ideal S1x512x1024 .f32)
      (m ((c.tc : Thread nD τ).loc main_arg10) : FVec Ideal S1x1024x1024 .f32) (m ((c.tc : Thread nD τ).loc main_arg11) : FVec Ideal S1x1024 .f32)
      (m ((c.tc : Thread nD τ).loc main_arg12) : FVec Ideal S1x1024 .f32) (y 0) (y 1) := by
  funext y
  have hy : y = ix2 (y 0) (y 1) := by blk_ext
  exact (congrArg (res_main_v45 m c) hy).trans (outputs_at _ _ _ _ _ _ _ _ _ _ _ (y 0) (y 1))

end Cert.Reference5Ideal.Post
end
-- ==== Proof.SamplePostEquation.lean ====
/-
  The output projection's kernel `Cert.Kernel5Ideal` and its reference `Cert.Reference5Ideal` leave equal results.
-/
module

public import proofs.«01_k».proof.Defs
public import proofs.«01_k».proof.Proof.SamplePostBlock
public import proofs.«01_k».proof.Proof.SamplePostReference
public import proofs.«01_k».proof.Proof.Gen.Kernel5Ideal.Value
public import Idealize.ShloMosaic.PureOps.IdealRules
public import Idealize.ShloMosaic.Lib.Bf16Pair
public import Idealize.ShloMosaic.Lib.Bf16PairInverse
public import Idealize.ShloMosaic.Adequacy

@[expose] public section

set_option maxRecDepth 16384

noncomputable section

namespace Cert.Kernel5Ideal.Post

open Cert.Kernel5Ideal Cert.Kernel5Ideal.Gen Cert.Output
open Idealize.ShloMosaic Idealize.ShloMosaic.TcCoe Idealize.SL.Sem

theorem preserves : Cert.preserves_Kernel5_Kernel5Ideal :=
  ⟨IdealRules.bf16_pair.bufferStatement _ _, IdealRules.bf16_pair.statement _ _, IdealRules.bf16_pack.statement _⟩

set_option maxHeartbeats 800000 in
theorem algebraic : Cert.algebraic_Kernel5Ideal_Reference5Ideal (hKernel5Ideal := Cert.Kernel5Ideal.Gen.facts)
    (hReference5Ideal := Cert.Reference5Ideal.Gen.facts) := by
  intro m g m' g' hpre hargs
  refine ⟨fun c => resultArr m c, ?_, ?_⟩
  · refine (θ_run Cert.Kernel5Ideal.defs _ _).mono (fun r h c => ⟨(h c).1.trans (final m c), (h c).2.2⟩) (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    obtain ⟨a0, a1, a2, a3, a4, a5, a6, a7, a8, a9, a10, a11, a12⟩ := hargs c
    refine (Cert.Reference5Ideal.Post.outputs_eq m' c).trans ?_
    rw [a0, a1, a2, a3, a4, a5, a8, a9, a10, a11, a12]
    rfl

end Cert.Kernel5Ideal.Post
end
-- ==== Proof.BandSoftmax.lean ====
/-
  A softmax over a window of the keys is the softmax over all of them when the scores outside the window are `⊥`.
-/
module

public import proofs.«01_k».proof.Proof.Scores

@[expose] public section

noncomputable section

namespace Cert.Band

open Cert.Softmax Cert.Scores Idealize.ShloMosaic Finset

/-- With no score `⊤` and some score not `⊥`, the weights' sum is not zero. -/
theorem den_ne (f : ℕ → EReal) (n : ℕ) (h1 : ∀ s, f s ≠ ⊤) (s0 : ℕ) (hs0 : s0 < n) (h0 : f s0 ≠ ⊥) : den f n ≠ 0 := by
  obtain ⟨s, hs, e⟩ := Finset.exists_mem_eq_sup (range n) ⟨s0, mem_range.2 hs0⟩ f
  have hle : f s0 ≤ f s := e ▸ le_sup (f := f) (mem_range.2 hs0)
  have hb : f s ≠ ⊥ := fun h => h0 (le_bot_iff.1 (h ▸ hle))
  have ha : f s = (((f s).toReal : ℝ) : EReal) := (EReal.coe_toReal (h1 s) hb).symm
  have hw : wt (f s) (top f n) = 1 := by
    unfold wt
    rw [show top f n = f s from e, ha, ← EReal.coe_sub, sub_self, Ideal.exp2_coe, EReal.toReal_coe]
    exact Real.rpow_zero 2
  intro h
  have := wt_of_den_zero f h (mem_range.1 hs)
  rw [hw] at this
  exact one_ne_zero this

/-- A sum over all keys of terms that are zero outside a window. -/
theorem sum_window {M : Type} [AddCommMonoid M] {N W k0 : ℕ} (hk : k0 + W ≤ N) (h : ℕ → M) (hz : ∀ s, s < k0 ∨ k0 + W ≤ s → h s = 0) :
    ∑ s ∈ range N, h s = ∑ j ∈ range W, h (k0 + j) := by
  obtain ⟨r, rfl⟩ := Nat.exists_eq_add_of_le hk
  rw [sum_range_add, sum_range_add, sum_eq_zero (s := range k0) fun s hs => hz s (Or.inl (mem_range.1 hs)),
    sum_eq_zero (s := range r) fun s _ => hz _ (Or.inr (by omega)), zero_add, add_zero]

theorem top_window {N W k0 : ℕ} (hk : k0 + W ≤ N) (f : ℕ → EReal) (hz : ∀ s, s < k0 ∨ k0 + W ≤ s → f s = ⊥) :
    top f N = (range W).sup fun j => f (k0 + j) := by
  rw [top_eq_of_bot f hk fun s hs => hz s (Or.inr hs), top_add]
  apply max_eq_right
  exact Finset.sup_le fun s hs => (hz s (Or.inl (mem_range.1 hs))).symm ▸ bot_le

theorem window_sup (W : ℕ) (f : ℕ → EReal) : (Finset.univ.sup fun j : Fin W => f j.val) = (range W).sup f := by
  apply le_antisymm
  · exact Finset.sup_le fun j _ => le_sup (f := f) (mem_range.2 j.isLt)
  · exact Finset.sup_le fun j hj => le_sup (f := fun j : Fin W => f j.val) (mem_univ (⟨j, mem_range.1 hj⟩ : Fin W))

/-- THE EQUATION, for one query. `g` are the reference's scores; the kernel's are `L` times those, over a window. -/
theorem window_eq {N W k0 : ℕ} (hk : k0 + W ≤ N) (g : ℕ → EReal) (v : ℕ → EReal) (hz : ∀ s, s < k0 ∨ k0 + W ≤ s → g s = ⊥)
    (h1 : ∀ s, g s ≠ ⊤) (s0 : ℕ) (hs0 : s0 < N) (h0 : g s0 ≠ ⊥) :
    Ideal.div (∑ j : Fin W, Ideal.exp2 (rescale L 0 (g (k0 + j.val)) - Finset.univ.sup fun j : Fin W => rescale L 0 (g (k0 + j.val))) * v (k0 + j.val))
        (∑ j : Fin W, Ideal.exp2 (rescale L 0 (g (k0 + j.val)) - Finset.univ.sup fun j : Fin W => rescale L 0 (g (k0 + j.val))))
      = ∑ s : Fin N, v s.val * Ideal.div (Ideal.exp (g s.val - top g N)) (∑ x : Fin N, Ideal.exp (g x.val - top g N)) := by
  set f : ℕ → EReal := fun s => rescale L 0 (g s) with hf
  have hfz : ∀ s, s < k0 ∨ k0 + W ≤ s → f s = ⊥ := fun s hs => by rw [hf]; simp only []; rw [hz s hs, rescale_bot L 0 L_pos]
  have hf1 : ∀ s, f s ≠ ⊤ := by
    intro s
    show rescale L 0 (g s) ≠ ⊤
    have := h1 s
    generalize g s = x at this
    induction x with
    | bot => rw [rescale_bot L 0 L_pos]; simp
    | top => exact absurd rfl this
    | coe a => rw [rescale_coe]; exact EReal.coe_ne_top _
  have hf0 : f s0 ≠ ⊥ := by
    show rescale L 0 (g s0) ≠ ⊥
    have h1 := h1 s0
    generalize g s0 = x at h0 h1
    induction x with
    | bot => exact absurd rfl h0
    | top => exact absurd rfl h1
    | coe a => rw [rescale_coe]; exact EReal.coe_ne_bot _
  have hD := den_ne f N hf1 s0 hs0 hf0
  have hM : (Finset.univ.sup fun j : Fin W => f (k0 + j.val)) = top f N := by
    rw [window_sup W fun j => f (k0 + j), top_window hk f hfz]
  have hT : top f N = rescale L 0 (top g N) := rescale_sup L 0 L_pos g N
  have hden : ∑ j : Fin W, Ideal.exp2 (f (k0 + j.val) - top f N) = (den f N : EReal) := by
    rw [Fin.sum_univ_eq_sum_range fun j => Ideal.exp2 (f (k0 + j) - top f N)]
    rw [sum_congr rfl fun j hj => exp2_sub (le_top f (by have := mem_range.1 hj; omega : k0 + j < N)), ← coe_sum]
    unfold den
    rw [sum_window hk (fun s => wt (f s) (top f N)) fun s hs => by rw [hfz s hs, wt_bot]]
  have hnum : ∑ j : Fin W, Ideal.exp2 (f (k0 + j.val) - top f N) * v (k0 + j.val) = ∑ s ∈ range N, (wt (f s) (top f N) : EReal) * v s := by
    rw [Fin.sum_univ_eq_sum_range fun j => Ideal.exp2 (f (k0 + j) - top f N) * v (k0 + j)]
    rw [sum_congr rfl fun j hj => by rw [exp2_sub (le_top f (by have := mem_range.1 hj; omega : k0 + j < N))]]
    rw [sum_window hk (fun s => (wt (f s) (top f N) : EReal) * v s) fun s hs => by rw [hfz s hs, wt_bot, EReal.coe_zero, zero_mul]]
  have hexp : ∀ s : Fin N, Ideal.exp (g s.val - top g N) = (wt (f s.val) (top f N) : EReal) := fun s => by
    rw [exp_sub L_pos rpow_L (le_top g s.isLt), hT]
  have hall : ∑ x : Fin N, Ideal.exp (g x.val - top g N) = (den f N : EReal) := by
    rw [sum_congr rfl fun s _ => hexp s, ← coe_sum, Fin.sum_univ_eq_sum_range fun s => wt (f s) (top f N)]
    rfl
  show Ideal.div (∑ j : Fin W, Ideal.exp2 (f (k0 + j.val) - Finset.univ.sup fun j : Fin W => f (k0 + j.val)) * v (k0 + j.val))
      (∑ j : Fin W, Ideal.exp2 (f (k0 + j.val) - Finset.univ.sup fun j : Fin W => f (k0 + j.val))) = _
  have hpos : 0 < den f N := lt_of_le_of_ne (sum_nonneg fun s _ => wt_nonneg _ _) (Ne.symm hD)
  rw [hM, hden, hnum, hall, Ideal.div_coe hD, mul_comm, coe_mul_sum _ _ _ (one_div_pos.2 hpos)]
  have hr : ∑ s : Fin N, v s.val * Ideal.div (Ideal.exp (g s.val - top g N)) (den f N : EReal)
      = ∑ s ∈ range N, v s * ((wt (f s) (top f N) : EReal) * ((1 / den f N : ℝ) : EReal)) := by
    rw [← Fin.sum_univ_eq_sum_range fun s => v s * ((wt (f s) (top f N) : EReal) * ((1 / den f N : ℝ) : EReal))]
    exact sum_congr rfl fun s _ => by rw [hexp s, Ideal.div_coe hD]
  rw [hr]
  exact sum_congr rfl fun s _ => by rw [mul_comm, mul_comm (wt (f s) (top f N) : EReal) (v s), mul_assoc]

end Cert.Band
end
-- ==== Proof.BandWords.lean ====
/-
  Words and lookups of the band attention: a clipped distance, the chunks of the band, a row of a table looked up along
  its last axis.
-/
module

public import proofs.«01_k».proof.Proof.Words

@[expose] public section

set_option maxRecDepth 16384

noncomputable section

namespace Cert.Band

open Cert.Words Idealize.ShloMosaic

/-- The table entry of a query and a key: their distance clipped to 128 on both sides, counted from 0. -/
def entry (t s : ℕ) : ℕ := min (t + 128 - s) 256

theorem entry_lt (t s : ℕ) : entry t s < 257 := by unfold entry; omega

/-- A query's chunk sees its own and the eight chunks before it. -/
def sees (t s : ℕ) : Prop := s / 64 ≤ t / 64 ∧ t / 64 ≤ s / 64 + 8

instance (t s : ℕ) : Decidable (sees t s) := inferInstanceAs (Decidable (s / 64 ≤ t / 64 ∧ t / 64 ≤ s / 64 + 8))

theorem clip_word (t s : ℕ) (ht : t < 2048) (hs : s < 2048) :
    IntOp.addi (IntOp.minsi 128#32 (IntOp.maxsi 4294967168#32 (IntOp.subi (BitVec.ofNat 32 t) (BitVec.ofNat 32 s)))) 128#32 = BitVec.ofNat 32 (entry t s) := by
  have hd : (BitVec.ofNat 32 t - BitVec.ofNat 32 s).toInt = (t : ℤ) - s := by
    rw [BitVec.toInt_sub, toInt_ofNat t (by omega), toInt_ofNat s (by omega), Int.bmod_def]
    omega
  have h1 : (IntOp.maxsi 4294967168#32 (IntOp.subi (BitVec.ofNat 32 t) (BitVec.ofNat 32 s))).toInt = max (-128) ((t : ℤ) - s) := by
    unfold IntOp.maxsi IntOp.subi
    rw [BitVec.slt_eq_decide, hd, show (4294967168#32).toInt = -128 by decide]
    by_cases h : (t : ℤ) - s < -128
    · rw [if_pos (by simpa using h), show (4294967168#32).toInt = -128 by decide]; omega
    · rw [if_neg (by simpa using h), hd]; omega
  generalize IntOp.maxsi 4294967168#32 (IntOp.subi (BitVec.ofNat 32 t) (BitVec.ofNat 32 s)) = a at h1
  have h2 : (IntOp.minsi 128#32 a).toInt = min 128 (max (-128) ((t : ℤ) - s)) := by
    unfold IntOp.minsi
    rw [BitVec.slt_eq_decide, h1, show (128#32).toInt = 128 by decide]
    by_cases h : 128 < max (-128) ((t : ℤ) - s)
    · rw [if_pos (by simpa using h), show (128#32).toInt = 128 by decide]; omega
    · rw [if_neg (by simpa using h), h1]; omega
  generalize IntOp.minsi 128#32 a = b at h2
  apply BitVec.eq_of_toInt_eq
  rw [toInt_ofNat _ (by have := entry_lt t s; omega)]
  show (b + 128#32).toInt = _
  rw [BitVec.toInt_add, h2, show (128#32).toInt = 128 by decide, Int.bmod_def]
  unfold entry
  omega

/-- The two comparisons of the band, on chunks. -/
theorem chunk_word (a b : ℕ) (ha : a < 32) (hb : b < 32) (α : Type) (x y : α) :
    Scalar.select (IntOp.andi (IntOp.cmpi CmpIPredicate.sle (BitVec.ofNat 32 b) (BitVec.ofNat 32 a))
      (IntOp.cmpi CmpIPredicate.sge (BitVec.ofNat 32 b) (IntOp.subi (BitVec.ofNat 32 a) 8#32))) x y = if b ≤ a ∧ a ≤ b + 8 then x else y := by
  have h1 : (BitVec.ofNat 32 b).sle (BitVec.ofNat 32 a) = decide (b ≤ a) := by
    rw [BitVec.sle_eq_decide, toInt_ofNat _ (by omega), toInt_ofNat _ (by omega)]
    simp
  have h2 : (BitVec.ofNat 32 a - 8#32).sle (BitVec.ofNat 32 b) = decide (a ≤ b + 8) := by
    rw [BitVec.sle_eq_decide, BitVec.toInt_sub, toInt_ofNat a (by omega), toInt_ofNat 8 (by omega), toInt_ofNat b (by omega), Int.bmod_def]
    congr 1
    apply propext
    omega
  show (if BitVec.ofBool ((BitVec.ofNat 32 b).sle (BitVec.ofNat 32 a)) &&& BitVec.ofBool ((BitVec.ofNat 32 a - 8#32).sle (BitVec.ofNat 32 b)) = 1#1 then x else y) = _
  rw [h1, h2]
  by_cases c : b ≤ a <;> by_cases d : a ≤ b + 8 <;> simp [c, d]

/-- The two comparisons of the band. -/
theorem band_word (i j : ℕ) (hi : i < 2048) (hj : j < 2048) (α : Type) (x y : α) :
    Scalar.select (IntOp.andi (IntOp.cmpi CmpIPredicate.sle (BitVec.ofNat 32 (j / 64)) (BitVec.ofNat 32 (i / 64)))
      (IntOp.cmpi CmpIPredicate.sge (BitVec.ofNat 32 (j / 64)) (IntOp.subi (BitVec.ofNat 32 (i / 64)) 8#32))) x y = if sees i j then x else y :=
  chunk_word (i / 64) (j / 64) (by omega) (by omega) α x y

/-- A table entry's word is not negative and lies in the table. -/
theorem entry_word : ∀ n : Fin 257, Scalar.select (IntOp.cmpi CmpIPredicate.slt (BitVec.ofNat 32 n.val) 0#32) (IntOp.addi (BitVec.ofNat 32 n.val) 257#32) (BitVec.ofNat 32 n.val) = BitVec.ofNat 32 n.val
    ∧ IntOp.andi (IntOp.cmpi CmpIPredicate.sge (BitVec.ofNat 32 n.val) 0#32) (IntOp.cmpi CmpIPredicate.sle (BitVec.ofNat 32 n.val) 256#32) = 1#1
    ∧ min (BitVec.ofNat 32 n.val).toInt.toNat 256 = n.val := by
  decide +kernel

/-- A conjunction over a last axis of one element. -/
theorem all_one {n0 n1 : ℕ} {w : Shape} (x : IVec ⟨3, ![n0, n1, 1]⟩ 1) (init : IVec w 1)
    (hr : (⟨3, ![n0, n1, 1]⟩ : Shape).ReducesTo [2] ⟨2, ![n0, n1]⟩) (hu : 0 < w.numel) (a : Fin n0) (b : Fin n1) (h : init (Shape.Idx.first hu) = 1#1) :
    Host.reduce IntOp.andi x init hr hu (ix2 a b) = x (ix3 a b 0) := by
  rw [Host.reduce_eq_fold, hr.fold_fiber_r3_a2, h]
  show Finset.fold IntOp.andi 1#1 (fun k : Fin 1 => x (ix3 a b k)) Finset.univ = _
  rw [Finset.univ_unique, Finset.fold_singleton]
  show x (ix3 a b 0) &&& 1#1 = _
  generalize x (ix3 a b 0) = z
  revert z
  decide

theorem all_one_row {n0 : ℕ} {w : Shape} (x : IVec ⟨2, ![n0, 1]⟩ 1) (init : IVec w 1)
    (hr : (⟨2, ![n0, 1]⟩ : Shape).ReducesTo [1] ⟨1, ![n0]⟩) (hu : 0 < w.numel) (a : Fin n0) (h : init (Shape.Idx.first hu) = 1#1) :
    Host.reduce IntOp.andi x init hr hu (ix1 a) = x (ix2 a 0) := by
  rw [Host.reduce_eq_fold, hr.fold_fiber_r2_a1, h]
  show Finset.fold IntOp.andi 1#1 (fun k : Fin 1 => x (ix2 a k)) Finset.univ = _
  rw [Finset.univ_unique, Finset.fold_singleton]
  show x (ix2 a 0) &&& 1#1 = _
  generalize x (ix2 a 0) = z
  revert z
  decide

/-! ## A lookup along the last axis of a table -/

/-- The lookup of one entry per row and place, the places a matrix. -/
abbrev lookDims2 (N M R C : ℕ) (wf : GatherDims.WF ⟨2, ![N, M]⟩ ⟨3, ![R, C, 1]⟩ ⟨3, ![N, R, C]⟩ [0] [1] [] [1] [] 2 ![N, 1]) :
    GatherDims ⟨2, ![N, M]⟩ ⟨3, ![R, C, 1]⟩ ⟨3, ![N, R, C]⟩ where
  offsetDims := [0]
  collapsedSliceDims := [1]
  operandBatchingDims := []
  startIndicesBatchingDims := []
  startIndexMap := [1]
  indexVectorDim := 2
  sliceSizes := ![N, 1]
  wf := wf

theorem look2 {α : Type} {N M R C w : ℕ} (hM : 0 < M) (wf : GatherDims.WF ⟨2, ![N, M]⟩ ⟨3, ![R, C, 1]⟩ ⟨3, ![N, R, C]⟩ [0] [1] [] [1] [] 2 ![N, 1])
    (x : (⟨2, ![N, M]⟩ : Shape).Idx → α) (idx : IVec ⟨3, ![R, C, 1]⟩ w) (n : Fin N) (r : Fin R) (c : Fin C) :
    Host.gather (lookDims2 N M R C wf) x idx (ix3 n r c) = x (ix2 n ⟨min (idx (ix3 r c 0)).toInt.toNat (M - 1), by omega⟩) := by
  unfold Host.gather
  congr 1
  funext a
  refine Fin.ext ?_
  show (lookDims2 N M R C wf).start (ix3 n r c) idx a + (lookDims2 N M R C wf).batchCoord (ix3 n r c) a + (lookDims2 N M R C wf).offCoord (ix3 n r c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ [(1 : Fin 2)] by decide)]
    unfold GatherDims.offCoord
    rw [dif_pos ((GatherDims.mem_sKept _ _).2 ⟨(show (0 : Fin 2) ∉ [(1 : Fin 2)] by decide), List.not_mem_nil⟩)]
    show 0 + 0 + n.val = n.val
    omega
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (lookDims2 N M R C wf).startIndexMap from List.mem_singleton.mpr rfl)]
    have hsi : (lookDims2 N M R C wf).siIdx (ix3 n r c) ⟨List.idxOf (1 : Fin 2) (lookDims2 N M R C wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl

/-- The lookup of one entry per row and place, the places a vector. -/
abbrev lookDims1 (N M R : ℕ) (wf : GatherDims.WF ⟨2, ![N, M]⟩ ⟨2, ![R, 1]⟩ ⟨2, ![N, R]⟩ [0] [1] [] [1] [] 1 ![N, 1]) :
    GatherDims ⟨2, ![N, M]⟩ ⟨2, ![R, 1]⟩ ⟨2, ![N, R]⟩ where
  offsetDims := [0]
  collapsedSliceDims := [1]
  operandBatchingDims := []
  startIndicesBatchingDims := []
  startIndexMap := [1]
  indexVectorDim := 1
  sliceSizes := ![N, 1]
  wf := wf

theorem look1 {α : Type} {N M R w : ℕ} (hM : 0 < M) (wf : GatherDims.WF ⟨2, ![N, M]⟩ ⟨2, ![R, 1]⟩ ⟨2, ![N, R]⟩ [0] [1] [] [1] [] 1 ![N, 1])
    (x : (⟨2, ![N, M]⟩ : Shape).Idx → α) (idx : IVec ⟨2, ![R, 1]⟩ w) (n : Fin N) (r : Fin R) :
    Host.gather (lookDims1 N M R wf) x idx (ix2 n r) = x (ix2 n ⟨min (idx (ix2 r 0)).toInt.toNat (M - 1), by omega⟩) := by
  unfold Host.gather
  congr 1
  funext a
  refine Fin.ext ?_
  show (lookDims1 N M R wf).start (ix2 n r) idx a + (lookDims1 N M R wf).batchCoord (ix2 n r) a + (lookDims1 N M R wf).offCoord (ix2 n r) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ [(1 : Fin 2)] by decide)]
    unfold GatherDims.offCoord
    rw [dif_pos ((GatherDims.mem_sKept _ _).2 ⟨(show (0 : Fin 2) ∉ [(1 : Fin 2)] by decide), List.not_mem_nil⟩)]
    show 0 + 0 + n.val = n.val
    omega
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (lookDims1 N M R wf).startIndexMap from List.mem_singleton.mpr rfl)]
    have hsi : (lookDims1 N M R wf).siIdx (ix2 n r) ⟨List.idxOf (1 : Fin 2) (lookDims1 N M R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl

end Cert.Band
end
-- ==== Proof.BandRow.lean ====
/-
  A row of the band attention's block.
-/
module

public import proofs.«01_k».proof.Proof.Gen.Kernel4Ideal.Value
public import proofs.«01_k».proof.Proof.BandSoftmax
public import proofs.«01_k».proof.Proof.BandWords

@[expose] public section

set_option maxRecDepth 16384

noncomputable section

namespace Cert.Kernel4Ideal.Row

open Cert.Kernel4Ideal Cert.Kernel4Ideal.Gen Cert.Softmax Cert.Scores Cert.Words Cert.Band
open Idealize.ShloMosaic Finset

variable (q : Vec Ideal S1x256x128 .bf16) (k v : Vec Ideal S1x768x128 .bf16) (b : Vec Ideal S1x2x256x768 .f32)

/-- A lane before the middle. -/
theorem lane_lt : ∀ d : Fin 128, IntOp.cmpi CmpIPredicate.slt (BitVec.ofNat 32 d.val) 64#32 = if d.val < 64 then 1#1 else 0#1 := by
  decide +kernel

/-- A lane past the middle. -/
theorem lane_ge : ∀ d : Fin 128, IntOp.cmpi CmpIPredicate.sge (BitVec.ofNat 32 d.val) 64#32 = if d.val < 64 then 0#1 else 1#1 := by
  decide +kernel

/-- The queries of the pair's two heads, one under the other. -/
def stack : FVec Ideal S512x128 .bf16 :=
  concatenate S512x128 0 [⟨S256x128, select (cmpi .slt (iota .tc S256x128 32 [1] iota_S256x128_d1_w32) (broadcast S256x128 64#32)) (shapeCast S256x128 q shapeCasts_S1x256x128_S256x128)
      (broadcast S256x128 (Scalar.ofBits .bf16 0x0000#16))⟩,
    ⟨S256x128, select (cmpi .sge (iota .tc S256x128 32 [1] iota_S256x128_d1_w32) (broadcast S256x128 64#32)) (shapeCast S256x128 q shapeCasts_S1x256x128_S256x128)
      (broadcast S256x128 (Scalar.ofBits .bf16 0x0000#16))⟩] concatenates_S256x128_S256x128_S512x128_d0

/-- The scores. -/
def raw : FVec Ideal S512x768 .f32 :=
  shapeCast S512x768 (addf (shapeCast S2x256x768 (matmul dot_S512x128_S768x128_S512x768_1_1_0_0_n_n none (stack q)
      (shapeCast S768x128 k shapeCasts_S1x768x128_S768x128 : FVec Ideal S768x128 .bf16) (constant S512x768 .f32 0x00000000#32)) shapeCasts_S512x768_S2x256x768)
    (shapeCast S2x256x768 b shapeCasts_S1x2x256x768_S2x256x768)) shapeCasts_S2x256x768_S512x768

theorem stack_first (r : Fin 256) (d : Fin 128) : stack q (ix2 ⟨r.val, by omega⟩ d) = if d.val < 64 then q (ix3 0 r d) else 0 := by
  pointwise [stack]
  rw [lane_lt]
  by_cases h : d.val < 64
  · rw [if_pos h, if_pos h]; rfl
  · rw [if_neg h, if_neg h]; rfl

theorem stack_second (r : Fin 256) (d : Fin 128) : stack q (ix2 ⟨256 + r.val, by omega⟩ d) = if d.val < 64 then 0 else q (ix3 0 r d) := by
  pointwise [stack]
  rw [lane_ge]
  by_cases h : d.val < 64
  · rw [if_pos h, if_pos h]; rfl
  · rw [if_neg h, if_neg h]; rfl

theorem raw_apply (r : Fin 512) (j : Fin 768) : raw q k b (ix2 r j) = (∑ d, stack q (ix2 r d) * k (ix3 0 j d)) + b (ix4 0 ⟨r.val / 256, by omega⟩ ⟨r.val % 256, by omega⟩ j) := by
  pointwise [raw]

/-- Powers of two of the scores less their row's largest. -/
def weights (s : FVec Ideal S512x768 .f32) : FVec Ideal S512x768 .f32 :=
  exp2 (subf s (broadcastTo S512x768 (shapeCast S512x1 (multiReduction .maximumf [1] S512 s 0xFF800000#32 reduces_S512x768_S512 (.inl rfl) rfl) shapeCasts_S512_S512x1) broadcasts_S512x1_S512x768))

theorem weights_apply (s : FVec Ideal S512x768 .f32) (r : Fin 512) (j : Fin 768) : weights s (ix2 r j) = Ideal.exp2 (s (ix2 r j) - Finset.univ.sup fun j => s (ix2 r j)) := by
  pointwise [weights]
  rw [inf_bits]
  rfl

theorem pay3_apply (r : Fin 512) (j : Fin 768) : k0_pay3 q k b (ix2 r j) = Ideal.exp2 (raw q k b (ix2 r j) - Finset.univ.sup fun j => raw q k b (ix2 r j)) := by
  rw [← weights_apply]
  rfl

theorem pay4_apply (r : Fin 512) : k0_pay4 q k b (ix2 r 0) = ∑ j, k0_pay3 q k b (ix2 r j) := by
  pointwise [k0_pay4]

theorem pay5_apply (r : Fin 512) (j : Fin 768) : k0_pay5 q k b (ix2 r j) = k0_pay3 q k b (ix2 r j) := by
  pointwise [k0_pay5]

/-- The row a lane of a query comes from. -/
abbrev rowOf (r : Fin 256) (e : Fin 128) : Fin 512 := if e.val < 64 then ⟨r.val, by omega⟩ else ⟨256 + r.val, by omega⟩

theorem pay1_apply (l : FVec Ideal S512x1 .f32) (w : FVec Ideal S512x768 .bf16) (r : Fin 256) (e : Fin 128) : k0_pay1 (k0_pay2 v) l w (ix3 0 r e)
    = Ideal.div (∑ j, w (ix2 (rowOf r e) j) * v (ix3 0 j e)) (l (ix2 (rowOf r e) 0)) := by
  pointwise [k0_pay1, k0_pay2]
  rw [lane_lt]
  unfold rowOf
  by_cases h : e.val < 64
  · rw [if_pos h, if_pos h]; rfl
  · rw [if_neg h, if_neg h]; rfl

theorem sum_halves (f : Fin 128 → EReal) : ∑ x, f x = ∑ x : Fin 64, f ⟨x.val, by omega⟩ + ∑ x : Fin 64, f ⟨64 + x.val, by omega⟩ :=
  Fin.sum_univ_add (a := 64) (b := 64) f

/-- A score of a lane's head. -/
theorem row_score (r : Fin 256) (e : Fin 128) (j : Fin 768) : raw q k b (ix2 (rowOf r e) j)
    = (∑ x : Fin 64, q (ix3 0 r ⟨e.val / 64 * 64 + x.val, by omega⟩) * k (ix3 0 j ⟨e.val / 64 * 64 + x.val, by omega⟩)) + b (ix4 0 ⟨e.val / 64, by omega⟩ r j) := by
  rw [raw_apply, sum_halves]
  unfold rowOf
  by_cases h : e.val < 64
  · have h0 : e.val / 64 = 0 := by omega
    simp only [if_pos h, h0]
    congr 1
    · refine Eq.trans (congrArg₂ (fun a b : EReal => a + b) (Finset.sum_congr rfl fun x _ => ?_) (Finset.sum_eq_zero fun x _ => ?_)) (add_zero _)
      · rw [stack_first, if_pos (show x.val < 64 from x.isLt)]
        exact congrArg₂ (fun a b => q (ix3 0 r a) * k (ix3 0 j b)) (Fin.ext (by show x.val = 0 * 64 + x.val; omega)) (Fin.ext (by show x.val = 0 * 64 + x.val; omega))
      · rw [stack_first, if_neg (show ¬ 64 + x.val < 64 by omega), zero_mul]
    · exact congrArg₂ (fun g r => b (ix4 0 g r j)) (Fin.ext (by show r.val / 256 = 0; omega)) (Fin.ext (by show r.val % 256 = r.val; omega))
  · have h0 : e.val / 64 = 1 := by omega
    simp only [if_neg h, h0]
    congr 1
    · refine Eq.trans (congrArg₂ (fun a b : EReal => a + b) (Finset.sum_eq_zero fun x _ => ?_) (Finset.sum_congr rfl fun x _ => ?_)) (zero_add _)
      · rw [stack_second, if_pos (show x.val < 64 from x.isLt), zero_mul]
      · rw [stack_second, if_neg (show ¬ 64 + x.val < 64 by omega)]
    · exact congrArg₂ (fun g r => b (ix4 0 g r j)) (Fin.ext (by show (256 + r.val) / 256 = 1; omega)) (Fin.ext (by show (256 + r.val) % 256 = r.val; omega))

/-- The block at an index. -/
theorem value_apply (r : Fin 256) (e : Fin 128) : k0_pay1 (k0_pay2 v) (k0_pay4 q k b) (k0_pay5 q k b) (ix3 0 r e)
    = Ideal.div (∑ j, Ideal.exp2 (raw q k b (ix2 (rowOf r e) j) - Finset.univ.sup fun j => raw q k b (ix2 (rowOf r e) j)) * v (ix3 0 j e))
        (∑ j, Ideal.exp2 (raw q k b (ix2 (rowOf r e) j) - Finset.univ.sup fun j => raw q k b (ix2 (rowOf r e) j))) := by
  rw [pay1_apply, pay4_apply]
  simp only [pay5_apply, pay3_apply]

end Cert.Kernel4Ideal.Row
end
-- ==== Proof.BandHost.lean ====
/-
  The arrays that the band attention's kernel is launched on, at the extended reals, each at an index.
-/
module

public import proofs.«01_k».proof.Proof.Gen.Kernel4Ideal.Frame
public import proofs.«01_k».proof.Proof.BandWords
public import Idealize.ShloMosaic.Lib.Claim
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Kernel4Ideal.Host

open Cert.Kernel4Ideal Cert.Kernel4Ideal.Gen
open Cert.Scores Cert.Words Cert.Band
open Idealize.ShloMosaic Idealize.ShloMosaic.TcCoe

variable (m : (ℓ : Loc nD τ sig) → Buf (Elt Ideal) ℓ) (c : Dev nD)

/-- The queries. -/
abbrev arg0 : Vec Ideal S32x2048x512 .f32 := m ((c : Thread nD τ).loc main_arg0)
/-- The keys. -/
abbrev arg1 : Vec Ideal S32x2048x512 .f32 := m ((c : Thread nD τ).loc main_arg1)
/-- The values. -/
abbrev arg2 : Vec Ideal S32x2048x512 .f32 := m ((c : Thread nD τ).loc main_arg2)
/-- The relative biases. -/
abbrev arg3 : Vec Ideal S1x8x257 .f32 := m ((c : Thread nD τ).loc main_arg3)

theorem div_word : ∀ n : Fin 2048, IntOp.divsi ArithUnit.host (BitVec.ofNat 32 n.val) 64#32 = BitVec.ofNat 32 (n.val / 64) := by
  decide +kernel

/-- The chunk of a position, counted from a tile's first. -/
theorem chunk_of (a j : ℕ) (h : a + j < 2048) : IntOp.divsi ArithUnit.host (IntOp.addi (BitVec.ofNat 32 a) (BitVec.ofNat 32 j)) 64#32 = BitVec.ofNat 32 ((a + j) / 64) := by
  rw [← div_word ⟨a + j, h⟩]
  show IntOp.divsi ArithUnit.host (BitVec.ofNat 32 a + BitVec.ofNat 32 j) 64#32 = _
  rw [BitVec.ofNat_add]

theorem lit0_eq : ∀ l : Fin 1023, lit0 l = BitVec.ofNat 32 (entry (0 + 255) l.val) := by decide +kernel
theorem lit1_eq : ∀ l : Fin 1023, lit1 l = BitVec.ofNat 32 (entry (256 + 255) l.val) := by decide +kernel
theorem lit2_eq : ∀ l : Fin 1023, lit2 l = BitVec.ofNat 32 (entry (512 + 255) l.val) := by decide +kernel

/-- The rows' entries along the table, looked up. -/
theorem look_apply (w : IVec S1023 32) (a : ℕ) (l : Fin 1023) (hw : w (ix1 l) = BitVec.ofNat 32 (entry a l.val)) (x : FVec Ideal S8x257 .f32) (h : Fin 8) :
    Host.gather gather_S8x257_S1023x1_S8x1023_0_1_n_n_1_1_81 x (broadcastInDim S1023x1 ![0] bcast_S1023_S1023x1_0
      (select (cmpi CmpIPredicate.slt w (broadcastInDim S1023 ![] bcast_S_S1023 (constantI S_ 32 0#32))) (addi w (broadcastInDim S1023 ![] bcast_S_S1023 (constantI S_ 32 257#32))) w)) (ix2 h l)
      = x (ix2 h ⟨entry a l.val, entry_lt _ _⟩) := by
  refine Eq.trans (look1 (N := 8) (M := 257) (R := 1023) (by omega) gather_S8x257_S1023x1_S8x1023_0_1_n_n_1_1_81.wf x _ h l) (congrArg (fun i => x (ix2 h i)) (Fin.ext ?_))
  have e := (entry_word ⟨entry a l.val, entry_lt _ _⟩).2.2
  have e1 := (entry_word ⟨entry a l.val, entry_lt _ _⟩).1
  refine Eq.trans (congrArg (fun z : BitVec 32 => min z.toInt.toNat (257 - 1)) ?_) e
  refine Eq.trans ?_ e1
  rw [← hw]
  pointwise

/-- Where a row of a tile lies in the rows side by side. -/
theorem place_of (i : Fin 256) (j : Fin 768) : (i.val * 1023 + (255 + j.val)) % 1024 = 255 + j.val - i.val := by omega

/-- A tile's bias, looked up. -/
theorem tile_value (lit : Fin 1023 → BitVec 32) (a : ℕ) (hl : ∀ l, lit l = BitVec.ofNat 32 (entry (a + 255) l.val)) (x : FVec Ideal S8x257 .f32) (h : Fin 8) (i : Fin 256) (j : Fin 768) (z y : EReal) :
    (if h_1 : (i.val * 1023 + (255 + j.val)) % 1024 < 1023 then
        Scalar.select
          (Finset.fold IntOp.andi (1#1)
            (fun x : Fin 1 =>
              IntOp.andi
                (IntOp.cmpi CmpIPredicate.sge
                  (Scalar.select
                    (IntOp.cmpi CmpIPredicate.slt (lit (S1023.rowMajor (ix1 ⟨(i.val * 1023 + (255 + j.val)) % 1024, h_1⟩)))
                      0#32)
                    (IntOp.addi (lit (S1023.rowMajor (ix1 ⟨(i.val * 1023 + (255 + j.val)) % 1024, h_1⟩))) 257#32)
                    (lit (S1023.rowMajor (ix1 ⟨(i.val * 1023 + (255 + j.val)) % 1024, h_1⟩))))
                  0#32)
                (IntOp.cmpi CmpIPredicate.sle
                  (Scalar.select
                    (IntOp.cmpi CmpIPredicate.slt (lit (S1023.rowMajor (ix1 ⟨(i.val * 1023 + (255 + j.val)) % 1024, h_1⟩)))
                      0#32)
                    (IntOp.addi (lit (S1023.rowMajor (ix1 ⟨(i.val * 1023 + (255 + j.val)) % 1024, h_1⟩))) 257#32)
                    (lit (S1023.rowMajor (ix1 ⟨(i.val * 1023 + (255 + j.val)) % 1024, h_1⟩))))
                  256#32))
            Finset.univ)
          (Host.gather gather_S8x257_S1023x1_S8x1023_0_1_n_n_1_1_81 x
            (broadcastInDim S1023x1 ![0] bcast_S1023_S1023x1_0
              (select
                (cmpi CmpIPredicate.slt (fun i => lit (S1023.rowMajor i))
                  (broadcastInDim S1023 ![] bcast_S_S1023 (constantI S_ 32 0#32)))
                (addi (fun i => lit (S1023.rowMajor i))
                  (broadcastInDim S1023 ![] bcast_S_S1023 (constantI S_ 32 257#32)))
                fun i => lit (S1023.rowMajor i)))
            (ix2 h ⟨(i.val * 1023 + (255 + j.val)) % 1024, h_1⟩))
          y
      else z) = x (ix2 h ⟨entry (a + i.val) j.val, entry_lt _ _⟩) := by
  have hp := place_of i j
  rw [dif_pos (show (i.val * 1023 + (255 + j.val)) % 1024 < 1023 by omega)]
  generalize hq : (⟨(i.val * 1023 + (255 + j.val)) % 1024, _⟩ : Fin 1023) = l
  have hv : l.val = 255 + j.val - i.val := by rw [← hq]; exact hp
  have hr : S1023.rowMajor (ix1 l) = l := Fin.ext (Shape.rowMajor_val_one (ix1 l))
  have hw : lit (S1023.rowMajor (ix1 l)) = BitVec.ofNat 32 (entry (a + 255) l.val) := by rw [hr, hl]
  have e := entry_word ⟨entry (a + 255) l.val, entry_lt _ _⟩
  rw [Finset.univ_unique, Finset.fold_singleton, look_apply (fun i => lit (S1023.rowMajor i)) (a + 255) l hw, hw, e.1, e.2.1]
  refine Eq.trans (show _ = x (ix2 h ⟨entry (a + 255) l.val, entry_lt _ _⟩) from rfl) (congrArg (fun n => x (ix2 h n)) (Fin.ext ?_))
  show entry (a + 255) l.val = entry (a + i.val) j.val
  rw [hv]
  unfold entry
  omega

/-- The table in base two. -/
theorem table_apply (h : Fin 8) (n : Fin 257) :
    (mulf (fun i => m (c, Proc.tc.devRef main_arg3) (ix3 0 (i 0) (i 1)))
      (broadcastInDim S8x257 ![] bcast_S_S8x257 (Host.divf (constant S_ FTy.f32 1065353216#32) (Host.log (constant S_ FTy.f32 1073741824#32)))) : FVec Ideal S8x257 .f32) (ix2 h n)
      = arg3 m c (ix3 0 h n) * (L : EReal) := by
  pointwise
  rw [log2e_eq]

theorem tile0_entry (h : Fin 8) (i : Fin 256) (j : Fin 768) : V m c main_v99 (ix4 0 h i j)
    = if sees (0 + i.val) j.val then arg3 m c (ix3 0 h ⟨entry (0 + i.val) j.val, entry_lt _ _⟩) * (L : EReal) else ⊥ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    hostOps0_15, hostOps0_16, hostOps0_17, hostOps0_18, List.flatten_cons, List.flatten_nil, List.append_nil, List.cons_append, List.nil_append]
  after_reads_at
  after_reads_at
  refine Eq.trans (congrArg₂ (Scalar.select _) (tile_value lit0 0 lit0_eq _ h i j _ _) inf_bits) ?_
  rw [chunk_of 0 j.val (by omega), chunk_of 0 i.val (by omega), Nat.zero_add j.val, band_word _ _ (by omega) (by omega)]
  refine (congrArg (fun z : EReal => if sees (0 + i.val) j.val then z else ⊥) (table_apply m c h ⟨entry (0 + i.val) j.val, entry_lt _ _⟩)).trans ?_
  simp only [Nat.zero_add]

theorem tile1_entry (h : Fin 8) (i : Fin 256) (j : Fin 768) : V m c main_v99 (ix4 1 h i j)
    = if sees (256 + i.val) j.val then arg3 m c (ix3 0 h ⟨entry (256 + i.val) j.val, entry_lt _ _⟩) * (L : EReal) else ⊥ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    hostOps0_15, hostOps0_16, hostOps0_17, hostOps0_18, List.flatten_cons, List.flatten_nil, List.append_nil, List.cons_append, List.nil_append]
  after_reads_at
  after_reads_at
  refine Eq.trans (congrArg₂ (Scalar.select _) (tile_value lit1 256 lit1_eq _ h i j _ _) inf_bits) ?_
  rw [chunk_of 0 j.val (by omega), chunk_of 256 i.val (by omega), Nat.zero_add j.val, band_word _ _ (by omega) (by omega)]
  exact congrArg (fun z : EReal => if sees (256 + i.val) j.val then z else ⊥) (table_apply m c h ⟨entry (256 + i.val) j.val, entry_lt _ _⟩)

theorem tile2_entry (h : Fin 8) (i : Fin 256) (j : Fin 768) : V m c main_v99 (ix4 2 h i j)
    = if sees (512 + i.val) j.val then arg3 m c (ix3 0 h ⟨entry (512 + i.val) j.val, entry_lt _ _⟩) * (L : EReal) else ⊥ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    hostOps0_15, hostOps0_16, hostOps0_17, hostOps0_18, List.flatten_cons, List.flatten_nil, List.append_nil, List.cons_append, List.nil_append]
  after_reads_at
  after_reads_at
  refine Eq.trans (congrArg₂ (Scalar.select _) (tile_value lit2 512 lit2_eq _ h i j _ _) inf_bits) ?_
  rw [chunk_of 0 j.val (by omega), chunk_of 512 i.val (by omega), Nat.zero_add j.val, band_word _ _ (by omega) (by omega)]
  exact congrArg (fun z : EReal => if sees (512 + i.val) j.val then z else ⊥) (table_apply m c h ⟨entry (512 + i.val) j.val, entry_lt _ _⟩)

/-- The biases of a query of a tile. -/
theorem tile_entry (w : Fin 3) (h : Fin 8) (i : Fin 256) (j : Fin 768) : V m c main_v99 (ix4 w h i j)
    = if sees (256 * w.val + i.val) j.val then arg3 m c (ix3 0 h ⟨entry (256 * w.val + i.val) j.val, entry_lt _ _⟩) * (L : EReal) else ⊥ :=
  match w with
  | 0 => tile0_entry m c h i j
  | 1 => tile1_entry m c h i j
  | 2 => tile2_entry m c h i j

theorem q_entry (b : Fin 32) (t : Fin 2048) (e : Fin 512) :
    V m c main_v5 (ix3 b t e) = arg0 m c (ix3 b t e) * (((0.125 : ℝ) : EReal) * (L : EReal)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    hostOps0_15, hostOps0_16, hostOps0_17, hostOps0_18, List.flatten_cons, List.flatten_nil, List.append_nil, List.cons_append, List.nil_append]
  after_reads_at
  rw [log2e_eq, eighth_bits]

theorem k_entry (b : Fin 32) (t : Fin 2048) (e : Fin 512) : V m c main_v6 (ix3 b t e) = arg1 m c (ix3 b t e) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    hostOps0_15, hostOps0_16, hostOps0_17, hostOps0_18, List.flatten_cons, List.flatten_nil, List.append_nil, List.cons_append, List.nil_append]
  after_reads_at

theorem v_entry (b : Fin 32) (t : Fin 2048) (e : Fin 512) : V m c main_v7 (ix3 b t e) = arg2 m c (ix3 b t e) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    hostOps0_15, hostOps0_16, hostOps0_17, hostOps0_18, List.flatten_cons, List.flatten_nil, List.append_nil, List.cons_append, List.nil_append]
  after_reads_at

end Cert.Kernel4Ideal.Host
end
-- ==== Proof.BandBlock.lean ====
/-
  The array that the band attention's kernel of `Cert.Kernel4Ideal` leaves.
-/
module

public import proofs.«01_k».proof.Proof.BandRow
public import proofs.«01_k».proof.Proof.BandHost
public import Idealize.ShloMosaic.Lib.Pipeline.ValueKit

@[expose] public section

set_option maxRecDepth 16384

noncomputable section

namespace Cert.Kernel4Ideal.Block

open Cert.Kernel4Ideal Cert.Kernel4Ideal.Gen Cert.Kernel4Ideal.Host Cert.Kernel4Ideal.Row Cert.Band Cert.Softmax Cert.Scores
open Idealize.ShloMosaic Idealize.ShloMosaic.TcCoe

/-- The 768 rows of an array from row `n`. -/
def rows (x : Vec Ideal S1x2048x128 .bf16) (n : ℕ) : Vec Ideal S1x768x128 .bf16 :=
  fun y => x (ix3 0 ⟨(n + (y 1).val) % 2048, Nat.mod_lt _ (by decide)⟩ (y 2))

/-- Tile `w` of a pair of heads' biases. -/
def tileOf (x : Vec Ideal S3x2x256x768 .f32) (w : ℕ) : Vec Ideal S1x2x256x768 .f32 :=
  fun y => x (ix4 ⟨w % 3, Nat.mod_lt _ (by decide)⟩ (y 1) (y 2) (y 3))

/-- A load of 768 rows. -/
theorem load_rows (x : Vec Ideal S1x2048x128 .bf16) (n : ℕ) (off : Fin 3 → ℕ) (hoff : off = ![0, n, 0])
    (hb : ∀ a, off a + S1x768x128.size a ≤ S1x2048x128.size a) :
    View.ld x (Rect.unit (s := S1x2048x128) off S1x768x128.size hb) = rows x n := by
  subst hoff
  have hn : n + 768 ≤ 2048 := hb 1
  funext y
  unfold rows View.ld
  congr 1
  funext a
  apply Fin.ext
  have h1 : (y 1).val < 768 := (y 1).isLt
  have h0 : (y 0).val < 1 := (y 0).isLt
  match a with
  | ⟨0, _⟩ => show 0 + 1 * (y 0).val = 0; omega
  | ⟨1, _⟩ => show n + 1 * (y 1).val = (n + (y 1).val) % 2048; omega
  | ⟨2, _⟩ => show 0 + 1 * (y 2).val = (y 2).val; omega

/-- A load of one tile. -/
theorem load_tile (x : Vec Ideal S3x2x256x768 .f32) (w : ℕ) (off : Fin 4 → ℕ) (hoff : off = ![w, 0, 0, 0])
    (hb : ∀ a, off a + S1x2x256x768.size a ≤ S3x2x256x768.size a) :
    View.ld x (Rect.unit (s := S3x2x256x768) off S1x2x256x768.size hb) = tileOf x w := by
  subst hoff
  have hn : w + 1 ≤ 3 := hb 0
  funext y
  unfold tileOf View.ld
  congr 1
  funext a
  apply Fin.ext
  have h0 : (y 0).val < 1 := (y 0).isLt
  match a with
  | ⟨0, _⟩ => show w + 1 * (y 0).val = w % 3; omega
  | ⟨1, _⟩ => show 0 + 1 * (y 1).val = (y 1).val; omega
  | ⟨2, _⟩ => show 0 + 1 * (y 2).val = (y 2).val; omega
  | ⟨3, _⟩ => show 0 + 1 * (y 3).val = (y 3).val; omega

/-- A grid point's place along the rows. -/
theorem offs : ∀ t : Fin grid0.N, k0_off1 (grid0.coords t) = ![0, 256 * (t.val % 8) - 512, 0] ∧ k0_off2 (grid0.coords t) = ![min (t.val % 8) 2, 0, 0, 0] := by
  decide +kernel

theorem idx : ∀ t : Fin cfg0.N, win0_0.index t = ![0, t.val / 256, 0, 0] ∧ win0_1.index t = ![t.val / 8 % 32, t.val % 8, t.val / 256]
    ∧ win0_2.index t = ![t.val / 8 % 32, 0, t.val / 256] ∧ win0_3.index t = ![t.val / 8 % 32, 0, t.val / 256]
    ∧ win0_4.index t = ![t.val / 8 % 32, t.val % 8, t.val / 256] :=
  (by decide +kernel : ∀ t : Fin grid0.N, _)

variable (m : (ℓ : Loc nD τ sig) → Buf (Elt Ideal) ℓ) (c : Dev nD)

theorem points (t : Fin cfg0.N) : t.val < 1024 := lt_of_lt_of_eq t.isLt N_0

variable (t : Fin cfg0.N)

/-- The block a grid point stores. -/
abbrev stored : Vec Ideal S1x256x128 .bf16 :=
  k0_pay1 (F := Ideal) (k0_pay2 (rows (iblk m c 3 t) (256 * (t.val % 8) - 512)))
    (k0_pay4 (iblk m c 1 t) (rows (iblk m c 2 t) (256 * (t.val % 8) - 512)) (tileOf (iblk m c 0 t) (min (t.val % 8) 2)))
    (k0_pay5 (iblk m c 1 t) (rows (iblk m c 2 t) (256 * (t.val % 8) - 512)) (tileOf (iblk m c 0 t) (min (t.val % 8) 2)))

theorem outs_eq : outsAt0 m c t = stored m c t := by
  unfold outsAt0
  frame_out
  have e2 := load_rows (iblk m c 2 t) _ _ (offs t).1 (k0_off1_inb (grid0.coords t))
  have e3 := load_rows (iblk m c 3 t) _ _ (offs t).1 (k0_off1_inb (grid0.coords t))
  have e0 := load_tile (iblk m c 0 t) _ _ (offs t).2 (k0_off2_inb (grid0.coords t))
  unfold stored
  rw [← e2, ← e3, ← e0]

/-- The first key of a grid point's window. -/
abbrev first : ℕ := 256 * (t.val % 8) - 512
/-- A grid point's query. -/
abbrev at_ (r : Fin 256) : Fin 2048 := ⟨256 * (t.val % 8) + r.val, by omega⟩
/-- A grid point's sequence. -/
abbrev batch : Fin 32 := ⟨t.val / 8 % 32, by omega⟩
/-- A grid point's column. -/
abbrev col (e : Fin 128) : Fin 512 := ⟨t.val / 256 * 128 + e.val, by have := points t; omega⟩
/-- A column's head. -/
abbrev headOf (d : Fin 512) : Fin 8 := ⟨d.val / 64, by omega⟩

theorem q_block (r : Fin 256) (e : Fin 128) : (iblk m c 1 t : Vec Ideal S1x256x128 .bf16) (ix3 0 r e)
    = arg0 m c (ix3 (batch t) (at_ t r) (col t e)) * (((0.125 : ℝ) : EReal) * (L : EReal)) :=
  (show _ = (V m c main_v5 : Vec Ideal S32x2048x512 .bf16) (ix3 (batch t) (at_ t r) (col t e)) by blk_ext [iblk, idx t]).trans (q_entry m c _ _ _)

theorem k_block (s : Fin 2048) (e : Fin 128) : (iblk m c 2 t : Vec Ideal S1x2048x128 .bf16) (ix3 0 s e)
    = arg1 m c (ix3 (batch t) s (col t e)) :=
  (show _ = (V m c main_v6 : Vec Ideal S32x2048x512 .bf16) (ix3 (batch t) s (col t e)) by blk_ext [iblk, idx t]).trans (k_entry m c _ _ _)

theorem v_block (s : Fin 2048) (e : Fin 128) : (iblk m c 3 t : Vec Ideal S1x2048x128 .bf16) (ix3 0 s e)
    = arg2 m c (ix3 (batch t) s (col t e)) :=
  (show _ = (V m c main_v7 : Vec Ideal S32x2048x512 .bf16) (ix3 (batch t) s (col t e)) by blk_ext [iblk, idx t]).trans (v_entry m c _ _ _)

theorem b_block (w : Fin 3) (g : Fin 2) (i : Fin 256) (j : Fin 768) : (iblk m c 0 t : Vec Ideal S3x2x256x768 .f32) (ix4 w g i j)
    = if sees (256 * w.val + i.val) j.val then arg3 m c (ix3 0 ⟨t.val / 256 * 2 + g.val, by have := points t; omega⟩ ⟨entry (256 * w.val + i.val) j.val, entry_lt _ _⟩) * (L : EReal) else ⊥ :=
  (show _ = (V m c main_v99 : Vec Ideal S3x8x256x768 .f32) (ix4 w ⟨t.val / 256 * 2 + g.val, by have := points t; omega⟩ i j) by blk_ext [iblk, idx t]).trans (tile_entry m c _ _ _ _)

/-- The reference's score of key `s` for query `T` in a head of a sequence. -/
def score (n : Fin 32) (h : Fin 8) (T : Fin 2048) (s : ℕ) : EReal :=
  if hs : s < 2048 then
    (if sees T.val s then (∑ x : Fin 64, arg0 m c (ix3 n T ⟨h.val * 64 + x.val, by omega⟩) * arg1 m c (ix3 n ⟨s, hs⟩ ⟨h.val * 64 + x.val, by omega⟩)) * ((0.125 : ℝ) : EReal)
      + arg3 m c (ix3 0 h ⟨entry T.val s, entry_lt _ _⟩) else ⊥)
  else ⊥

/-- A grid point's bias. -/
theorem tile_block (r : Fin 256) (e : Fin 128) (j : Fin 768) : tileOf (iblk m c 0 t) (min (t.val % 8) 2) (ix4 0 ⟨e.val / 64, by omega⟩ r j)
    = if sees (at_ t r).val (first t + j.val) then arg3 m c (ix3 0 (headOf (col t e)) ⟨entry (at_ t r).val (first t + j.val), entry_lt _ _⟩) * (L : EReal) else ⊥ := by
  have hp := points t
  refine (b_block m c t ⟨min (t.val % 8) 2 % 3, Nat.mod_lt _ (by decide)⟩ ⟨e.val / 64, by omega⟩ r j).trans ?_
  have h1 : sees (256 * (min (t.val % 8) 2 % 3) + r.val) j.val ↔ sees (256 * (t.val % 8) + r.val) (256 * (t.val % 8) - 512 + j.val) := by
    unfold sees
    omega
  have h2 : entry (256 * (min (t.val % 8) 2 % 3) + r.val) j.val = entry (256 * (t.val % 8) + r.val) (256 * (t.val % 8) - 512 + j.val) := by
    unfold entry
    omega
  refine if_congr h1 ?_ rfl
  refine congrArg₂ (fun a b => arg3 m c (ix3 0 a b) * (L : EReal)) (Fin.ext ?_) (Fin.ext h2)
  show t.val / 256 * 2 + e.val / 64 = (t.val / 256 * 128 + e.val) / 64
  omega

/-- The kernel's scores are the reference's in base two. -/
theorem raw_eq (r : Fin 256) (e : Fin 128) (j : Fin 768) :
    raw (iblk m c 1 t) (rows (iblk m c 2 t) (first t)) (tileOf (iblk m c 0 t) (min (t.val % 8) 2)) (ix2 (rowOf r e) j)
      = rescale L 0 (score m c (batch t) (headOf (col t e)) (at_ t r) (first t + j.val)) := by
  have hp := points t
  have hj : first t + j.val < 2048 := by
    show 256 * (t.val % 8) - 512 + j.val < 2048
    omega
  have hc : ∀ x : Fin 64, col t ⟨e.val / 64 * 64 + x.val, by omega⟩ = ⟨(headOf (col t e)).val * 64 + x.val, by have := (headOf (col t e)).isLt; omega⟩ := fun x => Fin.ext (by
    show t.val / 256 * 128 + (e.val / 64 * 64 + x.val) = (t.val / 256 * 128 + e.val) / 64 * 64 + x.val
    omega)
  have hq : ∀ x : Fin 64, (iblk m c 1 t : Vec Ideal S1x256x128 .bf16) (ix3 0 r ⟨e.val / 64 * 64 + x.val, by omega⟩)
      = arg0 m c (ix3 (batch t) (at_ t r) ⟨(headOf (col t e)).val * 64 + x.val, by have := (headOf (col t e)).isLt; omega⟩) * (((0.125 : ℝ) : EReal) * (L : EReal)) := fun x =>
    (q_block m c t r _).trans (congrArg (fun z => arg0 m c (ix3 (batch t) (at_ t r) z) * (((0.125 : ℝ) : EReal) * (L : EReal))) (hc x))
  have hk : ∀ x : Fin 64, rows (iblk m c 2 t) (first t) (ix3 0 j ⟨e.val / 64 * 64 + x.val, by omega⟩)
      = arg1 m c (ix3 (batch t) ⟨first t + j.val, hj⟩ ⟨(headOf (col t e)).val * 64 + x.val, by have := (headOf (col t e)).isLt; omega⟩) := fun x =>
    (k_block m c t ⟨(first t + j.val) % 2048, Nat.mod_lt _ (by decide)⟩ _).trans (congrArg₂ (fun y z => arg1 m c (ix3 (batch t) y z)) (Fin.ext (Nat.mod_eq_of_lt hj)) (hc x))
  rw [row_score, tile_block]
  simp only [hq, hk]
  rw [scaled_sum]
  unfold score
  rw [dif_pos hj]
  by_cases hs : sees (at_ t r).val (first t + j.val)
  · rw [if_pos hs, if_pos hs]
    unfold rescale
    rw [EReal.coe_zero, add_zero, coe_mul_add _ L_pos, mul_comm (L : EReal) (arg3 m c _)]
  · rw [if_neg hs, if_neg hs, rescale_bot _ _ L_pos, EReal.add_bot]

/-- The reference's result. -/
def result (n : Fin 32) (T : Fin 2048) (d : Fin 512) : EReal :=
  ∑ s : Fin 2048, arg2 m c (ix3 n s d) * Ideal.div (Ideal.exp (score m c n (headOf d) T s.val - top (score m c n (headOf d) T) 2048))
    (∑ x : Fin 2048, Ideal.exp (score m c n (headOf d) T x.val - top (score m c n (headOf d) T) 2048))

/-- The result as an array. -/
def resultArr : Vec Ideal S32x2048x512 .bf16 := fun y => result m c (y 0) (y 1) (y 2)

/-- The queries, the keys and the relative biases are real. -/
def Reals : Prop := (∀ i, ∃ x : ℝ, arg0 m c i = (x : EReal)) ∧ (∀ i, ∃ x : ℝ, arg1 m c i = (x : EReal)) ∧ (∀ i, ∃ x : ℝ, arg3 m c i = (x : EReal))

theorem score_real (H : Reals m c) (n : Fin 32) (h : Fin 8) (T : Fin 2048) (s : ℕ) : score m c n h T s = ⊥ ∨ ∃ x : ℝ, score m c n h T s = (x : EReal) := by
  obtain ⟨h0, h1, h3⟩ := H
  choose f0 e0 using h0
  choose f1 e1 using h1
  choose f3 e3 using h3
  unfold score
  by_cases hs : s < 2048
  · rw [dif_pos hs]
    by_cases hv : sees T.val s
    · rw [if_pos hv]
      right
      simp only [e0, e1, e3, ← EReal.coe_mul, ← coe_sum, ← EReal.coe_add]
      exact ⟨_, rfl⟩
    · rw [if_neg hv]; exact .inl rfl
  · rw [dif_neg hs]; exact .inl rfl

theorem score_ne_top (H : Reals m c) (n : Fin 32) (h : Fin 8) (T : Fin 2048) (s : ℕ) : score m c n h T s ≠ ⊤ := by
  rcases score_real m c H n h T s with e | ⟨x, e⟩ <;> rw [e]
  · exact bot_ne_top
  · exact EReal.coe_ne_top x

theorem score_self (H : Reals m c) (n : Fin 32) (h : Fin 8) (T : Fin 2048) : score m c n h T T.val ≠ ⊥ := by
  obtain ⟨h0, h1, h3⟩ := H
  choose f0 e0 using h0
  choose f1 e1 using h1
  choose f3 e3 using h3
  unfold score
  rw [dif_pos T.isLt, if_pos (show sees T.val T.val by unfold sees; omega)]
  simp only [e0, e1, e3, ← EReal.coe_mul, ← coe_sum, ← EReal.coe_add]
  exact EReal.coe_ne_bot _

theorem score_outside (n : Fin 32) (h : Fin 8) (r : Fin 256) (s : ℕ) (hs : s < first t ∨ first t + 768 ≤ s) : score m c n h (at_ t r) s = ⊥ := by
  have hp := points t
  unfold score
  by_cases h1 : s < 2048
  · rw [dif_pos h1, if_neg]
    show ¬ sees (256 * (t.val % 8) + r.val) s
    have hs' : s < 256 * (t.val % 8) - 512 ∨ 256 * (t.val % 8) - 512 + 768 ≤ s := hs
    unfold sees
    omega
  · rw [dif_neg h1]

theorem point (H : Reals m c) (r : Fin 256) (e : Fin 128) : stored m c t (ix3 0 r e) = result m c (batch t) (at_ t r) (col t e) := by
  have hp := points t
  obtain ⟨f2, e2⟩ : ∃ f : ℕ → EReal, ∀ s (hs : s < 2048), arg2 m c (ix3 (batch t) ⟨s, hs⟩ (col t e)) = f s :=
    ⟨fun s => if hs : s < 2048 then arg2 m c (ix3 (batch t) ⟨s, hs⟩ (col t e)) else 0, fun s hs => by
      show _ = (if hs : s < 2048 then arg2 m c (ix3 (batch t) ⟨s, hs⟩ (col t e)) else 0 : EReal)
      rw [dif_pos hs]⟩
  have hj : first t + 768 ≤ 2048 := by
    show 256 * (t.val % 8) - 512 + 768 ≤ 2048
    omega
  have hv : ∀ j : Fin 768, rows (iblk m c 3 t) (first t) (ix3 0 j e) = f2 (first t + j.val) := fun j =>
    ((v_block m c t ⟨(first t + j.val) % 2048, Nat.mod_lt _ (by decide)⟩ e).trans
      (congrArg (fun z => arg2 m c (ix3 (batch t) z (col t e))) (Fin.ext (Nat.mod_eq_of_lt (by omega))))).trans (e2 (first t + j.val) (by omega))
  refine (value_apply (iblk m c 1 t) (rows (iblk m c 2 t) (first t)) (rows (iblk m c 3 t) (first t)) (tileOf (iblk m c 0 t) (min (t.val % 8) 2)) r e).trans ?_
  simp only [raw_eq, hv]
  refine (window_eq (N := 2048) (W := 768) (k0 := first t) hj (score m c (batch t) (headOf (col t e)) (at_ t r)) f2
    (fun s hs => score_outside m c t _ _ r s hs) (fun s => score_ne_top m c H _ _ _ s) (at_ t r).val (at_ t r).isLt (score_self m c H _ _ _)).trans ?_
  unfold result
  exact Finset.sum_congr rfl fun s _ => by rw [e2 s.val s.isLt]

theorem core (H : Reals m c) (i : S1x256x128.Idx) (j : S32x2048x512.Idx) (h0 : (j 0).val = t.val / 8 % 32) (h1 : (j 1).val = t.val % 8 * 256 + (i 1).val)
    (h2 : (j 2).val = t.val / 256 * 128 + (i 2).val) : stored m c t i = resultArr m c j := by
  have hi : i = ix3 0 (i 1) (i 2) := by blk_ext
  rw [hi]
  refine (point m c t H (i 1) (i 2)).trans ?_
  unfold resultArr
  congr 1
  · exact Fin.ext h0.symm
  · exact Fin.ext (by rw [h1]; show 256 * (t.val % 8) + (i 1).val = _; omega)
  · exact Fin.ext h2.symm

set_option maxHeartbeats 800000 in
theorem final (H : Reals m c) : (dats m 0 c).arrAt 4 cfg0.N = resultArr m c := by
  refine (dats m 0 c).arrAt_eq_of_covers 4 _ (by decide +kernel) fun t _ y => ?_
  blk_simp
  rw [after0_4, outs_eq]
  refine core m c t H _ _ ?_ ?_ ?_
  all_goals (blk_simp [idx t] <;> try omega)

end Cert.Kernel4Ideal.Block
end
-- ==== Proof.BandStages.lean ====
/-
  The band attention's reference in stages.
-/
module

public import proofs.«01_k».proof.Proof.Gen.Reference4Ideal.Run
public import proofs.«01_k».proof.Proof.BandWords

@[expose] public section

set_option maxRecDepth 16384

noncomputable section

namespace Cert.Reference4Ideal.Stage

open Cert.Reference4Ideal Cert.Reference4Ideal.Gen Cert.Reference4Ideal.Value
open Idealize.ShloMosaic

variable (q k v : FVec Ideal S32x2048x512 .f32) (tab : FVec Ideal S1x8x257 .f32)

/-- The chunk of each position. -/
def chunk : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

/-- Whether a query sees a key. -/
def mask : IVec S2048x2048 1 :=
  andi (cmpi .sle (broadcastInDim S2048x2048 ![0, 1] bcast_S1x2048_S2048x2048_0_1 (broadcastInDim S1x2048 ![1] bcast_S2048_S1x2048_1 chunk))
      (broadcastInDim S2048x2048 ![0, 1] bcast_S2048x1_S2048x2048_0_1 (broadcastInDim S2048x1 ![0] bcast_S2048_S2048x1_0 chunk)))
    (cmpi .sge (broadcastInDim S2048x2048 ![0, 1] bcast_S1x2048_S2048x2048_0_1 (broadcastInDim S1x2048 ![1] bcast_S2048_S1x2048_1 chunk))
      (broadcastInDim S2048x2048 ![0, 1] bcast_S2048x1_S2048x2048_0_1 (subi (broadcastInDim S2048x1 ![0] bcast_S2048_S2048x1_0 chunk) (broadcastInDim S2048x1 ![] bcast_S_S2048x1 (constantI S_ 32 8#32)))))

/-- Where in the table a query and a key find their bias. -/
def rel : IVec S2048x2048 32 :=
  addi (minsi (broadcastInDim S2048x2048 ![] bcast_S_S2048x2048 (id (constantI S_ 32 128#32))) (maxsi (broadcastInDim S2048x2048 ![] bcast_S_S2048x2048 (id (constantI S_ 32 4294967168#32)))
      (subi (broadcastInDim S2048x2048 ![0, 1] bcast_S2048x1_S2048x2048_0_1 (broadcastInDim S2048x1 ![0] bcast_S2048_S2048x1_0 (iotaInDim S2048 32 0)))
        (broadcastInDim S2048x2048 ![0, 1] bcast_S1x2048_S2048x2048_0_1 (broadcastInDim S1x2048 ![1] bcast_S2048_S1x2048_1 (iotaInDim S2048 32 0))))))
    (broadcastInDim S2048x2048 ![] bcast_S_S2048x2048 (constantI S_ 32 128#32))

/-- The same, counted from the table's end where negative. -/
def place : IVec S2048x2048x1 32 :=
  broadcastInDim S2048x2048x1 ![0, 1] bcast_S2048x2048_S2048x2048x1_0_1
    (select (cmpi .slt rel (broadcastInDim S2048x2048 ![] bcast_S_S2048x2048 (constantI S_ 32 0#32))) (addi rel (broadcastInDim S2048x2048 ![] bcast_S_S2048x2048 (constantI S_ 32 257#32))) rel)

/-- Whether the place lies in the table. -/
def inside : IVec S2048x2048 1 :=
  Host.reduce IntOp.andi (andi (cmpi .sge place (broadcastInDim S2048x2048x1 ![] bcast_S_S2048x2048x1 (constantI S_ 32 0#32)))
      (cmpi .sle place (broadcastInDim S2048x2048x1 ![0, 1, 2] bcast_S1x1x1_S2048x2048x1_0_1_2 (broadcastInDim S1x1x1 ![2] bcast_S1_S1x1x1_2 (constantI S1 32 256#32)))))
    (constantI S_ 1 1#1) reducesTo_S2048x2048x1_S2048x2048_d2 h_S_

/-- The relative bias of each head. -/
def bias : FVec Ideal S8x2048x2048 .f32 :=
  select (broadcastInDim S8x2048x2048 ![1, 2] bcast_S2048x2048_S8x2048x2048_1_2 inside)
    (Host.gather gather_S8x257_S2048x2048x1_S8x2048x2048_0_1_n_n_1_2_81 (shapeCast _ tab shapeCasts_S1x8x257_S8x257) place)
    (broadcastInDim S8x2048x2048 ![] bcast_S_S8x2048x2048 (constant S_ .f32 0x7FC00000#32))

/-- The masked scores. -/
def scores : FVec Ideal S32x8x2048x2048 .f32 :=
  select (broadcastInDim S32x8x2048x2048 ![2, 3] bcast_S2048x2048_S32x8x2048x2048_2_3 mask)
    (addf (mulf (Host.dotGeneral dot_S32x2048x8x64_S32x2048x8x64_S32x8x2048x2048_3_3_1_1_02_02 none
          (shapeCast _ q shapeCasts_S32x2048x512_S32x2048x8x64) (shapeCast _ k shapeCasts_S32x2048x512_S32x2048x8x64))
        (broadcastInDim S32x8x2048x2048 ![] bcast_S_S32x8x2048x2048 (constant S_ .f32 0x3E000000#32)))
      (broadcastInDim S32x8x2048x2048 ![0, 1, 2, 3] bcast_S1x8x2048x2048_S32x8x2048x2048_0_1_2_3 (broadcastInDim S1x8x2048x2048 ![1, 2, 3] bcast_S8x2048x2048_S1x8x2048x2048_1_2_3 (bias tab))))
    (broadcastInDim S32x8x2048x2048 ![] bcast_S_S32x8x2048x2048 (id (constant S_ .f32 0xFF800000#32)))

variable (s : FVec Ideal S32x8x2048x2048 .f32)

/-- The largest score of each query. -/
def peak : FVec Ideal S32x8x2048 .f32 :=
  maximumf (broadcastInDim S32x8x2048 ![] bcast_S_S32x8x2048 (constant S_ .f32 0xFF800000#32))
    (Host.reduce FloatOps.maximumf s (constant S_ .f32 0xFF800000#32) reducesTo_S32x8x2048x2048_S32x8x2048_d3 h_S_)

/-- The exponentials of the scores. -/
def expo : FVec Ideal S32x8x2048x2048 .f32 :=
  Host.exp (subf s (broadcastInDim S32x8x2048x2048 ![0, 1, 2, 3] bcast_S32x8x2048x1_S32x8x2048x2048_0_1_2_3 (broadcastInDim S32x8x2048x1 ![0, 1, 2] bcast_S32x8x2048_S32x8x2048x1_0_1_2 (peak s))))

/-- The probabilities. -/
def probs : FVec Ideal S32x8x2048x2048 .f32 :=
  Host.divf (expo s) (broadcastInDim S32x8x2048x2048 ![0, 1, 2, 3] bcast_S32x8x2048x1_S32x8x2048x2048_0_1_2_3 (broadcastInDim S32x8x2048x1 ![0, 1, 2] bcast_S32x8x2048_S32x8x2048x1_0_1_2
    (Host.reduceAdd (expo s) (constant S_ .f32 0x00000000#32) reducesTo_S32x8x2048x2048_S32x8x2048_d3 h_S_)))

variable (p : FVec Ideal S32x8x2048x2048 .f32)

/-- The attention over the values, the heads side by side. -/
def heads : FVec Ideal S32x2048x512 .bf16 :=
  truncf .bf16 (shapeCast _ (transpose S32x2048x8x64 [0, 3, 1, 2] (Host.dotGeneral dot_S32x2048x8x64_S32x8x2048x2048_S32x8x64x2048_1_3_3_2_02_01 none (shapeCast _ v shapeCasts_S32x2048x512_S32x2048x8x64) p)
    transposes_S32x8x64x2048_S32x2048x8x64_0_3_1_2) shapeCasts_S32x2048x8x64_S32x2048x512) bitsLt_bf16_f32

/-- The reference's result is its stages in order. -/
theorem result_eq (m : (ℓ : Loc nD τ sig) → Buf (Elt Ideal) ℓ) (c : Dev nD) : res_main_v51 m c
    = heads (m ((c.tc : Thread nD τ).loc main_arg2)) (probs (scores (m ((c.tc : Thread nD τ).loc main_arg0)) (m ((c.tc : Thread nD τ).loc main_arg1)) (m ((c.tc : Thread nD τ).loc main_arg3)))) := by
  unfold res_main_v51
  rfl

end Cert.Reference4Ideal.Stage
end
-- ==== Proof.BandReference.lean ====
/-
  The stages of the band attention's reference at an index.
-/
module

public import proofs.«01_k».proof.Proof.BandStages
public import proofs.«01_k».proof.Proof.BandSoftmax

@[expose] public section

set_option maxRecDepth 16384

noncomputable section

namespace Cert.Reference4Ideal.Stage

open Cert.Softmax Cert.Reference4Ideal Cert.Reference4Ideal.Gen Cert.Reference4Ideal.Value Cert.Scores Cert.Words Cert.Band
open Idealize.ShloMosaic

variable (q k v : FVec Ideal S32x2048x512 .f32) (tab : FVec Ideal S1x8x257 .f32) (s p : FVec Ideal S32x8x2048x2048 .f32)
variable (n : Fin 32) (h : Fin 8) (t y : Fin 2048) (e : Fin 64)

theorem chunk_apply : chunk (ix1 t) = BitVec.ofNat 32 (t.val / 64) := by
  pointwise [chunk]
  exact quot_ofNat t

theorem rel_apply : rel (ix2 t y) = BitVec.ofNat 32 (entry t.val y.val) := by
  pointwise [rel]
  exact clip_word t.val y.val t.isLt y.isLt

theorem place_apply : place (ix3 t y 0) = BitVec.ofNat 32 (entry t.val y.val) := by
  pointwise [place]
  rw [rel_apply]
  exact (entry_word ⟨entry t.val y.val, entry_lt _ _⟩).1

theorem inside_apply : inside (ix2 t y) = 1#1 := by
  unfold inside
  rw [all_one _ _ _ _ _ _ rfl]
  pointwise
  rw [place_apply]
  exact (entry_word ⟨entry t.val y.val, entry_lt _ _⟩).2.1

theorem look_apply (x : FVec Ideal S8x257 .f32) :
    Host.gather gather_S8x257_S2048x2048x1_S8x2048x2048_0_1_n_n_1_2_81 x place (ix3 h t y) = x (ix2 h ⟨entry t.val y.val, entry_lt _ _⟩) := by
  refine Eq.trans (look2 (N := 8) (M := 257) (R := 2048) (C := 2048) (by omega) gather_S8x257_S2048x2048x1_S8x2048x2048_0_1_n_n_1_2_81.wf x place h t y)
    (congrArg (fun i => x (ix2 h i)) (Fin.ext ?_))
  have e := (entry_word ⟨entry t.val y.val, entry_lt _ _⟩).2.2
  rw [← place_apply] at e
  exact e

theorem bias_apply : bias tab (ix3 h t y) = tab (ix3 0 h ⟨entry t.val y.val, entry_lt _ _⟩) := by
  pointwise [bias]
  rw [inside_apply, look_apply]
  pointwise

theorem mask_apply : mask (ix2 t y) = IntOp.andi (IntOp.cmpi CmpIPredicate.sle (BitVec.ofNat 32 (y.val / 64)) (BitVec.ofNat 32 (t.val / 64)))
    (IntOp.cmpi CmpIPredicate.sge (BitVec.ofNat 32 (y.val / 64)) (IntOp.subi (BitVec.ofNat 32 (t.val / 64)) 8#32)) := by
  pointwise [mask]
  rw [chunk_apply, chunk_apply]

theorem scores_apply : scores q k tab (ix4 n h t y)
    = if sees t.val y.val then (∑ x : Fin 64, q (ix3 n t ⟨h.val * 64 + x.val, by omega⟩) * k (ix3 n y ⟨h.val * 64 + x.val, by omega⟩)) * ((0.125 : ℝ) : EReal)
        + tab (ix3 0 h ⟨entry t.val y.val, entry_lt _ _⟩) else ⊥ := by
  pointwise [scores]
  rw [mask_apply, band_word _ _ t.isLt y.isLt, bias_apply, eighth_bits]
  exact congrArg (fun b : EReal => if sees t.val y.val then (_ : EReal) else b) inf_bits

/-- A maximum over the last of four axes, at an index, at any sizes. -/
theorem reduce_last {n0 n1 n2 n3 : ℕ} {w : Shape} (x : FVec Ideal ⟨4, ![n0, n1, n2, n3]⟩ .f32) (init : FVec Ideal w .f32)
    (hr : (⟨4, ![n0, n1, n2, n3]⟩ : Shape).ReducesTo [3] ⟨3, ![n0, n1, n2]⟩) (hu : 0 < w.numel) (a : Fin n0) (b : Fin n1) (c : Fin n2) :
    Host.reduce FloatOps.maximumf x init hr hu (ix3 a b c)
      = (Finset.univ : Finset (Fin n3)).fold (FloatOps.maximumf (F := Ideal)) (init (Shape.Idx.first hu)) (fun k => x (ix4 a b c k)) := by
  rw [Host.reduce_eq_fold, hr.fold_fiber_r4_a3]
  rfl

theorem peak_apply : peak s (ix3 n h t) = Finset.univ.sup (fun y => s (ix4 n h t y)) := by
  unfold peak
  rw [maximumf_apply, reduce_last]
  show max (Ideal.ofBits .f32 0xFF800000#32) (Finset.fold max (Ideal.ofBits .f32 0xFF800000#32) (fun k => s (ix4 n h t k)) Finset.univ) = _
  rw [inf_bits, max_eq_right bot_le]
  rfl

theorem expo_apply : expo s (ix4 n h t y) = Ideal.exp (s (ix4 n h t y) - Finset.univ.sup (fun x => s (ix4 n h t x))) := by
  rw [← peak_apply]
  pointwise [expo]

theorem probs_apply : probs s (ix4 n h t y) = Ideal.div (expo s (ix4 n h t y)) (∑ x, expo s (ix4 n h t x)) := by
  pointwise [probs]

theorem heads_apply : heads v p (ix3 n t ⟨64 * h.val + e.val, by omega⟩) = ∑ x, v (ix3 n x ⟨h.val * 64 + e.val, by omega⟩) * p (ix4 n h t x) := by
  pointwise [heads]

end Cert.Reference4Ideal.Stage
end
-- ==== Proof.BandEquation.lean ====
/-
  The band attention's kernel `Cert.Kernel4Ideal` and its reference `Cert.Reference4Ideal` leave equal results.
-/
module

public import proofs.«01_k».proof.Defs
public import proofs.«01_k».proof.Proof.Equation
public import proofs.«01_k».proof.Proof.BandBlock
public import proofs.«01_k».proof.Proof.BandReference
public import proofs.«01_k».proof.Proof.Gen.Kernel4Ideal.Value
public import Idealize.ShloMosaic.Adequacy

@[expose] public section

set_option maxRecDepth 16384

noncomputable section

namespace Cert.Kernel4Ideal.Block

open Cert.Kernel4Ideal Cert.Kernel4Ideal.Gen Cert.Kernel4Ideal.Host Cert.Band Cert.Softmax
open Idealize.ShloMosaic Idealize.ShloMosaic.TcCoe Idealize.SL.Sem

theorem preFacts : Cert.Pre_finite_band.Facts := ⟨by decide, by decide⟩

/-- The queries, the keys and the relative biases are real. -/
theorem reals (m : (ℓ : Loc nD τ sig) → Buf (Elt Ideal) ℓ) (hpre : Cert.Pre_Kernel4Ideal_finite_band (hPre_finite_band := preFacts) m) (c : Dev nD) : Reals m c :=
  haveI := preFacts
  ⟨fun i => Cert.Equation.real_of_lt _ (congrFun (hpre c).1 i), fun i => Cert.Equation.real_of_lt _ (congrFun (hpre c).2.1 i),
    fun i => Cert.Equation.real_of_lt _ (congrFun (hpre c).2.2 i)⟩

section Reference

open Cert.Reference4Ideal.Stage (scores probs heads expo scores_apply probs_apply expo_apply heads_apply)

variable (m : (ℓ : Loc nD τ sig) → Buf (Elt Ideal) ℓ) (c : Dev nD)

theorem score_eq (n : Fin 32) (h : Fin 8) (T y : Fin 2048) : scores (arg0 m c) (arg1 m c) (arg3 m c) (ix4 n h T y) = score m c n h T y.val := by
  rw [scores_apply]
  unfold score
  rw [dif_pos y.isLt]

theorem expo_eq (n : Fin 32) (h : Fin 8) (T y : Fin 2048) : expo (scores (arg0 m c) (arg1 m c) (arg3 m c)) (ix4 n h T y)
    = Ideal.exp (score m c n h T y.val - top (score m c n h T) 2048) := by
  rw [expo_apply]
  simp only [score_eq]
  rw [window_sup 2048 (score m c n h T)]
  rfl

theorem heads_eq (n : Fin 32) (T : Fin 2048) (d : Fin 512) :
    heads (arg2 m c) (probs (scores (arg0 m c) (arg1 m c) (arg3 m c))) (ix3 n T d) = result m c n T d := by
  have hd : d = ⟨64 * (headOf d).val + d.val % 64, by omega⟩ := Fin.ext (by show d.val = 64 * (d.val / 64) + d.val % 64; omega)
  have hd' : d = ⟨(headOf d).val * 64 + d.val % 64, by omega⟩ := Fin.ext (by show d.val = d.val / 64 * 64 + d.val % 64; omega)
  refine (congrArg (fun z => heads (arg2 m c) (probs (scores (arg0 m c) (arg1 m c) (arg3 m c))) (ix3 n T z)) hd).trans ?_
  refine (heads_apply (arg2 m c) (probs (scores (arg0 m c) (arg1 m c) (arg3 m c))) n (headOf d) T ⟨d.val % 64, Nat.mod_lt _ (by decide)⟩).trans ?_
  unfold result
  refine Finset.sum_congr rfl fun s _ => ?_
  rw [probs_apply]
  simp only [expo_eq]
  exact congrArg (fun z => arg2 m c (ix3 n s z) * _) hd'.symm

theorem array_eq : heads (arg2 m c) (probs (scores (arg0 m c) (arg1 m c) (arg3 m c))) = resultArr m c := by
  funext y
  have hy : y = ix3 (y 0) (y 1) (y 2) := by blk_ext
  refine (congrArg (heads (arg2 m c) (probs (scores (arg0 m c) (arg1 m c) (arg3 m c)))) hy).trans ?_
  exact heads_eq m c (y 0) (y 1) (y 2)

end Reference

theorem algebraic : Cert.algebraic_Kernel4Ideal_Reference4Ideal_pre_finite_band (hKernel4Ideal := Cert.Kernel4Ideal.Gen.facts)
    (hReference4Ideal := Cert.Reference4Ideal.Gen.facts) (hPre_finite_band := preFacts) := by
  intro m g m' g' hpre hargs
  refine ⟨fun c => resultArr m c, ?_, ?_⟩
  · refine (θ_run Cert.Kernel4Ideal.defs _ _).mono (fun r h c => ⟨(h c).1.trans (final m c (reals m hpre c)), (h c).2⟩) (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    obtain ⟨a0, a1, a2, a3⟩ := hargs c
    rw [Cert.Reference4Ideal.Stage.result_eq, a0, a1, a2, a3]
    exact array_eq m c

end Cert.Kernel4Ideal.Block
end
-- ==== Proof.lean ====
/-
  The claims about the differential attention kernel, about the kernels of the input projections, about the output
  projections' and about the band attention's, assembled.
-/
module

public import proofs.«01_k».proof.Defs
public import proofs.«01_k».proof.Proof.KernelRun
public import proofs.«01_k».proof.Proof.IdealRun
public import proofs.«01_k».proof.Proof.Equation
public import proofs.«01_k».proof.Proof.Stages
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.ProjEquation
public import proofs.«01_k».proof.Proof.Gen.Kernel3.Frame
public import proofs.«01_k».proof.Proof.Gen.Kernel3Ideal.Frame
public import proofs.«01_k».proof.Proof.PostEquation
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel5Ideal.Value
public import proofs.«01_k».proof.Proof.SamplePostEquation
public import proofs.«01_k».proof.Proof.BandEquation
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Quiescent
public import Idealize.ShloMosaic.PureOps.IdealRules
public import Idealize.ShloMosaic.Adequacy
public import Idealize.ShloMosaic.Init

@[expose] public section

noncomputable section

namespace Cert.Proof

open Idealize.ShloMosaic Idealize.SL.Sem

/-- The side conditions the precondition states. -/
theorem preFacts : Cert.Pre_finite_values.Facts := ⟨by decide, by decide⟩

theorem kernel_quiet : Cert.quiescent_Kernel (hKernel := Cert.Kernel.Gen.facts) :=
  fun m ρ _ => Cert.Kernel.Run.quiet (F := Bits) m ρ

theorem ideal_quiet : Cert.quiescent_KernelIdeal (hKernelIdeal := Cert.KernelIdeal.Gen.facts) :=
  fun m ρ _ => Cert.KernelIdeal.Run.quiet (F := Ideal) m ρ

theorem ideal_quiet_pre : Cert.quiescent_KernelIdeal_pre_finite_values
    (hKernelIdeal := Cert.KernelIdeal.Gen.facts) (hPre_finite_values := preFacts) :=
  fun m ρ _ => Cert.KernelIdeal.Run.quiet (F := Ideal) m ρ

theorem reference_quiet : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

theorem reference_quiet_pre : Cert.quiescent_ReferenceIdeal_pre_finite_values
    (hReferenceIdeal := Cert.ReferenceIdeal.Gen.facts) (hPre_finite_values := preFacts) :=
  fun m ρ _ => reference_quiet m ρ trivial

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite_values (hKernelIdeal := Cert.KernelIdeal.Gen.facts)
    (hReferenceIdeal := Cert.ReferenceIdeal.Gen.facts) (hPre_finite_values := preFacts) := by
  intro m g m' g' hpre hargs
  haveI := preFacts
  refine ⟨fun c => Cert.Equation.result m c, ?_, ?_⟩
  · refine (θ_run Cert.KernelIdeal.defs _ _).mono (fun r h c => ⟨?_, h.1.1 c⟩)
      (θ_run_and (Cert.KernelIdeal.Run.quiet (F := Ideal) m g) (Cert.KernelIdeal.Run.run_main (F := Ideal) m g))
    obtain ⟨p2, p3, p4, p5, p6⟩ := hpre c
    exact ((h.2.1 c).1 7).trans (Cert.Equation.final m c (Cert.Equation.real_2 _ _ _ _ _ _ _ _ p2) (Cert.Equation.real_3 _ _ _ _ _ _ _ _ p3)
      (Cert.Equation.real_4 _ _ _ _ _ _ _ _ p4) (Cert.Equation.real_5 _ _ _ _ _ _ _ _ p5) (Cert.Equation.real_6 _ _ _ _ _ _ _ _ p6))
  · refine (θ_run Cert.ReferenceIdeal.defs _ _).mono (fun r h c => ⟨(h c).1.trans ?_, (h c).2⟩) (Cert.ReferenceIdeal.Value.run (F := Ideal) m' g')
    obtain ⟨a0, a1, a2, a3, a4, a5, a6, a7⟩ := hargs c
    rw [Cert.ReferenceIdeal.Stage.result_eq, a0, a1, a2, a3, a4, a5, a6, a7]
    rfl

theorem proj_quiet : Cert.quiescent_Kernel2 (hKernel2 := Cert.Kernel2.Gen.facts) :=
  fun m ρ _ => Cert.Kernel2.Gen.frame (F := Bits) m ρ

theorem proj_ideal_quiet : Cert.quiescent_Kernel2Ideal (hKernel2Ideal := Cert.Kernel2Ideal.Gen.facts) :=
  fun m ρ _ => Cert.Kernel2Ideal.Gen.frame (F := Ideal) m ρ

theorem proj_ideal_quiet_pre : Cert.quiescent_Kernel2Ideal_pre_finite_conditioning
    (hKernel2Ideal := Cert.Kernel2Ideal.Gen.facts) (hPre_finite_conditioning := Cert.Kernel2Ideal.Proj.preFacts) :=
  fun m ρ _ => Cert.Kernel2Ideal.Gen.frame (F := Ideal) m ρ

theorem proj_reference_quiet : Cert.quiescent_Reference2Ideal (hReference2Ideal := Cert.Reference2Ideal.Gen.facts) :=
  fun m ρ _ => (θ_run Cert.Reference2Ideal.defs _ _).mono
    (fun r h => ⟨fun c => (h c).2.2.2.2.2.2.2.2.2.2.2.2.2.2.2.2.2.2.2.2.2.2.2.2, sem_eq_zero_of_no_sems (by decide) r.2⟩)
    (Cert.Reference2Ideal.Value.run (F := Ideal) m ρ)

theorem proj_reference_quiet_pre : Cert.quiescent_Reference2Ideal_pre_finite_conditioning
    (hReference2Ideal := Cert.Reference2Ideal.Gen.facts) (hPre_finite_conditioning := Cert.Kernel2Ideal.Proj.preFacts) :=
  fun m ρ _ => proj_reference_quiet m ρ trivial

theorem proj_preserves : Cert.preserves_Kernel2_Kernel2Ideal :=
  IdealRules.named_const.statement Cert.Kernel2Ideal.κ "qscale" .f32 0x3E38AA3B#32 (((1 / 8) * (Real.log 2)⁻¹ : ℝ) : EReal) rfl

theorem post_quiet : Cert.quiescent_Kernel3 (hKernel3 := Cert.Kernel3.Gen.facts) :=
  fun m ρ _ => Cert.Kernel3.Gen.frame (F := Bits) m ρ

theorem post_ideal_quiet : Cert.quiescent_Kernel3Ideal (hKernel3Ideal := Cert.Kernel3Ideal.Gen.facts) :=
  fun m ρ _ => Cert.Kernel3Ideal.Gen.frame (F := Ideal) m ρ

theorem post_reference_quiet : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩)
    (Cert.Reference3Ideal.Value.run (F := Ideal) m ρ)

theorem band_quiet : Cert.quiescent_Kernel4 (hKernel4 := Cert.Kernel4.Gen.facts) :=
  fun m ρ _ => Cert.Kernel4.Gen.frame (F := Bits) m ρ

theorem band_ideal_quiet : Cert.quiescent_Kernel4Ideal (hKernel4Ideal := Cert.Kernel4Ideal.Gen.facts) :=
  fun m ρ _ => Cert.Kernel4Ideal.Gen.frame (F := Ideal) m ρ

theorem band_ideal_quiet_pre : Cert.quiescent_Kernel4Ideal_pre_finite_band
    (hKernel4Ideal := Cert.Kernel4Ideal.Gen.facts) (hPre_finite_band := Cert.Kernel4Ideal.Block.preFacts) :=
  fun m ρ _ => Cert.Kernel4Ideal.Gen.frame (F := Ideal) m ρ

theorem band_reference_quiet : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩)
    (Cert.Reference4Ideal.Value.run (F := Ideal) m ρ)

theorem band_reference_quiet_pre : Cert.quiescent_Reference4Ideal_pre_finite_band
    (hReference4Ideal := Cert.Reference4Ideal.Gen.facts) (hPre_finite_band := Cert.Kernel4Ideal.Block.preFacts) :=
  fun m ρ _ => band_reference_quiet m ρ trivial

theorem band_preserves : Cert.preserves_Kernel4_Kernel4Ideal := trivial

theorem sample_quiet : Cert.quiescent_Kernel5 (hKernel5 := Cert.Kernel5.Gen.facts) :=
  fun m ρ _ => Cert.Kernel5.Gen.frame (F := Bits) m ρ

theorem sample_ideal_quiet : Cert.quiescent_Kernel5Ideal (hKernel5Ideal := Cert.Kernel5Ideal.Gen.facts) :=
  fun m ρ _ => Cert.Kernel5Ideal.Gen.frame (F := Ideal) m ρ

theorem sample_reference_quiet : Cert.quiescent_Reference5Ideal (hReference5Ideal := Cert.Reference5Ideal.Gen.facts) :=
  fun m ρ _ => (θ_run Cert.Reference5Ideal.defs _ _).mono
    (fun r h => ⟨fun c => (h c).2, sem_eq_zero_of_no_sems (by decide) r.2⟩)
    (Cert.Reference5Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, preFacts, Cert.Kernel2Ideal.Proj.preFacts, Cert.Kernel4Ideal.Block.preFacts,
    kernel_quiet, ideal_quiet, ideal_quiet_pre, reference_quiet, reference_quiet_pre,
    proj_quiet, proj_ideal_quiet, proj_ideal_quiet_pre, proj_reference_quiet, proj_reference_quiet_pre,
    post_quiet, post_ideal_quiet, post_reference_quiet,
    band_quiet, band_ideal_quiet, band_ideal_quiet_pre, band_reference_quiet, band_reference_quiet_pre,
    sample_quiet, sample_ideal_quiet, sample_reference_quiet,
    preserves, algebraic, proj_preserves, Cert.Kernel2Ideal.Proj.algebraic,
    Cert.Kernel3Ideal.Post.preserves, Cert.Kernel3Ideal.Post.algebraic,
    band_preserves, Cert.Kernel4Ideal.Block.algebraic,
    Cert.Kernel5Ideal.Post.preserves, Cert.Kernel5Ideal.Post.algebraic⟩

end Cert.Proof

end
